-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_inputs_finite [hPre_attention_inputs_finite : Cert.Pre_attention_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attention_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_inputs_finite [hPre_attention_inputs_finite : Cert.Pre_attention_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_routing_inputs_finite [hPre_routing_inputs_finite : Cert.Pre_routing_inputs_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_routing_inputs_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_routing_inputs_finite [hPre_routing_inputs_finite : Cert.Pre_routing_inputs_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_routing_inputs_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_attention_inputs_finite [hKernelIdeal : Cert.KernelIdeal.Facts] [hPre_attention_inputs_finite : Cert.Pre_attention_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_attention_inputs_finite [hReferenceIdeal : Cert.ReferenceIdeal.Facts] [hPre_attention_inputs_finite : Cert.Pre_attention_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_routing_inputs_finite [hKernel3Ideal : Cert.Kernel3Ideal.Facts] [hPre_routing_inputs_finite : Cert.Pre_routing_inputs_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_routing_inputs_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_routing_inputs_finite [hReference3Ideal : Cert.Reference3Ideal.Facts] [hPre_routing_inputs_finite : Cert.Pre_routing_inputs_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_routing_inputs_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_attention_inputs_finite [hKernelIdeal : Cert.KernelIdeal.Facts] [hReferenceIdeal : Cert.ReferenceIdeal.Facts] [hPre_attention_inputs_finite : Cert.Pre_attention_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v316) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  IdealRules.named_const.Statement Cert.Kernel3Ideal.κ "mask" .f32 0xF149F2CA#32 ⊥

def algebraic_Kernel3Ideal_Reference3Ideal_on_experts_and_weights_pre_routing_inputs_finite [hKernel3Ideal : Cert.Kernel3Ideal.Facts] [hReference3Ideal : Cert.Reference3Ideal.Facts] [hPre_routing_inputs_finite : Cert.Pre_routing_inputs_finite.Facts] [hOn_experts_and_weights : Cert.On_experts_and_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_routing_inputs_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v15_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![8, 32768]⟩ : Shape).Idx, (Cert.On_experts_and_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) i = 1#1 → r.2.mem ((c.tc : Thread Cert.Kernel3Ideal.nD Cert.Kernel3Ideal.τ).loc Cert.Kernel3Ideal.main_v15_0) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![8, 32768]⟩ : Shape).Idx, (Cert.On_experts_and_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) i = 1#1 → r.2.mem ((c.tc : Thread Cert.Reference3Ideal.nD Cert.Reference3Ideal.τ).loc Cert.Reference3Ideal.main_v47) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_attention_inputs_finite : Cert.Pre_attention_inputs_finite.Facts) (hPre_routing_inputs_finite : Cert.Pre_routing_inputs_finite.Facts) (hOn_experts_and_weights : Cert.On_experts_and_weights.Facts),
    quiescent_Kernel (hKernel := hKernel)
    ∧ quiescent_KernelIdeal (hKernelIdeal := hKernelIdeal)
    ∧ quiescent_KernelIdeal_pre_attention_inputs_finite (hKernelIdeal := hKernelIdeal) (hPre_attention_inputs_finite := hPre_attention_inputs_finite)
    ∧ quiescent_ReferenceIdeal (hReferenceIdeal := hReferenceIdeal)
    ∧ quiescent_ReferenceIdeal_pre_attention_inputs_finite (hReferenceIdeal := hReferenceIdeal) (hPre_attention_inputs_finite := hPre_attention_inputs_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_routing_inputs_finite (hKernel3Ideal := hKernel3Ideal) (hPre_routing_inputs_finite := hPre_routing_inputs_finite)
    ∧ quiescent_Reference3Ideal (hReference3Ideal := hReference3Ideal)
    ∧ quiescent_Reference3Ideal_pre_routing_inputs_finite (hReference3Ideal := hReference3Ideal) (hPre_routing_inputs_finite := hPre_routing_inputs_finite)
    ∧ preserves_Kernel_KernelIdeal
    ∧ algebraic_KernelIdeal_ReferenceIdeal_pre_attention_inputs_finite (hKernelIdeal := hKernelIdeal) (hReferenceIdeal := hReferenceIdeal) (hPre_attention_inputs_finite := hPre_attention_inputs_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_experts_and_weights_pre_routing_inputs_finite (hKernel3Ideal := hKernel3Ideal) (hReference3Ideal := hReference3Ideal) (hPre_routing_inputs_finite := hPre_routing_inputs_finite) (hOn_experts_and_weights := hOn_experts_and_weights)
-- ==== On_experts_and_weights.lean ====
abbrev S32768x1024 : Shape := ⟨2, ![32768, 1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S8x32768 : Shape := ⟨2, ![8, 32768]⟩
abbrev S_ : Shape := ⟨0, ![]⟩

class Facts : Prop where
  bcast_S_S8x32768 : S_.BroadcastsInDim S8x32768 (![] : Fin 0 → Fin S8x32768.rank)

variable [Facts]

def fn {F : FTy → Type} [FloatOps F] (main_arg0 : FVec F S32768x1024 .f32) (main_arg1 : FVec F S1024x4 .f32) (main_arg2 : FVec F S4 .f32) (main_arg3 : FVec F S4x1024x8 .f32) (main_arg4 : FVec F S4x8 .f32) : IVec S8x32768 1 :=
  let main_v0 : IVec S8x32768 32 := iotaInDim S8x32768 32 0
  let main_c : IVec S_ 32 := constantI S_ 32 4#32
  let main_v1 : IVec S8x32768 32 := broadcastInDim S8x32768 ![] bcast_S_S8x32768 main_c
  let main_v2 : IVec S8x32768 1 := cmpi .slt main_v0 main_v1
  main_v2
-- ==== Pre_attention_inputs_finite.lean ====
abbrev S16x2048x1024 : Shape := ⟨3, ![16, 2048, 1024]⟩
abbrev S1024x2560 : Shape := ⟨2, ![1024, 2560]⟩
abbrev S2560 : Shape := ⟨1, ![2560]⟩
abbrev S512 : Shape := ⟨1, ![512]⟩
abbrev S8x128x128 : Shape := ⟨3, ![8, 128, 128]⟩
abbrev S8x128 : Shape := ⟨2, ![8, 128]⟩
abbrev S8x513 : Shape := ⟨2, ![8, 513]⟩
abbrev S1024x1024 : Shape := ⟨2, ![1024, 1024]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x2560 : S_.BroadcastsInDim S1024x2560 (![] : Fin 0 → Fin S1024x2560.rank)
  reducesTo_S1024x2560_S_d0_1 : S1024x2560.ReducesTo [0, 1] S_
  bcast_S_S2560 : S_.BroadcastsInDim S2560 (![] : Fin 0 → Fin S2560.rank)
  reducesTo_S2560_S_d0 : S2560.ReducesTo [0] S_
  bcast_S_S8x513 : S_.BroadcastsInDim S8x513 (![] : Fin 0 → Fin S8x513.rank)
  reducesTo_S8x513_S_d0_1 : S8x513.ReducesTo [0, 1] S_

variable [Facts]

def fn_part1 {F : FTy → Type} [FloatOps F] (main_v13 : IVec S_ 1) (main_v16 : IVec S8x513 1) : IVec S_ 1 :=
  let main_c_5 : IVec S_ 1 := constantI S_ 1 1#1
  let main_v17 : IVec S_ 1 := (fun x v => Host.reduce IntOp.andi x v reducesTo_S8x513_S_d0_1 h_S_) main_v16 main_c_5
  let main_v18 : IVec S_ 1 := andi main_v13 main_v17
  main_v18

def fn {F : FTy → Type} [FloatOps F] (main_arg0 : FVec F S16x2048x1024 .f32) (main_arg1 : FVec F S1024x2560 .f32) (main_arg2 : FVec F S2560 .f32) (main_arg3 : FVec F S512 .f32) (main_arg4 : FVec F S512 .f32) (main_arg5 : FVec F S8x128x128 .f32) (main_arg6 : FVec F S8x128 .f32) (main_arg7 : FVec F S8x513 .f32) (main_arg8 : FVec F S1024x1024 .f32) (main_arg9 : FVec F S1024 .f32) (main_arg10 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1024x2560 .f32 := Host.absf main_arg1
  let main_cst_0 : FVec F S_ .f32 := constant S_ .f32 0x7F800000#32
  let main_v5 : FVec F S1024x2560 .f32 := broadcastInDim S1024x2560 ![] bcast_S_S1024x2560 main_cst_0
  let main_v6 : IVec S1024x2560 1 := cmpf .olt main_v4 main_v5
  let main_c_1 : IVec S_ 1 := constantI S_ 1 1#1
  let main_v7 : IVec S_ 1 := (fun x v => Host.reduce IntOp.andi x v reducesTo_S1024x2560_S_d0_1 h_S_) main_v6 main_c_1
  let main_v8 : IVec S_ 1 := andi main_v3 main_v7
  let main_v9 : FVec F S2560 .f32 := Host.absf main_arg2
  let main_cst_2 : FVec F S_ .f32 := constant S_ .f32 0x7F800000#32
  let main_v10 : FVec F S2560 .f32 := broadcastInDim S2560 ![] bcast_S_S2560 main_cst_2
  let main_v11 : IVec S2560 1 := cmpf .olt main_v9 main_v10
  let main_c_3 : IVec S_ 1 := constantI S_ 1 1#1
  let main_v12 : IVec S_ 1 := (fun x v => Host.reduce IntOp.andi x v reducesTo_S2560_S_d0 h_S_) main_v11 main_c_3
  let main_v13 : IVec S_ 1 := andi main_v8 main_v12
  let main_v14 : FVec F S8x513 .f32 := Host.absf main_arg7
  let main_cst_4 : FVec F S_ .f32 := constant S_ .f32 0x7F800000#32
  let main_v15 : FVec F S8x513 .f32 := broadcastInDim S8x513 ![] bcast_S_S8x513 main_cst_4
  let main_v16 : IVec S8x513 1 := cmpf .olt main_v14 main_v15
  fn_part1 (F := F) main_v13 main_v16
-- ==== Pre_routing_inputs_finite.lean ====
abbrev S32768x1024 : Shape := ⟨2, ![32768, 1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S4x1024x8 : S_.BroadcastsInDim S4x1024x8 (![] : Fin 0 → Fin S4x1024x8.rank)
  reducesTo_S4x1024x8_S_d0_1_2 : S4x1024x8.ReducesTo [0, 1, 2] S_
  bcast_S_S4x8 : S_.BroadcastsInDim S4x8 (![] : Fin 0 → Fin S4x8.rank)
  reducesTo_S4x8_S_d0_1 : S4x8.ReducesTo [0, 1] S_

variable [Facts]

def fn_part1 {F : FTy → Type} [FloatOps F] (main_arg4 : FVec F S4x8 .f32) (main_v13 : IVec S_ 1) (main_v16 : IVec S4x1024x8 1) : IVec S_ 1 :=
  let main_c_5 : IVec S_ 1 := constantI S_ 1 1#1
  let main_v17 : IVec S_ 1 := (fun x v => Host.reduce IntOp.andi x v reducesTo_S4x1024x8_S_d0_1_2 h_S_) main_v16 main_c_5
  let main_v18 : IVec S_ 1 := andi main_v13 main_v17
  let main_v19 : FVec F S4x8 .f32 := Host.absf main_arg4
  let main_cst_6 : FVec F S_ .f32 := constant S_ .f32 0x7F800000#32
  let main_v20 : FVec F S4x8 .f32 := broadcastInDim S4x8 ![] bcast_S_S4x8 main_cst_6
  let main_v21 : IVec S4x8 1 := cmpf .olt main_v19 main_v20
  let main_c_7 : IVec S_ 1 := constantI S_ 1 1#1
  let main_v22 : IVec S_ 1 := (fun x v => Host.reduce IntOp.andi x v reducesTo_S4x8_S_d0_1 h_S_) main_v21 main_c_7
  let main_v23 : IVec S_ 1 := andi main_v18 main_v22
  main_v23

def fn {F : FTy → Type} [FloatOps F] (main_arg0 : FVec F S32768x1024 .f32) (main_arg1 : FVec F S1024x4 .f32) (main_arg2 : FVec F S4 .f32) (main_arg3 : FVec F S4x1024x8 .f32) (main_arg4 : FVec F S4x8 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x4 .f32 := Host.absf main_arg1
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x1024x8 .f32 := Host.absf main_arg3
  let main_cst_4 : FVec F S_ .f32 := constant S_ .f32 0x7F800000#32
  let main_v15 : FVec F S4x1024x8 .f32 := broadcastInDim S4x1024x8 ![] bcast_S_S4x1024x8 main_cst_4
  let main_v16 : IVec S4x1024x8 1 := cmpf .olt main_v14 main_v15
  fn_part1 (F := F) main_arg4 main_v13 main_v16
-- ==== Kernel.lean ====
abbrev S16x2048x1024 : Shape := ⟨3, ![16, 2048, 1024]⟩
abbrev S1024x2560 : Shape := ⟨2, ![1024, 2560]⟩
abbrev S2560 : Shape := ⟨1, ![2560]⟩
abbrev S512 : Shape := ⟨1, ![512]⟩
abbrev S8x128x128 : Shape := ⟨3, ![8, 128, 128]⟩
abbrev S8x128 : Shape := ⟨2, ![8, 128]⟩
abbrev S8x513 : Shape := ⟨2, ![8, 513]⟩
abbrev S1024x1024 : Shape := ⟨2, ![1024, 1024]⟩
abbrev S1024 : Shape := ⟨1, ![1024]⟩
abbrev S128x8x128 : Shape := ⟨3, ![128, 8, 128]⟩
abbrev S128x1024 : Shape := ⟨2, ![128, 1024]⟩
abbrev S128x8 : Shape := ⟨2, ![128, 8]⟩
abbrev S128x8x64 : Shape := ⟨3, ![128, 8, 64]⟩
abbrev S128x512 : Shape := ⟨2, ![128, 512]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S1023 : Shape := ⟨1, ![1023]⟩
abbrev S1023x1 : Shape := ⟨2, ![1023, 1]⟩
abbrev S8x1023 : Shape := ⟨2, ![8, 1023]⟩
abbrev S8x1024 : Shape := ⟨2, ![8, 1024]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S1x256x768 : Shape := ⟨3, ![1, 256, 768]⟩
abbrev S1x2560 : Shape := ⟨2, ![1, 2560]⟩
abbrev S1x512 : Shape := ⟨2, ![1, 512]⟩
abbrev S1x1024 : Shape := ⟨2, ![1, 1024]⟩
abbrev S1x512x1024 : Shape := ⟨3, ![1, 512, 1024]⟩
abbrev S512x512 : Shape := ⟨2, ![512, 512]⟩
abbrev S1024x512 : Shape := ⟨2, ![1024, 512]⟩
abbrev S512x1024 : Shape := ⟨2, ![512, 1024]⟩
abbrev S1024x1536 : Shape := ⟨2, ![1024, 1536]⟩
abbrev S512x1536 : Shape := ⟨2, ![512, 1536]⟩
abbrev S1x1536 : Shape := ⟨2, ![1, 1536]⟩
abbrev S256x64 : Shape := ⟨2, ![256, 64]⟩
abbrev S768x64 : Shape := ⟨2, ![768, 64]⟩
abbrev S512x1 : Shape := ⟨2, ![512, 1]⟩

abbrev nBuf : Space → Nat
  | .hbm => 98
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S1024x2560, .f32⟩
  | .hbm, ⟨2, _⟩ => ⟨S2560, .f32⟩
  | .hbm, ⟨3, _⟩ => ⟨S512, .f32⟩
  | .hbm, ⟨4, _⟩ => ⟨S512, .f32⟩
  | .hbm, ⟨5, _⟩ => ⟨S8x128x128, .f32⟩
  | .hbm, ⟨6, _⟩ => ⟨S8x128, .f32⟩
  | .hbm, ⟨7, _⟩ => ⟨S8x513, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S128x8x128, .f32⟩
  | .hbm, ⟨12, _⟩ => ⟨S128x1024, .f32⟩
  | .hbm, ⟨13, _⟩ => ⟨S128x8, .f32⟩
  | .hbm, ⟨14, _⟩ => ⟨S128x8x64, .f32⟩
  | .hbm, ⟨15, _⟩ => ⟨S128x512, .f32⟩
  | .hbm, ⟨16, _⟩ => ⟨S256, .i32⟩
  | .hbm, ⟨17, _⟩ => ⟨S256x1, .i32⟩
  | .hbm, ⟨18, _⟩ => ⟨S768, .i32⟩
  | .hbm, ⟨19, _⟩ => ⟨S1x768, .i32⟩
  | .hbm, ⟨20, _⟩ => ⟨S_, .i32⟩
  | .hbm, ⟨21, _⟩ => ⟨S_, .i32⟩
  | .hbm, ⟨22, _⟩ => ⟨S256x1, .i32⟩
  | .hbm, ⟨23, _⟩ => ⟨S256x1, .i32⟩
  | .hbm, ⟨24, _⟩ => ⟨S256x1, .i32⟩
  | .hbm, ⟨25, _⟩ => ⟨S_, .i32⟩
  | .hbm, ⟨26, _⟩ => ⟨S256x1, .i32⟩
  | .hbm, ⟨27, _⟩ => ⟨S256x1, .i1⟩
  | .hbm, ⟨28, _⟩ => ⟨S256x1, .i32⟩
  | .hbm, ⟨29, _⟩ => ⟨S256x1, .i32⟩
  | .hbm, ⟨30, _⟩ => ⟨S_, .i32⟩
  | .hbm, ⟨31, _⟩ => ⟨S256x1, .i32⟩
  | .hbm, ⟨32, _⟩ => ⟨S256x1, .i1⟩
  | .hbm, ⟨33, _⟩ => ⟨S256x1, .i1⟩
  | .hbm, ⟨34, _⟩ => ⟨S_, .i32⟩
  | .hbm, ⟨35, _⟩ => ⟨S256x1, .i32⟩
  | .hbm, ⟨36, _⟩ => ⟨S256x1, .i32⟩
  | .hbm, ⟨37, _⟩ => ⟨S256x1, .i32⟩
  | .hbm, ⟨38, _⟩ => ⟨S_, .i32⟩
  | .hbm, ⟨39, _⟩ => ⟨S256x1, .i32⟩
  | .hbm, ⟨40, _⟩ => ⟨S256x1, .i32⟩
  | .hbm, ⟨41, _⟩ => ⟨S256x768, .i32⟩
  | .hbm, ⟨42, _⟩ => ⟨S256x768, .i32⟩
  | .hbm, ⟨43, _⟩ => ⟨S256x768, .i32⟩
  | .hbm, ⟨44, _⟩ => ⟨S_, .i32⟩
  | .hbm, ⟨45, _⟩ => ⟨S256x768, .i32⟩
  | .hbm, ⟨46, _⟩ => ⟨S256x768, .i1⟩
  | .hbm, ⟨47, _⟩ => ⟨S_, .i32⟩
  | .hbm, ⟨48, _⟩ => ⟨S256x768, .i32⟩
  | .hbm, ⟨49, _⟩ => ⟨S256x768, .i1⟩
  | .hbm, ⟨50, _⟩ => ⟨S256x768, .i1⟩
  | .hbm, ⟨51, _⟩ => ⟨S1023, .i32⟩
  | .hbm, ⟨52, _⟩ => ⟨S_, .i32⟩
  | .hbm, ⟨53, _⟩ => ⟨S1023, .i32⟩
  | .hbm, ⟨54, _⟩ => ⟨S1023, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1023, .i32⟩
  | .hbm, ⟨59, _⟩ => ⟨S1023, .i32⟩
  | .hbm, ⟨60, _⟩ => ⟨S_, .i32⟩
  | .hbm, ⟨61, _⟩ => ⟨S1023, .i32⟩
  | .hbm, ⟨62, _⟩ => ⟨S1023, .i32⟩
  | .hbm, ⟨63, _⟩ => ⟨S_, .i32⟩
  | .hbm, ⟨64, _⟩ => ⟨S1023, .i32⟩
  | .hbm, ⟨65, _⟩ => ⟨S1023, .i32⟩
  | .hbm, ⟨66, _⟩ => ⟨S_, .i32⟩
  | .hbm, ⟨67, _⟩ => ⟨S1023, .i32⟩
  | .hbm, ⟨68, _⟩ => ⟨S1023, .i1⟩
  | .hbm, ⟨69, _⟩ => ⟨S_, .i32⟩
  | .hbm, ⟨70, _⟩ => ⟨S1023, .i32⟩
  | .hbm, ⟨71, _⟩ => ⟨S1023, .i32⟩
  | .hbm, ⟨72, _⟩ => ⟨S1023, .i32⟩
  | .hbm, ⟨73, _⟩ => ⟨S1023x1, .i32⟩
  | .hbm, ⟨74, _⟩ => ⟨S8x1023, .f32⟩
  | .hbm, ⟨75, _⟩ => ⟨S_, .i32⟩
  | .hbm, ⟨76, _⟩ => ⟨S_, .f32⟩
  | .hbm, ⟨77, _⟩ => ⟨S8x1024, .f32⟩
  | .hbm, ⟨78, _⟩ => ⟨S1x8x1x1024, .f32⟩
  | .hbm, ⟨79, _⟩ => ⟨S1x8x256x1024, .f32⟩
  | .hbm, ⟨80, _⟩ => ⟨S8x262144, .f32⟩
  | .hbm, ⟨81, _⟩ => ⟨S8x261888, .f32⟩
  | .hbm, ⟨82, _⟩ => ⟨S8x256x1023, .f32⟩
  | .hbm, ⟨83, _⟩ => ⟨S8x256x768, .f32⟩
  | .hbm, ⟨84, _⟩ => ⟨S1x256x768, .i1⟩
  | .hbm, ⟨85, _⟩ => ⟨S_, .f32⟩
  | .hbm, ⟨86, _⟩ => ⟨S_, .f32⟩
  | .hbm, ⟨87, _⟩ => ⟨S8x256x768, .i1⟩
  | .hbm, ⟨88, _⟩ => ⟨S8x256x768, .f32⟩
  | .hbm, ⟨89, _⟩ => ⟨S8x256x768, .f32⟩
  | .hbm, ⟨90, _⟩ => ⟨S1024x2560, .bf16⟩
  | .hbm, ⟨91, _⟩ => ⟨S1x2560, .f32⟩
  | .hbm, ⟨92, _⟩ => ⟨S1x512, .f32⟩
  | .hbm, ⟨93, _⟩ => ⟨S1x512, .f32⟩
  | .hbm, ⟨94, _⟩ => ⟨S1024x1024, .bf16⟩
  | .hbm, ⟨95, _⟩ => ⟨S1x1024, .f32⟩
  | .hbm, ⟨96, _⟩ => ⟨S1x1024, .f32⟩
  | .hbm, ⟨97, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x2560, .bf16⟩
  | .local _ .vmem, ⟨3, _⟩ => ⟨S1x2560, .f32⟩
  | .local _ .vmem, ⟨4, _⟩ => ⟨S1x512, .f32⟩
  | .local _ .vmem, ⟨5, _⟩ => ⟨S1x512, .f32⟩
  | .local _ .vmem, ⟨6, _⟩ => ⟨S128x1024, .f32⟩
  | .local _ .vmem, ⟨7, _⟩ => ⟨S128x512, .f32⟩
  | .local _ .vmem, ⟨8, _⟩ => ⟨S8x256x768, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x512, .bf16⟩
  | .local _ .vmem, ⟨15, _⟩ => ⟨S1024x512, .bf16⟩
  | .local _ .vmem, ⟨16, _⟩ => ⟨S1024x512, .bf16⟩
  | .local _ .vmem, ⟨17, _⟩ => ⟨S128x1024, .bf16⟩
  | .local _ .vmem, ⟨18, _⟩ => ⟨S1024x512, .bf16⟩
  | .local _ .vmem, ⟨19, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v9 : Ref sig .tc := ⟨.hbm, 37, rfl⟩
abbrev main_c_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_c_1 : Ref sig .tc := ⟨.hbm, 44, rfl⟩
abbrev main_v15 : Ref sig .tc := ⟨.hbm, 45, rfl⟩
abbrev main_v16 : Ref sig .tc := ⟨.hbm, 46, rfl⟩
abbrev main_c_2 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_c_3 : Ref sig .tc := ⟨.hbm, 52, rfl⟩
abbrev main_v21 : Ref sig .tc := ⟨.hbm, 53, rfl⟩
abbrev main_v22 : Ref sig .tc := ⟨.hbm, 54, rfl⟩
abbrev main_c_4 : Ref sig .tc := ⟨.hbm, 55, rfl⟩
abbrev main_c_5 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v23 : Ref sig .tc := ⟨.hbm, 62, rfl⟩
abbrev main_c_6 : Ref sig .tc := ⟨.hbm, 63, rfl⟩
abbrev main_v24 : Ref sig .tc := ⟨.hbm, 64, rfl⟩
abbrev main_v25 : Ref sig .tc := ⟨.hbm, 65, rfl⟩
abbrev main_c_7 : Ref sig .tc := ⟨.hbm, 66, rfl⟩
abbrev main_v26 : Ref sig .tc := ⟨.hbm, 67, rfl⟩
abbrev main_v27 : Ref sig .tc := ⟨.hbm, 68, rfl⟩
abbrev main_c_8 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_c_9 : Ref sig .tc := ⟨.hbm, 75, rfl⟩
abbrev main_call2_v0 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "qscale" => some (((1 / 8) * (Real.log 2)⁻¹ : ℝ) : EReal)
  | _ => none
-- ==== ReferenceIdeal.lean ====
abbrev S16x2048x1024 : Shape := ⟨3, ![16, 2048, 1024]⟩
abbrev S1024x2560 : Shape := ⟨2, ![1024, 2560]⟩
abbrev S2560 : Shape := ⟨1, ![2560]⟩
abbrev S512 : Shape := ⟨1, ![512]⟩
abbrev S8x128x128 : Shape := ⟨3, ![8, 128, 128]⟩
abbrev S8x128 : Shape := ⟨2, ![8, 128]⟩
abbrev S8x513 : Shape := ⟨2, ![8, 513]⟩
abbrev S1024x1024 : Shape := ⟨2, ![1024, 1024]⟩
abbrev S1024 : Shape := ⟨1, ![1024]⟩
abbrev S16x2048x2560 : Shape := ⟨3, ![16, 2048, 2560]⟩
abbrev S1x1x2560 : Shape := ⟨3, ![1, 1, 2560]⟩
abbrev S16x2048x512 : Shape := ⟨3, ![16, 2048, 512]⟩
abbrev S_ : Shape := ⟨0, ![]⟩
abbrev S16x2048 : Shape := ⟨2, ![16, 2048]⟩
abbrev S16x2048x1 : Shape := ⟨3, ![16, 2048, 1]⟩
abbrev S1x1x512 : Shape := ⟨3, ![1, 1, 512]⟩
abbrev S16x16x128x8x64 : Shape := ⟨5, ![16, 16, 128, 8, 64]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x16x16x64x128 : Shape := ⟨5, ![8, 16, 16, 64, 128]⟩
abbrev S128x8 : Shape := ⟨2, ![128, 8]⟩
abbrev S1x1x128x8x1 : Shape := ⟨5, ![1, 1, 128, 8, 1]⟩
abbrev S16x32x64x8x64 : Shape := ⟨5, ![16, 32, 64, 8, 64]⟩
abbrev S16x2048x8x64 : Shape := ⟨4, ![16, 2048, 8, 64]⟩
abbrev S16x2560x8x64 : Shape := ⟨4, ![16, 2560, 8, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S32 : Shape := ⟨1, ![32]⟩
abbrev S32x1 : Shape := ⟨2, ![32, 1]⟩
abbrev S32x576 : Shape := ⟨2, ![32, 576]⟩
abbrev S32x576x1 : Shape := ⟨3, ![32, 576, 1]⟩
abbrev S16x32x576x8x64 : Shape := ⟨5, ![16, 32, 576, 8, 64]⟩
abbrev S16x32x8x64x576 : Shape := ⟨5, ![16, 32, 8, 64, 576]⟩
abbrev S1x1x8x64x576 : Shape := ⟨5, ![1, 1, 8, 64, 576]⟩
abbrev S1x32x1x1x576 : Shape := ⟨5, ![1, 32, 1, 1, 576]⟩
abbrev S16x32x8x64 : Shape := ⟨4, ![16, 32, 8, 64]⟩
abbrev S16x32x8x64x1 : Shape := ⟨5, ![16, 32, 8, 64, 1]⟩
abbrev S16x32x8x64x64 : Shape := ⟨5, ![16, 32, 8, 64, 64]⟩
abbrev S1x1x1024 : Shape := ⟨3, ![1, 1, 1024]⟩

abbrev nBuf : Space → Nat
  | .hbm => 240
  | .vmem => 0
  | .smem => 0
  | _ => 0

abbrev hbmTy0_0 (i : Nat) : BufTy := match i % 128 with
  | 0 => ⟨S16x2048x1024, .f32⟩
  | 1 => ⟨S1024x2560, .f32⟩
  | 2 => ⟨S2560, .f32⟩
  | 3 => ⟨S512, .f32⟩
  | 4 => ⟨S512, .f32⟩
  | 5 => ⟨S8x128x128, .f32⟩
  | 6 => ⟨S8x128, .f32⟩
  | 7 => ⟨S8x513, .f32⟩
  | 8 => ⟨S1024x1024, .f32⟩
  | 9 => ⟨S1024, .f32⟩
  | 10 => ⟨S1024, .f32⟩
  | 11 => ⟨S16x2048x2560, .f32⟩
  | 12 => ⟨S1x1x2560, .f32⟩
  | 13 => ⟨S16x2048x2560, .f32⟩
  | 14 => ⟨S16x2048x2560, .f32⟩
  | 15 => ⟨S16x2048x512, .f32⟩
  | 16 => ⟨S16x2048x512, .f32⟩
  | 17 => ⟨S16x2048x512, .f32⟩
  | 18 => ⟨S16x2048x512, .f32⟩
  | 19 => ⟨S16x2048x512, .f32⟩
  | 20 => ⟨S_, .f32⟩
  | 21 => ⟨S16x2048, .f32⟩
  | 22 => ⟨S16x2048x1, .f32⟩
  | 23 => ⟨S_, .f32⟩
  | 24 => ⟨S16x2048x1, .f32⟩
  | 25 => ⟨S16x2048x1, .f32⟩
  | 26 => ⟨S16x2048x512, .f32⟩
  | 27 => ⟨S16x2048x512, .f32⟩
  | 28 => ⟨S16x2048x512, .f32⟩
  | 29 => ⟨S_, .f32⟩
  | 30 => ⟨S16x2048, .f32⟩
  | 31 => ⟨S16x2048x1, .f32⟩
  | 32 => ⟨S_, .f32⟩
  | 33 => ⟨S16x2048x1, .f32⟩
  | 34 => ⟨S16x2048x1, .f32⟩
  | 35 => ⟨S16x2048x512, .f32⟩
  | 36 => ⟨S16x2048x512, .f32⟩
  | 37 => ⟨S_, .f32⟩
  | 38 => ⟨S16x2048x1, .f32⟩
  | 39 => ⟨S16x2048x1, .f32⟩
  | 40 => ⟨S16x2048x1, .f32⟩
  | 41 => ⟨S16x2048x512, .f32⟩
  | 42 => ⟨S16x2048x512, .f32⟩
  | 43 => ⟨S1x1x512, .f32⟩
  | 44 => ⟨S16x2048x512, .f32⟩
  | 45 => ⟨S16x2048x512, .f32⟩
  | 46 => ⟨S1x1x512, .f32⟩
  | 47 => ⟨S16x2048x512, .f32⟩
  | 48 => ⟨S16x2048x512, .f32⟩
  | 49 => ⟨S16x16x128x8x64, .f32⟩
  | 50 => ⟨S128, .i32⟩
  | 51 => ⟨S1x128, .i32⟩
  | 52 => ⟨S_, .i32⟩
  | 53 => ⟨S_, .i32⟩
  | 54 => ⟨S1x128, .i32⟩
  | 55 => ⟨S1x128, .i32⟩
  | 56 => ⟨S1x128, .i32⟩
  | 57 => ⟨S_, .i32⟩
  | 58 => ⟨S1x128, .i32⟩
  | 59 => ⟨S1x128, .i1⟩
  | 60 => ⟨S1x128, .i32⟩
  | 61 => ⟨S1x128, .i32⟩
  | 62 => ⟨S_, .i32⟩
  | 63 => ⟨S1x128, .i32⟩
  | 64 => ⟨S1x128, .i1⟩
  | 65 => ⟨S1x128, .i1⟩
  | 66 => ⟨S_, .i32⟩
  | 67 => ⟨S1x128, .i32⟩
  | 68 => ⟨S1x128, .i32⟩
  | 69 => ⟨S1x128, .i32⟩
  | 70 => ⟨S128x1, .i32⟩
  | 71 => ⟨S_, .i32⟩
  | 72 => ⟨S_, .i32⟩
  | 73 => ⟨S128x1, .i32⟩
  | 74 => ⟨S128x1, .i32⟩
  | 75 => ⟨S128x1, .i32⟩
  | 76 => ⟨S_, .i32⟩
  | 77 => ⟨S128x1, .i32⟩
  | 78 => ⟨S128x1, .i1⟩
  | 79 => ⟨S128x1, .i32⟩
  | 80 => ⟨S128x1, .i32⟩
  | 81 => ⟨S_, .i32⟩
  | 82 => ⟨S128x1, .i32⟩
  | 83 => ⟨S128x1, .i1⟩
  | 84 => ⟨S128x1, .i1⟩
  | 85 => ⟨S_, .i32⟩
  | 86 => ⟨S128x1, .i32⟩
  | 87 => ⟨S128x1, .i32⟩
  | 88 => ⟨S128x1, .i32⟩
  | 89 => ⟨S128x128, .i32⟩
  | 90 => ⟨S128x128, .i32⟩
  | 91 => ⟨S128x128, .i1⟩
  | 92 => ⟨S1x128x128, .i1⟩
  | 93 => ⟨S_, .f32⟩
  | 94 => ⟨S8x128x128, .i1⟩
  | 95 => ⟨S8x128x128, .f32⟩
  | 96 => ⟨S8x128x128, .f32⟩
  | 97 => ⟨S8x16x16x64x128, .f32⟩
  | 98 => ⟨S16x16x128x8x64, .f32⟩
  | 99 => ⟨S128x8, .f32⟩
  | 100 => ⟨S1x1x128x8x1, .f32⟩
  | 101 => ⟨S16x16x128x8x64, .f32⟩
  | 102 => ⟨S16x16x128x8x64, .f32⟩
  | 103 => ⟨S16x2048x512, .f32⟩
  | 104 => ⟨S16x2048x512, .f32⟩
  | 105 => ⟨S_, .f32⟩
  | 106 => ⟨S16x2048x512, .f32⟩
  | 107 => ⟨S16x2048x512, .f32⟩
  | 108 => ⟨S16x32x64x8x64, .f32⟩
  | 109 => ⟨S16x2048x8x64, .f32⟩
  | 110 => ⟨S_, .i32⟩
  | 111 => ⟨S_, .f32⟩
  | 112 => ⟨S16x2560x8x64, .f32⟩
  | 113 => ⟨S16x2048x8x64, .f32⟩
  | 114 => ⟨S_, .i32⟩
  | 115 => ⟨S_, .f32⟩
  | 116 => ⟨S16x2560x8x64, .f32⟩
  | 117 => ⟨S64, .i32⟩
  | 118 => ⟨S64x1, .i32⟩
  | 119 => ⟨S576, .i32⟩
  | 120 => ⟨S1x576, .i32⟩
  | 121 => ⟨S_, .i32⟩
  | 122 => ⟨S64x1, .i32⟩
  | 123 => ⟨S64x1, .i32⟩
  | 124 => ⟨S64x576, .i32⟩
  | 125 => ⟨S64x576, .i32⟩
  | 126 => ⟨S64x576, .i32⟩
  | 127 => ⟨S_, .i32⟩
  | _ => ⟨S16x2048x1024, .f32⟩

abbrev hbmTy0_1 (i : Nat) : BufTy := match i % 128 with
  | 0 => ⟨S_, .i32⟩
  | 1 => ⟨S_, .i32⟩
  | 2 => ⟨S64x576, .i32⟩
  | 3 => ⟨S64x576, .i32⟩
  | 4 => ⟨S_, .i32⟩
  | 5 => ⟨S64x576, .i32⟩
  | 6 => ⟨S64x576, .i32⟩
  | 7 => ⟨S_, .i32⟩
  | 8 => ⟨S64x576, .i32⟩
  | 9 => ⟨S64x576, .i32⟩
  | 10 => ⟨S_, .i32⟩
  | 11 => ⟨S64x576, .i32⟩
  | 12 => ⟨S64x576, .i1⟩
  | 13 => ⟨S_, .i32⟩
  | 14 => ⟨S64x576, .i32⟩
  | 15 => ⟨S64x576, .i32⟩
  | 16 => ⟨S64x576, .i32⟩
  | 17 => ⟨S64x576x1, .i32⟩
  | 18 => ⟨S8x64x576, .f32⟩
  | 19 => ⟨S32, .i32⟩
  | 20 => ⟨S32x1, .i32⟩
  | 21 => ⟨S_, .i32⟩
  | 22 => ⟨S32x1, .i32⟩
  | 23 => ⟨S32x1, .i32⟩
  | 24 => ⟨S576, .i32⟩
  | 25 => ⟨S1x576, .i32⟩
  | 26 => ⟨S32x576, .i32⟩
  | 27 => ⟨S32x576, .i32⟩
  | 28 => ⟨S32x576, .i32⟩
  | 29 => ⟨S_, .i32⟩
  | 30 => ⟨S32x576, .i32⟩
  | 31 => ⟨S32x576, .i1⟩
  | 32 => ⟨S_, .i32⟩
  | 33 => ⟨S32x576, .i32⟩
  | 34 => ⟨S32x576, .i32⟩
  | 35 => ⟨S32x576, .i32⟩
  | 36 => ⟨S32x576x1, .i32⟩
  | 37 => ⟨S16x32x576x8x64, .f32⟩
  | 38 => ⟨S_, .i32⟩
  | 39 => ⟨S32x576, .i32⟩
  | 40 => ⟨S32x576, .i1⟩
  | 41 => ⟨S_, .i32⟩
  | 42 => ⟨S32x576, .i32⟩
  | 43 => ⟨S32x576, .i32⟩
  | 44 => ⟨S32x576, .i32⟩
  | 45 => ⟨S32x576x1, .i32⟩
  | 46 => ⟨S16x32x576x8x64, .f32⟩
  | 47 => ⟨S16x32x8x64x576, .f32⟩
  | 48 => ⟨S1x1x8x64x576, .f32⟩
  | 49 => ⟨S16x32x8x64x576, .f32⟩
  | 50 => ⟨S16x32x8x64x576, .f32⟩
  | 51 => ⟨S_, .i32⟩
  | 52 => ⟨S32x576, .i32⟩
  | 53 => ⟨S32x576, .i1⟩
  | 54 => ⟨S1x32x1x1x576, .i1⟩
  | 55 => ⟨S_, .f32⟩
  | 56 => ⟨S_, .f32⟩
  | 57 => ⟨S16x32x8x64x576, .i1⟩
  | 58 => ⟨S16x32x8x64x576, .f32⟩
  | 59 => ⟨S16x32x8x64x576, .f32⟩
  | 60 => ⟨S_, .f32⟩
  | 61 => ⟨S16x32x8x64, .f32⟩
  | 62 => ⟨S_, .f32⟩
  | 63 => ⟨S16x32x8x64, .f32⟩
  | 64 => ⟨S16x32x8x64, .f32⟩
  | 65 => ⟨S16x32x8x64x1, .f32⟩
  | 66 => ⟨S16x32x8x64x576, .f32⟩
  | 67 => ⟨S16x32x8x64x576, .f32⟩
  | 68 => ⟨S16x32x8x64x576, .f32⟩
  | 69 => ⟨S_, .f32⟩
  | 70 => ⟨S16x32x8x64, .f32⟩
  | 71 => ⟨S16x32x8x64x1, .f32⟩
  | 72 => ⟨S16x32x8x64x576, .f32⟩
  | 73 => ⟨S16x32x8x64x576, .f32⟩
  | 74 => ⟨S16x32x8x64x64, .f32⟩
  | 75 => ⟨S16x32x64x8x64, .f32⟩
  | 76 => ⟨S16x2048x512, .f32⟩
  | 77 => ⟨S16x2048x1024, .f32⟩
  | 78 => ⟨S16x2048x1024, .f32⟩
  | 79 => ⟨S_, .f32⟩
  | 80 => ⟨S16x2048x1024, .f32⟩
  | 81 => ⟨S16x2048x1024, .f32⟩
  | 82 => ⟨S16x2048x1024, .f32⟩
  | 83 => ⟨S_, .f32⟩
  | 84 => ⟨S16x2048, .f32⟩
  | 85 => ⟨S16x2048x1, .f32⟩
  | 86 => ⟨S_, .f32⟩
  | 87 => ⟨S16x2048x1, .f32⟩
  | 88 => ⟨S16x2048x1, .f32⟩
  | 89 => ⟨S16x2048x1024, .f32⟩
  | 90 => ⟨S16x2048x1024, .f32⟩
  | 91 => ⟨S16x2048x1024, .f32⟩
  | 92 => ⟨S_, .f32⟩
  | 93 => ⟨S16x2048, .f32⟩
  | 94 => ⟨S16x2048x1, .f32⟩
  | 95 => ⟨S_, .f32⟩
  | 96 => ⟨S16x2048x1, .f32⟩
  | 97 => ⟨S16x2048x1, .f32⟩
  | 98 => ⟨S16x2048x1024, .f32⟩
  | 99 => ⟨S16x2048x1024, .f32⟩
  | 100 => ⟨S_, .f32⟩
  | 101 => ⟨S16x2048x1, .f32⟩
  | 102 => ⟨S16x2048x1, .f32⟩
  | 103 => ⟨S16x2048x1, .f32⟩
  | 104 => ⟨S16x2048x1024, .f32⟩
  | 105 => ⟨S16x2048x1024, .f32⟩
  | 106 => ⟨S1x1x1024, .f32⟩
  | 107 => ⟨S16x2048x1024, .f32⟩
  | 108 => ⟨S16x2048x1024, .f32⟩
  | 109 => ⟨S1x1x1024, .f32⟩
  | 110 => ⟨S16x2048x1024, .f32⟩
  | 111 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_c : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_0 : Ref sig .tc := ⟨.hbm, 66, rfl⟩
abbrev main_call0_v12 : Ref sig .tc := ⟨.hbm, 67, rfl⟩
abbrev main_call0_v13 : Ref sig .tc := ⟨.hbm, 68, rfl⟩
abbrev main_v36 : Ref sig .tc := ⟨.hbm, 69, rfl⟩
abbrev main_v37 : Ref sig .tc := ⟨.hbm, 70, rfl⟩
abbrev main_c_4 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_c : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_0 : Ref sig .tc := ⟨.hbm, 85, rfl⟩
abbrev main_call1_v12 : Ref sig .tc := ⟨.hbm, 86, rfl⟩
abbrev main_call1_v13 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_cst_5 : Ref sig .tc := ⟨.hbm, 93, rfl⟩
abbrev main_call2_v0 : Ref sig .tc := ⟨.hbm, 94, rfl⟩
abbrev main_call2_v1 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_cst_6 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_c_7 : Ref sig .tc := ⟨.hbm, 110, rfl⟩
abbrev main_call3_v0 : Ref sig .tc := ⟨.hbm, 111, rfl⟩
abbrev main_v56 : Ref sig .tc := ⟨.hbm, 112, rfl⟩
abbrev main_v57 : Ref sig .tc := ⟨.hbm, 113, rfl⟩
abbrev main_c_8 : Ref sig .tc := ⟨.hbm, 114, rfl⟩
abbrev main_call4_v0 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_c_9 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_c_10 : Ref sig .tc := ⟨.hbm, 127, rfl⟩
abbrev main_c_11 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_call5_v3 : Ref sig .tc := ⟨.hbm, 132, rfl⟩
abbrev main_call5_v4 : Ref sig .tc := ⟨.hbm, 133, rfl⟩
abbrev main_v68 : Ref sig .tc := ⟨.hbm, 134, rfl⟩
abbrev main_c_12 : Ref sig .tc := ⟨.hbm, 135, rfl⟩
abbrev main_v69 : Ref sig .tc := ⟨.hbm, 136, rfl⟩
abbrev main_v70 : Ref sig .tc := ⟨.hbm, 137, rfl⟩
abbrev main_c_13 : Ref sig .tc := ⟨.hbm, 138, rfl⟩
abbrev main_v71 : Ref sig .tc := ⟨.hbm, 139, rfl⟩
abbrev main_v72 : Ref sig .tc := ⟨.hbm, 140, rfl⟩
abbrev main_c_14 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_c_15 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_c_16 : Ref sig .tc := ⟨.hbm, 157, rfl⟩
abbrev main_v87 : Ref sig .tc := ⟨.hbm, 158, rfl⟩
abbrev main_v88 : Ref sig .tc := ⟨.hbm, 159, rfl⟩
abbrev main_c_17 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_c_18 : Ref sig .tc := ⟨.hbm, 166, rfl⟩
abbrev main_v94 : Ref sig .tc := ⟨.hbm, 167, rfl⟩
abbrev main_v95 : Ref sig .tc := ⟨.hbm, 168, rfl⟩
abbrev main_c_19 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_c_20 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_cst_21 : Ref sig .tc := ⟨.hbm, 183, rfl⟩
abbrev main_call6_v0 : Ref sig .tc := ⟨.hbm, 184, rfl⟩
abbrev main_call6_v1 : Ref sig .tc := ⟨.hbm, 185, rfl⟩
abbrev main_call6_v2 : Ref sig .tc := ⟨.hbm, 186, rfl⟩
abbrev main_v108 : Ref sig .tc := ⟨.hbm, 187, rfl⟩
abbrev main_cst_22 : Ref sig .tc := ⟨.hbm, 188, rfl⟩
abbrev main_v109 : Ref sig .tc := ⟨.hbm, 189, rfl⟩
abbrev main_cst_23 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_cst_24 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_cst_25 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_cst_26 : Ref sig .tc := ⟨.hbm, 211, rfl⟩
abbrev main_v128 : Ref sig .tc := ⟨.hbm, 212, rfl⟩
abbrev main_v129 : Ref sig .tc := ⟨.hbm, 213, rfl⟩
abbrev main_cst_27 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_cst_28 : Ref sig .tc := ⟨.hbm, 220, rfl⟩
abbrev main_v135 : Ref sig .tc := ⟨.hbm, 221, rfl⟩
abbrev main_v136 : Ref sig .tc := ⟨.hbm, 222, rfl⟩
abbrev main_cst_29 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_cst_30 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024x2560 : Shape := ⟨2, ![1024, 2560]⟩
abbrev S2560 : Shape := ⟨1, ![2560]⟩
abbrev S31x512 : Shape := ⟨2, ![31, 512]⟩
abbrev S512 : Shape := ⟨1, ![512]⟩
abbrev S3x512 : Shape := ⟨2, ![3, 512]⟩
abbrev S1024x1024 : Shape := ⟨2, ![1024, 1024]⟩
abbrev S1024 : Shape := ⟨1, ![1024]⟩
abbrev S1x2560 : Shape := ⟨2, ![1, 2560]⟩
abbrev S1x512 : Shape := ⟨2, ![1, 512]⟩
abbrev S1x1024 : Shape := ⟨2, ![1, 1024]⟩
abbrev S1x512x1024 : Shape := ⟨3, ![1, 512, 1024]⟩
abbrev S544x512 : Shape := ⟨2, ![544, 512]⟩
abbrev S512x512 : Shape := ⟨2, ![512, 512]⟩
abbrev S512x1024 : Shape := ⟨2, ![512, 1024]⟩
abbrev S8x544x512 : Shape := ⟨3, ![8, 544, 512]⟩
abbrev S2x544x512 : Shape := ⟨3, ![2, 544, 512]⟩
abbrev S32x512 : Shape := ⟨2, ![32, 512]⟩
abbrev S536x512 : Shape := ⟨2, ![536, 512]⟩
abbrev S1x536x512 : Shape := ⟨3, ![1, 536, 512]⟩
abbrev S256x512 : Shape := ⟨2, ![256, 512]⟩
abbrev S1x256x512 : Shape := ⟨3, ![1, 256, 512]⟩
abbrev S256 : Shape := ⟨1, ![256]⟩
abbrev S256x1 : Shape := ⟨2, ![256, 1]⟩
abbrev S1024x1536 : Shape := ⟨2, ![1024, 1536]⟩
abbrev S512x1536 : Shape := ⟨2, ![512, 1536]⟩
abbrev S1x1536 : Shape := ⟨2, ![1, 1536]⟩
abbrev S512x1 : Shape := ⟨2, ![512, 1]⟩

abbrev nBuf : Space → Nat
  | .hbm => 20
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S1024x2560, .f32⟩
  | .hbm, ⟨2, _⟩ => ⟨S2560, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S3x512, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x2560, .bf16⟩
  | .hbm, ⟨12, _⟩ => ⟨S1x2560, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x2560, .bf16⟩
  | .local _ .vmem, ⟨3, _⟩ => ⟨S1x2560, .f32⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S3x512, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S544x512, .f32⟩
  | .local _ .vmem, ⟨15, _⟩ => ⟨S544x512, .f32⟩
  | .local _ .vmem, ⟨16, _⟩ => ⟨S512x512, .f32⟩
  | .local _ .vmem, ⟨17, _⟩ => ⟨S512x1024, .bf16⟩
  | .local _ .vmem, ⟨18, _⟩ => ⟨S8x544x512, .f32⟩
  | .local _ .vmem, ⟨19, _⟩ => ⟨S2x544x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S16x2048x1024 : Shape := ⟨3, ![16, 2048, 1024]⟩
abbrev S1024x2560 : Shape := ⟨2, ![1024, 2560]⟩
abbrev S2560 : Shape := ⟨1, ![2560]⟩
abbrev S31x512 : Shape := ⟨2, ![31, 512]⟩
abbrev S512 : Shape := ⟨1, ![512]⟩
abbrev S3x512 : Shape := ⟨2, ![3, 512]⟩
abbrev S1024x1024 : Shape := ⟨2, ![1024, 1024]⟩
abbrev S1024 : Shape := ⟨1, ![1024]⟩
abbrev S16x2048x2560 : Shape := ⟨3, ![16, 2048, 2560]⟩
abbrev S1x1x2560 : Shape := ⟨3, ![1, 1, 2560]⟩
abbrev S16x2048x512 : Shape := ⟨3, ![16, 2048, 512]⟩
abbrev S_ : Shape := ⟨0, ![]⟩
abbrev S16x2078x512 : Shape := ⟨3, ![16, 2078, 512]⟩
abbrev S1x512 : Shape := ⟨2, ![1, 512]⟩
abbrev S1x1x512 : Shape := ⟨3, ![1, 1, 512]⟩
abbrev S16x2048 : Shape := ⟨2, ![16, 2048]⟩
abbrev S16x2048x1 : Shape := ⟨3, ![16, 2048, 1]⟩
abbrev S16x2050x512 : Shape := ⟨3, ![16, 2050, 512]⟩
abbrev S1x1x1024 : Shape := ⟨3, ![1, 1, 1024]⟩

abbrev nBuf : Space → Nat
  | .hbm => 355
  | .vmem => 0
  | .smem => 0
  | _ => 0

abbrev hbmTy0_0 (i : Nat) : BufTy := match i % 128 with
  | 0 => ⟨S16x2048x1024, .f32⟩
  | 1 => ⟨S1024x2560, .f32⟩
  | 2 => ⟨S2560, .f32⟩
  | 3 => ⟨S31x512, .f32⟩
  | 4 => ⟨S512, .f32⟩
  | 5 => ⟨S512, .f32⟩
  | 6 => ⟨S512, .f32⟩
  | 7 => ⟨S3x512, .f32⟩
  | 8 => ⟨S1024x1024, .f32⟩
  | 9 => ⟨S1024, .f32⟩
  | 10 => ⟨S1024, .f32⟩
  | 11 => ⟨S16x2048x2560, .f32⟩
  | 12 => ⟨S1x1x2560, .f32⟩
  | 13 => ⟨S16x2048x2560, .f32⟩
  | 14 => ⟨S16x2048x2560, .f32⟩
  | 15 => ⟨S16x2048x512, .f32⟩
  | 16 => ⟨S16x2048x512, .f32⟩
  | 17 => ⟨S16x2048x512, .f32⟩
  | 18 => ⟨S16x2048x512, .f32⟩
  | 19 => ⟨S16x2048x512, .f32⟩
  | 20 => ⟨S16x2048x512, .f32⟩
  | 21 => ⟨S16x2048x512, .f32⟩
  | 22 => ⟨S_, .f32⟩
  | 23 => ⟨S16x2048x512, .f32⟩
  | 24 => ⟨S16x2048x512, .f32⟩
  | 25 => ⟨S_, .f32⟩
  | 26 => ⟨S16x2048x512, .f32⟩
  | 27 => ⟨S16x2048x512, .f32⟩
  | 28 => ⟨S16x2048x512, .f32⟩
  | 29 => ⟨S_, .i32⟩
  | 30 => ⟨S_, .f32⟩
  | 31 => ⟨S16x2078x512, .f32⟩
  | 32 => ⟨S_, .f32⟩
  | 33 => ⟨S16x2048x512, .f32⟩
  | 34 => ⟨S16x2048x512, .f32⟩
  | 35 => ⟨S1x512, .f32⟩
  | 36 => ⟨S512, .f32⟩
  | 37 => ⟨S1x1x512, .f32⟩
  | 38 => ⟨S16x2048x512, .f32⟩
  | 39 => ⟨S16x2048x512, .f32⟩
  | 40 => ⟨S16x2048x512, .f32⟩
  | 41 => ⟨S16x2048x512, .f32⟩
  | 42 => ⟨S1x512, .f32⟩
  | 43 => ⟨S512, .f32⟩
  | 44 => ⟨S1x1x512, .f32⟩
  | 45 => ⟨S16x2048x512, .f32⟩
  | 46 => ⟨S16x2048x512, .f32⟩
  | 47 => ⟨S16x2048x512, .f32⟩
  | 48 => ⟨S16x2048x512, .f32⟩
  | 49 => ⟨S1x512, .f32⟩
  | 50 => ⟨S512, .f32⟩
  | 51 => ⟨S1x1x512, .f32⟩
  | 52 => ⟨S16x2048x512, .f32⟩
  | 53 => ⟨S16x2048x512, .f32⟩
  | 54 => ⟨S16x2048x512, .f32⟩
  | 55 => ⟨S16x2048x512, .f32⟩
  | 56 => ⟨S1x512, .f32⟩
  | 57 => ⟨S512, .f32⟩
  | 58 => ⟨S1x1x512, .f32⟩
  | 59 => ⟨S16x2048x512, .f32⟩
  | 60 => ⟨S16x2048x512, .f32⟩
  | 61 => ⟨S16x2048x512, .f32⟩
  | 62 => ⟨S16x2048x512, .f32⟩
  | 63 => ⟨S1x512, .f32⟩
  | 64 => ⟨S512, .f32⟩
  | 65 => ⟨S1x1x512, .f32⟩
  | 66 => ⟨S16x2048x512, .f32⟩
  | 67 => ⟨S16x2048x512, .f32⟩
  | 68 => ⟨S16x2048x512, .f32⟩
  | 69 => ⟨S16x2048x512, .f32⟩
  | 70 => ⟨S1x512, .f32⟩
  | 71 => ⟨S512, .f32⟩
  | 72 => ⟨S1x1x512, .f32⟩
  | 73 => ⟨S16x2048x512, .f32⟩
  | 74 => ⟨S16x2048x512, .f32⟩
  | 75 => ⟨S16x2048x512, .f32⟩
  | 76 => ⟨S16x2048x512, .f32⟩
  | 77 => ⟨S1x512, .f32⟩
  | 78 => ⟨S512, .f32⟩
  | 79 => ⟨S1x1x512, .f32⟩
  | 80 => ⟨S16x2048x512, .f32⟩
  | 81 => ⟨S16x2048x512, .f32⟩
  | 82 => ⟨S16x2048x512, .f32⟩
  | 83 => ⟨S16x2048x512, .f32⟩
  | 84 => ⟨S1x512, .f32⟩
  | 85 => ⟨S512, .f32⟩
  | 86 => ⟨S1x1x512, .f32⟩
  | 87 => ⟨S16x2048x512, .f32⟩
  | 88 => ⟨S16x2048x512, .f32⟩
  | 89 => ⟨S16x2048x512, .f32⟩
  | 90 => ⟨S16x2048x512, .f32⟩
  | 91 => ⟨S1x512, .f32⟩
  | 92 => ⟨S512, .f32⟩
  | 93 => ⟨S1x1x512, .f32⟩
  | 94 => ⟨S16x2048x512, .f32⟩
  | 95 => ⟨S16x2048x512, .f32⟩
  | 96 => ⟨S16x2048x512, .f32⟩
  | 97 => ⟨S16x2048x512, .f32⟩
  | 98 => ⟨S1x512, .f32⟩
  | 99 => ⟨S512, .f32⟩
  | 100 => ⟨S1x1x512, .f32⟩
  | 101 => ⟨S16x2048x512, .f32⟩
  | 102 => ⟨S16x2048x512, .f32⟩
  | 103 => ⟨S16x2048x512, .f32⟩
  | 104 => ⟨S16x2048x512, .f32⟩
  | 105 => ⟨S1x512, .f32⟩
  | 106 => ⟨S512, .f32⟩
  | 107 => ⟨S1x1x512, .f32⟩
  | 108 => ⟨S16x2048x512, .f32⟩
  | 109 => ⟨S16x2048x512, .f32⟩
  | 110 => ⟨S16x2048x512, .f32⟩
  | 111 => ⟨S16x2048x512, .f32⟩
  | 112 => ⟨S1x512, .f32⟩
  | 113 => ⟨S512, .f32⟩
  | 114 => ⟨S1x1x512, .f32⟩
  | 115 => ⟨S16x2048x512, .f32⟩
  | 116 => ⟨S16x2048x512, .f32⟩
  | 117 => ⟨S16x2048x512, .f32⟩
  | 118 => ⟨S16x2048x512, .f32⟩
  | 119 => ⟨S1x512, .f32⟩
  | 120 => ⟨S512, .f32⟩
  | 121 => ⟨S1x1x512, .f32⟩
  | 122 => ⟨S16x2048x512, .f32⟩
  | 123 => ⟨S16x2048x512, .f32⟩
  | 124 => ⟨S16x2048x512, .f32⟩
  | 125 => ⟨S16x2048x512, .f32⟩
  | 126 => ⟨S1x512, .f32⟩
  | 127 => ⟨S512, .f32⟩
  | _ => ⟨S16x2048x1024, .f32⟩

abbrev hbmTy0_1 (i : Nat) : BufTy := match i % 128 with
  | 0 => ⟨S1x1x512, .f32⟩
  | 1 => ⟨S16x2048x512, .f32⟩
  | 2 => ⟨S16x2048x512, .f32⟩
  | 3 => ⟨S16x2048x512, .f32⟩
  | 4 => ⟨S16x2048x512, .f32⟩
  | 5 => ⟨S1x512, .f32⟩
  | 6 => ⟨S512, .f32⟩
  | 7 => ⟨S1x1x512, .f32⟩
  | 8 => ⟨S16x2048x512, .f32⟩
  | 9 => ⟨S16x2048x512, .f32⟩
  | 10 => ⟨S16x2048x512, .f32⟩
  | 11 => ⟨S16x2048x512, .f32⟩
  | 12 => ⟨S1x512, .f32⟩
  | 13 => ⟨S512, .f32⟩
  | 14 => ⟨S1x1x512, .f32⟩
  | 15 => ⟨S16x2048x512, .f32⟩
  | 16 => ⟨S16x2048x512, .f32⟩
  | 17 => ⟨S16x2048x512, .f32⟩
  | 18 => ⟨S16x2048x512, .f32⟩
  | 19 => ⟨S1x512, .f32⟩
  | 20 => ⟨S512, .f32⟩
  | 21 => ⟨S1x1x512, .f32⟩
  | 22 => ⟨S16x2048x512, .f32⟩
  | 23 => ⟨S16x2048x512, .f32⟩
  | 24 => ⟨S16x2048x512, .f32⟩
  | 25 => ⟨S16x2048x512, .f32⟩
  | 26 => ⟨S1x512, .f32⟩
  | 27 => ⟨S512, .f32⟩
  | 28 => ⟨S1x1x512, .f32⟩
  | 29 => ⟨S16x2048x512, .f32⟩
  | 30 => ⟨S16x2048x512, .f32⟩
  | 31 => ⟨S16x2048x512, .f32⟩
  | 32 => ⟨S16x2048x512, .f32⟩
  | 33 => ⟨S1x512, .f32⟩
  | 34 => ⟨S512, .f32⟩
  | 35 => ⟨S1x1x512, .f32⟩
  | 36 => ⟨S16x2048x512, .f32⟩
  | 37 => ⟨S16x2048x512, .f32⟩
  | 38 => ⟨S16x2048x512, .f32⟩
  | 39 => ⟨S16x2048x512, .f32⟩
  | 40 => ⟨S1x512, .f32⟩
  | 41 => ⟨S512, .f32⟩
  | 42 => ⟨S1x1x512, .f32⟩
  | 43 => ⟨S16x2048x512, .f32⟩
  | 44 => ⟨S16x2048x512, .f32⟩
  | 45 => ⟨S16x2048x512, .f32⟩
  | 46 => ⟨S16x2048x512, .f32⟩
  | 47 => ⟨S1x512, .f32⟩
  | 48 => ⟨S512, .f32⟩
  | 49 => ⟨S1x1x512, .f32⟩
  | 50 => ⟨S16x2048x512, .f32⟩
  | 51 => ⟨S16x2048x512, .f32⟩
  | 52 => ⟨S16x2048x512, .f32⟩
  | 53 => ⟨S16x2048x512, .f32⟩
  | 54 => ⟨S1x512, .f32⟩
  | 55 => ⟨S512, .f32⟩
  | 56 => ⟨S1x1x512, .f32⟩
  | 57 => ⟨S16x2048x512, .f32⟩
  | 58 => ⟨S16x2048x512, .f32⟩
  | 59 => ⟨S16x2048x512, .f32⟩
  | 60 => ⟨S16x2048x512, .f32⟩
  | 61 => ⟨S1x512, .f32⟩
  | 62 => ⟨S512, .f32⟩
  | 63 => ⟨S1x1x512, .f32⟩
  | 64 => ⟨S16x2048x512, .f32⟩
  | 65 => ⟨S16x2048x512, .f32⟩
  | 66 => ⟨S16x2048x512, .f32⟩
  | 67 => ⟨S16x2048x512, .f32⟩
  | 68 => ⟨S1x512, .f32⟩
  | 69 => ⟨S512, .f32⟩
  | 70 => ⟨S1x1x512, .f32⟩
  | 71 => ⟨S16x2048x512, .f32⟩
  | 72 => ⟨S16x2048x512, .f32⟩
  | 73 => ⟨S16x2048x512, .f32⟩
  | 74 => ⟨S16x2048x512, .f32⟩
  | 75 => ⟨S1x512, .f32⟩
  | 76 => ⟨S512, .f32⟩
  | 77 => ⟨S1x1x512, .f32⟩
  | 78 => ⟨S16x2048x512, .f32⟩
  | 79 => ⟨S16x2048x512, .f32⟩
  | 80 => ⟨S16x2048x512, .f32⟩
  | 81 => ⟨S16x2048x512, .f32⟩
  | 82 => ⟨S1x512, .f32⟩
  | 83 => ⟨S512, .f32⟩
  | 84 => ⟨S1x1x512, .f32⟩
  | 85 => ⟨S16x2048x512, .f32⟩
  | 86 => ⟨S16x2048x512, .f32⟩
  | 87 => ⟨S16x2048x512, .f32⟩
  | 88 => ⟨S16x2048x512, .f32⟩
  | 89 => ⟨S1x512, .f32⟩
  | 90 => ⟨S512, .f32⟩
  | 91 => ⟨S1x1x512, .f32⟩
  | 92 => ⟨S16x2048x512, .f32⟩
  | 93 => ⟨S16x2048x512, .f32⟩
  | 94 => ⟨S16x2048x512, .f32⟩
  | 95 => ⟨S16x2048x512, .f32⟩
  | 96 => ⟨S1x512, .f32⟩
  | 97 => ⟨S512, .f32⟩
  | 98 => ⟨S1x1x512, .f32⟩
  | 99 => ⟨S16x2048x512, .f32⟩
  | 100 => ⟨S16x2048x512, .f32⟩
  | 101 => ⟨S16x2048x512, .f32⟩
  | 102 => ⟨S16x2048x512, .f32⟩
  | 103 => ⟨S1x512, .f32⟩
  | 104 => ⟨S512, .f32⟩
  | 105 => ⟨S1x1x512, .f32⟩
  | 106 => ⟨S16x2048x512, .f32⟩
  | 107 => ⟨S16x2048x512, .f32⟩
  | 108 => ⟨S16x2048x512, .f32⟩
  | 109 => ⟨S16x2048x512, .f32⟩
  | 110 => ⟨S1x512, .f32⟩
  | 111 => ⟨S512, .f32⟩
  | 112 => ⟨S1x1x512, .f32⟩
  | 113 => ⟨S16x2048x512, .f32⟩
  | 114 => ⟨S16x2048x512, .f32⟩
  | 115 => ⟨S16x2048x512, .f32⟩
  | 116 => ⟨S16x2048x512, .f32⟩
  | 117 => ⟨S1x512, .f32⟩
  | 118 => ⟨S512, .f32⟩
  | 119 => ⟨S1x1x512, .f32⟩
  | 120 => ⟨S16x2048x512, .f32⟩
  | 121 => ⟨S16x2048x512, .f32⟩
  | 122 => ⟨S16x2048x512, .f32⟩
  | 123 => ⟨S1x1x512, .f32⟩
  | 124 => ⟨S16x2048x512, .f32⟩
  | 125 => ⟨S16x2048x512, .f32⟩
  | 126 => ⟨S_, .f32⟩
  | 127 => ⟨S16x2048, .f32⟩
  | _ => ⟨S16x2048x1024, .f32⟩

abbrev hbmTy0_2 (i : Nat) : BufTy := match i % 128 with
  | 0 => ⟨S16x2048x1, .f32⟩
  | 1 => ⟨S_, .f32⟩
  | 2 => ⟨S16x2048x1, .f32⟩
  | 3 => ⟨S16x2048x1, .f32⟩
  | 4 => ⟨S16x2048x512, .f32⟩
  | 5 => ⟨S16x2048x512, .f32⟩
  | 6 => ⟨S16x2048x512, .f32⟩
  | 7 => ⟨S_, .f32⟩
  | 8 => ⟨S16x2048, .f32⟩
  | 9 => ⟨S16x2048x1, .f32⟩
  | 10 => ⟨S_, .f32⟩
  | 11 => ⟨S16x2048x1, .f32⟩
  | 12 => ⟨S16x2048x1, .f32⟩
  | 13 => ⟨S16x2048x512, .f32⟩
  | 14 => ⟨S16x2048x512, .f32⟩
  | 15 => ⟨S_, .f32⟩
  | 16 => ⟨S16x2048x1, .f32⟩
  | 17 => ⟨S16x2048x1, .f32⟩
  | 18 => ⟨S16x2048x1, .f32⟩
  | 19 => ⟨S16x2048x512, .f32⟩
  | 20 => ⟨S16x2048x512, .f32⟩
  | 21 => ⟨S1x1x512, .f32⟩
  | 22 => ⟨S16x2048x512, .f32⟩
  | 23 => ⟨S16x2048x512, .f32⟩
  | 24 => ⟨S1x1x512, .f32⟩
  | 25 => ⟨S16x2048x512, .f32⟩
  | 26 => ⟨S16x2048x512, .f32⟩
  | 27 => ⟨S16x2048x512, .f32⟩
  | 28 => ⟨S16x2048x512, .f32⟩
  | 29 => ⟨S_, .f32⟩
  | 30 => ⟨S16x2048x512, .f32⟩
  | 31 => ⟨S16x2048x512, .f32⟩
  | 32 => ⟨S_, .f32⟩
  | 33 => ⟨S16x2048x512, .f32⟩
  | 34 => ⟨S16x2048x512, .f32⟩
  | 35 => ⟨S16x2048x512, .f32⟩
  | 36 => ⟨S16x2048x512, .f32⟩
  | 37 => ⟨S_, .i32⟩
  | 38 => ⟨S_, .f32⟩
  | 39 => ⟨S16x2050x512, .f32⟩
  | 40 => ⟨S_, .f32⟩
  | 41 => ⟨S16x2048x512, .f32⟩
  | 42 => ⟨S16x2048x512, .f32⟩
  | 43 => ⟨S1x512, .f32⟩
  | 44 => ⟨S512, .f32⟩
  | 45 => ⟨S1x1x512, .f32⟩
  | 46 => ⟨S16x2048x512, .f32⟩
  | 47 => ⟨S16x2048x512, .f32⟩
  | 48 => ⟨S16x2048x512, .f32⟩
  | 49 => ⟨S16x2048x512, .f32⟩
  | 50 => ⟨S1x512, .f32⟩
  | 51 => ⟨S512, .f32⟩
  | 52 => ⟨S1x1x512, .f32⟩
  | 53 => ⟨S16x2048x512, .f32⟩
  | 54 => ⟨S16x2048x512, .f32⟩
  | 55 => ⟨S16x2048x512, .f32⟩
  | 56 => ⟨S16x2048x512, .f32⟩
  | 57 => ⟨S1x512, .f32⟩
  | 58 => ⟨S512, .f32⟩
  | 59 => ⟨S1x1x512, .f32⟩
  | 60 => ⟨S16x2048x512, .f32⟩
  | 61 => ⟨S16x2048x512, .f32⟩
  | 62 => ⟨S16x2048x512, .f32⟩
  | 63 => ⟨S16x2048x512, .f32⟩
  | 64 => ⟨S16x2048x1024, .f32⟩
  | 65 => ⟨S16x2048x1024, .f32⟩
  | 66 => ⟨S_, .f32⟩
  | 67 => ⟨S16x2048x1024, .f32⟩
  | 68 => ⟨S16x2048x1024, .f32⟩
  | 69 => ⟨S16x2048x1024, .f32⟩
  | 70 => ⟨S_, .f32⟩
  | 71 => ⟨S16x2048, .f32⟩
  | 72 => ⟨S16x2048x1, .f32⟩
  | 73 => ⟨S_, .f32⟩
  | 74 => ⟨S16x2048x1, .f32⟩
  | 75 => ⟨S16x2048x1, .f32⟩
  | 76 => ⟨S16x2048x1024, .f32⟩
  | 77 => ⟨S16x2048x1024, .f32⟩
  | 78 => ⟨S16x2048x1024, .f32⟩
  | 79 => ⟨S_, .f32⟩
  | 80 => ⟨S16x2048, .f32⟩
  | 81 => ⟨S16x2048x1, .f32⟩
  | 82 => ⟨S_, .f32⟩
  | 83 => ⟨S16x2048x1, .f32⟩
  | 84 => ⟨S16x2048x1, .f32⟩
  | 85 => ⟨S16x2048x1024, .f32⟩
  | 86 => ⟨S16x2048x1024, .f32⟩
  | 87 => ⟨S_, .f32⟩
  | 88 => ⟨S16x2048x1, .f32⟩
  | 89 => ⟨S16x2048x1, .f32⟩
  | 90 => ⟨S16x2048x1, .f32⟩
  | 91 => ⟨S16x2048x1024, .f32⟩
  | 92 => ⟨S16x2048x1024, .f32⟩
  | 93 => ⟨S1x1x1024, .f32⟩
  | 94 => ⟨S16x2048x1024, .f32⟩
  | 95 => ⟨S16x2048x1024, .f32⟩
  | 96 => ⟨S1x1x1024, .f32⟩
  | 97 => ⟨S16x2048x1024, .f32⟩
  | 98 => ⟨S16x2048x1024, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_call0_v0 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_v230 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_cst_2 : Ref sig .tc := ⟨.hbm, 254, rfl⟩
abbrev main_v238 : Ref sig .tc := ⟨.hbm, 255, rfl⟩
abbrev main_v239 : Ref sig .tc := ⟨.hbm, 256, rfl⟩
abbrev main_cst_3 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_cst_4 : Ref sig .tc := ⟨.hbm, 263, rfl⟩
abbrev main_v245 : Ref sig .tc := ⟨.hbm, 264, rfl⟩
abbrev main_v246 : Ref sig .tc := ⟨.hbm, 265, rfl⟩
abbrev main_cst_5 : Ref sig .tc := ⟨.hbm, 266, rfl⟩
abbrev main_v247 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_cst_6 : Ref sig .tc := ⟨.hbm, 271, rfl⟩
abbrev main_v251 : Ref sig .tc := ⟨.hbm, 272, rfl⟩
abbrev main_v252 : Ref sig .tc := ⟨.hbm, 273, rfl⟩
abbrev main_v253 : Ref sig .tc := ⟨.hbm, 274, rfl⟩
abbrev main_v254 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_call1_v0 : Ref sig .tc := ⟨.hbm, 283, rfl⟩
abbrev main_call1_v1 : Ref sig .tc := ⟨.hbm, 284, rfl⟩
abbrev main_call1_cst : Ref sig .tc := ⟨.hbm, 285, rfl⟩
abbrev main_call1_v2 : Ref sig .tc := ⟨.hbm, 286, rfl⟩
abbrev main_call1_v3 : Ref sig .tc := ⟨.hbm, 287, rfl⟩
abbrev main_call1_cst_0 : Ref sig .tc := ⟨.hbm, 288, rfl⟩
abbrev main_call1_v4 : Ref sig .tc := ⟨.hbm, 289, rfl⟩
abbrev main_call1_v5 : Ref sig .tc := ⟨.hbm, 290, rfl⟩
abbrev main_v262 : Ref sig .tc := ⟨.hbm, 291, rfl⟩
abbrev main_v263 : Ref sig .tc := ⟨.hbm, 292, rfl⟩
abbrev main_c_7 : Ref sig .tc := ⟨.hbm, 293, rfl⟩
abbrev main_call2_v0 : Ref sig .tc := ⟨.hbm, 294, rfl⟩
abbrev main_v264 : Ref sig .tc := ⟨.hbm, 295, rfl⟩
abbrev main_cst_8 : Ref sig .tc := ⟨.hbm, 296, rfl⟩
abbrev main_v265 : Ref sig .tc := ⟨.hbm, 297, rfl⟩
abbrev main_v266 : Ref sig .tc := ⟨.hbm, 298, rfl⟩
abbrev main_v267 : Ref sig .tc := ⟨.hbm, 299, rfl⟩
abbrev main_v268 : Ref sig .tc := ⟨.hbm, 300, rfl⟩
abbrev main_v269 : Ref sig .tc := ⟨.hbm, 301, rfl⟩
abbrev main_v270 : Ref sig .tc := ⟨.hbm, 302, rfl⟩
abbrev main_v271 : Ref sig .tc := ⟨.hbm, 303, rfl⟩
abbrev main_v272 : Ref sig .tc := ⟨.hbm, 304, rfl⟩
abbrev main_v273 : Ref sig .tc := ⟨.hbm, 305, rfl⟩
abbrev main_v274 : Ref sig .tc := ⟨.hbm, 306, rfl⟩
abbrev main_v275 : Ref sig .tc := ⟨.hbm, 307, rfl⟩
abbrev main_v276 : Ref sig .tc := ⟨.hbm, 308, rfl⟩
abbrev main_v277 : Ref sig .tc := ⟨.hbm, 309, rfl⟩
abbrev main_v278 : Ref sig .tc := ⟨.hbm, 310, rfl⟩
abbrev main_v279 : Ref sig .tc := ⟨.hbm, 311, rfl⟩
abbrev main_v280 : Ref sig .tc := ⟨.hbm, 312, rfl⟩
abbrev main_v281 : Ref sig .tc := ⟨.hbm, 313, rfl⟩
abbrev main_v282 : Ref sig .tc := ⟨.hbm, 314, rfl⟩
abbrev main_v283 : Ref sig .tc := ⟨.hbm, 315, rfl⟩
abbrev main_v284 : Ref sig .tc := ⟨.hbm, 316, rfl⟩
abbrev main_v285 : Ref sig .tc := ⟨.hbm, 317, rfl⟩
abbrev main_v286 : Ref sig .tc := ⟨.hbm, 318, rfl⟩
abbrev main_v287 : Ref sig .tc := ⟨.hbm, 319, rfl⟩
abbrev main_v288 : Ref sig .tc := ⟨.hbm, 320, rfl⟩
abbrev main_v289 : Ref sig .tc := ⟨.hbm, 321, rfl⟩
abbrev main_cst_9 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_cst_10 : Ref sig .tc := ⟨.hbm, 326, rfl⟩
abbrev main_v293 : Ref sig .tc := ⟨.hbm, 327, rfl⟩
abbrev main_v294 : Ref sig .tc := ⟨.hbm, 328, rfl⟩
abbrev main_cst_11 : Ref sig .tc := ⟨.hbm, 329, rfl⟩
abbrev main_v295 : Ref sig .tc := ⟨.hbm, 330, rfl⟩
abbrev main_v296 : Ref sig .tc := ⟨.hbm, 331, rfl⟩
abbrev main_v297 : Ref sig .tc := ⟨.hbm, 332, rfl⟩
abbrev main_v298 : Ref sig .tc := ⟨.hbm, 333, rfl⟩
abbrev main_v299 : Ref sig .tc := ⟨.hbm, 334, rfl⟩
abbrev main_cst_12 : Ref sig .tc := ⟨.hbm, 335, rfl⟩
abbrev main_v300 : Ref sig .tc := ⟨.hbm, 336, rfl⟩
abbrev main_v301 : Ref sig .tc := ⟨.hbm, 337, rfl⟩
abbrev main_cst_13 : Ref sig .tc := ⟨.hbm, 338, rfl⟩
abbrev main_v302 : Ref sig .tc := ⟨.hbm, 339, rfl⟩
abbrev main_v303 : Ref sig .tc := ⟨.hbm, 340, rfl⟩
abbrev main_v304 : Ref sig .tc := ⟨.hbm, 341, rfl⟩
abbrev main_v305 : Ref sig .tc := ⟨.hbm, 342, rfl⟩
abbrev main_cst_14 : Ref sig .tc := ⟨.hbm, 343, rfl⟩
abbrev main_v306 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_v310 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩
abbrev main_v314 : Ref sig .tc := ⟨.hbm, 352, rfl⟩
abbrev main_v315 : Ref sig .tc := ⟨.hbm, 353, rfl⟩
abbrev main_v316 : Ref sig .tc := ⟨.hbm, 354, rfl⟩

abbrev nD : Nat := 1
abbrev τ : Topo := Topo.v7x

variable {F : FTy → Type} [FloatOps F]
-- ==== Kernel3.lean ====
abbrev S32768x1024 : Shape := ⟨2, ![32768, 1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S1024x4x8 : Shape := ⟨3, ![1024, 4, 8]⟩
abbrev S1024x32 : Shape := ⟨2, ![1024, 32]⟩
abbrev S1024x36 : Shape := ⟨2, ![1024, 36]⟩
abbrev S32 : Shape := ⟨1, ![32]⟩
abbrev S36 : Shape := ⟨1, ![36]⟩
abbrev S_ : Shape := ⟨0, ![]⟩
abbrev S1024x64 : Shape := ⟨2, ![1024, 64]⟩
abbrev S1024x128 : Shape := ⟨2, ![1024, 128]⟩
abbrev S40 : Shape := ⟨1, ![40]⟩
abbrev S40x1 : Shape := ⟨2, ![40, 1]⟩
abbrev S40x512 : Shape := ⟨2, ![40, 512]⟩
abbrev S8x32768 : Shape := ⟨2, ![8, 32768]⟩
abbrev S32768x128 : Shape := ⟨2, ![32768, 128]⟩
abbrev S64x40x128 : Shape := ⟨3, ![64, 40, 128]⟩
abbrev S512x1024 : Shape := ⟨2, ![512, 1024]⟩
abbrev S8x512 : Shape := ⟨2, ![8, 512]⟩
abbrev S512x128 : Shape := ⟨2, ![512, 128]⟩
abbrev S1x40x128 : Shape := ⟨3, ![1, 40, 128]⟩
abbrev S512x512 : Shape := ⟨2, ![512, 512]⟩
abbrev S128x128 : Shape := ⟨2, ![128, 128]⟩
abbrev S128x512 : Shape := ⟨2, ![128, 512]⟩
abbrev S512 : Shape := ⟨1, ![512]⟩
abbrev S1x512 : Shape := ⟨2, ![1, 512]⟩
abbrev S40x128 : Shape := ⟨2, ![40, 128]⟩
abbrev S88x128 : Shape := ⟨2, ![88, 128]⟩
abbrev S2x512 : Shape := ⟨2, ![2, 512]⟩
abbrev S120x512 : Shape := ⟨2, ![120, 512]⟩

abbrev nBuf : Space → Nat
  | .hbm => 29
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024x4, .f32⟩
  | .hbm, ⟨2, _⟩ => ⟨S4, .f32⟩
  | .hbm, ⟨3, _⟩ => ⟨S4x1024x8, .f32⟩
  | .hbm, ⟨4, _⟩ => ⟨S4x8, .f32⟩
  | .hbm, ⟨5, _⟩ => ⟨S1024x4x8, .f32⟩
  | .hbm, ⟨6, _⟩ => ⟨S1024x32, .f32⟩
  | .hbm, ⟨7, _⟩ => ⟨S1024x36, .f32⟩
  | .hbm, ⟨8, _⟩ => ⟨S32, .f32⟩
  | .hbm, ⟨9, _⟩ => ⟨S36, .f32⟩
  | .hbm, ⟨10, _⟩ => ⟨S1024x36, .bf16⟩
  | .hbm, ⟨11, _⟩ => ⟨S1024x36, .f32⟩
  | .hbm, ⟨12, _⟩ => ⟨S1024x36, .f32⟩
  | .hbm, ⟨13, _⟩ => ⟨S1024x36, .bf16⟩
  | .hbm, ⟨14, _⟩ => ⟨S_, .i32⟩
  | .hbm, ⟨15, _⟩ => ⟨S_, .bf16⟩
  | .hbm, ⟨16, _⟩ => ⟨S1024x64, .bf16⟩
  | .hbm, ⟨17, _⟩ => ⟨S_, .i32⟩
  | .hbm, ⟨18, _⟩ => ⟨S_, .bf16⟩
  | .hbm, ⟨19, _⟩ => ⟨S1024x64, .bf16⟩
  | .hbm, ⟨20, _⟩ => ⟨S1024x128, .bf16⟩
  | .hbm, ⟨21, _⟩ => ⟨S_, .i32⟩
  | .hbm, ⟨22, _⟩ => ⟨S_, .f32⟩
  | .hbm, ⟨23, _⟩ => ⟨S40, .f32⟩
  | .hbm, ⟨24, _⟩ => ⟨S40x1, .f32⟩
  | .hbm, ⟨25, _⟩ => ⟨S40x512, .f32⟩
  | .hbm, ⟨26, _⟩ => ⟨S8x32768, .f32⟩
  | .hbm, ⟨27, _⟩ => ⟨S32768x128, .f32⟩
  | .hbm, ⟨28, _⟩ => ⟨S64x40x128, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S40x512, .f32⟩
  | .local _ .vmem, ⟨4, _⟩ => ⟨S8x512, .f32⟩
  | .local _ .vmem, ⟨5, _⟩ => ⟨S8x512, .f32⟩
  | .local _ .vmem, ⟨6, _⟩ => ⟨S512x128, .f32⟩
  | .local _ .vmem, ⟨7, _⟩ => ⟨S512x128, .f32⟩
  | .local _ .vmem, ⟨8, _⟩ => ⟨S1x40x128, .f32⟩
  | .local _ .vmem, ⟨9, _⟩ => ⟨S1x40x128, .f32⟩
  | .local _ .vmem, ⟨10, _⟩ => ⟨S512x512, .bf16⟩
  | .local _ .vmem, ⟨11, _⟩ => ⟨S128x128, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_call2_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x40x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel3Ideal.lean ====
variable {F : FTy → Type} [FloatOps F] [Named F]
def κ : String → Option EReal := fun
  | "mask" => some ⊥
  | _ => none
-- ==== Reference3Ideal.lean ====
abbrev S32768x1024 : Shape := ⟨2, ![32768, 1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S32768x4 : Shape := ⟨2, ![32768, 4]⟩
abbrev S1x4 : Shape := ⟨2, ![1, 4]⟩
abbrev S_ : Shape := ⟨0, ![]⟩
abbrev S32768 : Shape := ⟨1, ![32768]⟩
abbrev S32768x1 : Shape := ⟨2, ![32768, 1]⟩
abbrev S32768x4x8 : Shape := ⟨3, ![32768, 4, 8]⟩
abbrev S1x4x8 : Shape := ⟨3, ![1, 4, 8]⟩
abbrev S32768x1x1 : Shape := ⟨3, ![32768, 1, 1]⟩
abbrev S1 : Shape := ⟨1, ![1]⟩
abbrev S1x1x1 : Shape := ⟨3, ![1, 1, 1]⟩
abbrev S32768x1x8 : Shape := ⟨3, ![32768, 1, 8]⟩
abbrev S32768x8 : Shape := ⟨2, ![32768, 8]⟩
abbrev S32768x2 : Shape := ⟨2, ![32768, 2]⟩
abbrev S2x32768 : Shape := ⟨2, ![2, 32768]⟩
abbrev S4x32768 : Shape := ⟨2, ![4, 32768]⟩
abbrev S8x32768 : Shape := ⟨2, ![8, 32768]⟩

abbrev nBuf : Space → Nat
  | .hbm => 87
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x4, .f32⟩
  | .hbm, ⟨2, _⟩ => ⟨S4, .f32⟩
  | .hbm, ⟨3, _⟩ => ⟨S4x1024x8, .f32⟩
  | .hbm, ⟨4, _⟩ => ⟨S4x8, .f32⟩
  | .hbm, ⟨5, _⟩ => ⟨S32768x4, .f32⟩
  | .hbm, ⟨6, _⟩ => ⟨S1x4, .f32⟩
  | .hbm, ⟨7, _⟩ => ⟨S32768x4, .f32⟩
  | .hbm, ⟨8, _⟩ => ⟨S32768x4, .f32⟩
  | .hbm, ⟨9, _⟩ => ⟨S_, .f32⟩
  | .hbm, ⟨10, _⟩ => ⟨S32768, .f32⟩
  | .hbm, ⟨11, _⟩ => ⟨S_, .f32⟩
  | .hbm, ⟨12, _⟩ => ⟨S32768, .f32⟩
  | .hbm, ⟨13, _⟩ => ⟨S32768, .f32⟩
  | .hbm, ⟨14, _⟩ => ⟨S32768x1, .f32⟩
  | .hbm, ⟨15, _⟩ => ⟨S32768x4, .f32⟩
  | .hbm, ⟨16, _⟩ => ⟨S32768x4, .f32⟩
  | .hbm, ⟨17, _⟩ => ⟨S32768x4, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S32768x4, .f32⟩
  | .hbm, ⟨22, _⟩ => ⟨S32768x4, .f32⟩
  | .hbm, ⟨23, _⟩ => ⟨S32768x1, .f32⟩
  | .hbm, ⟨24, _⟩ => ⟨S32768x1, .i32⟩
  | .hbm, ⟨25, _⟩ => ⟨S32768x4x8, .f32⟩
  | .hbm, ⟨26, _⟩ => ⟨S1x4x8, .f32⟩
  | .hbm, ⟨27, _⟩ => ⟨S32768x4x8, .f32⟩
  | .hbm, ⟨28, _⟩ => ⟨S32768x4x8, .f32⟩
  | .hbm, ⟨29, _⟩ => ⟨S32768x1x1, .i32⟩
  | .hbm, ⟨30, _⟩ => ⟨S_, .i32⟩
  | .hbm, ⟨31, _⟩ => ⟨S32768x1x1, .i32⟩
  | .hbm, ⟨32, _⟩ => ⟨S32768x1x1, .i1⟩
  | .hbm, ⟨33, _⟩ => ⟨S_, .i32⟩
  | .hbm, ⟨34, _⟩ => ⟨S32768x1x1, .i32⟩
  | .hbm, ⟨35, _⟩ => ⟨S32768x1x1, .i32⟩
  | .hbm, ⟨36, _⟩ => ⟨S32768x1x1, .i32⟩
  | .hbm, ⟨37, _⟩ => ⟨S1, .i32⟩
  | .hbm, ⟨38, _⟩ => ⟨S_, .i32⟩
  | .hbm, ⟨39, _⟩ => ⟨S32768x1x1, .i32⟩
  | .hbm, ⟨40, _⟩ => ⟨S32768x1x1, .i1⟩
  | .hbm, ⟨41, _⟩ => ⟨S1x1x1, .i32⟩
  | .hbm, ⟨42, _⟩ => ⟨S32768x1x1, .i32⟩
  | .hbm, ⟨43, _⟩ => ⟨S32768x1x1, .i1⟩
  | .hbm, ⟨44, _⟩ => ⟨S32768x1x1, .i1⟩
  | .hbm, ⟨45, _⟩ => ⟨S_, .i1⟩
  | .hbm, ⟨46, _⟩ => ⟨S32768x1, .i1⟩
  | .hbm, ⟨47, _⟩ => ⟨S32768x1x8, .f32⟩
  | .hbm, ⟨48, _⟩ => ⟨S32768x1x8, .i1⟩
  | .hbm, ⟨49, _⟩ => ⟨S_, .f32⟩
  | .hbm, ⟨50, _⟩ => ⟨S32768x1x8, .f32⟩
  | .hbm, ⟨51, _⟩ => ⟨S32768x1x8, .f32⟩
  | .hbm, ⟨52, _⟩ => ⟨S32768x8, .f32⟩
  | .hbm, ⟨53, _⟩ => ⟨S_, .f32⟩
  | .hbm, ⟨54, _⟩ => ⟨S32768, .f32⟩
  | .hbm, ⟨55, _⟩ => ⟨S_, .f32⟩
  | .hbm, ⟨56, _⟩ => ⟨S32768, .f32⟩
  | .hbm, ⟨57, _⟩ => ⟨S32768, .f32⟩
  | .hbm, ⟨58, _⟩ => ⟨S32768x1, .f32⟩
  | .hbm, ⟨59, _⟩ => ⟨S32768x8, .f32⟩
  | .hbm, ⟨60, _⟩ => ⟨S32768x8, .f32⟩
  | .hbm, ⟨61, _⟩ => ⟨S32768x8, .f32⟩
  | .hbm, ⟨62, _⟩ => ⟨S_, .f32⟩
  | .hbm, ⟨63, _⟩ => ⟨S32768, .f32⟩
  | .hbm, ⟨64, _⟩ => ⟨S32768x1, .f32⟩
  | .hbm, ⟨65, _⟩ => ⟨S32768x8, .f32⟩
  | .hbm, ⟨66, _⟩ => ⟨S32768x8, .f32⟩
  | .hbm, ⟨67, _⟩ => ⟨S32768x2, .f32⟩
  | .hbm, ⟨68, _⟩ => ⟨S32768x2, .i32⟩
  | .hbm, ⟨69, _⟩ => ⟨S_, .f32⟩
  | .hbm, ⟨70, _⟩ => ⟨S32768, .f32⟩
  | .hbm, ⟨71, _⟩ => ⟨S32768x1, .f32⟩
  | .hbm, ⟨72, _⟩ => ⟨S32768x2, .f32⟩
  | .hbm, ⟨73, _⟩ => ⟨S32768x2, .f32⟩
  | .hbm, ⟨74, _⟩ => ⟨S32768x2, .f32⟩
  | .hbm, ⟨75, _⟩ => ⟨S32768x2, .f32⟩
  | .hbm, ⟨76, _⟩ => ⟨S_, .i32⟩
  | .hbm, ⟨77, _⟩ => ⟨S32768x1, .i32⟩
  | .hbm, ⟨78, _⟩ => ⟨S32768x1, .i32⟩
  | .hbm, ⟨79, _⟩ => ⟨S32768x2, .i32⟩
  | .hbm, ⟨80, _⟩ => ⟨S32768x2, .i32⟩
  | .hbm, ⟨81, _⟩ => ⟨S2x32768, .i32⟩
  | .hbm, ⟨82, _⟩ => ⟨S2x32768, .f32⟩
  | .hbm, ⟨83, _⟩ => ⟨S2x32768, .f32⟩
  | .hbm, ⟨84, _⟩ => ⟨S_, .f32⟩
  | .hbm, ⟨85, _⟩ => ⟨S4x32768, .f32⟩
  | .hbm, ⟨86, _⟩ => ⟨S8x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_values : Ref sig .tc := ⟨.hbm, 23, rfl⟩
abbrev main_indices : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_1 : Ref sig .tc := ⟨.hbm, 37, rfl⟩
abbrev main_call0_c_2 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_c_3 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_cst : Ref sig .tc := ⟨.hbm, 49, rfl⟩
abbrev main_call0_v14 : Ref sig .tc := ⟨.hbm, 50, rfl⟩
abbrev main_v20 : Ref sig .tc := ⟨.hbm, 51, rfl⟩
abbrev main_v21 : Ref sig .tc := ⟨.hbm, 52, rfl⟩
abbrev main_cst_2 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_4 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_values_5 : Ref sig .tc := ⟨.hbm, 67, rfl⟩
abbrev main_indices_6 : Ref sig .tc := ⟨.hbm, 68, rfl⟩
abbrev main_cst_7 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_c : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_8 : Ref sig .tc := ⟨.hbm, 84, rfl⟩
abbrev main_v46 : Ref sig .tc := ⟨.hbm, 85, rfl⟩
abbrev main_v47 : Ref sig .tc := ⟨.hbm, 86, rfl⟩

abbrev nD : Nat := 1
abbrev τ : Topo := Topo.v7x

variable {F : FTy → Type} [FloatOps F]
-- ==== Proof.Softmax.lean ====
/- The mathematics of one row of masked attention, apart from any program: a row of scores of which the masked
   ones are −∞ has the same normalised weights in base 2 (scores divided by ln 2, one division at the end) as in
   base e (each weight divided before the product with the values). -/
module

public import Idealize.ShloMosaic.Lib.Pointwise
public import Idealize.ShloMosaic.PureOps.Ideal

@[expose] public section

noncomputable section

namespace Cert.Mixer

open Idealize.ShloMosaic

/-- A row of scores: the real score where the key is visible, −∞ where it is masked. -/
def masked {n : ℕ} (ok : Fin n → Prop) [DecidablePred ok] (s : Fin n → ℝ) (j : Fin n) : EReal :=
  if ok j then (s j : EReal) else ⊥

/-- The unnormalised weight of a key: `eˢ` where it is visible, 0 where it is masked. -/
def weight {n : ℕ} (ok : Fin n → Prop) [DecidablePred ok] (s : Fin n → ℝ) (j : Fin n) : ℝ :=
  if ok j then Real.exp (s j) else 0

/-- What one row of attention computes in one lane of the values: the mean of the values under the weights. -/
def attend {n : ℕ} (ok : Fin n → Prop) [DecidablePred ok] (s v : Fin n → ℝ) : ℝ :=
  (∑ j, weight ok s j * v j) / ∑ j, weight ok s j

/-- A finite sum of reals, read in the extended reals, is the sum of the readings. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The maximum of a row with a visible key is a real number. -/
theorem rowMax_real {n : ℕ} (ok : Fin n → Prop) [DecidablePred ok] (s : Fin n → ℝ) (h : ∃ j, ok j) :
    ∃ M : ℝ, (Finset.univ.fold max ⊥ fun j => masked ok s j) = (M : EReal) := by
  obtain ⟨j, hj⟩ := h
  have hlt : (Finset.univ.fold max ⊥ fun j => masked ok s j) < (⊤ : EReal) := by
    rw [Finset.fold_max_lt]
    refine ⟨bot_lt_top, fun i _ => ?_⟩
    unfold masked
    split
    · exact EReal.coe_lt_top _
    · exact bot_lt_top
  have hge : (s j : EReal) ≤ Finset.univ.fold max ⊥ fun j => masked ok s j := by
    rw [Finset.le_fold_max]
    exact .inr ⟨j, Finset.mem_univ _, by simp [masked, hj]⟩
  refine ⟨(Finset.univ.fold max ⊥ fun j => masked ok s j).toReal, (EReal.coe_toReal hlt.ne ?_).symm⟩
  intro h0
  rw [h0] at hge
  exact absurd hge (not_le.mpr (EReal.bot_lt_coe _))

/-- The weights of a row with a visible key have a positive sum. -/
theorem weight_sum_pos {n : ℕ} (ok : Fin n → Prop) [DecidablePred ok] (s : Fin n → ℝ) (h : ∃ j, ok j) :
    0 < ∑ j, weight ok s j := by
  obtain ⟨j, hj⟩ := h
  refine Finset.sum_pos' (fun i _ => ?_) ⟨j, Finset.mem_univ _, ?_⟩
  · unfold weight; split
    · exact (Real.exp_pos _).le
    · exact le_rfl
  · unfold weight; rw [if_pos hj]; exact Real.exp_pos _

/-- The quotient of two reals, the divisor not zero, is the real quotient. -/
theorem div_real (x : ℝ) {y : ℝ} (h : y ≠ 0) : Ideal.div (x : EReal) (y : EReal) = ((x / y : ℝ) : EReal) := by
  rw [Ideal.div_coe h, ← EReal.coe_mul, mul_one_div]

/-- A row whose exponentials are the weights up to one positive factor: dividing the weighted sum by the sum. -/
theorem ratio_after {n : ℕ} (ok : Fin n → Prop) [DecidablePred ok] (s v : Fin n → ℝ) (h : ∃ j, ok j) {K : ℝ} (hK : 0 < K)
    (e : Fin n → EReal) (he : ∀ j, e j = ((weight ok s j * K : ℝ) : EReal)) :
    Ideal.div (∑ j, e j * (v j : EReal)) (∑ j, e j) = (attend ok s v : EReal) := by
  have h1 : (∑ j, e j * (v j : EReal)) = ((∑ j, weight ok s j * K * v j : ℝ) : EReal) := by
    rw [coe_sum]; exact Finset.sum_congr rfl fun j _ => by rw [he, EReal.coe_mul (weight ok s j * K)]
  have h2 : (∑ j, e j) = ((∑ j, weight ok s j * K : ℝ) : EReal) := by
    rw [coe_sum]; exact Finset.sum_congr rfl fun j _ => he j
  have hpos := weight_sum_pos ok s h
  have h3 : (∑ j, weight ok s j * K) ≠ 0 := by rw [← Finset.sum_mul]; positivity
  rw [h1, h2, div_real _ h3]
  congr 1
  unfold attend
  rw [← Finset.sum_mul, show (∑ j, weight ok s j * K * v j) = (∑ j, weight ok s j * v j) * K by
    rw [Finset.sum_mul]; exact Finset.sum_congr rfl fun j _ => by ring]
  field_simp

/-- The same with each weight divided before the product with the values. -/
theorem ratio_before {n : ℕ} (ok : Fin n → Prop) [DecidablePred ok] (s v : Fin n → ℝ) (h : ∃ j, ok j) {K : ℝ} (hK : 0 < K)
    (e : Fin n → EReal) (he : ∀ j, e j = ((weight ok s j * K : ℝ) : EReal)) :
    (∑ j, Ideal.div (e j) (∑ i, e i) * (v j : EReal)) = (attend ok s v : EReal) := by
  have h2 : (∑ j, e j) = ((∑ j, weight ok s j * K : ℝ) : EReal) := by
    rw [coe_sum]; exact Finset.sum_congr rfl fun j _ => he j
  have hpos := weight_sum_pos ok s h
  have h3 : (∑ j, weight ok s j * K) ≠ 0 := by rw [← Finset.sum_mul]; positivity
  have h4 : (∑ j, Ideal.div (e j) (∑ i, e i) * (v j : EReal))
      = ((∑ j, weight ok s j * K / (∑ i, weight ok s i * K) * v j : ℝ) : EReal) := by
    rw [coe_sum, h2]
    exact Finset.sum_congr rfl fun j _ => by rw [he, div_real _ h3, ← EReal.coe_mul]
  rw [h4]
  congr 1
  unfold attend
  rw [← Finset.sum_mul, Finset.sum_div]
  refine Finset.sum_congr rfl fun j _ => ?_
  field_simp

/-- The exponential of a masked score less a real number is the weight up to one positive factor. -/
theorem exp_masked {n : ℕ} (ok : Fin n → Prop) [DecidablePred ok] (s : Fin n → ℝ) (M : ℝ) (j : Fin n) :
    Ideal.exp (masked ok s j - (M : EReal)) = ((weight ok s j * Real.exp (-M) : ℝ) : EReal) := by
  unfold masked weight
  split
  · rw [← EReal.coe_sub, Ideal.exp_coe, sub_eq_add_neg, Real.exp_add]
  · rw [EReal.bot_sub, Ideal.exp_bot, zero_mul, EReal.coe_zero]

/-- The same in base 2, of the score divided by `ln 2`. -/
theorem exp2_masked {n : ℕ} (ok : Fin n → Prop) [DecidablePred ok] (s : Fin n → ℝ) (M : ℝ) (j : Fin n) :
    Ideal.exp2 (masked ok (fun i => s i * (Real.log 2)⁻¹) j - (M : EReal))
      = ((weight ok s j * Real.exp (-(Real.log 2 * M)) : ℝ) : EReal) := by
  have hl : Real.log 2 ≠ 0 := (Real.log_pos one_lt_two).ne'
  unfold masked weight
  split
  · rw [← EReal.coe_sub, Ideal.exp2_coe, ← Real.exp_add]
    congr 1
    refine (Real.rpow_eq_pow 2 _).trans ?_
    rw [Real.rpow_def_of_pos two_pos]
    congr 1
    field_simp
    ring
  · rw [EReal.bot_sub, Ideal.exp2_bot, zero_mul, EReal.coe_zero]

/-- Base 2, the quotient last: scores `s / ln 2`, weights `2^(s − max)`, the weighted sum divided by the sum. -/
theorem softmax_base_two {n : ℕ} (ok : Fin n → Prop) [DecidablePred ok] (s v : Fin n → ℝ) (h : ∃ j, ok j)
    (f : Fin n → EReal) (hf : ∀ j, f j = masked ok (fun i => s i * (Real.log 2)⁻¹) j)
    (w : Fin n → EReal) (hw : ∀ j, w j = (v j : EReal)) :
    Ideal.div (∑ j, Ideal.exp2 (f j - Finset.univ.fold max ⊥ f) * w j)
      (∑ j, Ideal.exp2 (f j - Finset.univ.fold max ⊥ f)) = (attend ok s v : EReal) := by
  obtain rfl : f = fun j => masked ok (fun i => s i * (Real.log 2)⁻¹) j := funext hf
  obtain rfl : w = fun j => (v j : EReal) := funext hw
  obtain ⟨M, hM⟩ := rowMax_real ok (fun i => s i * (Real.log 2)⁻¹) h
  rw [hM]
  exact ratio_after ok s v h (Real.exp_pos _) _ fun j => exp2_masked ok s M j

/-- Base e, each weight divided first. -/
theorem softmax_base_e {n : ℕ} (ok : Fin n → Prop) [DecidablePred ok] (s v : Fin n → ℝ) (h : ∃ j, ok j)
    (f : Fin n → EReal) (hf : ∀ j, f j = masked ok s j)
    (w : Fin n → EReal) (hw : ∀ j, w j = (v j : EReal)) :
    (∑ j, Ideal.div (Ideal.exp (f j - Finset.univ.fold max ⊥ f))
      (∑ i, Ideal.exp (f i - Finset.univ.fold max ⊥ f)) * w j) = (attend ok s v : EReal) := by
  obtain rfl : f = fun j => masked ok s j := funext hf
  obtain rfl : w = fun j => (v j : EReal) := funext hw
  obtain ⟨M, hM⟩ := rowMax_real ok s h
  rw [hM]
  exact ratio_before ok s v h (Real.exp_pos _) _ fun j => exp_masked ok s M j

/-- A row read through a window: masked keys outside the window change nothing. -/
theorem attend_window {n n' : ℕ} (ok : Fin n → Prop) [DecidablePred ok] (s v : Fin n → ℝ)
    (ok' : Fin n' → Prop) [DecidablePred ok'] (s' v' : Fin n' → ℝ) (ι : Fin n' → Fin n) (hι : Function.Injective ι)
    (hout : ∀ j, ok j → ∃ κ, ι κ = j) (hok : ∀ κ, ok (ι κ) ↔ ok' κ)
    (hs : ∀ κ, ok' κ → s (ι κ) = s' κ) (hv : ∀ κ, ok' κ → v (ι κ) = v' κ) :
    attend ok s v = attend ok' s' v' := by
  have key : ∀ g : Fin n → ℝ, ∀ g' : Fin n' → ℝ, (∀ κ, ok' κ → g (ι κ) = g' κ) →
      (∑ j, weight ok s j * g j) = ∑ κ, weight ok' s' κ * g' κ := by
    intro g g' hg
    have h1 : ∀ κ, weight ok s (ι κ) * g (ι κ) = weight ok' s' κ * g' κ := by
      intro κ
      unfold weight
      by_cases hκ : ok' κ
      · rw [if_pos hκ, if_pos ((hok κ).mpr hκ), hs κ hκ, hg κ hκ]
      · rw [if_neg hκ, if_neg (fun hc => hκ ((hok κ).mp hc)), zero_mul, zero_mul]
    rw [← Finset.sum_congr rfl fun κ _ => h1 κ, ← Finset.sum_image (g := ι) (f := fun j => weight ok s j * g j) (s := Finset.univ) hι.injOn]
    refine (Finset.sum_subset (Finset.subset_univ _) fun j _ hj => ?_).symm
    have : ¬ ok j := fun hc => by
      obtain ⟨κ, rfl⟩ := hout j hc
      exact hj (Finset.mem_image_of_mem _ (Finset.mem_univ _))
    unfold weight
    rw [if_neg this, zero_mul]
  unfold attend
  rw [key v v' hv]
  have h2 := key (fun _ => 1) (fun _ => 1) fun _ _ => rfl
  simp only [mul_one] at h2
  rw [h2]

end Cert.Mixer

end
-- ==== Proof.Spec.lean ====
/- What the attention and gating mixer computes, as plain functions of its eleven arrays: the projection, the gated
   half, the attention half over a band of nine chunks, and the residual with its layer norm. -/
module

public import proofs.«01_k».proof.Proof.Softmax

@[expose] public section

noncomputable section

namespace Cert.Mixer

open Idealize.ShloMosaic

/-- The eleven arrays the mixer is given. -/
structure Inputs where
  x : Fin 16 → Fin 2048 → Fin 1024 → EReal
  w : Fin 1024 → Fin 2560 → EReal
  bi : Fin 2560 → EReal
  cg : Fin 512 → EReal
  cb : Fin 512 → EReal
  ws : Fin 8 → Fin 128 → Fin 128 → EReal
  wsb : Fin 8 → Fin 128 → EReal
  rel : Fin 8 → Fin 513 → EReal
  wo : Fin 1024 → Fin 1024 → EReal
  g : Fin 1024 → EReal
  b : Fin 1024 → EReal

/-- A row with its mean taken off. -/
def center {k : ℕ} (n : EReal) (z : Fin k → EReal) (c : Fin k) : EReal := z c - Ideal.div (∑ j, z j) n

/-- Layer norm of a row `z` of length `n`, with gain `g` and shift `b`. -/
def lnorm {k : ℕ} (n : EReal) (z g b : Fin k → EReal) (c : Fin k) : EReal :=
  center n z c * Ideal.rsqrt (Ideal.div (∑ j, center n z j * center n z j) n + Ideal.ofBits .f32 925353388#32) * g c + b c

namespace Inputs

variable (A : Inputs)

/-- The projected activations. -/
def proj (b : Fin 16) (t : Fin 2048) (c : Fin 2560) : EReal := (∑ d, A.x b t d * A.w d c) + A.bi c

/-- The normalised second quarter, which the gate mixes over positions. -/
def vn (b : Fin 16) (t : Fin 2048) (c : Fin 512) : EReal :=
  lnorm (Ideal.ofBits .f32 1140850688#32) (fun k : Fin 512 => A.proj b t ⟨512 + k.val, by omega⟩) A.cg A.cb c

/-- The gate at position `t`, lane `c`: the visible positions of the block of 128 mixed by the head's weights. -/
def gate (b : Fin 16) (t : Fin 2048) (c : Fin 512) : EReal :=
  (∑ j : Fin 128, (if j.val / 64 ≤ t.val % 128 / 64 then
      A.ws ⟨c.val / 64, by omega⟩ ⟨t.val % 128, by omega⟩ j else 0)
    * A.vn b ⟨128 * (t.val / 128) + j.val, by omega⟩ c)
  + A.wsb ⟨c.val / 64, by omega⟩ ⟨t.val % 128, by omega⟩

/-- The gated half. -/
def cOut (b : Fin 16) (t : Fin 2048) (c : Fin 512) : EReal := A.proj b t ⟨c.val, by omega⟩ * A.gate b t c

/-- Every entry the attention half reads is a real number. -/
structure Finite : Prop where
  x : ∀ b t d, A.x b t d = ((A.x b t d).toReal : EReal)
  w : ∀ d c, A.w d c = ((A.w d c).toReal : EReal)
  bi : ∀ c, A.bi c = ((A.bi c).toReal : EReal)
  rel : ∀ h r, A.rel h r = ((A.rel h r).toReal : EReal)

/-- The projected activations as real numbers. -/
def rproj (b : Fin 16) (t : Fin 2048) (c : Fin 2560) : ℝ :=
  (∑ d, (A.x b t d).toReal * (A.w d c).toReal) + (A.bi c).toReal

theorem proj_real (hA : A.Finite) (b : Fin 16) (t : Fin 2048) (c : Fin 2560) : A.proj b t c = (A.rproj b t c : EReal) := by
  unfold proj rproj
  rw [EReal.coe_add, coe_sum]
  exact congrArg₂ (· + ·) (Finset.sum_congr rfl fun d _ =>
    (congrArg₂ (· * ·) (hA.x b t d) (hA.w d c)).trans (EReal.coe_mul _ _).symm) (hA.bi c)

/-- Column `c` of the projection at padded position `p`: 512 rows of zeros stand before the sequence. -/
def padded (b : Fin 16) (p : Fin 2560) (c : Fin 2560) : ℝ :=
  if h : 512 ≤ p.val then A.rproj b ⟨p.val - 512, by omega⟩ c else 0

/-- The distance a query at offset `i` of its chunk and key `j` of the band stand apart, kept within ±256 and moved to
    start at 0. -/
def relIdx (i : Fin 64) (j : Fin 576) : Fin 513 :=
  ⟨min (i.val + 768 - j.val) 512, by omega⟩

/-- The score of the query at position `t` against key `j` of its band, in head `h`. -/
def score (b : Fin 16) (t : Fin 2048) (h : Fin 8) (j : Fin 576) : ℝ :=
  (∑ e : Fin 64, A.rproj b t ⟨1024 + 64 * h.val + e.val, by omega⟩ * (1 / 8)
      * A.padded b ⟨64 * (t.val / 64) + j.val, by omega⟩ ⟨1536 + 64 * h.val + e.val, by omega⟩)
    + (A.rel h (relIdx ⟨t.val % 64, by omega⟩ j)).toReal

/-- Key `j` of the band is visible where it lies in the sequence. -/
def visible (t : Fin 2048) (j : Fin 576) : Prop := 512 ≤ 64 * (t.val / 64) + j.val

instance (t : Fin 2048) : DecidablePred (visible t) := fun j => by unfold visible; infer_instance

/-- The attention half: lane `d` of head `h` at position `t`. -/
def att (b : Fin 16) (t : Fin 2048) (h : Fin 8) (d : Fin 64) : ℝ :=
  attend (visible t) (A.score b t h)
    fun j => A.padded b ⟨64 * (t.val / 64) + j.val, by omega⟩ ⟨2048 + 64 * h.val + d.val, by omega⟩

/-- The two halves side by side. -/
def mix (b : Fin 16) (t : Fin 2048) (c : Fin 1024) : EReal :=
  if h : c.val < 512 then A.cOut b t ⟨c.val, h⟩
  else (A.att b t ⟨(c.val - 512) / 64, by omega⟩ ⟨(c.val - 512) % 64, by omega⟩ : EReal)

/-- The mixer's output. -/
def out (b : Fin 16) (t : Fin 2048) (c : Fin 1024) : EReal :=
  lnorm (Ideal.ofBits .f32 1149239296#32)
    (fun k => Ideal.ofBits .f32 1068827891#32 * A.x b t k + ∑ c', A.mix b t c' * A.wo c' k) A.g A.b c

end Inputs

end Cert.Mixer

end
-- ==== Proof.KernelBlock.lean ====
/- What one grid point of the kernel computes, block by block: the projections, the scores of one head and their
   weighted mean, the gate, and the closing layer norm, each at one place of its block. -/
module

public import proofs.«01_k».proof.Proof.Gen.KernelIdeal.Skeleton
public import Idealize.ShloMosaic.Lib.Pointwise
public import proofs.«01_k».proof.Proof.Spec

@[expose] public section

set_option maxRecDepth 16384

noncomputable section

namespace Cert.KernelIdeal.Mix

open Idealize.ShloMosaic Idealize.ShloMosaic.TcCoe Idealize.SL.Sem
open Cert.KernelIdeal Cert.KernelIdeal.Gen Cert.Mixer

/-- The closing layer norm, with the mixed halves `M` given place by place. -/
theorem final_at (x : Vec Ideal S1x512x1024 .f32) (m : Vec Ideal S512x1024 .bf16) (w : Vec Ideal S1024x1024 .bf16)
    (g b : Vec Ideal S1x1024 .f32) (r : Fin 512) (c : Fin 1024) (X M G B : Fin 1024 → EReal) (W : Fin 1024 → Fin 1024 → EReal)
    (hx : ∀ c, x (ix3 0 r c) = X c) (hm : ∀ c, m (ix2 r c) = M c) (hw : ∀ d c, w (ix2 d c) = W d c)
    (hg : ∀ c, g (ix2 0 c) = G c) (hb : ∀ c, b (ix2 0 c) = B c) :
    k0_pay1 (k0_pay99 b) (k0_pay100 (k0_pay9 x) m w) (k0_pay101 g) (ix3 0 r c)
      = lnorm (Ideal.ofBits .f32 1149239296#32)
          (fun k => Ideal.ofBits .f32 1068827891#32 * X k + ∑ c', M c' * W c' k) G B c := by
  pointwise [k0_pay1, k0_pay99, k0_pay100, k0_pay101, k0_pay9]
  simp only [hx, hm, hw, hg, hb]
  rfl

/-- The queries, scaled. -/
theorem q_at (x : Vec Ideal S1x512x1024 .f32) (w : Vec Ideal S1024x1536 .bf16) (b : Vec Ideal S1x1536 .f32)
    (r : Fin 512) (c : Fin 512) (X : Fin 1024 → EReal) (W : Fin 1024 → EReal) (B : EReal)
    (hx : ∀ d, x (ix3 0 r d) = X d) (hw : ∀ d, w (ix2 d ⟨c.val, by omega⟩) = W d) (hb : b (ix2 0 ⟨c.val, by omega⟩) = B) :
    k0_pay12 x w b (ix2 r c) = ((∑ d, X d * W d) + B) * (((1 / 8) * (Real.log 2)⁻¹ : ℝ) : EReal) := by
  pointwise [k0_pay12, k0_pay11, k0_pay10, k0_pay9]
  simp only [hx, hw, hb]
  rfl

/-- The keys. -/
theorem k_at (x : Vec Ideal S1x512x1024 .f32) (w : Vec Ideal S1024x1536 .bf16) (b : Vec Ideal S1x1536 .f32)
    (r : Fin 512) (c : Fin 512) (X : Fin 1024 → EReal) (W : Fin 1024 → EReal) (B : EReal)
    (hx : ∀ d, x (ix3 0 r d) = X d) (hw : ∀ d, w (ix2 d ⟨512 + c.val, by omega⟩) = W d)
    (hb : b (ix2 0 ⟨512 + c.val, by omega⟩) = B) :
    k0_pay13 x w b (ix2 r c) = (∑ d, X d * W d) + B := by
  pointwise [k0_pay13, k0_pay11, k0_pay10, k0_pay9]
  simp only [hx, hw, hb]

/-- The values. -/
theorem v_at (x : Vec Ideal S1x512x1024 .f32) (w : Vec Ideal S1024x1536 .bf16) (b : Vec Ideal S1x1536 .f32)
    (r : Fin 512) (c : Fin 512) (X : Fin 1024 → EReal) (W : Fin 1024 → EReal) (B : EReal)
    (hx : ∀ d, x (ix3 0 r d) = X d) (hw : ∀ d, w (ix2 d ⟨1024 + c.val, by omega⟩) = W d)
    (hb : b (ix2 0 ⟨1024 + c.val, by omega⟩) = B) :
    k0_pay14 x w b (ix2 r c) = (∑ d, X d * W d) + B := by
  pointwise [k0_pay14, k0_pay11, k0_pay10, k0_pay9]
  simp only [hx, hw, hb]

/-- What the mask of absent keys adds: nothing where `v0` is false or the key is in the sequence. -/
theorem absent0_at (v0 : BitVec 1) (j : Fin 768) :
    k0_pay16 (F := Ideal) v0 k0_pay15 (ix2 0 j) = if v0 = 1#1 ∧ j.val < 512 then (⊥ : EReal) else 0 := by
  pointwise [k0_pay16, k0_pay15]
  have key : IntOp.cmpi CmpIPredicate.slt (IntOp.addi (BitVec.ofNat 32 j.val) 0#32) 512#32 = if j.val < 512 then 1#1 else 0#1 :=
    (by decide +kernel : ∀ j : Fin 768, IntOp.cmpi CmpIPredicate.slt (IntOp.addi (BitVec.ofNat 32 j.val) 0#32) 512#32
      = if j.val < 512 then 1#1 else 0#1) j
  rw [key]
  have hv : v0 = 1#1 ∨ v0 = 0#1 := by revert v0; decide
  rcases hv with rfl | rfl <;> by_cases hj : j.val < 512 <;> simp only [hj, if_true, if_false, and_true, and_false] <;> rfl

theorem absent1_at (v0 : BitVec 1) (j : Fin 768) :
    k0_pay33 (F := Ideal) (k0_pay32 v0) (ix2 0 j) = if v0 = 1#1 ∧ j.val + 256 < 512 then (⊥ : EReal) else 0 := by
  pointwise [k0_pay33, k0_pay32]
  have key : IntOp.cmpi CmpIPredicate.slt (IntOp.addi (BitVec.ofNat 32 j.val) 256#32) 512#32 = if j.val + 256 < 512 then 1#1 else 0#1 :=
    (by decide +kernel : ∀ j : Fin 768, IntOp.cmpi CmpIPredicate.slt (IntOp.addi (BitVec.ofNat 32 j.val) 256#32) 512#32
      = if j.val + 256 < 512 then 1#1 else 0#1) j
  rw [key]
  have hv : v0 = 1#1 ∨ v0 = 0#1 := by revert v0; decide
  rcases hv with rfl | rfl <;> by_cases hj : j.val + 256 < 512 <;> simp only [hj, if_true, if_false, and_true, and_false] <;> rfl

/-- One head of one block of queries: the weighted mean of the values, for a row whose every score is real or masked. -/
theorem head_at (nk : FVec Ideal S1x768 .f32) (q : Vec Ideal S256x64 .bf16) (k v : Vec Ideal S768x64 .bf16)
    (b : Vec Ideal S1x256x768 .f32) (i : Fin 256) (d : Fin 64)
    (Q : Fin 64 → ℝ) (K : Fin 768 → Fin 64 → ℝ) (V R : Fin 768 → ℝ) (near absent : Fin 768 → Prop)
    [DecidablePred near] [DecidablePred absent]
    (hq : ∀ e, q (ix2 i e) = (Q e : EReal) * (((1 / 8) * (Real.log 2)⁻¹ : ℝ) : EReal))
    (hk : ∀ j e, k (ix2 j e) = (K j e : EReal)) (hv : ∀ j, v (ix2 j d) = (V j : EReal))
    (hb : ∀ j, b (ix3 0 i j) = if near j then (R j : EReal) else ⊥)
    (hn : ∀ j, nk (ix2 0 j) = if absent j then (⊥ : EReal) else 0)
    (hex : ∃ j, near j ∧ ¬ absent j) :
    k0_pay39 nk q k v b (ix2 i d)
      = (attend (fun j => near j ∧ ¬ absent j) (fun j => (∑ e, Q e * (1 / 8) * K j e) + R j) V : EReal) := by
  pointwise [k0_pay39]
  refine softmax_base_two (fun j => near j ∧ ¬ absent j) (fun j => (∑ e, Q e * (1 / 8) * K j e) + R j) V hex
    (fun j => (∑ e, q (ix2 i e) * k (ix2 j e)) + b (ix3 0 i j) * (((Real.log 2)⁻¹ : ℝ) : EReal) + nk (ix2 0 j)) ?_ _ hv
  intro j
  have hl : 0 < (Real.log 2)⁻¹ := inv_pos.2 (Real.log_pos one_lt_two)
  have hs : (∑ e, q (ix2 i e) * k (ix2 j e)) = (((∑ e, Q e * (1 / 8) * K j e) * (Real.log 2)⁻¹ : ℝ) : EReal) := by
    rw [Finset.sum_mul, coe_sum]
    refine Finset.sum_congr rfl fun e _ => ?_
    rw [hq, hk, ← EReal.coe_mul, ← EReal.coe_mul]
    congr 1; ring
  show _ = masked _ _ j
  unfold masked
  simp only [hs, hb, hn]
  by_cases h1 : near j
  · by_cases h2 : absent j
    · simp only [h1, h2, if_true, not_true, and_false, if_false, EReal.add_bot]
    · simp only [h1, h2, if_true, not_false_iff, and_true, if_false, add_zero]
      rw [← EReal.coe_mul, ← EReal.coe_add, add_mul]
  · simp only [h1, if_false, false_and]
    rw [EReal.bot_mul_coe_of_pos hl, EReal.add_bot, EReal.bot_add]

end Cert.KernelIdeal.Mix

end
-- ==== Proof.KernelHead.lean ====
/- One head of one block of 256 queries computes the mixer's attention at those positions: the block scores 768 keys and
   masks all but the nine chunks of each query's band. -/
module

public import proofs.«01_k».proof.Proof.KernelBlock

@[expose] public section

set_option maxRecDepth 16384

noncomputable section

namespace Cert.KernelIdeal.Mix

open Idealize.ShloMosaic Idealize.ShloMosaic.TcCoe Idealize.SL.Sem
open Cert.KernelIdeal Cert.KernelIdeal.Gen Cert.Mixer

/-- Key `j` of a block's 768 lies in the band of the block's query `i`. -/
def near (i : Fin 256) (j : Fin 768) : Prop := 64 * (i.val / 64) ≤ j.val ∧ j.val < 64 * (i.val / 64) + 576

instance (i : Fin 256) : DecidablePred (near i) := fun j => by unfold near; infer_instance

/-- The distance bucket of query `i` and key `j` of a block. -/
def blockRel (i : Fin 256) (j : Fin 768) : Fin 513 := ⟨min (i.val + 768 - j.val) 512, by omega⟩

theorem head_block (A : Inputs) (hA : A.Finite) (b : Fin 16) (tile : Fin 4) (qb : Fin 2) (h : Fin 8)
    (nk : FVec Ideal S1x768 .f32) (q : Vec Ideal S256x64 .bf16) (k v : Vec Ideal S768x64 .bf16)
    (bias : Vec Ideal S1x256x768 .f32) (i : Fin 256) (d : Fin 64)
    (hq : ∀ e : Fin 64, q (ix2 i e) = A.proj b ⟨512 * tile.val + 256 * qb.val + i.val, by omega⟩ ⟨1024 + 64 * h.val + e.val, by omega⟩
      * (((1 / 8) * (Real.log 2)⁻¹ : ℝ) : EReal))
    (hk : ∀ (j : Fin 768) (e : Fin 64), k (ix2 j e)
      = (A.padded b ⟨512 * tile.val + 256 * qb.val + j.val, by omega⟩ ⟨1536 + 64 * h.val + e.val, by omega⟩ : EReal))
    (hv : ∀ j : Fin 768, v (ix2 j d)
      = (A.padded b ⟨512 * tile.val + 256 * qb.val + j.val, by omega⟩ ⟨2048 + 64 * h.val + d.val, by omega⟩ : EReal))
    (hb : ∀ j : Fin 768, bias (ix3 0 i j) = if near i j then A.rel h (blockRel i j) else ⊥)
    (hn : ∀ j : Fin 768, nk (ix2 0 j) = if tile.val = 0 ∧ j.val + 256 * qb.val < 512 then (⊥ : EReal) else 0) :
    k0_pay39 nk q k v bias (ix2 i d) = (A.att b ⟨512 * tile.val + 256 * qb.val + i.val, by omega⟩ h d : EReal) := by
  have hex : ∃ j : Fin 768, near i j ∧ ¬(tile.val = 0 ∧ j.val + 256 * qb.val < 512) :=
    ⟨⟨64 * (i.val / 64) + 512, by omega⟩, ⟨by show _ ≤ 64 * (i.val / 64) + 512; omega, by show 64 * (i.val / 64) + 512 < _; omega⟩,
      by show ¬(tile.val = 0 ∧ 64 * (i.val / 64) + 512 + 256 * qb.val < 512); omega⟩
  rw [head_at nk q k v bias i d
    (fun e => A.rproj b ⟨512 * tile.val + 256 * qb.val + i.val, by omega⟩ ⟨1024 + 64 * h.val + e.val, by omega⟩)
    (fun j e => A.padded b ⟨512 * tile.val + 256 * qb.val + j.val, by omega⟩ ⟨1536 + 64 * h.val + e.val, by omega⟩)
    (fun j => A.padded b ⟨512 * tile.val + 256 * qb.val + j.val, by omega⟩ ⟨2048 + 64 * h.val + d.val, by omega⟩)
    (fun j => (A.rel h (blockRel i j)).toReal) (near i) (fun j => tile.val = 0 ∧ j.val + 256 * qb.val < 512)
    (fun e => by rw [hq, A.proj_real hA]) hk hv (fun j => by rw [hb]; exact if_congr Iff.rfl (hA.rel _ _) rfl) hn hex]
  unfold Inputs.att
  congr 1
  refine attend_window _ _ _ _ _ _ (fun κ : Fin 576 => (⟨64 * (i.val / 64) + κ.val, by omega⟩ : Fin 768)) ?_ ?_ ?_ ?_ ?_
  · intro a a' e
    have := congrArg Fin.val e
    exact Fin.ext (by simp only at this; omega)
  · rintro j ⟨⟨h1, h2⟩, -⟩
    exact ⟨⟨j.val - 64 * (i.val / 64), by omega⟩, Fin.ext (by show 64 * (i.val / 64) + (j.val - 64 * (i.val / 64)) = j.val; omega)⟩
  · intro κ
    unfold near Inputs.visible
    simp only
    omega
  · intro κ _
    unfold Inputs.score
    have hp : (⟨512 * tile.val + 256 * qb.val + (64 * (i.val / 64) + κ.val), by omega⟩ : Fin 2560)
        = ⟨64 * ((512 * tile.val + 256 * qb.val + i.val) / 64) + κ.val, by omega⟩ := Fin.ext (by simp only; omega)
    have hr : blockRel i ⟨64 * (i.val / 64) + κ.val, by omega⟩
        = Inputs.relIdx ⟨(512 * tile.val + 256 * qb.val + i.val) % 64, by omega⟩ κ := by
      unfold blockRel Inputs.relIdx
      exact Fin.ext (by simp only; omega)
    simp only [hp, hr]
  · intro κ _
    have hp : (⟨512 * tile.val + 256 * qb.val + (64 * (i.val / 64) + κ.val), by omega⟩ : Fin 2560)
        = ⟨64 * ((512 * tile.val + 256 * qb.val + i.val) / 64) + κ.val, by omega⟩ := Fin.ext (by simp only; omega)
    simp only [hp]

end Cert.KernelIdeal.Mix

end
-- ==== Proof.KernelArgs.lean ====
/- What the kernel's blocks hold: the arrays it is given, and the tables its host code lays out from them. -/
module

public import proofs.«01_k».proof.Proof.Gen.KernelIdeal.Frame
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.KernelHead

@[expose] public section

set_option maxRecDepth 16384

noncomputable section

namespace Cert.KernelIdeal.Mix

open Idealize.ShloMosaic Idealize.ShloMosaic.TcCoe Idealize.SL.Sem
open Cert.KernelIdeal Cert.KernelIdeal.Gen Cert.Mixer

variable (m : (ℓ : Loc nD τ sig) → Buf (Elt Ideal) ℓ)

/-- The eleven arrays a device holds before the run. -/
def given (c : Dev nD) : Inputs where
  x b t d := (m ((c : Thread nD τ).loc main_arg0)) (ix3 b t d)
  w d k := (m ((c : Thread nD τ).loc main_arg1)) (ix2 d k)
  bi k := (m ((c : Thread nD τ).loc main_arg2)) (ix1 k)
  cg k := (m ((c : Thread nD τ).loc main_arg3)) (ix1 k)
  cb k := (m ((c : Thread nD τ).loc main_arg4)) (ix1 k)
  ws h i j := (m ((c : Thread nD τ).loc main_arg5)) (ix3 h i j)
  wsb h i := (m ((c : Thread nD τ).loc main_arg6)) (ix2 h i)
  rel h r := (m ((c : Thread nD τ).loc main_arg7)) (ix2 h r)
  wo d k := (m ((c : Thread nD τ).loc main_arg8)) (ix2 d k)
  g k := (m ((c : Thread nD τ).loc main_arg9)) (ix1 k)
  b k := (m ((c : Thread nD τ).loc main_arg10)) (ix1 k)

/-- Where each window's block stands. -/
theorem idx : ∀ t : Fin cfg0.N, win0_0.index t = ![t.val / 4, t.val % 4, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0, 0] ∧ win0_8.index t = ![0, 0] ∧ win0_9.index t = ![0, 0]
    ∧ win0_10.index t = ![0, 0] :=
  (by decide +kernel : ∀ t : Fin grid0.N, _)

/-- The sequence a point works on. -/
def batchOf (t : Fin cfg0.N) : Fin 16 := ⟨t.val / 4, by have h := t.isLt; have e : cfg0.N = 64 := N_0; omega⟩
/-- The tile of 512 positions a point works on. -/
def tileOf (t : Fin cfg0.N) : Fin 4 := ⟨t.val % 4, by omega⟩

/-! What the host code leaves in the arrays the kernel reads -/

theorem w_table (c : Dev nD) (d : Fin 1024) (k : Fin 2560) :
    (show FVec Ideal S1024x2560 .bf16 from V m c main_v42) (ix2 d k) = (given m c).w d k := by
  unfold given
  unfold V
  after_reads_simp
  pointwise

theorem b_table (c : Dev nD) (k : Fin 2560) :
    (show FVec Ideal S1x2560 .f32 from V m c main_v43) (ix2 0 k) = (given m c).bi k := by
  unfold given
  unfold V
  after_reads_simp
  pointwise

theorem cg_table (c : Dev nD) (k : Fin 512) :
    (show FVec Ideal S1x512 .f32 from V m c main_v44) (ix2 0 k) = (given m c).cg k := by
  unfold given
  unfold V
  after_reads_simp
  pointwise

theorem cb_table (c : Dev nD) (k : Fin 512) :
    (show FVec Ideal S1x512 .f32 from V m c main_v45) (ix2 0 k) = (given m c).cb k := by
  unfold given
  unfold V
  after_reads_simp
  pointwise

theorem ws_table (c : Dev nD) (r : Fin 128) (k : Fin 1024) :
    (show FVec Ideal S128x1024 .f32 from V m c main_v1) (ix2 r k) = (given m c).ws ⟨k.val / 128, by omega⟩ r ⟨k.val % 128, by omega⟩ := by
  unfold given
  unfold V
  after_reads_simp
  pointwise

theorem wsb_table (c : Dev nD) (r : Fin 128) (k : Fin 512) :
    (show FVec Ideal S128x512 .f32 from V m c main_v4) (ix2 r k) = (given m c).wsb ⟨k.val / 64, by omega⟩ r := by
  unfold given
  unfold V
  after_reads_simp
  pointwise

theorem wo_table (c : Dev nD) (d : Fin 1024) (k : Fin 1024) :
    (show FVec Ideal S1024x1024 .bf16 from V m c main_v46) (ix2 d k) = (given m c).wo d k := by
  unfold given
  unfold V
  after_reads_simp
  pointwise

theorem g_table (c : Dev nD) (k : Fin 1024) :
    (show FVec Ideal S1x1024 .f32 from V m c main_v47) (ix2 0 k) = (given m c).g k := by
  unfold given
  unfold V
  after_reads_simp
  pointwise

theorem lnb_table (c : Dev nD) (k : Fin 1024) :
    (show FVec Ideal S1x1024 .f32 from V m c main_v48) (ix2 0 k) = (given m c).b k := by
  unfold given
  unfold V
  after_reads_simp
  pointwise

/-- The rows of the relative-position table, each column picked by an index kept in range. -/
theorem pick_at (x : FVec Ideal S8x513 .f32) (ix : IVec S1023x1 32) (h : Fin 8) (c : Fin 1023) (k : Nat) (hk : k < 513)
    (e : (ix (ix2 c 0)).toInt.toNat = k) :
    Host.gather gather_S8x513_S1023x1_S8x1023_0_1_n_n_1_1_81 x ix (ix2 h c) = x (ix2 h ⟨k, hk⟩) := by
  unfold Host.gather
  refine congrArg x (funext fun a => Fin.ext ?_)
  show GatherDims.start _ _ _ a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · unfold GatherDims.start GatherDims.batchCoord GatherDims.offCoord
    rw [dif_neg (by decide), dif_neg (by decide), dif_pos (by decide)]
    exact (Nat.zero_add _).trans rfl
  · unfold GatherDims.start GatherDims.batchCoord GatherDims.offCoord
    rw [dif_pos (by decide), dif_neg (by decide), dif_neg (by decide)]
    show min (ix _).toInt.toNat 512 = k
    have : GatherDims.siIdx gather_S8x513_S1023x1_S8x1023_0_1_n_n_1_1_81 (ix2 h c) ⟨0, by decide⟩ = ix2 c 0 := by
      funext b; refine Fin.ext ?_
      match b with
      | ⟨0, _⟩ => rfl
      | ⟨1, _⟩ => rfl
    refine (congrArg (fun i => min (ix i).toInt.toNat 512) this).trans ?_
    show min (ix (ix2 c 0)).toInt.toNat 512 = k
    omega

theorem row_start : ∀ i : Fin 256, IntOp.muli
    (Scalar.select
      (IntOp.andi
        (IntOp.cmpi CmpIPredicate.ne
          (if BitVec.ofNat 32 i.val = 0 then (0 : BitVec 32) else if (BitVec.ofNat 32 i.val).msb = true then -1 else 1)
          (if 64#32 = 0 then 0 else if BitVec.msb 64#32 = true then -1 else 1))
        (IntOp.cmpi CmpIPredicate.ne (IntOp.remsi ArithUnit.host (BitVec.ofNat 32 i.val) 64#32) 0#32))
      (IntOp.subi (IntOp.divsi ArithUnit.host (BitVec.ofNat 32 i.val) 64#32) 1#32)
      (IntOp.divsi ArithUnit.host (BitVec.ofNat 32 i.val) 64#32)) 64#32 = BitVec.ofNat 32 (64 * (i.val / 64)) := by
  decide +kernel

theorem in_band : ∀ q : Fin 4, ∀ j : Fin 768, IntOp.andi
    (IntOp.cmpi CmpIPredicate.sge (IntOp.subi (BitVec.ofNat 32 j.val) (BitVec.ofNat 32 (64 * q.val))) 0#32)
    (IntOp.cmpi CmpIPredicate.slt (IntOp.subi (BitVec.ofNat 32 j.val) (BitVec.ofNat 32 (64 * q.val))) 576#32)
      = if 64 * q.val ≤ j.val ∧ j.val < 64 * q.val + 576 then 1#1 else 0#1 := by
  decide +kernel

theorem diag_at : ∀ c : Fin 1023, (BitVec.toInt (
    let v := IntOp.addi (IntOp.minsi 256#32 (IntOp.maxsi 4294967040#32 (IntOp.subi 767#32 (BitVec.ofNat 32 c.val)))) 256#32
    Scalar.select (IntOp.cmpi CmpIPredicate.slt v 0#32) (IntOp.addi v 513#32) v)).toNat = min (1023 - c.val) 512 := by
  decide +kernel

theorem rel_table (c : Dev nD) (h : Fin 8) (i : Fin 256) (j : Fin 768) :
   (show FVec Ideal S8x256x768 .f32 from V m c main_v41) (ix3 h i j) =
     if near i j then (given m c).rel h (blockRel i j) else ⊥ := by
  show _ = if near i j then (show FVec Ideal S8x513 .f32 from m ((c : Thread nD τ).loc main_arg7)) (ix2 h (blockRel i j)) else ⊥
  unfold V
  after_reads_simp
  simp only [StableHlo.TRef.ofBuf_toBuf]
  simp only [StableHlo.TRef.toBuf, StableHlo.TRef.ofBuf, cast_eq]
  pointwise
  have hrow := row_start i
  have hband := in_band ⟨i.val / 64, by omega⟩ j
  have hsum : i.val * 1023 + (255 + j.val) = 1024 * i.val + (255 + j.val - i.val) := by omega
  have hlt : (i.val * 1023 + (255 + j.val)) % 1024 < 1023 := by rw [hsum, Nat.mul_add_mod]; omega
  have hval : (i.val * 1023 + (255 + j.val)) % 1024 = 255 + j.val - i.val := by rw [hsum, Nat.mul_add_mod]; omega
  rw [dif_pos hlt]
  refine (congrArg₂ (fun a b => Scalar.select (IntOp.andi (IntOp.cmpi CmpIPredicate.sge (IntOp.subi (BitVec.ofNat 32 j.val) a) 0#32)
    (IntOp.cmpi CmpIPredicate.slt (IntOp.subi (BitVec.ofNat 32 j.val) a) 576#32)) b _) hrow (pick_at _ _ h _ (min (i.val + 768 - j.val) 512) (by omega) ?_)).trans ?_
  · pointwise
    refine (diag_at ⟨_, hlt⟩).trans ?_
    show min (1023 - (i.val * 1023 + (255 + j.val)) % 1024) 512 = _
    omega
  · refine (congrArg (fun a => Scalar.select a _ _) hband).trans ?_
    by_cases hn : near i j
    · rw [if_pos hn]
      exact (congrArg (fun a => Scalar.select a _ _) (if_pos hn)).trans rfl
    · rw [if_neg hn]
      refine (congrArg (fun a => Scalar.select a _ _) (if_neg hn)).trans ?_
      show Ideal.ofBits .f32 4286578688#32 = ⊥
      first | rfl | simp

/-! The blocks at a point -/

theorem x_block (c : Dev nD) (t : Fin cfg0.N) (r : Fin 512) (d : Fin 1024) :
    (show FVec Ideal S1x512x1024 .f32 from iblk m c 0 t) (ix3 0 r d)
      = (given m c).x (batchOf t) ⟨512 * (tileOf t).val + r.val, by have := (tileOf t).isLt; omega⟩ d := by
  refine Eq.trans (b := (show FVec Ideal S16x2048x1024 .f32 from V m c main_arg0) (ix3 (batchOf t) ⟨512 * (tileOf t).val + r.val, by have := (tileOf t).isLt; omega⟩ d)) ?_ ?_
  · unfold batchOf tileOf
    blk_simp [iblk, idx t]
    generalize V m c main_arg0 = X
    blk_ext [idx t]
  · exact congrFun (V_main_arg0 m c) _

theorem w_block (c : Dev nD) (t : Fin cfg0.N) (d : Fin 1024) (k : Fin 2560) :
    (show FVec Ideal S1024x2560 .bf16 from iblk m c 1 t) (ix2 d k) = (given m c).w d k := by
  refine Eq.trans ?_ (w_table m c d k)
  blk_simp [iblk, idx t]
  generalize V m c main_v42 = X
  blk_ext [idx t]

theorem b_block (c : Dev nD) (t : Fin cfg0.N) (k : Fin 2560) :
    (show FVec Ideal S1x2560 .f32 from iblk m c 2 t) (ix2 0 k) = (given m c).bi k := by
  refine Eq.trans ?_ (b_table m c k)
  blk_simp [iblk, idx t]
  generalize V m c main_v43 = X
  blk_ext [idx t]

theorem cg_block (c : Dev nD) (t : Fin cfg0.N) (k : Fin 512) :
    (show FVec Ideal S1x512 .f32 from iblk m c 3 t) (ix2 0 k) = (given m c).cg k := by
  refine Eq.trans ?_ (cg_table m c k)
  blk_simp [iblk, idx t]
  generalize V m c main_v44 = X
  blk_ext [idx t]

theorem cb_block (c : Dev nD) (t : Fin cfg0.N) (k : Fin 512) :
    (show FVec Ideal S1x512 .f32 from iblk m c 4 t) (ix2 0 k) = (given m c).cb k := by
  refine Eq.trans ?_ (cb_table m c k)
  blk_simp [iblk, idx t]
  generalize V m c main_v45 = X
  blk_ext [idx t]

theorem ws_block (c : Dev nD) (t : Fin cfg0.N) (r : Fin 128) (k : Fin 1024) :
    (show FVec Ideal S128x1024 .f32 from iblk m c 5 t) (ix2 r k) = (given m c).ws ⟨k.val / 128, by omega⟩ r ⟨k.val % 128, by omega⟩ := by
  refine Eq.trans ?_ (ws_table m c r k)
  blk_simp [iblk, idx t]
  generalize V m c main_v1 = X
  blk_ext [idx t]

theorem wsb_block (c : Dev nD) (t : Fin cfg0.N) (r : Fin 128) (k : Fin 512) :
    (show FVec Ideal S128x512 .f32 from iblk m c 6 t) (ix2 r k) = (given m c).wsb ⟨k.val / 64, by omega⟩ r := by
  refine Eq.trans ?_ (wsb_table m c r k)
  blk_simp [iblk, idx t]
  generalize V m c main_v4 = X
  blk_ext [idx t]

theorem wo_block (c : Dev nD) (t : Fin cfg0.N) (d : Fin 1024) (k : Fin 1024) :
    (show FVec Ideal S1024x1024 .bf16 from iblk m c 8 t) (ix2 d k) = (given m c).wo d k := by
  refine Eq.trans ?_ (wo_table m c d k)
  blk_simp [iblk, idx t]
  generalize V m c main_v46 = X
  blk_ext [idx t]

theorem g_block (c : Dev nD) (t : Fin cfg0.N) (k : Fin 1024) :
    (show FVec Ideal S1x1024 .f32 from iblk m c 9 t) (ix2 0 k) = (given m c).g k := by
  refine Eq.trans ?_ (g_table m c k)
  blk_simp [iblk, idx t]
  generalize V m c main_v47 = X
  blk_ext [idx t]

theorem lnb_block (c : Dev nD) (t : Fin cfg0.N) (k : Fin 1024) :
    (show FVec Ideal S1x1024 .f32 from iblk m c 10 t) (ix2 0 k) = (given m c).b k := by
  refine Eq.trans ?_ (lnb_table m c k)
  blk_simp [iblk, idx t]
  generalize V m c main_v48 = X
  blk_ext [idx t]

theorem rel_block (c : Dev nD) (t : Fin cfg0.N) (h : Fin 8) (i : Fin 256) (j : Fin 768) :
    (show FVec Ideal S8x256x768 .f32 from iblk m c 7 t) (ix3 h i j) = if near i j then (given m c).rel h (blockRel i j) else ⊥ := by
  refine Eq.trans ?_ (rel_table m c h i j)
  blk_simp [iblk, idx t]
  generalize V m c main_v41 = X
  blk_ext [idx t]

end Cert.KernelIdeal.Mix

end
-- ==== Proof.KernelGate.lean ====
/- The gate of one block of 128 positions: the eight heads' weights side by side act on the normalised rows laid out
   head by head, so that each lane meets only its own head's rows. -/
module

public import proofs.«01_k».proof.Proof.KernelBlock

@[expose] public section

set_option maxRecDepth 16384

noncomputable section

namespace Cert.KernelIdeal.Mix

open Idealize.ShloMosaic Idealize.ShloMosaic.TcCoe Idealize.SL.Sem
open Cert.KernelIdeal Cert.KernelIdeal.Gen Cert.Mixer

/-- The gated half's own projection. -/
theorem u_at (x : Vec Ideal S1x512x1024 .f32) (w : Vec Ideal S1024x1024 .bf16) (b : Vec Ideal S1x1024 .f32)
    (r : Fin 512) (c : Fin 512) (X : Fin 1024 → EReal) (W : Fin 1024 → EReal) (B : EReal)
    (hx : ∀ d, x (ix3 0 r d) = X d) (hw : ∀ d, w (ix2 d ⟨c.val, by omega⟩) = W d) (hb : b (ix2 0 ⟨c.val, by omega⟩) = B) :
    k0_pay49 (k0_pay10 x) w b (ix2 r c) = (∑ d, X d * W d) + B := by
  pointwise [k0_pay49, k0_pay48, k0_pay10, k0_pay9]
  simp only [hx, hw, hb]

/-- The normalised rows the gate mixes. -/
theorem vn_at (x : Vec Ideal S1x512x1024 .f32) (w : Vec Ideal S1024x1024 .bf16) (b : Vec Ideal S1x1024 .f32)
    (g bb : Vec Ideal S1x512 .f32) (r : Fin 512) (c : Fin 512) (P G B : Fin 512 → EReal)
    (hp : ∀ k : Fin 512, (∑ d, x (ix3 0 r d) * w (ix2 d ⟨512 + k.val, by omega⟩)) + b (ix2 0 ⟨512 + k.val, by omega⟩) = P k)
    (hg : ∀ c, g (ix2 0 c) = G c) (hb : ∀ c, bb (ix2 0 c) = B c) :
    k0_pay50 (k0_pay10 x) w b g bb (ix2 r c) = lnorm (Ideal.ofBits .f32 1140850688#32) P G B c := by
  pointwise [k0_pay50, k0_pay48, k0_pay10, k0_pay9]
  simp only [hp, hg, hb]
  rfl

/-- The head a lane belongs to. -/
theorem lane_at (i : Fin 128) (j : Fin 512) :
    k0_pay53 (iota .tc S128x512 32 [1] iota_S128x512_d1_w32) 64#32 k0_pay51 k0_pay52 (ix2 i j) = BitVec.ofNat 32 (j.val / 64) := by
  pointwise [k0_pay53, k0_pay51, k0_pay52]
  revert j
  decide +kernel

/-- One head's rows: a block's lanes of that head, and nothing elsewhere. -/
theorem part_at (L : IVec S128x512 32) (v : FVec Ideal S128x512 .f32) (h : Fin 8) (i : Fin 128) (j : Fin 512)
    (hL : L (ix2 i j) = BitVec.ofNat 32 (j.val / 64)) :
    k0_pay64 L v (broadcast S128x512 (BitVec.ofNat 32 h.val)) (ix2 i j) = if j.val / 64 = h.val then v (ix2 i j) else 0 := by
  pointwise [k0_pay64]
  rw [hL]
  have key : ∀ q h : Fin 8, IntOp.cmpi CmpIPredicate.eq (BitVec.ofNat 32 q.val) (BitVec.ofNat 32 h.val) = if q.val = h.val then 1#1 else 0#1 := by
    decide +kernel
  rw [key ⟨j.val / 64, by omega⟩ h]
  by_cases e : j.val / 64 = h.val
  · rw [if_pos e, if_pos e]; rfl
  · rw [if_neg e, if_neg e]; rfl

/-- The gate times the lanes it opens, for each of the four blocks of a tile. -/
theorem gate0_at (u : FVec Ideal S512x512 .f32) (w : Vec Ideal S128x1024 .bf16) (v : Vec Ideal S1024x512 .bf16)
    (g : Vec Ideal S128x512 .f32) (i : Fin 128) (j : Fin 512) :
    k0_pay65 u w v g (ix2 i j) = u (ix2 ⟨i.val, by omega⟩ j) * ((∑ x, w (ix2 i x) * v (ix2 x j)) + g (ix2 i j)) := by
  pointwise [k0_pay65]

theorem gate1_at (u : FVec Ideal S512x512 .f32) (w : Vec Ideal S128x1024 .bf16) (v : Vec Ideal S1024x512 .bf16)
    (g : Vec Ideal S128x512 .f32) (i : Fin 128) (j : Fin 512) :
    k0_pay76 u w v g (ix2 i j) = u (ix2 ⟨128 + i.val, by omega⟩ j) * ((∑ x, w (ix2 i x) * v (ix2 x j)) + g (ix2 i j)) := by
  pointwise [k0_pay76]

theorem gate2_at (u : FVec Ideal S512x512 .f32) (w : Vec Ideal S128x1024 .bf16) (v : Vec Ideal S1024x512 .bf16)
    (g : Vec Ideal S128x512 .f32) (i : Fin 128) (j : Fin 512) :
    k0_pay87 u w v g (ix2 i j) = u (ix2 ⟨256 + i.val, by omega⟩ j) * ((∑ x, w (ix2 i x) * v (ix2 x j)) + g (ix2 i j)) := by
  pointwise [k0_pay87]

theorem gate3_at (u : FVec Ideal S512x512 .f32) (w : Vec Ideal S128x1024 .bf16) (v : Vec Ideal S1024x512 .bf16)
    (g : Vec Ideal S128x512 .f32) (i : Fin 128) (j : Fin 512) :
    k0_pay98 u w v g (ix2 i j) = u (ix2 ⟨384 + i.val, by omega⟩ j) * ((∑ x, w (ix2 i x) * v (ix2 x j)) + g (ix2 i j)) := by
  pointwise [k0_pay98]

/-- The weights, masked to the chunks at or before the row's own. -/
theorem mask_at (v : Vec Ideal S128x1024 .f32) (r : Fin 128) (c : Fin 1024) :
    k0_pay8 (iota .tc S128x1024 32 [0] iota_S128x1024_d0_w32) k0_pay4 64#32 k0_pay5 k0_pay6 k0_pay7 v (ix2 r c)
      = if c.val % 128 / 64 ≤ r.val / 64 then v (ix2 r c) else 0 := by
  pointwise [k0_pay8, k0_pay4, k0_pay5, k0_pay6, k0_pay7]
  refine (congrArg₂ (fun a b => Scalar.select (IntOp.cmpi CmpIPredicate.sle a b) (v (ix2 r c)) (0 : EReal))
    (?_ : _ = BitVec.ofNat 32 (c.val % 128 / 64)) (?_ : _ = BitVec.ofNat 32 (r.val / 64))).trans ?_
  · revert c
    decide +kernel
  · revert r
    decide +kernel
  · have key : ∀ q h : Fin 2, IntOp.cmpi CmpIPredicate.sle (BitVec.ofNat 32 q.val) (BitVec.ofNat 32 h.val) = if q.val ≤ h.val then 1#1 else 0#1 := by
      decide +kernel
    refine (congrArg (fun a => Scalar.select a (v (ix2 r c)) (0 : EReal)) (key ⟨c.val % 128 / 64, by omega⟩ ⟨r.val / 64, by omega⟩)).trans ?_
    by_cases e : c.val % 128 / 64 ≤ r.val / 64
    · exact (congrArg (fun a => Scalar.select a _ _) (if_pos e)).trans (if_pos e).symm
    · exact (congrArg (fun a => Scalar.select a _ _) (if_neg e)).trans (if_neg e).symm

/-- A sum over the eight heads' positions, of which only one head's are not zero. -/
theorem sum_heads (q : Fin 8) (f : Fin 1024 → EReal) (w v : Fin 128 → EReal)
    (hf : ∀ x : Fin 1024, x.val / 128 = q.val → f x = w ⟨x.val % 128, by omega⟩ * v ⟨x.val % 128, by omega⟩)
    (h0 : ∀ x : Fin 1024, x.val / 128 ≠ q.val → f x = 0) : ∑ x, f x = ∑ p, w p * v p := by
  symm
  refine Finset.sum_of_injOn (fun p : Fin 128 => (⟨128 * q.val + p.val, by omega⟩ : Fin 1024)) ?_ (fun _ _ => Finset.mem_coe.2 (Finset.mem_univ _)) ?_ ?_
  · intro a _ b _ e
    have := congrArg Fin.val e
    exact Fin.ext (by simp only at this; omega)
  · intro x _ hx
    refine h0 x fun e => hx ⟨⟨x.val % 128, by omega⟩, Finset.mem_coe.2 (Finset.mem_univ _), Fin.ext ?_⟩
    show 128 * q.val + x.val % 128 = x.val
    omega
  · intro p _
    rw [hf _ (by show (128 * q.val + p.val) / 128 = q.val; omega)]
    congr 2 <;> exact Fin.ext (by show p.val = (128 * q.val + p.val) % 128; omega)

/-- The gated half at row `i`, lane `j` of the `k`-th block of 128 positions, from what the block reads. -/
theorem gate_block (A : Inputs) (b : Fin 16) (p0 : Fin 16) (i : Fin 128) (j : Fin 512) (u g : EReal)
    (w v : Fin 1024 → EReal)
    (hu : u = A.proj b ⟨128 * p0.val + i.val, by omega⟩ ⟨j.val, by omega⟩)
    (hw : ∀ x : Fin 1024, w x = if x.val % 128 / 64 ≤ i.val / 64 then
      A.ws ⟨x.val / 128, by omega⟩ i ⟨x.val % 128, by omega⟩ else 0)
    (hv : ∀ x : Fin 1024, v x = if j.val / 64 = x.val / 128 then A.vn b ⟨128 * p0.val + x.val % 128, by omega⟩ j else 0)
    (hg : g = A.wsb ⟨j.val / 64, by omega⟩ i) :
    u * ((∑ x, w x * v x) + g) = A.cOut b ⟨128 * p0.val + i.val, by omega⟩ j := by
  unfold Inputs.cOut Inputs.gate
  have ei : (⟨(128 * p0.val + i.val) % 128, by omega⟩ : Fin 128) = i := Fin.ext (by show (128 * p0.val + i.val) % 128 = i.val; omega)
  have eb : (128 * p0.val + i.val) / 128 = p0.val := by omega
  rw [hu, hg]
  refine congrArg₂ (· * ·) rfl (congrArg₂ (· + ·) ?_ ?_)
  · refine sum_heads ⟨j.val / 64, by omega⟩ _ _ _ (fun x hx => ?_) fun x hx => ?_
    · rw [hw, hv, if_pos hx.symm]
      have e1 : (⟨x.val / 128, by omega⟩ : Fin 8) = ⟨j.val / 64, by omega⟩ := Fin.ext hx
      simp only [ei, eb, e1]
      have e2 : (128 * p0.val + i.val) % 128 = i.val := by omega
      rw [e2]
    · rw [hv, if_neg (fun e => hx e.symm), mul_zero]
  · simp only [ei]

end Cert.KernelIdeal.Mix

end
-- ==== Proof.Tile.lean ====
/- Reading one place of a two-axis buffer that was written rectangle by rectangle. -/
module

public import Idealize.ShloMosaic.Lib.Pipeline.ValueKit
public import Idealize.ShloMosaic.Lib.Pointwise

@[expose] public section

noncomputable section

namespace Cert.Mixer

open Idealize.ShloMosaic

variable {Val : EltTy → Type} {e : EltTy} [∀ e, Nonempty (Val e)]

/-- A place of the buffer is read from the last rectangle that holds it, or else from the earlier ones. -/
theorem canon_peel {A B o0 o1 n0 n1 : ℕ}
    (inb : ∀ a, (![o0, o1] : Fin 2 → ℕ) a + (![n0, n1] : Fin 2 → ℕ) a ≤ (⟨2, ![A, B]⟩ : Shape).size a)
    (w : (⟨2, ![n0, n1]⟩ : Shape).Idx → Val e) (L : List (View.Piece Val ⟨2, ![A, B]⟩ e)) (r : Fin A) (c : Fin B) (v : Val e)
    (h1 : ∀ (i : Fin n0) (j : Fin n1), r.val = o0 + i.val → c.val = o1 + j.val → w (ix2 i j) = v)
    (h2 : ¬(o0 ≤ r.val ∧ r.val < o0 + n0 ∧ o1 ≤ c.val ∧ c.val < o1 + n1) → View.canon L (ix2 r c) = v) :
    View.canon ((⟨Rect.unit ![o0, o1] ![n0, n1] inb, w⟩ : View.Piece Val ⟨2, ![A, B]⟩ e) :: L) (ix2 r c) = v := by
  by_cases h : o0 ≤ r.val ∧ r.val < o0 + n0 ∧ o1 ≤ c.val ∧ c.val < o1 + n1
  · obtain ⟨ha, hb, hc, hd⟩ := h
    have hi : (ix2 r c : (⟨2, ![A, B]⟩ : Shape).Idx) = (Rect.unit (s := ⟨2, ![A, B]⟩) ![o0, o1] ![n0, n1] inb).emb
        (ix2 (⟨r.val - o0, by omega⟩ : Fin n0) (⟨c.val - o1, by omega⟩ : Fin n1)) := by
      funext a
      match a with
      | ⟨0, _⟩ => exact Fin.ext (show r.val = o0 + 1 * (r.val - o0) by omega)
      | ⟨1, _⟩ => exact Fin.ext (show c.val = o1 + 1 * (c.val - o1) by omega)
    rw [hi, View.canon_cons_emb]
    exact h1 _ _ (by show r.val = o0 + (r.val - o0); omega) (by show c.val = o1 + (c.val - o1); omega)
  · rw [View.canon_cons_of_not_mem]
    · exact h2 h
    · intro hm
      obtain ⟨x, hx⟩ := (Rect.unit (s := ⟨2, ![A, B]⟩) ![o0, o1] ![n0, n1] inb).exists_idx_of_mem hm
      have e0 := congrArg (fun y : (⟨2, ![A, B]⟩ : Shape).Idx => (y 0).val) hx
      have e1 := congrArg (fun y : (⟨2, ![A, B]⟩ : Shape).Idx => (y 1).val) hx
      have e0' : o0 + 1 * (x 0).val = r.val := e0
      have e1' : o1 + 1 * (x 1).val = c.val := e1
      have b0 : (x 0).val < n0 := (x 0).isLt
      have b1 : (x 1).val < n1 := (x 1).isLt
      omega

/-- A rectangle's place in the buffer. -/
theorem rect_idx {A B o0 o1 n0 n1 : ℕ}
    (inb : ∀ a, (![o0, o1] : Fin 2 → ℕ) a + (![n0, n1] : Fin 2 → ℕ) a ≤ (⟨2, ![A, B]⟩ : Shape).size a)
    (i : Fin n0) (j : Fin n1) (h0 : o0 + i.val < A) (h1 : o1 + j.val < B) :
    (Rect.unit (s := ⟨2, ![A, B]⟩) ![o0, o1] ![n0, n1] inb).idx (ix2 i j) = ix2 ⟨o0 + i.val, h0⟩ ⟨o1 + j.val, h1⟩ := by
  funext a
  match a with
  | ⟨0, _⟩ => exact Fin.ext (show o0 + 1 * i.val = o0 + i.val by omega)
  | ⟨1, _⟩ => exact Fin.ext (show o1 + 1 * j.val = o1 + j.val by omega)

/-- The whole buffer read as one rectangle. -/
theorem rect_whole {A B n0 n1 : ℕ}
    (inb : ∀ a, (![0, 0] : Fin 2 → ℕ) a + (![n0, n1] : Fin 2 → ℕ) a ≤ (⟨2, ![A, B]⟩ : Shape).size a)
    (i : Fin n0) (j : Fin n1) (h0 : i.val < A) (h1 : j.val < B) :
    (Rect.unit (s := ⟨2, ![A, B]⟩) ![0, 0] ![n0, n1] inb).idx (ix2 i j) = ix2 ⟨i.val, h0⟩ ⟨j.val, h1⟩ := by
  funext a
  match a with
  | ⟨0, _⟩ => exact Fin.ext (show 0 + 1 * i.val = i.val by omega)
  | ⟨1, _⟩ => exact Fin.ext (show 0 + 1 * j.val = j.val by omega)

/-- Eight blocks of rows, the block of one head holding that head's lanes and zeros elsewhere. -/
theorem parts (P : Fin 8 → (⟨2, ![128, 512]⟩ : Shape).Idx → EReal) (f : Fin 128 → Fin 512 → EReal)
    (hP : ∀ (h : Fin 8) (i : Fin 128) (j : Fin 512), P h (ix2 i j) = if j.val / 64 = h.val then f i j else 0)
    (b0 b1 b2 b3 b4 b5 b6 b7)
    (T : List (View.Piece (Elt Ideal) ⟨2, ![1024, 512]⟩ .bf16)) (x : Fin 1024) (j : Fin 512) :
    View.canon (Val := Elt Ideal) (e := .bf16)
      (⟨Rect.unit (s := ⟨2, ![1024, 512]⟩) ![896, 0] ![128, 512] b7, P 7⟩ ::
       ⟨Rect.unit (s := ⟨2, ![1024, 512]⟩) ![768, 0] ![128, 512] b6, P 6⟩ ::
       ⟨Rect.unit (s := ⟨2, ![1024, 512]⟩) ![640, 0] ![128, 512] b5, P 5⟩ ::
       ⟨Rect.unit (s := ⟨2, ![1024, 512]⟩) ![512, 0] ![128, 512] b4, P 4⟩ ::
       ⟨Rect.unit (s := ⟨2, ![1024, 512]⟩) ![384, 0] ![128, 512] b3, P 3⟩ ::
       ⟨Rect.unit (s := ⟨2, ![1024, 512]⟩) ![256, 0] ![128, 512] b2, P 2⟩ ::
       ⟨Rect.unit (s := ⟨2, ![1024, 512]⟩) ![128, 0] ![128, 512] b1, P 1⟩ ::
       ⟨Rect.unit (s := ⟨2, ![1024, 512]⟩) ![0, 0] ![128, 512] b0, P 0⟩ :: T) (ix2 x j)
      = if j.val / 64 = x.val / 128 then f ⟨x.val % 128, by omega⟩ j else 0 := by
  have key : ∀ (h : Fin 8) (i : Fin 128) (j' : Fin 512), x.val = 128 * h.val + i.val → j.val = 0 + j'.val →
      P h (ix2 i j') = if j.val / 64 = x.val / 128 then f ⟨x.val % 128, by omega⟩ j else 0 := by
    intro h i j' hx hj
    obtain rfl : j = j' := Fin.ext (by omega)
    have hi : (⟨x.val % 128, by omega⟩ : Fin 128) = i := Fin.ext (by show x.val % 128 = i.val; omega)
    rw [hP, hi, show h.val = x.val / 128 by omega]
  refine canon_peel _ _ _ _ _ _ (key 7) fun n7 => ?_
  refine canon_peel _ _ _ _ _ _ (key 6) fun n6 => ?_
  refine canon_peel _ _ _ _ _ _ (key 5) fun n5 => ?_
  refine canon_peel _ _ _ _ _ _ (key 4) fun n4 => ?_
  refine canon_peel _ _ _ _ _ _ (key 3) fun n3 => ?_
  refine canon_peel _ _ _ _ _ _ (key 2) fun n2 => ?_
  refine canon_peel _ _ _ _ _ _ (key 1) fun n1 => ?_
  refine canon_peel _ _ _ _ _ _ (key 0) fun n0 => ?_
  omega

end Cert.Mixer

end
-- ==== Proof.KernelTile.lean ====
/- What one tile of 512 positions holds between its stages: the scaled queries, the keys and values with the 512 rows
   that stand before the tile, and one head of one block of queries read from them. -/
module

public import Idealize.ShloMosaic.Lib.WritesUnit
public import proofs.«01_k».proof.Proof.Gen.KernelIdeal.Value
public import proofs.«01_k».proof.Proof.KernelArgs
public import proofs.«01_k».proof.Proof.KernelBlock
public import proofs.«01_k».proof.Proof.KernelGate
public import proofs.«01_k».proof.Proof.KernelHead
public import proofs.«01_k».proof.Proof.Tile

@[expose] public section

set_option maxRecDepth 16384

noncomputable section

namespace Cert.KernelIdeal.Mix

open Idealize.ShloMosaic Idealize.ShloMosaic.TcCoe Idealize.SL.Sem
open Cert.KernelIdeal Cert.KernelIdeal.Gen Cert.KernelIdeal.Value Cert.Mixer

variable (m : (ℓ : Loc nD τ sig) → Buf (Elt Ideal) ℓ)

/-- A column of the weights' window, read through a slice. -/
theorem w_slice (c : Dev nD) (t : Fin cfg0.N) (o n : ℕ) (inb) (d : Fin 1024) (k : Fin n) (h : o + k.val < 2560) :
    (View.ld (iblk m c 1 t) (Rect.unit (s := S1024x2560) ![0, o] ![1024, n] inb) : Vec Ideal ⟨2, ![1024, n]⟩ .bf16) (ix2 d k)
      = (given m c).w d ⟨o + k.val, h⟩ := by
  refine (congrArg (show FVec Ideal S1024x2560 .bf16 from iblk m c 1 t) (rect_idx inb d k (by omega) h)).trans ?_
  refine (w_block m c t _ _).trans ?_
  exact congrArg (fun a => (given m c).w a _) (Fin.ext (Nat.zero_add _))

/-- An entry of the shifts' window, read through a slice. -/
theorem b_slice (c : Dev nD) (t : Fin cfg0.N) (o n : ℕ) (inb) (k : Fin n) (h : o + k.val < 2560) :
    (View.ld (iblk m c 2 t) (Rect.unit (s := S1x2560) ![0, o] ![1, n] inb) : Vec Ideal ⟨2, ![1, n]⟩ .f32) (ix2 0 k)
      = (given m c).bi ⟨o + k.val, h⟩ := by
  refine (congrArg (show FVec Ideal S1x2560 .f32 from iblk m c 2 t) (rect_idx inb 0 k (by decide) h)).trans ?_
  exact b_block m c t _

/-- The tile's scaled queries. -/
theorem q_tile (c : Dev nD) (t : Fin cfg0.N) (inb1 inb2) (r k : Fin 512) :
    k0_pay12 (iblk m c 0 t) (View.ld (iblk m c 1 t) (Rect.unit (s := S1024x2560) ![0, 1024] ![1024, 1536] inb1))
        (View.ld (iblk m c 2 t) (Rect.unit (s := S1x2560) ![0, 1024] ![1, 1536] inb2)) (ix2 r k)
      = (given m c).proj (batchOf t) ⟨512 * (tileOf t).val + r.val, by omega⟩ ⟨1024 + k.val, by omega⟩
        * (((1 / 8) * (Real.log 2)⁻¹ : ℝ) : EReal) :=
  q_at _ _ _ r k _ _ _ (fun d => x_block m c t r d)
    (fun d => w_slice m c t 1024 1536 inb1 d ⟨k.val, by omega⟩ (by show 1024 + k.val < 2560; omega))
    (b_slice m c t 1024 1536 inb2 ⟨k.val, by omega⟩ (by show 1024 + k.val < 2560; omega))

/-- The tile's own keys. -/
theorem k_tile (c : Dev nD) (t : Fin cfg0.N) (inb1 inb2) (r k : Fin 512) :
    k0_pay13 (iblk m c 0 t) (View.ld (iblk m c 1 t) (Rect.unit (s := S1024x2560) ![0, 1024] ![1024, 1536] inb1))
        (View.ld (iblk m c 2 t) (Rect.unit (s := S1x2560) ![0, 1024] ![1, 1536] inb2)) (ix2 r k)
      = (given m c).proj (batchOf t) ⟨512 * (tileOf t).val + r.val, by omega⟩ ⟨1536 + k.val, by omega⟩ :=
  (k_at _ _ _ r k _ _ _ (fun d => x_block m c t r d)
    (fun d => w_slice m c t 1024 1536 inb1 d ⟨512 + k.val, by omega⟩ (by show 1024 + (512 + k.val) < 2560; omega))
    (b_slice m c t 1024 1536 inb2 ⟨512 + k.val, by omega⟩ (by show 1024 + (512 + k.val) < 2560; omega))).trans
    (congrArg ((given m c).proj (batchOf t) _) (Fin.ext (show 1024 + (512 + k.val) = 1536 + k.val by omega)))

/-- The tile's own values. -/
theorem v_tile (c : Dev nD) (t : Fin cfg0.N) (inb1 inb2) (r k : Fin 512) :
    k0_pay14 (iblk m c 0 t) (View.ld (iblk m c 1 t) (Rect.unit (s := S1024x2560) ![0, 1024] ![1024, 1536] inb1))
        (View.ld (iblk m c 2 t) (Rect.unit (s := S1x2560) ![0, 1024] ![1, 1536] inb2)) (ix2 r k)
      = (given m c).proj (batchOf t) ⟨512 * (tileOf t).val + r.val, by omega⟩ ⟨2048 + k.val, by omega⟩ :=
  (v_at _ _ _ r k _ _ _ (fun d => x_block m c t r d)
    (fun d => w_slice m c t 1024 1536 inb1 d ⟨1024 + k.val, by omega⟩ (by show 1024 + (1024 + k.val) < 2560; omega))
    (b_slice m c t 1024 1536 inb2 ⟨1024 + k.val, by omega⟩ (by show 1024 + (1024 + k.val) < 2560; omega))).trans
    (congrArg ((given m c).proj (batchOf t) _) (Fin.ext (show 1024 + (1024 + k.val) = 2048 + k.val by omega)))

/-- The gate's factor. -/
theorem u_tile (c : Dev nD) (t : Fin cfg0.N) (inb1 inb2) (r k : Fin 512) :
    k0_pay49 (k0_pay10 (iblk m c 0 t)) (View.ld (iblk m c 1 t) (Rect.unit (s := S1024x2560) ![0, 0] ![1024, 1024] inb1))
        (View.ld (iblk m c 2 t) (Rect.unit (s := S1x2560) ![0, 0] ![1, 1024] inb2)) (ix2 r k)
      = (given m c).proj (batchOf t) ⟨512 * (tileOf t).val + r.val, by omega⟩ ⟨k.val, by omega⟩ :=
  (u_at _ _ _ r k _ _ _ (fun d => x_block m c t r d)
    (fun d => w_slice m c t 0 1024 inb1 d ⟨k.val, by omega⟩ (by show 0 + k.val < 2560; omega))
    (b_slice m c t 0 1024 inb2 ⟨k.val, by omega⟩ (by show 0 + k.val < 2560; omega))).trans
    (congrArg ((given m c).proj (batchOf t) _) (Fin.ext (show 0 + k.val = k.val by omega)))

/-- The rows the gate mixes. -/
theorem vn_tile (c : Dev nD) (t : Fin cfg0.N) (inb1 inb2) (r k : Fin 512) :
    k0_pay50 (k0_pay10 (iblk m c 0 t)) (View.ld (iblk m c 1 t) (Rect.unit (s := S1024x2560) ![0, 0] ![1024, 1024] inb1))
        (View.ld (iblk m c 2 t) (Rect.unit (s := S1x2560) ![0, 0] ![1, 1024] inb2)) (iblk m c 3 t) (iblk m c 4 t) (ix2 r k)
      = (given m c).vn (batchOf t) ⟨512 * (tileOf t).val + r.val, by omega⟩ k := by
  refine vn_at _ _ _ _ _ r k _ _ _ (fun j => ?_) (fun j => cg_block m c t j) (fun j => cb_block m c t j)
  refine congrArg₂ (· + ·) (Finset.sum_congr rfl fun d _ => congrArg₂ (· * ·) (x_block m c t r d) ?_) ?_
  · exact (w_slice m c t 0 1024 inb1 d ⟨512 + j.val, by omega⟩ (by show 0 + (512 + j.val) < 2560; omega)).trans
      (congrArg ((given m c).w d) (Fin.ext (show 0 + (512 + j.val) = 512 + j.val by omega)))
  · exact (b_slice m c t 0 1024 inb2 ⟨512 + j.val, by omega⟩ (by show 0 + (512 + j.val) < 2560; omega)).trans
      (congrArg (given m c).bi (Fin.ext (show 0 + (512 + j.val) = 512 + j.val by omega)))

/-- Column `o + k` of the projection, 512 rows before the tile up to its end. -/
def Rows (A : Inputs) (b : Fin 16) (tile : Fin 4) (o : ℕ) (ho : o + 512 ≤ 2560) (K : Vec Ideal S1024x512 .bf16) : Prop :=
  ∀ (p : Fin 1024) (k : Fin 512), K (ix2 p k)
    = (A.padded b ⟨512 * tile.val + p.val, by omega⟩ ⟨o + k.val, by omega⟩ : EReal)

/-- A projected row of the sequence is the padded row 512 later. -/
theorem padded_own (A : Inputs) (hA : A.Finite) (b : Fin 16) (s : Fin 2048) (p : Fin 2560) (h : p.val = 512 + s.val)
    (k : Fin 2560) : A.proj b s k = (A.padded b p k : EReal) := by
  rw [A.proj_real hA]
  unfold Inputs.padded
  rw [dif_pos (by omega)]
  exact congrArg (fun s => (A.rproj b s k : EReal)) (Fin.ext (show s.val = p.val - 512 by omega))

/-- Rows built for the first tile of a sequence: zeros, then the tile's own. -/
theorem rows_first (A : Inputs) (hA : A.Finite) (b : Fin 16) (tile : Fin 4) (h0 : tile.val = 0) (o : ℕ) (ho : o + 512 ≤ 2560)
    (own zero : Vec Ideal S512x512 .bf16)
    (hown : ∀ r k : Fin 512, own (ix2 r k) = A.proj b ⟨512 * tile.val + r.val, by omega⟩ ⟨o + k.val, by omega⟩)
    (hzero : ∀ r k : Fin 512, zero (ix2 r k) = 0) (inb1 inb2) :
    Rows A b tile o ho (View.canon (Val := Elt Ideal)
      [(⟨Rect.unit (s := S1024x512) ![512, 0] ![512, 512] inb1, own⟩ : View.Piece (Elt Ideal) S1024x512 .bf16),
       ⟨Rect.unit (s := S1024x512) ![0, 0] ![512, 512] inb2, zero⟩]) := by
  intro p k
  refine canon_peel _ _ _ _ _ _ (fun i j hi hj => ?_) fun n1 => canon_peel _ _ _ _ _ _ (fun i j hi hj => ?_) fun n2 => ?_
  · refine (hown i j).trans ?_
    refine (padded_own A hA b _ ⟨512 * tile.val + p.val, by omega⟩ (by show 512 * tile.val + p.val = 512 + (512 * tile.val + i.val); omega) _).trans ?_
    exact congrArg (fun k => (A.padded b _ k : EReal)) (Fin.ext (show o + j.val = o + k.val by omega))
  · refine (hzero i j).trans ?_
    unfold Inputs.padded
    rw [dif_neg (by show ¬512 ≤ 512 * tile.val + p.val; omega)]
    exact EReal.coe_zero.symm
  · omega

/-- Rows built for a later tile: what the tile before left, then the tile's own. -/
theorem rows_next (A : Inputs) (hA : A.Finite) (b : Fin 16) (tile : Fin 4) (o : ℕ) (ho : o + 512 ≤ 2560)
    (own : Vec Ideal S512x512 .bf16) (K : Vec Ideal S1024x512 .bf16)
    (hown : ∀ r k : Fin 512, own (ix2 r k) = A.proj b ⟨512 * tile.val + r.val, by omega⟩ ⟨o + k.val, by omega⟩)
    (hin : ∀ r k : Fin 512, K (ix2 ⟨512 + r.val, by omega⟩ k) = own (ix2 r k))
    (hold : ∀ r k : Fin 512, K (ix2 ⟨r.val, by omega⟩ k)
      = (A.padded b ⟨512 * tile.val + r.val, by omega⟩ ⟨o + k.val, by omega⟩ : EReal)) :
    Rows A b tile o ho K := by
  intro p k
  by_cases h : p.val < 512
  · exact hold ⟨p.val, h⟩ k
  · refine (congrArg (fun p => K (ix2 p k)) (Fin.ext (show p.val = 512 + (p.val - 512) by omega))).trans
      ((hin ⟨p.val - 512, by omega⟩ k).trans ?_)
    refine (hown _ k).trans ?_
    exact padded_own A hA b _ ⟨512 * tile.val + p.val, by omega⟩
      (by show 512 * tile.val + p.val = 512 + (512 * tile.val + (p.val - 512)); omega) _

/-- The mask's flag is set on the first tile of a sequence alone. -/
theorem first_tile (t : Fin cfg0.N) :
    Scalar.cmpi CmpIPredicate.eq (BitVec.ofNat 32 (grid0.coords t 1).val) 0#32 = 1#1 ↔ (tileOf t).val = 0 := by
  revert t
  decide +kernel

/-- One head of one block of queries, from the tile's buffers. -/
theorem head_piece (A : Inputs) (hA : A.Finite) (b : Fin 16) (tile : Fin 4) (qb : Fin 2) (h : Fin 8) (o0 o1 : ℕ)
    (e0 : o0 = 256 * qb.val) (e1 : o1 = 64 * h.val) (nk : FVec Ideal S1x768 .f32)
    (Q : Vec Ideal S512x512 .bf16) (K V : Vec Ideal S1024x512 .bf16) (T : Vec Ideal S8x256x768 .f32)
    (inbQ inbK inbV inbT)
    (hQ : ∀ r k : Fin 512, Q (ix2 r k) = A.proj b ⟨512 * tile.val + r.val, by omega⟩ ⟨1024 + k.val, by omega⟩
        * (((1 / 8) * (Real.log 2)⁻¹ : ℝ) : EReal))
    (hK : Rows A b tile 1536 (by decide) K) (hV : Rows A b tile 2048 (by decide) V)
    (hT : ∀ (h : Fin 8) (i : Fin 256) (j : Fin 768), T (ix3 h i j) = if near i j then A.rel h (blockRel i j) else ⊥)
    (hn : ∀ j : Fin 768, nk (ix2 0 j) = if tile.val = 0 ∧ j.val + 256 * qb.val < 512 then (⊥ : EReal) else 0)
    (i : Fin 256) (d : Fin 64) :
    k0_pay39 nk (fun x => Q ((Rect.unit (s := S512x512) ![o0, o1] ![256, 64] inbQ).idx x))
        (fun x => K ((Rect.unit (s := S1024x512) ![o0, o1] ![768, 64] inbK).idx x))
        (fun x => V ((Rect.unit (s := S1024x512) ![o0, o1] ![768, 64] inbV).idx x))
        (fun x => T ((Rect.unit (s := S8x256x768) ![h.val, 0, 0] ![1, 256, 768] inbT).idx x)) (ix2 i d)
      = (A.att b ⟨512 * tile.val + 256 * qb.val + i.val, by omega⟩ h d : EReal) := by
  subst e0 e1
  refine head_block A hA b tile qb h nk _ _ _ _ i d (fun e => ?_) (fun j e => ?_) (fun j => ?_) (fun j => ?_) hn
  · refine (congrArg Q (rect_idx inbQ i e (by omega) (by omega))).trans ((hQ _ _).trans ?_)
    refine congrArg (fun a : EReal => a * _) (congrArg₂ (A.proj b) (Fin.ext ?_) (Fin.ext ?_))
    · show 512 * tile.val + (256 * qb.val + i.val) = 512 * tile.val + 256 * qb.val + i.val; omega
    · show 1024 + (64 * h.val + e.val) = 1024 + 64 * h.val + e.val; omega
  · refine (congrArg K (rect_idx inbK j e (by omega) (by omega))).trans ((hK _ _).trans ?_)
    refine congrArg₂ (fun p k => (A.padded b p k : EReal)) (Fin.ext ?_) (Fin.ext ?_)
    · show 512 * tile.val + (256 * qb.val + j.val) = 512 * tile.val + 256 * qb.val + j.val; omega
    · show 1536 + (64 * h.val + e.val) = 1536 + 64 * h.val + e.val; omega
  · refine (congrArg V (rect_idx inbV j d (by omega) (by omega))).trans ((hV _ _).trans ?_)
    refine congrArg₂ (fun p k => (A.padded b p k : EReal)) (Fin.ext ?_) (Fin.ext ?_)
    · show 512 * tile.val + (256 * qb.val + j.val) = 512 * tile.val + 256 * qb.val + j.val; omega
    · show 2048 + (64 * h.val + d.val) = 2048 + 64 * h.val + d.val; omega
  · refine (congrArg T (funext fun a => ?_)).trans (hT h i j)
    match a with
    | ⟨0, _⟩ => exact Fin.ext (show h.val + 1 * 0 = h.val by omega)
    | ⟨1, _⟩ => exact Fin.ext (show 0 + 1 * i.val = i.val by omega)
    | ⟨2, _⟩ => exact Fin.ext (show 0 + 1 * j.val = j.val by omega)

theorem mix_right (A : Inputs) (b : Fin 16) (s s' : Fin 2048) (k : Fin 1024) (h : Fin 8) (d : Fin 64) (es : s'.val = s.val)
    (ek : k.val = 512 + 64 * h.val + d.val) : (A.att b s' h d : EReal) = A.mix b s k := by
  obtain rfl : s' = s := Fin.ext es
  unfold Inputs.mix
  rw [dif_neg (by omega)]
  exact congrArg₂ (fun h d => (A.att b s' h d : EReal)) (Fin.ext (show h.val = (k.val - 512) / 64 by omega))
    (Fin.ext (show d.val = (k.val - 512) % 64 by omega))

theorem mix_left (A : Inputs) (b : Fin 16) (s s' : Fin 2048) (k : Fin 1024) (j : Fin 512) (es : s'.val = s.val)
    (ek : k.val = j.val) : A.cOut b s' j = A.mix b s k := by
  obtain rfl : s' = s := Fin.ext es
  unfold Inputs.mix
  rw [dif_pos (by omega)]
  exact congrArg (A.cOut b s') (Fin.ext ek.symm)

/-- One head of one block of queries, as columns of the two halves side by side. -/
theorem head_mix (A : Inputs) (hA : A.Finite) (b : Fin 16) (tile : Fin 4) (qb : Fin 2) (h : Fin 8) (o0 o1 o2 : ℕ)
    (e0 : o0 = 256 * qb.val) (e1 : o1 = 64 * h.val) (e2 : o2 = 512 + o1) (nk : FVec Ideal S1x768 .f32)
    (Q : Vec Ideal S512x512 .bf16) (K V : Vec Ideal S1024x512 .bf16) (T : Vec Ideal S8x256x768 .f32)
    (inbQ inbK inbV inbT)
    (hQ : ∀ r k : Fin 512, Q (ix2 r k) = A.proj b ⟨512 * tile.val + r.val, by omega⟩ ⟨1024 + k.val, by omega⟩
        * (((1 / 8) * (Real.log 2)⁻¹ : ℝ) : EReal))
    (hK : Rows A b tile 1536 (by decide) K) (hV : Rows A b tile 2048 (by decide) V)
    (hT : ∀ (h : Fin 8) (i : Fin 256) (j : Fin 768), T (ix3 h i j) = if near i j then A.rel h (blockRel i j) else ⊥)
    (hn : ∀ j : Fin 768, nk (ix2 0 j) = if tile.val = 0 ∧ j.val + 256 * qb.val < 512 then (⊥ : EReal) else 0)
    (i : Fin 256) (d : Fin 64) (r : Fin 512) (k : Fin 1024) (hr : 0 + r.val = o0 + i.val) (hk : 0 + k.val = o2 + d.val) :
    k0_pay39 nk (fun x => Q ((Rect.unit (s := S512x512) ![o0, o1] ![256, 64] inbQ).idx x))
        (fun x => K ((Rect.unit (s := S1024x512) ![o0, o1] ![768, 64] inbK).idx x))
        (fun x => V ((Rect.unit (s := S1024x512) ![o0, o1] ![768, 64] inbV).idx x))
        (fun x => T ((Rect.unit (s := S8x256x768) ![h.val, 0, 0] ![1, 256, 768] inbT).idx x)) (ix2 i d)
      = A.mix b ⟨512 * tile.val + r.val, by omega⟩ k :=
  (head_piece A hA b tile qb h o0 o1 e0 e1 nk Q K V T inbQ inbK inbV inbT hQ hK hV hT hn i d).trans
    (mix_right A b _ _ k h d (by show 512 * tile.val + 256 * qb.val + i.val = 512 * tile.val + r.val; omega) (by omega))

theorem slice0_at (v : FVec Ideal S512x512 .f32) (i : Fin 128) (j : Fin 512) :
    extractStridedSlice S128x512 ![0, 0] v slices_S512x512_o0_0_S128x512 (ix2 i j) = v (ix2 ⟨i.val, by omega⟩ j) := by
  pointwise

theorem slice1_at (v : FVec Ideal S512x512 .f32) (i : Fin 128) (j : Fin 512) :
    extractStridedSlice S128x512 ![128, 0] v slices_S512x512_o128_0_S128x512 (ix2 i j) = v (ix2 ⟨128 + i.val, by omega⟩ j) := by
  pointwise

theorem slice2_at (v : FVec Ideal S512x512 .f32) (i : Fin 128) (j : Fin 512) :
    extractStridedSlice S128x512 ![256, 0] v slices_S512x512_o256_0_S128x512 (ix2 i j) = v (ix2 ⟨256 + i.val, by omega⟩ j) := by
  pointwise

theorem slice3_at (v : FVec Ideal S512x512 .f32) (i : Fin 128) (j : Fin 512) :
    extractStridedSlice S128x512 ![384, 0] v slices_S512x512_o384_0_S128x512 (ix2 i j) = v (ix2 ⟨384 + i.val, by omega⟩ j) := by
  pointwise

/-- The eight heads' rows of one block, each over its own lanes. -/
theorem parts_at (L : IVec S128x512 32) (v : FVec Ideal S128x512 .f32) (f : Fin 128 → Fin 512 → EReal)
    (hL : ∀ (i : Fin 128) (j : Fin 512), L (ix2 i j) = BitVec.ofNat 32 (j.val / 64))
    (hv : ∀ (i : Fin 128) (j : Fin 512), v (ix2 i j) = f i j) (b0 b1 b2 b3 b4 b5 b6 b7)
    (T : List (View.Piece (Elt Ideal) S1024x512 .bf16)) (x : Fin 1024) (j : Fin 512) :
    View.canon (Val := Elt Ideal) (e := .bf16)
      ((⟨Rect.unit (s := S1024x512) ![896, 0] ![128, 512] b7, shapeCast S128x512 (truncf .bf16 (select (cmpi .eq L (broadcast S128x512 7#32)) v
         (broadcast S128x512 (FloatOps.ofBits (F := Ideal) FTy.f32 0#32))) bitsLt_bf16_f32) shapeCasts_S128x512_S128x512⟩ : View.Piece (Elt Ideal) S1024x512 .bf16) ::
       (⟨Rect.unit (s := S1024x512) ![768, 0] ![128, 512] b6, shapeCast S128x512 (truncf .bf16 (select (cmpi .eq L (broadcast S128x512 6#32)) v
         (broadcast S128x512 (FloatOps.ofBits (F := Ideal) FTy.f32 0#32))) bitsLt_bf16_f32) shapeCasts_S128x512_S128x512⟩ : View.Piece (Elt Ideal) S1024x512 .bf16) ::
       (⟨Rect.unit (s := S1024x512) ![640, 0] ![128, 512] b5, shapeCast S128x512 (truncf .bf16 (select (cmpi .eq L (broadcast S128x512 5#32)) v
         (broadcast S128x512 (FloatOps.ofBits (F := Ideal) FTy.f32 0#32))) bitsLt_bf16_f32) shapeCasts_S128x512_S128x512⟩ : View.Piece (Elt Ideal) S1024x512 .bf16) ::
       (⟨Rect.unit (s := S1024x512) ![512, 0] ![128, 512] b4, shapeCast S128x512 (truncf .bf16 (select (cmpi .eq L (broadcast S128x512 4#32)) v
         (broadcast S128x512 (FloatOps.ofBits (F := Ideal) FTy.f32 0#32))) bitsLt_bf16_f32) shapeCasts_S128x512_S128x512⟩ : View.Piece (Elt Ideal) S1024x512 .bf16) ::
       (⟨Rect.unit (s := S1024x512) ![384, 0] ![128, 512] b3, shapeCast S128x512 (truncf .bf16 (select (cmpi .eq L (broadcast S128x512 3#32)) v
         (broadcast S128x512 (FloatOps.ofBits (F := Ideal) FTy.f32 0#32))) bitsLt_bf16_f32) shapeCasts_S128x512_S128x512⟩ : View.Piece (Elt Ideal) S1024x512 .bf16) ::
       (⟨Rect.unit (s := S1024x512) ![256, 0] ![128, 512] b2, shapeCast S128x512 (truncf .bf16 (select (cmpi .eq L (broadcast S128x512 2#32)) v
         (broadcast S128x512 (FloatOps.ofBits (F := Ideal) FTy.f32 0#32))) bitsLt_bf16_f32) shapeCasts_S128x512_S128x512⟩ : View.Piece (Elt Ideal) S1024x512 .bf16) ::
       (⟨Rect.unit (s := S1024x512) ![128, 0] ![128, 512] b1, shapeCast S128x512 (truncf .bf16 (select (cmpi .eq L (broadcast S128x512 1#32)) v
         (broadcast S128x512 (FloatOps.ofBits (F := Ideal) FTy.f32 0#32))) bitsLt_bf16_f32) shapeCasts_S128x512_S128x512⟩ : View.Piece (Elt Ideal) S1024x512 .bf16) ::
       (⟨Rect.unit (s := S1024x512) ![0, 0] ![128, 512] b0, shapeCast S128x512 (truncf .bf16 (select (cmpi .eq L (broadcast S128x512 0#32)) v
         (broadcast S128x512 (FloatOps.ofBits (F := Ideal) FTy.f32 0#32))) bitsLt_bf16_f32) shapeCasts_S128x512_S128x512⟩ : View.Piece (Elt Ideal) S1024x512 .bf16) :: T) (ix2 x j)
      = if j.val / 64 = x.val / 128 then f ⟨x.val % 128, by omega⟩ j else 0 :=
  parts (fun h => k0_pay64 L v (broadcast S128x512 (BitVec.ofNat 32 h.val))) f
    (fun h i j => (part_at L v h i j (hL i j)).trans (if_congr Iff.rfl (hv i j) rfl)) b0 b1 b2 b3 b4 b5 b6 b7 T x j

/-- What a window's keys or values are kept as for the next tile. -/
theorem keep_k (v : Vec Ideal S512x512 .bf16) (i j : Fin 512) : k0_pay46 v (ix2 i j) = v (ix2 i j) := by
  pointwise [k0_pay46]

theorem keep_v (v : FVec Ideal S512x512 .bf16) (i j : Fin 512) :
    shapeCast S512x512 v shapeCasts_S512x512_S512x512 (ix2 i j) = v (ix2 i j) := by
  pointwise

/-- The rows of a later tile, in the buffer the tile before left: its last rows, then the tile's own over the second half. -/
theorem rows_over {κ : Kind} {sp : Space} {sig : RefSig} (v : View sig κ sp S1024x512 .bf16) (f : v.ty.Contents (Elt Ideal))
    (A : Inputs) (hA : A.Finite) (b : Fin 16) (tile tile' : Fin 4) (ht : tile'.val = tile.val + 1) (o : ℕ) (ho : o + 512 ≤ 2560)
    (own : Vec Ideal S512x512 .bf16)
    (hown : ∀ r k : Fin 512, own (ix2 r k) = A.proj b ⟨512 * tile'.val + r.val, by omega⟩ ⟨o + k.val, by omega⟩)
    (hold : ∀ r k : Fin 512, View.read (Elt Ideal) v f (ix2 ⟨r.val, by omega⟩ k)
      = A.proj b ⟨512 * tile.val + r.val, by omega⟩ ⟨o + k.val, by omega⟩) (inb) :
    Rows A b tile' o ho (View.read (Elt Ideal) v (v.writes (Elt Ideal) f
      [(⟨Rect.unit (s := S1024x512) ![512, 0] ![512, 512] inb, own⟩ : View.Piece (Elt Ideal) S1024x512 .bf16)])) := by
  refine rows_next A hA b tile' o ho own _ hown (fun r k => ?_) (fun r k => ?_)
  · refine View.read_writes_cons_unit_of_mem v f inb own [] _ (ix2 r k) rfl fun a => ?_
    match a with
    | ⟨0, _⟩ => rfl
    | ⟨1, _⟩ => exact (Nat.zero_add _).symm
  · refine (View.read_writes_cons_unit_of_not_mem v f inb own [] _ rfl ⟨0, by decide⟩
      (Or.inl (show r.val < 512 from r.isLt))).trans ?_
    refine (hold r k).trans ?_
    exact padded_own A hA b _ ⟨512 * tile'.val + r.val, by omega⟩
      (by show 512 * tile'.val + r.val = 512 + (512 * tile.val + r.val); omega) _

end Cert.KernelIdeal.Mix

end
-- ==== Proof.KernelPoint.lean ====
/- What one grid point leaves: its tile of the mixer's output, its own keys and values for the tile after it, and the
   masked gate weights. -/
module

public import proofs.«01_k».proof.Proof.KernelTile

@[expose] public section

set_option maxRecDepth 16384
set_option maxHeartbeats 1000000

noncomputable section

namespace Cert.KernelIdeal.Value

open Idealize.ShloMosaic Idealize.ShloMosaic.TcCoe Idealize.SL.Sem
open Cert.KernelIdeal Cert.KernelIdeal.Gen Cert.KernelIdeal.Mix Cert.Mixer

variable (m : (ℓ : Loc nD τ sig) → Buf (Elt Ideal) ℓ)

/-- The keys a point leaves for the next. -/
theorem keys_A (c : Dev nD) (t : Fin cfg0.N) (h : t.val % 4 = 0) (r k : Fin 512) :
    (outsAt0 m c t.val t.isLt).2.1 (ix2 ⟨r.val, by omega⟩ k)
      = (given m c).proj (batchOf t) ⟨512 * (tileOf t).val + r.val, by omega⟩ ⟨1536 + k.val, by omega⟩ := by
  rw [outsAt0_A m c t h]
  frame_out
  refine canon_peel _ _ _ _ _ _ (fun i j hi hj => ?_) fun n1 => absurd ⟨Nat.zero_le _, ?_, Nat.zero_le _, ?_⟩ n1
  · simp only [View.readCov_eq_canon']
    refine (keep_k _ i j).trans ?_
    refine (congrArg (View.canon _) (rect_idx _ i j (by omega) (by omega))).trans ?_
    refine canon_peel _ _ _ _ _ _ (fun i' j' hi' hj' => ?_) fun n1 => absurd ⟨Nat.le_add_right _ _, ?_, Nat.zero_le _, ?_⟩ n1
    · refine (k_tile m c t _ _ i' j').trans (congrArg₂ ((given m c).proj (batchOf t)) (Fin.ext ?_) (Fin.ext ?_))
      · have a1 : r.val = 0 + i.val := hi
        have a2 : 512 + i.val = 512 + i'.val := hi'
        show 512 * (tileOf t).val + i'.val = 512 * (tileOf t).val + r.val
        omega
      · have a1 : k.val = 0 + j.val := hj
        have a2 : 0 + j.val = 0 + j'.val := hj'
        show 1536 + j'.val = 1536 + k.val
        omega
    · show 512 + i.val < 512 + 512; omega
    · show 0 + j.val < 0 + 512; omega
  · show r.val < 0 + 512; omega
  · show k.val < 0 + 512; omega

/-- The values a point leaves for the next. -/
theorem vals_A (c : Dev nD) (t : Fin cfg0.N) (h : t.val % 4 = 0) (r k : Fin 512) :
    (outsAt0 m c t.val t.isLt).2.2.1 (ix2 ⟨r.val, by omega⟩ k)
      = (given m c).proj (batchOf t) ⟨512 * (tileOf t).val + r.val, by omega⟩ ⟨2048 + k.val, by omega⟩ := by
  rw [outsAt0_A m c t h]
  frame_out
  refine canon_peel _ _ _ _ _ _ (fun i j hi hj => ?_) fun n1 => absurd ⟨Nat.zero_le _, ?_, Nat.zero_le _, ?_⟩ n1
  · simp only [View.readCov_eq_canon']
    refine (keep_v _ i j).trans ?_
    refine (congrArg (View.canon _) (rect_idx _ i j (by omega) (by omega))).trans ?_
    refine canon_peel _ _ _ _ _ _ (fun i' j' hi' hj' => ?_) fun n1 => absurd ⟨Nat.le_add_right _ _, ?_, Nat.zero_le _, ?_⟩ n1
    · refine (v_tile m c t _ _ i' j').trans (congrArg₂ ((given m c).proj (batchOf t)) (Fin.ext ?_) (Fin.ext ?_))
      · have a1 : r.val = 0 + i.val := hi
        have a2 : 512 + i.val = 512 + i'.val := hi'
        show 512 * (tileOf t).val + i'.val = 512 * (tileOf t).val + r.val
        omega
      · have a1 : k.val = 0 + j.val := hj
        have a2 : 0 + j.val = 0 + j'.val := hj'
        show 2048 + j'.val = 2048 + k.val
        omega
    · show 512 + i.val < 512 + 512; omega
    · show 0 + j.val < 0 + 512; omega
  · show r.val < 0 + 512; omega
  · show k.val < 0 + 512; omega

/-- The keys a point leaves for the next. -/
theorem keys_B (c : Dev nD) (t : Fin cfg0.N) (h : ¬t.val % 4 = 0) (r k : Fin 512) :
    (outsAt0 m c t.val t.isLt).2.1 (ix2 ⟨r.val, by omega⟩ k)
      = (given m c).proj (batchOf t) ⟨512 * (tileOf t).val + r.val, by omega⟩ ⟨1536 + k.val, by omega⟩ := by
  rw [outsAt0_B m c t h]
  frame_out
  refine canon_peel _ _ _ _ _ _ (fun i j hi hj => ?_) fun n1 => absurd ⟨Nat.zero_le _, ?_, Nat.zero_le _, ?_⟩ n1
  · simp only [View.readCov_eq_canon']
    refine (keep_k _ i j).trans ?_
    refine (congrArg (View.canon _) (rect_idx _ i j (by omega) (by omega))).trans ?_
    refine canon_peel _ _ _ _ _ _ (fun i' j' hi' hj' => ?_) fun n1 => absurd ⟨Nat.le_add_right _ _, ?_, Nat.zero_le _, ?_⟩ n1
    · refine (k_tile m c t _ _ i' j').trans (congrArg₂ ((given m c).proj (batchOf t)) (Fin.ext ?_) (Fin.ext ?_))
      · have a1 : r.val = 0 + i.val := hi
        have a2 : 512 + i.val = 512 + i'.val := hi'
        show 512 * (tileOf t).val + i'.val = 512 * (tileOf t).val + r.val
        omega
      · have a1 : k.val = 0 + j.val := hj
        have a2 : 0 + j.val = 0 + j'.val := hj'
        show 1536 + j'.val = 1536 + k.val
        omega
    · show 512 + i.val < 512 + 512; omega
    · show 0 + j.val < 0 + 512; omega
  · show r.val < 0 + 512; omega
  · show k.val < 0 + 512; omega

/-- The values a point leaves for the next. -/
theorem vals_B (c : Dev nD) (t : Fin cfg0.N) (h : ¬t.val % 4 = 0) (r k : Fin 512) :
    (outsAt0 m c t.val t.isLt).2.2.1 (ix2 ⟨r.val, by omega⟩ k)
      = (given m c).proj (batchOf t) ⟨512 * (tileOf t).val + r.val, by omega⟩ ⟨2048 + k.val, by omega⟩ := by
  rw [outsAt0_B m c t h]
  frame_out
  refine canon_peel _ _ _ _ _ _ (fun i j hi hj => ?_) fun n1 => absurd ⟨Nat.zero_le _, ?_, Nat.zero_le _, ?_⟩ n1
  · simp only [View.readCov_eq_canon']
    refine (keep_v _ i j).trans ?_
    refine (congrArg (View.canon _) (rect_idx _ i j (by omega) (by omega))).trans ?_
    refine canon_peel _ _ _ _ _ _ (fun i' j' hi' hj' => ?_) fun n1 => absurd ⟨Nat.le_add_right _ _, ?_, Nat.zero_le _, ?_⟩ n1
    · refine (v_tile m c t _ _ i' j').trans (congrArg₂ ((given m c).proj (batchOf t)) (Fin.ext ?_) (Fin.ext ?_))
      · have a1 : r.val = 0 + i.val := hi
        have a2 : 512 + i.val = 512 + i'.val := hi'
        show 512 * (tileOf t).val + i'.val = 512 * (tileOf t).val + r.val
        omega
      · have a1 : k.val = 0 + j.val := hj
        have a2 : 0 + j.val = 0 + j'.val := hj'
        show 2048 + j'.val = 2048 + k.val
        omega
    · show 512 + i.val < 512 + 512; omega
    · show 0 + j.val < 0 + 512; omega
  · show r.val < 0 + 512; omega
  · show k.val < 0 + 512; omega

theorem keys_own (c : Dev nD) (t : Fin cfg0.N) (r k : Fin 512) :
    (outsAt0 m c t.val t.isLt).2.1 (ix2 ⟨r.val, by omega⟩ k)
      = (given m c).proj (batchOf t) ⟨512 * (tileOf t).val + r.val, by omega⟩ ⟨1536 + k.val, by omega⟩ := by
  by_cases h : t.val % 4 = 0
  · exact keys_A m c t h r k
  · exact keys_B m c t h r k

theorem vals_own (c : Dev nD) (t : Fin cfg0.N) (r k : Fin 512) :
    (outsAt0 m c t.val t.isLt).2.2.1 (ix2 ⟨r.val, by omega⟩ k)
      = (given m c).proj (batchOf t) ⟨512 * (tileOf t).val + r.val, by omega⟩ ⟨2048 + k.val, by omega⟩ := by
  by_cases h : t.val % 4 = 0
  · exact vals_A m c t h r k
  · exact vals_B m c t h r k

/-- The gate weights every point holds, masked. -/
theorem weights (c : Dev nD) : ∀ (n : ℕ) (hn : n < cfg0.N) (r : Fin 128) (x : Fin 1024),
    (outsAt0 m c n hn).2.2.2 (ix2 r x)
      = if x.val % 128 / 64 ≤ r.val / 64 then (given m c).ws ⟨x.val / 128, by omega⟩ r ⟨x.val % 128, by omega⟩ else 0 := by
  intro n
  induction n with
  | zero =>
    intro hn r x
    have h : (⟨0, hn⟩ : Fin cfg0.N).val % 4 = 0 := rfl
    refine (congrArg (fun o => o.2.2.2 (ix2 r x)) (outsAt0_A m c ⟨0, hn⟩ h)).trans ?_
    frame_out
    refine (mask_at _ r x).trans ?_
    rw [← ws_block m c ⟨0, hn⟩ r x]
  | succ n ih =>
    intro hn r x
    by_cases h : (n + 1) % 4 = 0
    · refine (congrArg (fun o => o.2.2.2 (ix2 r x)) (outsAt0_A m c ⟨n + 1, hn⟩ h)).trans ?_
      frame_out
      refine (mask_at _ r x).trans ?_
      rw [← ws_block m c ⟨n + 1, hn⟩ r x]
    · refine (congrArg (fun o => o.2.2.2 (ix2 r x)) (outsAt0_B m c ⟨n + 1, hn⟩ h)).trans ?_
      frame_out
      unfold sout0_B_3
      simp only [Nat.add_sub_cancel]
      exact ih _ r x

/-- The two halves of the mixer side by side, where the point is the first of its sequence. -/
theorem out_A (c : Dev nD) (hA : (given m c).Finite) (t : Fin cfg0.N) (h : t.val % 4 = 0) (r : Fin 512) (l : Fin 1024) :
    (outsAt0 m c t.val t.isLt).1 (ix3 0 r l)
      = (given m c).out (batchOf t) ⟨512 * (tileOf t).val + r.val, by omega⟩ l := by
  have hQ : ∀ r k : Fin 512, View.canon (Val := Elt Ideal)
      [(⟨Rect.unit (s := S512x512) ![0, 0] ![512, 512] inb_S512x512_S512x512_0_0,
        k0_pay12 (iblk m c 0 t) (View.ld (iblk m c 1 t) (Rect.unit (s := S1024x2560) ![0, 1024] ![1024, 1536] inb_S1024x2560_S1024x1536_0_1024)) (View.ld (iblk m c 2 t) (Rect.unit (s := S1x2560) ![0, 1024] ![1, 1536] inb_S1x2560_S1x1536_0_1024))⟩ : View.Piece (Elt Ideal) S512x512 .bf16)] (ix2 r k)
      = (given m c).proj (batchOf t) ⟨512 * (tileOf t).val + r.val, by omega⟩ ⟨1024 + k.val, by omega⟩
        * (((1 / 8) * (Real.log 2)⁻¹ : ℝ) : EReal) := by
    intro r k
    refine canon_peel _ _ _ _ _ _ (fun i j hi hj => ?_) fun n1 => absurd ⟨Nat.zero_le _, ?_, Nat.zero_le _, ?_⟩ n1
    · obtain rfl : i = r := Fin.ext (by omega)
      obtain rfl : j = k := Fin.ext (by omega)
      exact q_tile m c t _ _ i j
    · omega
    · omega
  have hT : ∀ (h : Fin 8) (i : Fin 256) (j : Fin 768), (show FVec Ideal S8x256x768 .f32 from iblk m c 7 t) (ix3 h i j)
      = if near i j then (given m c).rel h (blockRel i j) else ⊥ := rel_block m c t
  have hn0 : ∀ j : Fin 768, k0_pay16 (F := Ideal) (Scalar.cmpi CmpIPredicate.eq (BitVec.ofNat 32 (grid0.coords t 1).val) 0#32) k0_pay15 (ix2 0 j)
      = if (tileOf t).val = 0 ∧ j.val + 256 * (0 : Fin 2).val < 512 then (⊥ : EReal) else 0 := fun j =>
    (absent0_at _ j).trans (if_congr (and_congr (first_tile t) Iff.rfl) rfl rfl)
  have hn1 : ∀ j : Fin 768, k0_pay33 (F := Ideal) (k0_pay32 (Scalar.cmpi CmpIPredicate.eq (BitVec.ofNat 32 (grid0.coords t 1).val) 0#32)) (ix2 0 j)
      = if (tileOf t).val = 0 ∧ j.val + 256 * (1 : Fin 2).val < 512 then (⊥ : EReal) else 0 := fun j =>
    (absent1_at _ j).trans (if_congr (and_congr (first_tile t) Iff.rfl) rfl rfl)
  have hK := rows_first (given m c) hA (batchOf t) (tileOf t) h 1536 (by decide)
    (k0_pay13 (iblk m c 0 t) (View.ld (iblk m c 1 t) (Rect.unit (s := S1024x2560) ![0, 1024] ![1024, 1536] inb_S1024x2560_S1024x1536_0_1024)) (View.ld (iblk m c 2 t) (Rect.unit (s := S1x2560) ![0, 1024] ![1, 1536] inb_S1x2560_S1x1536_0_1024))) (shapeCast S512x512 (broadcast S512x512 (FloatOps.ofBits (F := Ideal) FTy.bf16 0#16)) shapeCasts_S512x512_S512x512)
    (fun r k => k_tile m c t _ _ r k) (fun r k => by pointwise) inb_S1024x512_S512x512_512_0 inb_S1024x512_S512x512_0_0
  have hV := rows_first (given m c) hA (batchOf t) (tileOf t) h 2048 (by decide)
    (k0_pay14 (iblk m c 0 t) (View.ld (iblk m c 1 t) (Rect.unit (s := S1024x2560) ![0, 1024] ![1024, 1536] inb_S1024x2560_S1024x1536_0_1024)) (View.ld (iblk m c 2 t) (Rect.unit (s := S1x2560) ![0, 1024] ![1, 1536] inb_S1x2560_S1x1536_0_1024))) (shapeCast S512x512 (broadcast S512x512 (FloatOps.ofBits (F := Ideal) FTy.bf16 0#16)) shapeCasts_S512x512_S512x512)
    (fun r k => v_tile m c t _ _ r k) (fun r k => by pointwise) inb_S1024x512_S512x512_512_0 inb_S1024x512_S512x512_0_0
  rw [outsAt0_A m c t h]
  frame_out
  refine (final_at _ _ _ _ _ r l (fun k => (given m c).x (batchOf t) ⟨512 * (tileOf t).val + r.val, by omega⟩ k)
    (fun k => (given m c).mix (batchOf t) ⟨512 * (tileOf t).val + r.val, by omega⟩ k) (given m c).g (given m c).b
    (given m c).wo (fun d => x_block m c t r d) ?_ (fun d k => wo_block m c t d k) (fun k => g_block m c t k)
    (fun k => lnb_block m c t k)).trans rfl
  intro k
  rw [View.readCov_eq_canon']
  refine (congrArg (View.canon _) (rect_idx _ r k (by omega) (by omega))).trans ?_
  refine canon_peel _ _ _ _ _ _ (fun i j hi hj => ?_) fun _ => ?_
  · refine (gate3_at (k0_pay49 (k0_pay10 (iblk m c 0 t)) (View.ld (iblk m c 1 t) (Rect.unit (s := S1024x2560) ![0, 0] ![1024, 1024] inb_S1024x2560_S1024x1024_0_0)) (View.ld (iblk m c 2 t) (Rect.unit (s := S1x2560) ![0, 0] ![1, 1024] inb_S1x2560_S1x1024_0_0))) _ _ _ i j).trans ?_
    refine (gate_block (given m c) (batchOf t) ⟨4 * (tileOf t).val + 3, by omega⟩ i j _ _ _ _ ?_ (fun x => ?_) (fun x => ?_) ?_).trans ?_
    · exact (u_tile m c t _ _ _ j).trans (congrArg (fun s => (given m c).proj (batchOf t) s _)
        (Fin.ext (show 512 * (tileOf t).val + (384 + i.val) = 128 * (4 * (tileOf t).val + 3) + i.val by omega)))
    · exact (mask_at _ i x).trans (if_congr Iff.rfl (ws_block m c t i x) rfl)
    · rw [View.readCov_eq_canon']
      refine (congrArg (View.canon _) (rect_whole _ x j (by omega) (by omega))).trans ?_
      refine (parts_at _ _ (fun i' j' => (given m c).vn (batchOf t) ⟨512 * (tileOf t).val + (384 + i'.val), by omega⟩ j') ?_ ?_
        _ _ _ _ _ _ _ _ _ x j).trans (if_congr Iff.rfl ?_ rfl)
      · exact fun i' j' => lane_at i' j'
      · exact fun i' j' => (slice3_at _ i' j').trans
          (vn_tile m c t inb_S1024x2560_S1024x1024_0_0 inb_S1x2560_S1x1024_0_0 _ j')
      · exact congrArg (fun s => (given m c).vn (batchOf t) s j) (Fin.ext
          (show 512 * (tileOf t).val + (384 + x.val % 128) = 128 * (4 * (tileOf t).val + 3) + x.val % 128 by omega))
    · exact wsb_block m c t i j
    · have a1 : 0 + r.val = 384 + i.val := hi
      have a2 : 0 + k.val = 0 + j.val := hj
      exact mix_left _ _ _ _ k j (show 128 * (4 * (tileOf t).val + 3) + i.val = 512 * (tileOf t).val + r.val by omega) (by omega)
  refine canon_peel _ _ _ _ _ _ (fun i j hi hj => ?_) fun _ => ?_
  · refine (gate2_at (k0_pay49 (k0_pay10 (iblk m c 0 t)) (View.ld (iblk m c 1 t) (Rect.unit (s := S1024x2560) ![0, 0] ![1024, 1024] inb_S1024x2560_S1024x1024_0_0)) (View.ld (iblk m c 2 t) (Rect.unit (s := S1x2560) ![0, 0] ![1, 1024] inb_S1x2560_S1x1024_0_0))) _ _ _ i j).trans ?_
    refine (gate_block (given m c) (batchOf t) ⟨4 * (tileOf t).val + 2, by omega⟩ i j _ _ _ _ ?_ (fun x => ?_) (fun x => ?_) ?_).trans ?_
    · exact (u_tile m c t _ _ _ j).trans (congrArg (fun s => (given m c).proj (batchOf t) s _)
        (Fin.ext (show 512 * (tileOf t).val + (256 + i.val) = 128 * (4 * (tileOf t).val + 2) + i.val by omega)))
    · exact (mask_at _ i x).trans (if_congr Iff.rfl (ws_block m c t i x) rfl)
    · rw [View.readCov_eq_canon']
      refine (congrArg (View.canon _) (rect_whole _ x j (by omega) (by omega))).trans ?_
      refine (parts_at _ _ (fun i' j' => (given m c).vn (batchOf t) ⟨512 * (tileOf t).val + (256 + i'.val), by omega⟩ j') ?_ ?_
        _ _ _ _ _ _ _ _ _ x j).trans (if_congr Iff.rfl ?_ rfl)
      · exact fun i' j' => lane_at i' j'
      · exact fun i' j' => (slice2_at _ i' j').trans
          (vn_tile m c t inb_S1024x2560_S1024x1024_0_0 inb_S1x2560_S1x1024_0_0 _ j')
      · exact congrArg (fun s => (given m c).vn (batchOf t) s j) (Fin.ext
          (show 512 * (tileOf t).val + (256 + x.val % 128) = 128 * (4 * (tileOf t).val + 2) + x.val % 128 by omega))
    · exact wsb_block m c t i j
    · have a1 : 0 + r.val = 256 + i.val := hi
      have a2 : 0 + k.val = 0 + j.val := hj
      exact mix_left _ _ _ _ k j (show 128 * (4 * (tileOf t).val + 2) + i.val = 512 * (tileOf t).val + r.val by omega) (by omega)
  refine canon_peel _ _ _ _ _ _ (fun i j hi hj => ?_) fun _ => ?_
  · refine (gate1_at (k0_pay49 (k0_pay10 (iblk m c 0 t)) (View.ld (iblk m c 1 t) (Rect.unit (s := S1024x2560) ![0, 0] ![1024, 1024] inb_S1024x2560_S1024x1024_0_0)) (View.ld (iblk m c 2 t) (Rect.unit (s := S1x2560) ![0, 0] ![1, 1024] inb_S1x2560_S1x1024_0_0))) _ _ _ i j).trans ?_
    refine (gate_block (given m c) (batchOf t) ⟨4 * (tileOf t).val + 1, by omega⟩ i j _ _ _ _ ?_ (fun x => ?_) (fun x => ?_) ?_).trans ?_
    · exact (u_tile m c t _ _ _ j).trans (congrArg (fun s => (given m c).proj (batchOf t) s _)
        (Fin.ext (show 512 * (tileOf t).val + (128 + i.val) = 128 * (4 * (tileOf t).val + 1) + i.val by omega)))
    · exact (mask_at _ i x).trans (if_congr Iff.rfl (ws_block m c t i x) rfl)
    · rw [View.readCov_eq_canon']
      refine (congrArg (View.canon _) (rect_whole _ x j (by omega) (by omega))).trans ?_
      refine (parts_at _ _ (fun i' j' => (given m c).vn (batchOf t) ⟨512 * (tileOf t).val + (128 + i'.val), by omega⟩ j') ?_ ?_
        _ _ _ _ _ _ _ _ _ x j).trans (if_congr Iff.rfl ?_ rfl)
      · exact fun i' j' => lane_at i' j'
      · exact fun i' j' => (slice1_at _ i' j').trans
          (vn_tile m c t inb_S1024x2560_S1024x1024_0_0 inb_S1x2560_S1x1024_0_0 _ j')
      · exact congrArg (fun s => (given m c).vn (batchOf t) s j) (Fin.ext
          (show 512 * (tileOf t).val + (128 + x.val % 128) = 128 * (4 * (tileOf t).val + 1) + x.val % 128 by omega))
    · exact wsb_block m c t i j
    · have a1 : 0 + r.val = 128 + i.val := hi
      have a2 : 0 + k.val = 0 + j.val := hj
      exact mix_left _ _ _ _ k j (show 128 * (4 * (tileOf t).val + 1) + i.val = 512 * (tileOf t).val + r.val by omega) (by omega)
  refine canon_peel _ _ _ _ _ _ (fun i j hi hj => ?_) fun _ => ?_
  · refine (gate0_at (k0_pay49 (k0_pay10 (iblk m c 0 t)) (View.ld (iblk m c 1 t) (Rect.unit (s := S1024x2560) ![0, 0] ![1024, 1024] inb_S1024x2560_S1024x1024_0_0)) (View.ld (iblk m c 2 t) (Rect.unit (s := S1x2560) ![0, 0] ![1, 1024] inb_S1x2560_S1x1024_0_0))) _ _ _ i j).trans ?_
    refine (gate_block (given m c) (batchOf t) ⟨4 * (tileOf t).val + 0, by omega⟩ i j _ _ _ _ ?_ (fun x => ?_) (fun x => ?_) ?_).trans ?_
    · exact (u_tile m c t _ _ _ j).trans (congrArg (fun s => (given m c).proj (batchOf t) s _)
        (Fin.ext (show 512 * (tileOf t).val + i.val = 128 * (4 * (tileOf t).val + 0) + i.val by omega)))
    · exact (mask_at _ i x).trans (if_congr Iff.rfl (ws_block m c t i x) rfl)
    · rw [View.readCov_eq_canon']
      refine (congrArg (View.canon _) (rect_whole _ x j (by omega) (by omega))).trans ?_
      refine (parts_at _ _ (fun i' j' => (given m c).vn (batchOf t) ⟨512 * (tileOf t).val + i'.val, by omega⟩ j') ?_ ?_
        _ _ _ _ _ _ _ _ _ x j).trans (if_congr Iff.rfl ?_ rfl)
      · exact fun i' j' => lane_at i' j'
      · exact fun i' j' => (slice0_at _ i' j').trans
          (vn_tile m c t inb_S1024x2560_S1024x1024_0_0 inb_S1x2560_S1x1024_0_0 _ j')
      · exact congrArg (fun s => (given m c).vn (batchOf t) s j) (Fin.ext
          (show 512 * (tileOf t).val + x.val % 128 = 128 * (4 * (tileOf t).val + 0) + x.val % 128 by omega))
    · exact wsb_block m c t i j
    · have a1 : 0 + r.val = 0 + i.val := hi
      have a2 : 0 + k.val = 0 + j.val := hj
      exact mix_left _ _ _ _ k j (show 128 * (4 * (tileOf t).val + 0) + i.val = 512 * (tileOf t).val + r.val by omega) (by omega)
  refine canon_peel _ _ _ _ _ _ (fun i j hi hj => ?_) fun _ => ?_
  · simp only [View.readCov_eq_canon']
    exact head_mix (given m c) hA (batchOf t) (tileOf t) 1 7 256 448 960 rfl rfl rfl _ _ _ _ (iblk m c 7 t) _ _ _ _
      hQ hK hV hT hn1 i j r k hi hj
  refine canon_peel _ _ _ _ _ _ (fun i j hi hj => ?_) fun _ => ?_
  · simp only [View.readCov_eq_canon']
    exact head_mix (given m c) hA (batchOf t) (tileOf t) 1 6 256 384 896 rfl rfl rfl _ _ _ _ (iblk m c 7 t) _ _ _ _
      hQ hK hV hT hn1 i j r k hi hj
  refine canon_peel _ _ _ _ _ _ (fun i j hi hj => ?_) fun _ => ?_
  · simp only [View.readCov_eq_canon']
    exact head_mix (given m c) hA (batchOf t) (tileOf t) 1 5 256 320 832 rfl rfl rfl _ _ _ _ (iblk m c 7 t) _ _ _ _
      hQ hK hV hT hn1 i j r k hi hj
  refine canon_peel _ _ _ _ _ _ (fun i j hi hj => ?_) fun _ => ?_
  · simp only [View.readCov_eq_canon']
    exact head_mix (given m c) hA (batchOf t) (tileOf t) 1 4 256 256 768 rfl rfl rfl _ _ _ _ (iblk m c 7 t) _ _ _ _
      hQ hK hV hT hn1 i j r k hi hj
  refine canon_peel _ _ _ _ _ _ (fun i j hi hj => ?_) fun _ => ?_
  · simp only [View.readCov_eq_canon']
    exact head_mix (given m c) hA (batchOf t) (tileOf t) 1 3 256 192 704 rfl rfl rfl _ _ _ _ (iblk m c 7 t) _ _ _ _
      hQ hK hV hT hn1 i j r k hi hj
  refine canon_peel _ _ _ _ _ _ (fun i j hi hj => ?_) fun _ => ?_
  · simp only [View.readCov_eq_canon']
    exact head_mix (given m c) hA (batchOf t) (tileOf t) 1 2 256 128 640 rfl rfl rfl _ _ _ _ (iblk m c 7 t) _ _ _ _
      hQ hK hV hT hn1 i j r k hi hj
  refine canon_peel _ _ _ _ _ _ (fun i j hi hj => ?_) fun _ => ?_
  · simp only [View.readCov_eq_canon']
    exact head_mix (given m c) hA (batchOf t) (tileOf t) 1 1 256 64 576 rfl rfl rfl _ _ _ _ (iblk m c 7 t) _ _ _ _
      hQ hK hV hT hn1 i j r k hi hj
  refine canon_peel _ _ _ _ _ _ (fun i j hi hj => ?_) fun _ => ?_
  · simp only [View.readCov_eq_canon']
    exact head_mix (given m c) hA (batchOf t) (tileOf t) 1 0 256 0 512 rfl rfl rfl _ _ _ _ (iblk m c 7 t) _ _ _ _
      hQ hK hV hT hn1 i j r k hi hj
  refine canon_peel _ _ _ _ _ _ (fun i j hi hj => ?_) fun _ => ?_
  · simp only [View.readCov_eq_canon']
    exact head_mix (given m c) hA (batchOf t) (tileOf t) 0 7 0 448 960 rfl rfl rfl _ _ _ _ (iblk m c 7 t) _ _ _ _
      hQ hK hV hT hn0 i j r k hi hj
  refine canon_peel _ _ _ _ _ _ (fun i j hi hj => ?_) fun _ => ?_
  · simp only [View.readCov_eq_canon']
    exact head_mix (given m c) hA (batchOf t) (tileOf t) 0 6 0 384 896 rfl rfl rfl _ _ _ _ (iblk m c 7 t) _ _ _ _
      hQ hK hV hT hn0 i j r k hi hj
  refine canon_peel _ _ _ _ _ _ (fun i j hi hj => ?_) fun _ => ?_
  · simp only [View.readCov_eq_canon']
    exact head_mix (given m c) hA (batchOf t) (tileOf t) 0 5 0 320 832 rfl rfl rfl _ _ _ _ (iblk m c 7 t) _ _ _ _
      hQ hK hV hT hn0 i j r k hi hj
  refine canon_peel _ _ _ _ _ _ (fun i j hi hj => ?_) fun _ => ?_
  · simp only [View.readCov_eq_canon']
    exact head_mix (given m c) hA (batchOf t) (tileOf t) 0 4 0 256 768 rfl rfl rfl _ _ _ _ (iblk m c 7 t) _ _ _ _
      hQ hK hV hT hn0 i j r k hi hj
  refine canon_peel _ _ _ _ _ _ (fun i j hi hj => ?_) fun _ => ?_
  · simp only [View.readCov_eq_canon']
    exact head_mix (given m c) hA (batchOf t) (tileOf t) 0 3 0 192 704 rfl rfl rfl _ _ _ _ (iblk m c 7 t) _ _ _ _
      hQ hK hV hT hn0 i j r k hi hj
  refine canon_peel _ _ _ _ _ _ (fun i j hi hj => ?_) fun _ => ?_
  · simp only [View.readCov_eq_canon']
    exact head_mix (given m c) hA (batchOf t) (tileOf t) 0 2 0 128 640 rfl rfl rfl _ _ _ _ (iblk m c 7 t) _ _ _ _
      hQ hK hV hT hn0 i j r k hi hj
  refine canon_peel _ _ _ _ _ _ (fun i j hi hj => ?_) fun _ => ?_
  · simp only [View.readCov_eq_canon']
    exact head_mix (given m c) hA (batchOf t) (tileOf t) 0 1 0 64 576 rfl rfl rfl _ _ _ _ (iblk m c 7 t) _ _ _ _
      hQ hK hV hT hn0 i j r k hi hj
  refine canon_peel _ _ _ _ _ _ (fun i j hi hj => ?_) fun _ => ?_
  · simp only [View.readCov_eq_canon']
    exact head_mix (given m c) hA (batchOf t) (tileOf t) 0 0 0 0 512 rfl rfl rfl _ _ _ _ (iblk m c 7 t) _ _ _ _
      hQ hK hV hT hn0 i j r k hi hj
  omega

/-- The two halves of the mixer side by side, where the point is not the first of its sequence. -/
theorem out_B (c : Dev nD) (hA : (given m c).Finite) (t : Fin cfg0.N) (h : ¬t.val % 4 = 0) (r : Fin 512) (l : Fin 1024) :
    (outsAt0 m c t.val t.isLt).1 (ix3 0 r l)
      = (given m c).out (batchOf t) ⟨512 * (tileOf t).val + r.val, by omega⟩ l := by
  have hQ : ∀ r k : Fin 512, View.canon (Val := Elt Ideal)
      [(⟨Rect.unit (s := S512x512) ![0, 0] ![512, 512] inb_S512x512_S512x512_0_0,
        k0_pay12 (iblk m c 0 t) (View.ld (iblk m c 1 t) (Rect.unit (s := S1024x2560) ![0, 1024] ![1024, 1536] inb_S1024x2560_S1024x1536_0_1024)) (View.ld (iblk m c 2 t) (Rect.unit (s := S1x2560) ![0, 1024] ![1, 1536] inb_S1x2560_S1x1536_0_1024))⟩ : View.Piece (Elt Ideal) S512x512 .bf16)] (ix2 r k)
      = (given m c).proj (batchOf t) ⟨512 * (tileOf t).val + r.val, by omega⟩ ⟨1024 + k.val, by omega⟩
        * (((1 / 8) * (Real.log 2)⁻¹ : ℝ) : EReal) := by
    intro r k
    refine canon_peel _ _ _ _ _ _ (fun i j hi hj => ?_) fun n1 => absurd ⟨Nat.zero_le _, ?_, Nat.zero_le _, ?_⟩ n1
    · obtain rfl : i = r := Fin.ext (by omega)
      obtain rfl : j = k := Fin.ext (by omega)
      exact q_tile m c t _ _ i j
    · omega
    · omega
  have hT : ∀ (h : Fin 8) (i : Fin 256) (j : Fin 768), (show FVec Ideal S8x256x768 .f32 from iblk m c 7 t) (ix3 h i j)
      = if near i j then (given m c).rel h (blockRel i j) else ⊥ := rel_block m c t
  have hn0 : ∀ j : Fin 768, k0_pay16 (F := Ideal) (Scalar.cmpi CmpIPredicate.eq (BitVec.ofNat 32 (grid0.coords t 1).val) 0#32) k0_pay15 (ix2 0 j)
      = if (tileOf t).val = 0 ∧ j.val + 256 * (0 : Fin 2).val < 512 then (⊥ : EReal) else 0 := fun j =>
    (absent0_at _ j).trans (if_congr (and_congr (first_tile t) Iff.rfl) rfl rfl)
  have hn1 : ∀ j : Fin 768, k0_pay33 (F := Ideal) (k0_pay32 (Scalar.cmpi CmpIPredicate.eq (BitVec.ofNat 32 (grid0.coords t 1).val) 0#32)) (ix2 0 j)
      = if (tileOf t).val = 0 ∧ j.val + 256 * (1 : Fin 2).val < 512 then (⊥ : EReal) else 0 := fun j =>
    (absent1_at _ j).trans (if_congr (and_congr (first_tile t) Iff.rfl) rfl rfl)
  have hp : 0 < t.val := by omega
  have hb : batchOf ⟨t.val - 1, lt_of_le_of_lt (Nat.sub_le _ _) t.isLt⟩ = batchOf t :=
    Fin.ext (show (t.val - 1) / 4 = t.val / 4 by omega)
  have ht : (tileOf t).val = (tileOf ⟨t.val - 1, lt_of_le_of_lt (Nat.sub_le _ _) t.isLt⟩).val + 1 := by
    show t.val % 4 = (t.val - 1) % 4 + 1
    omega
  have hK := rows_over (View.whole cc0_scratch1) ((Memref.isWhole_whole cc0_scratch1).unread
      (outsAt0 m c (t.val - 1) (lt_of_le_of_lt (Nat.sub_le _ _) t.isLt)).2.1) (given m c) hA (batchOf t)
    (tileOf ⟨t.val - 1, lt_of_le_of_lt (Nat.sub_le _ _) t.isLt⟩) (tileOf t) ht 1536 (by decide)
    (k0_pay13 (iblk m c 0 t) (View.ld (iblk m c 1 t) (Rect.unit (s := S1024x2560) ![0, 1024] ![1024, 1536] inb_S1024x2560_S1024x1536_0_1024)) (View.ld (iblk m c 2 t) (Rect.unit (s := S1x2560) ![0, 1024] ![1, 1536] inb_S1x2560_S1x1536_0_1024)))
    (fun r k => k_tile m c t _ _ r k)
    (fun r k => (congrFun ((Memref.isWhole_whole cc0_scratch1).read_unread _) _).trans
      ((keys_own m c ⟨t.val - 1, lt_of_le_of_lt (Nat.sub_le _ _) t.isLt⟩ r k).trans
        (congrArg (fun b => (given m c).proj b _ _) hb))) inb_S1024x512_S512x512_512_0
  have hV := rows_over (View.whole cc0_scratch2) ((Memref.isWhole_whole cc0_scratch2).unread
      (outsAt0 m c (t.val - 1) (lt_of_le_of_lt (Nat.sub_le _ _) t.isLt)).2.2.1) (given m c) hA (batchOf t)
    (tileOf ⟨t.val - 1, lt_of_le_of_lt (Nat.sub_le _ _) t.isLt⟩) (tileOf t) ht 2048 (by decide)
    (k0_pay14 (iblk m c 0 t) (View.ld (iblk m c 1 t) (Rect.unit (s := S1024x2560) ![0, 1024] ![1024, 1536] inb_S1024x2560_S1024x1536_0_1024)) (View.ld (iblk m c 2 t) (Rect.unit (s := S1x2560) ![0, 1024] ![1, 1536] inb_S1x2560_S1x1536_0_1024)))
    (fun r k => v_tile m c t _ _ r k)
    (fun r k => (congrFun ((Memref.isWhole_whole cc0_scratch2).read_unread _) _).trans
      ((vals_own m c ⟨t.val - 1, lt_of_le_of_lt (Nat.sub_le _ _) t.isLt⟩ r k).trans
        (congrArg (fun b => (given m c).proj b _ _) hb))) inb_S1024x512_S512x512_512_0
  rw [outsAt0_B m c t h]
  frame_out
  refine (final_at _ _ _ _ _ r l (fun k => (given m c).x (batchOf t) ⟨512 * (tileOf t).val + r.val, by omega⟩ k)
    (fun k => (given m c).mix (batchOf t) ⟨512 * (tileOf t).val + r.val, by omega⟩ k) (given m c).g (given m c).b
    (given m c).wo (fun d => x_block m c t r d) ?_ (fun d k => wo_block m c t d k) (fun k => g_block m c t k)
    (fun k => lnb_block m c t k)).trans rfl
  intro k
  rw [View.readCov_eq_canon']
  refine (congrArg (View.canon _) (rect_idx _ r k (by omega) (by omega))).trans ?_
  refine canon_peel _ _ _ _ _ _ (fun i j hi hj => ?_) fun _ => ?_
  · refine (gate3_at (k0_pay49 (k0_pay10 (iblk m c 0 t)) (View.ld (iblk m c 1 t) (Rect.unit (s := S1024x2560) ![0, 0] ![1024, 1024] inb_S1024x2560_S1024x1024_0_0)) (View.ld (iblk m c 2 t) (Rect.unit (s := S1x2560) ![0, 0] ![1, 1024] inb_S1x2560_S1x1024_0_0))) _ _ _ i j).trans ?_
    refine (gate_block (given m c) (batchOf t) ⟨4 * (tileOf t).val + 3, by omega⟩ i j _ _ _ _ ?_ (fun x => ?_) (fun x => ?_) ?_).trans ?_
    · exact (u_tile m c t _ _ _ j).trans (congrArg (fun s => (given m c).proj (batchOf t) s _)
        (Fin.ext (show 512 * (tileOf t).val + (384 + i.val) = 128 * (4 * (tileOf t).val + 3) + i.val by omega)))
    · exact (congrFun ((Memref.isWhole_whole cc0_scratch3).read_unread _) _).trans (weights m c (t.val - 1) _ i x)
    · rw [View.readCov_eq_canon']
      refine (congrArg (View.canon _) (rect_whole _ x j (by omega) (by omega))).trans ?_
      refine (parts_at _ _ (fun i' j' => (given m c).vn (batchOf t) ⟨512 * (tileOf t).val + (384 + i'.val), by omega⟩ j') ?_ ?_
        _ _ _ _ _ _ _ _ _ x j).trans (if_congr Iff.rfl ?_ rfl)
      · exact fun i' j' => lane_at i' j'
      · exact fun i' j' => (slice3_at _ i' j').trans
          (vn_tile m c t inb_S1024x2560_S1024x1024_0_0 inb_S1x2560_S1x1024_0_0 _ j')
      · exact congrArg (fun s => (given m c).vn (batchOf t) s j) (Fin.ext
          (show 512 * (tileOf t).val + (384 + x.val % 128) = 128 * (4 * (tileOf t).val + 3) + x.val % 128 by omega))
    · exact wsb_block m c t i j
    · have a1 : 0 + r.val = 384 + i.val := hi
      have a2 : 0 + k.val = 0 + j.val := hj
      exact mix_left _ _ _ _ k j (show 128 * (4 * (tileOf t).val + 3) + i.val = 512 * (tileOf t).val + r.val by omega) (by omega)
  refine canon_peel _ _ _ _ _ _ (fun i j hi hj => ?_) fun _ => ?_
  · refine (gate2_at (k0_pay49 (k0_pay10 (iblk m c 0 t)) (View.ld (iblk m c 1 t) (Rect.unit (s := S1024x2560) ![0, 0] ![1024, 1024] inb_S1024x2560_S1024x1024_0_0)) (View.ld (iblk m c 2 t) (Rect.unit (s := S1x2560) ![0, 0] ![1, 1024] inb_S1x2560_S1x1024_0_0))) _ _ _ i j).trans ?_
    refine (gate_block (given m c) (batchOf t) ⟨4 * (tileOf t).val + 2, by omega⟩ i j _ _ _ _ ?_ (fun x => ?_) (fun x => ?_) ?_).trans ?_
    · exact (u_tile m c t _ _ _ j).trans (congrArg (fun s => (given m c).proj (batchOf t) s _)
        (Fin.ext (show 512 * (tileOf t).val + (256 + i.val) = 128 * (4 * (tileOf t).val + 2) + i.val by omega)))
    · exact (congrFun ((Memref.isWhole_whole cc0_scratch3).read_unread _) _).trans (weights m c (t.val - 1) _ i x)
    · rw [View.readCov_eq_canon']
      refine (congrArg (View.canon _) (rect_whole _ x j (by omega) (by omega))).trans ?_
      refine (parts_at _ _ (fun i' j' => (given m c).vn (batchOf t) ⟨512 * (tileOf t).val + (256 + i'.val), by omega⟩ j') ?_ ?_
        _ _ _ _ _ _ _ _ _ x j).trans (if_congr Iff.rfl ?_ rfl)
      · exact fun i' j' => lane_at i' j'
      · exact fun i' j' => (slice2_at _ i' j').trans
          (vn_tile m c t inb_S1024x2560_S1024x1024_0_0 inb_S1x2560_S1x1024_0_0 _ j')
      · exact congrArg (fun s => (given m c).vn (batchOf t) s j) (Fin.ext
          (show 512 * (tileOf t).val + (256 + x.val % 128) = 128 * (4 * (tileOf t).val + 2) + x.val % 128 by omega))
    · exact wsb_block m c t i j
    · have a1 : 0 + r.val = 256 + i.val := hi
      have a2 : 0 + k.val = 0 + j.val := hj
      exact mix_left _ _ _ _ k j (show 128 * (4 * (tileOf t).val + 2) + i.val = 512 * (tileOf t).val + r.val by omega) (by omega)
  refine canon_peel _ _ _ _ _ _ (fun i j hi hj => ?_) fun _ => ?_
  · refine (gate1_at (k0_pay49 (k0_pay10 (iblk m c 0 t)) (View.ld (iblk m c 1 t) (Rect.unit (s := S1024x2560) ![0, 0] ![1024, 1024] inb_S1024x2560_S1024x1024_0_0)) (View.ld (iblk m c 2 t) (Rect.unit (s := S1x2560) ![0, 0] ![1, 1024] inb_S1x2560_S1x1024_0_0))) _ _ _ i j).trans ?_
    refine (gate_block (given m c) (batchOf t) ⟨4 * (tileOf t).val + 1, by omega⟩ i j _ _ _ _ ?_ (fun x => ?_) (fun x => ?_) ?_).trans ?_
    · exact (u_tile m c t _ _ _ j).trans (congrArg (fun s => (given m c).proj (batchOf t) s _)
        (Fin.ext (show 512 * (tileOf t).val + (128 + i.val) = 128 * (4 * (tileOf t).val + 1) + i.val by omega)))
    · exact (congrFun ((Memref.isWhole_whole cc0_scratch3).read_unread _) _).trans (weights m c (t.val - 1) _ i x)
    · rw [View.readCov_eq_canon']
      refine (congrArg (View.canon _) (rect_whole _ x j (by omega) (by omega))).trans ?_
      refine (parts_at _ _ (fun i' j' => (given m c).vn (batchOf t) ⟨512 * (tileOf t).val + (128 + i'.val), by omega⟩ j') ?_ ?_
        _ _ _ _ _ _ _ _ _ x j).trans (if_congr Iff.rfl ?_ rfl)
      · exact fun i' j' => lane_at i' j'
      · exact fun i' j' => (slice1_at _ i' j').trans
          (vn_tile m c t inb_S1024x2560_S1024x1024_0_0 inb_S1x2560_S1x1024_0_0 _ j')
      · exact congrArg (fun s => (given m c).vn (batchOf t) s j) (Fin.ext
          (show 512 * (tileOf t).val + (128 + x.val % 128) = 128 * (4 * (tileOf t).val + 1) + x.val % 128 by omega))
    · exact wsb_block m c t i j
    · have a1 : 0 + r.val = 128 + i.val := hi
      have a2 : 0 + k.val = 0 + j.val := hj
      exact mix_left _ _ _ _ k j (show 128 * (4 * (tileOf t).val + 1) + i.val = 512 * (tileOf t).val + r.val by omega) (by omega)
  refine canon_peel _ _ _ _ _ _ (fun i j hi hj => ?_) fun _ => ?_
  · refine (gate0_at (k0_pay49 (k0_pay10 (iblk m c 0 t)) (View.ld (iblk m c 1 t) (Rect.unit (s := S1024x2560) ![0, 0] ![1024, 1024] inb_S1024x2560_S1024x1024_0_0)) (View.ld (iblk m c 2 t) (Rect.unit (s := S1x2560) ![0, 0] ![1, 1024] inb_S1x2560_S1x1024_0_0))) _ _ _ i j).trans ?_
    refine (gate_block (given m c) (batchOf t) ⟨4 * (tileOf t).val + 0, by omega⟩ i j _ _ _ _ ?_ (fun x => ?_) (fun x => ?_) ?_).trans ?_
    · exact (u_tile m c t _ _ _ j).trans (congrArg (fun s => (given m c).proj (batchOf t) s _)
        (Fin.ext (show 512 * (tileOf t).val + i.val = 128 * (4 * (tileOf t).val + 0) + i.val by omega)))
    · exact (congrFun ((Memref.isWhole_whole cc0_scratch3).read_unread _) _).trans (weights m c (t.val - 1) _ i x)
    · rw [View.readCov_eq_canon']
      refine (congrArg (View.canon _) (rect_whole _ x j (by omega) (by omega))).trans ?_
      refine (parts_at _ _ (fun i' j' => (given m c).vn (batchOf t) ⟨512 * (tileOf t).val + i'.val, by omega⟩ j') ?_ ?_
        _ _ _ _ _ _ _ _ _ x j).trans (if_congr Iff.rfl ?_ rfl)
      · exact fun i' j' => lane_at i' j'
      · exact fun i' j' => (slice0_at _ i' j').trans
          (vn_tile m c t inb_S1024x2560_S1024x1024_0_0 inb_S1x2560_S1x1024_0_0 _ j')
      · exact congrArg (fun s => (given m c).vn (batchOf t) s j) (Fin.ext
          (show 512 * (tileOf t).val + x.val % 128 = 128 * (4 * (tileOf t).val + 0) + x.val % 128 by omega))
    · exact wsb_block m c t i j
    · have a1 : 0 + r.val = 0 + i.val := hi
      have a2 : 0 + k.val = 0 + j.val := hj
      exact mix_left _ _ _ _ k j (show 128 * (4 * (tileOf t).val + 0) + i.val = 512 * (tileOf t).val + r.val by omega) (by omega)
  refine canon_peel _ _ _ _ _ _ (fun i j hi hj => ?_) fun _ => ?_
  · simp only [View.readCov_eq_canon']
    exact head_mix (given m c) hA (batchOf t) (tileOf t) 1 7 256 448 960 rfl rfl rfl _ _ _ _ (iblk m c 7 t) _ _ _ _
      hQ hK hV hT hn1 i j r k hi hj
  refine canon_peel _ _ _ _ _ _ (fun i j hi hj => ?_) fun _ => ?_
  · simp only [View.readCov_eq_canon']
    exact head_mix (given m c) hA (batchOf t) (tileOf t) 1 6 256 384 896 rfl rfl rfl _ _ _ _ (iblk m c 7 t) _ _ _ _
      hQ hK hV hT hn1 i j r k hi hj
  refine canon_peel _ _ _ _ _ _ (fun i j hi hj => ?_) fun _ => ?_
  · simp only [View.readCov_eq_canon']
    exact head_mix (given m c) hA (batchOf t) (tileOf t) 1 5 256 320 832 rfl rfl rfl _ _ _ _ (iblk m c 7 t) _ _ _ _
      hQ hK hV hT hn1 i j r k hi hj
  refine canon_peel _ _ _ _ _ _ (fun i j hi hj => ?_) fun _ => ?_
  · simp only [View.readCov_eq_canon']
    exact head_mix (given m c) hA (batchOf t) (tileOf t) 1 4 256 256 768 rfl rfl rfl _ _ _ _ (iblk m c 7 t) _ _ _ _
      hQ hK hV hT hn1 i j r k hi hj
  refine canon_peel _ _ _ _ _ _ (fun i j hi hj => ?_) fun _ => ?_
  · simp only [View.readCov_eq_canon']
    exact head_mix (given m c) hA (batchOf t) (tileOf t) 1 3 256 192 704 rfl rfl rfl _ _ _ _ (iblk m c 7 t) _ _ _ _
      hQ hK hV hT hn1 i j r k hi hj
  refine canon_peel _ _ _ _ _ _ (fun i j hi hj => ?_) fun _ => ?_
  · simp only [View.readCov_eq_canon']
    exact head_mix (given m c) hA (batchOf t) (tileOf t) 1 2 256 128 640 rfl rfl rfl _ _ _ _ (iblk m c 7 t) _ _ _ _
      hQ hK hV hT hn1 i j r k hi hj
  refine canon_peel _ _ _ _ _ _ (fun i j hi hj => ?_) fun _ => ?_
  · simp only [View.readCov_eq_canon']
    exact head_mix (given m c) hA (batchOf t) (tileOf t) 1 1 256 64 576 rfl rfl rfl _ _ _ _ (iblk m c 7 t) _ _ _ _
      hQ hK hV hT hn1 i j r k hi hj
  refine canon_peel _ _ _ _ _ _ (fun i j hi hj => ?_) fun _ => ?_
  · simp only [View.readCov_eq_canon']
    exact head_mix (given m c) hA (batchOf t) (tileOf t) 1 0 256 0 512 rfl rfl rfl _ _ _ _ (iblk m c 7 t) _ _ _ _
      hQ hK hV hT hn1 i j r k hi hj
  refine canon_peel _ _ _ _ _ _ (fun i j hi hj => ?_) fun _ => ?_
  · simp only [View.readCov_eq_canon']
    exact head_mix (given m c) hA (batchOf t) (tileOf t) 0 7 0 448 960 rfl rfl rfl _ _ _ _ (iblk m c 7 t) _ _ _ _
      hQ hK hV hT hn0 i j r k hi hj
  refine canon_peel _ _ _ _ _ _ (fun i j hi hj => ?_) fun _ => ?_
  · simp only [View.readCov_eq_canon']
    exact head_mix (given m c) hA (batchOf t) (tileOf t) 0 6 0 384 896 rfl rfl rfl _ _ _ _ (iblk m c 7 t) _ _ _ _
      hQ hK hV hT hn0 i j r k hi hj
  refine canon_peel _ _ _ _ _ _ (fun i j hi hj => ?_) fun _ => ?_
  · simp only [View.readCov_eq_canon']
    exact head_mix (given m c) hA (batchOf t) (tileOf t) 0 5 0 320 832 rfl rfl rfl _ _ _ _ (iblk m c 7 t) _ _ _ _
      hQ hK hV hT hn0 i j r k hi hj
  refine canon_peel _ _ _ _ _ _ (fun i j hi hj => ?_) fun _ => ?_
  · simp only [View.readCov_eq_canon']
    exact head_mix (given m c) hA (batchOf t) (tileOf t) 0 4 0 256 768 rfl rfl rfl _ _ _ _ (iblk m c 7 t) _ _ _ _
      hQ hK hV hT hn0 i j r k hi hj
  refine canon_peel _ _ _ _ _ _ (fun i j hi hj => ?_) fun _ => ?_
  · simp only [View.readCov_eq_canon']
    exact head_mix (given m c) hA (batchOf t) (tileOf t) 0 3 0 192 704 rfl rfl rfl _ _ _ _ (iblk m c 7 t) _ _ _ _
      hQ hK hV hT hn0 i j r k hi hj
  refine canon_peel _ _ _ _ _ _ (fun i j hi hj => ?_) fun _ => ?_
  · simp only [View.readCov_eq_canon']
    exact head_mix (given m c) hA (batchOf t) (tileOf t) 0 2 0 128 640 rfl rfl rfl _ _ _ _ (iblk m c 7 t) _ _ _ _
      hQ hK hV hT hn0 i j r k hi hj
  refine canon_peel _ _ _ _ _ _ (fun i j hi hj => ?_) fun _ => ?_
  · simp only [View.readCov_eq_canon']
    exact head_mix (given m c) hA (batchOf t) (tileOf t) 0 1 0 64 576 rfl rfl rfl _ _ _ _ (iblk m c 7 t) _ _ _ _
      hQ hK hV hT hn0 i j r k hi hj
  refine canon_peel _ _ _ _ _ _ (fun i j hi hj => ?_) fun _ => ?_
  · simp only [View.readCov_eq_canon']
    exact head_mix (given m c) hA (batchOf t) (tileOf t) 0 0 0 0 512 rfl rfl rfl _ _ _ _ (iblk m c 7 t) _ _ _ _
      hQ hK hV hT hn0 i j r k hi hj
  omega

/-- What a point leaves in its tile of the output. -/
theorem point_out (c : Dev nD) (hA : (given m c).Finite) (t : Fin cfg0.N) (r : Fin 512) (l : Fin 1024) :
    (outsAt0 m c t.val t.isLt).1 (ix3 0 r l)
      = (given m c).out (batchOf t) ⟨512 * (tileOf t).val + r.val, by omega⟩ l := by
  by_cases h : t.val % 4 = 0
  · exact out_A m c hA t h r l
  · exact out_B m c hA t h r l

end Cert.KernelIdeal.Value

end
-- ==== Proof.KernelFinal.lean ====
/- What the kernel's output array holds at the end. -/
module

public import proofs.«01_k».proof.Proof.KernelPoint

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Mix Cert.Mixer

variable (m : (ℓ : Loc nD τ sig) → Buf (Elt Ideal) ℓ)

/-- The output array, entry by entry. -/
theorem G11_at (c : Dev nD) (hA : (given m c).Finite) (b : Fin 16) (s : Fin 2048) (l : Fin 1024) :
    G11 m c (ix3 b s l) = (given m c).out b s l := by
  have hN : cfg0.N = 64 := N_0
  have hp : pt11Of (ix3 b s l) = 4 * b.val + s.val / 512 := by
    have hl : ((ix3 b s l : S16x2048x1024.Idx) 2).val = l.val := rfl
    unfold pt11Of
    show 4 * (b.val / 1 - 0) + 1 * (s.val / 512 - 0) + _ = _
    omega
  have hlt : pt11Of (ix3 b s l) < cfg0.N := by omega
  have hl : loc11Of (ix3 b s l) = ix3 0 ⟨s.val % 512, by omega⟩ l := by
    funext a
    match a with
    | ⟨0, _⟩ => exact Fin.ext (show b.val % 1 = 0 by omega)
    | ⟨1, _⟩ => rfl
    | ⟨2, _⟩ => exact Fin.ext (show l.val % 1024 = l.val by omega)
  unfold G11
  rw [dif_pos hlt, ← outsAt0_sweep m c _ hlt, hl]
  refine (point_out m c hA ⟨_, hlt⟩ ⟨s.val % 512, by omega⟩ l).trans ?_
  refine congrArg₂ (fun b s => (given m c).out b s l) (Fin.ext ?_) (Fin.ext ?_)
  · show pt11Of (ix3 b s l) / 4 = b.val
    omega
  · show 512 * (pt11Of (ix3 b s l) % 4) + s.val % 512 = s.val
    omega

end Cert.KernelIdeal.Value

end
-- ==== Proof.ReferenceRead.lean ====
/- What the reference's arrays hold, up to the two halves of the mixer: the projection, the normalised rows and the
   gate, and the masked scores. -/
module

public import proofs.«01_k».proof.Proof.Gen.ReferenceIdeal.Run
public import Idealize.ShloMosaic.Lib.Pipeline.ValueKit
public import Idealize.ShloMosaic.Lib.Pointwise
public import Idealize.ShloMosaic.Lib.Claim
public import proofs.«01_k».proof.Proof.Spec

@[expose] public section

set_option maxRecDepth 16384

noncomputable section

namespace Cert.ReferenceIdeal.Mix

open Idealize.ShloMosaic Idealize.ShloMosaic.TcCoe Idealize.SL.Sem
open Cert.ReferenceIdeal Cert.ReferenceIdeal.Gen Cert.ReferenceIdeal.Value Cert.Mixer

variable (V0 : Valuation τ sig (Elt Ideal))

/-- The eleven arrays the reference is given. -/
def given : Inputs where
  x b t d := (show FVec Ideal S16x2048x1024 .f32 from V0 (Proc.devRef .tc main_arg0)) (ix3 b t d)
  w d k := (show FVec Ideal S1024x2560 .f32 from V0 (Proc.devRef .tc main_arg1)) (ix2 d k)
  bi k := (show FVec Ideal S2560 .f32 from V0 (Proc.devRef .tc main_arg2)) (ix1 k)
  cg k := (show FVec Ideal S512 .f32 from V0 (Proc.devRef .tc main_arg3)) (ix1 k)
  cb k := (show FVec Ideal S512 .f32 from V0 (Proc.devRef .tc main_arg4)) (ix1 k)
  ws h i j := (show FVec Ideal S8x128x128 .f32 from V0 (Proc.devRef .tc main_arg5)) (ix3 h i j)
  wsb h i := (show FVec Ideal S8x128 .f32 from V0 (Proc.devRef .tc main_arg6)) (ix2 h i)
  rel h r := (show FVec Ideal S8x513 .f32 from V0 (Proc.devRef .tc main_arg7)) (ix2 h r)
  wo d k := (show FVec Ideal S1024x1024 .f32 from V0 (Proc.devRef .tc main_arg8)) (ix2 d k)
  g k := (show FVec Ideal S1024 .f32 from V0 (Proc.devRef .tc main_arg9)) (ix1 k)
  b k := (show FVec Ideal S1024 .f32 from V0 (Proc.devRef .tc main_arg10)) (ix1 k)

/-- The projection. -/
theorem proj_at (b : Fin 16) (t : Fin 2048) (c : Fin 2560) :
    (show FVec Ideal S16x2048x2560 .f32 from res_main_v3 V0) (ix3 b t c) = (given V0).proj b t c := by
  unfold given Inputs.proj
  pointwise [res_main_v3]

/-- The second quarter of the projection. -/
theorem quarter_at (b : Fin 16) (t : Fin 2048) (c : Fin 512) :
    (show FVec Ideal S16x2048x512 .f32 from res_main_v5 V0) (ix3 b t c) = (given V0).proj b t ⟨512 + c.val, by omega⟩ := by
  refine Eq.trans ?_ (proj_at V0 b t _)
  generalize hX : res_main_v3 V0 = X
  unfold res_main_v5
  rw [hX]
  pointwise

/-- Its mean along a row. -/
theorem mean_at (b : Fin 16) (t : Fin 2048) :
    (show FVec Ideal S16x2048x1 .f32 from res_main_v12 V0) (ix3 b t 0)
      = Ideal.div (∑ c : Fin 512, (given V0).proj b t ⟨512 + c.val, by omega⟩) (Ideal.ofBits .f32 1140850688#32) := by
  simp only [← quarter_at V0]
  generalize hX : res_main_v5 V0 = X
  unfold res_main_v12
  rw [hX]
  pointwise

/-- The row with its mean taken off. -/
theorem center_at (b : Fin 16) (t : Fin 2048) (c : Fin 512) :
    (show FVec Ideal S16x2048x512 .f32 from res_main_v14 V0) (ix3 b t c)
      = center (Ideal.ofBits .f32 1140850688#32) (fun k : Fin 512 => (given V0).proj b t ⟨512 + k.val, by omega⟩) c := by
  show _ = (given V0).proj b t ⟨512 + c.val, _⟩ - Ideal.div (∑ k : Fin 512, (given V0).proj b t ⟨512 + k.val, _⟩) _
  rw [← mean_at V0, ← quarter_at V0]
  generalize hX : res_main_v5 V0 = X
  generalize hY : res_main_v12 V0 = Y
  unfold res_main_v14
  rw [hX, hY]
  pointwise

/-- The normalised second quarter, as the reference lays it out for the gate. -/
theorem vn_at (u v : FVec Ideal S16x2048x512 .f32) (n : FVec Ideal S16x2048x1 .f32) (g bb : FVec Ideal S512 .f32)
    (b : Fin 16) (t : Fin 2048) (c : Fin 512) (P : Fin 512 → EReal) (G B : EReal)
    (hu : ∀ k, u (ix3 b t k) = P k)
    (hn : n (ix3 b t 0) = Ideal.div (∑ c : Fin 512, P c) (Ideal.ofBits .f32 1140850688#32))
    (hv : ∀ k, v (ix3 b t k) = center (Ideal.ofBits .f32 1140850688#32) P k)
    (hg : g (ix1 c) = G) (hb : bb (ix1 c) = B) :
    addf (mulf (mulf (subf u (broadcastInDim S16x2048x512 ![0, 1, 2] bcast_S16x2048x1_S16x2048x512_0_1_2 n)) (broadcastInDim S16x2048x512 ![0, 1, 2] bcast_S16x2048x1_S16x2048x512_0_1_2 (Host.rsqrt (addf (Host.divf (broadcastInDim S16x2048x1 ![0, 1] bcast_S16x2048_S16x2048x1_0_1 (Host.reduceAdd (mulf v v) (constant S_ .f32 0x00000000#32) reducesTo_S16x2048x512_S16x2048_d2 h_S_)) (broadcastInDim S16x2048x1 ![] bcast_S_S16x2048x1 (constant S_ .f32 0x44000000#32))) (broadcastInDim S16x2048x1 ![] bcast_S_S16x2048x1 (constant S_ .f32 0x3727C5AC#32)))))) (broadcastInDim S16x2048x512 ![0, 1, 2] bcast_S1x1x512_S16x2048x512_0_1_2 (broadcastInDim S1x1x512 ![2] bcast_S512_S1x1x512_2 g))) (broadcastInDim S16x2048x512 ![0, 1, 2] bcast_S1x1x512_S16x2048x512_0_1_2 (broadcastInDim S1x1x512 ![2] bcast_S512_S1x1x512_2 bb)) (ix3 b t c)
      = center (Ideal.ofBits .f32 1140850688#32) P c * Ideal.rsqrt (Ideal.div (∑ j, center (Ideal.ofBits .f32 1140850688#32) P j * center (Ideal.ofBits .f32 1140850688#32) P j) (Ideal.ofBits .f32 1140850688#32) + Ideal.ofBits .f32 925353388#32) * G + B := by
  pointwise
  simp only [hu, hn, hv, hg, hb]
  rfl

end Cert.ReferenceIdeal.Mix

end
-- ==== Proof.ReferenceGate.lean ====
/- The reference's gated half: the masked weights, the gate, and its product with the first quarter. -/
module

public import proofs.«01_k».proof.Proof.ReferenceRead

@[expose] public section

set_option maxRecDepth 16384

noncomputable section

namespace Cert.ReferenceIdeal.Mix

open Idealize.ShloMosaic Idealize.ShloMosaic.TcCoe Idealize.SL.Sem
open Cert.ReferenceIdeal Cert.ReferenceIdeal.Gen Cert.ReferenceIdeal.Value Cert.Mixer

variable (V0 : Valuation τ sig (Elt Ideal))

/-- The gate's weights, masked to the chunks at or before the row's own. -/
theorem weights_at (W : FVec Ideal S8x128x128 .f32) (h : Fin 8) (i j : Fin 128) :
    (select (broadcastInDim S8x128x128 ![0, 1, 2] bcast_S1x128x128_S8x128x128_0_1_2 (broadcastInDim S1x128x128 ![1, 2] bcast_S128x128_S1x128x128_1_2 (cmpi .sle (broadcastInDim S128x128 ![0, 1] bcast_S1x128_S128x128_0_1 (select (andi (cmpi .ne (signi (res_main_v35 V0)) (broadcastInDim S1x128 ![] bcast_S_S1x128 (signi (res_main_call0_v0 V0)))) (cmpi .ne (Host.remsi (res_main_v35 V0) (broadcastInDim S1x128 ![] bcast_S_S1x128 (res_main_call0_v0 V0))) (broadcastInDim S1x128 ![] bcast_S_S1x128 (constantI S_ 32 0#32)))) (subi (res_main_call0_v2 V0) (broadcastInDim S1x128 ![] bcast_S_S1x128 (constantI S_ 32 1#32))) (res_main_call0_v2 V0))) (broadcastInDim S128x128 ![0, 1] bcast_S128x1_S128x128_0_1 (select (andi (cmpi .ne (signi (res_main_v37 V0)) (broadcastInDim S128x1 ![] bcast_S_S128x1 (signi (res_main_call1_v0 V0)))) (cmpi .ne (Host.remsi (res_main_v37 V0) (broadcastInDim S128x1 ![] bcast_S_S128x1 (res_main_call1_v0 V0))) (broadcastInDim S128x1 ![] bcast_S_S128x1 (constantI S_ 32 0#32)))) (subi (res_main_call1_v2 V0) (broadcastInDim S128x1 ![] bcast_S_S128x1 (constantI S_ 32 1#32))) (res_main_call1_v2 V0)))))) W (broadcastInDim S8x128x128 ![] bcast_S_S8x128x128 (constant S_ .f32 0x00000000#32))) (ix3 h i j)
      = if j.val / 64 ≤ i.val / 64 then W (ix3 h i j) else 0 := by
  pointwise [res_main_v35, res_main_v34, res_main_v37, res_main_call0_v0, res_main_call0_v2, res_main_call1_v0, res_main_call1_v2]
  refine (congrArg₂ (fun a b => Scalar.select (IntOp.cmpi CmpIPredicate.sle a b) (W (ix3 h i j)) (0 : EReal))
    (?_ : _ = BitVec.ofNat 32 (j.val / 64)) (?_ : _ = BitVec.ofNat 32 (i.val / 64))).trans ?_
  · clear h i W
    revert j
    decide +kernel
  · clear h j W
    revert i
    decide +kernel
  · have key : ∀ q h : Fin 2, IntOp.cmpi CmpIPredicate.sle (BitVec.ofNat 32 q.val) (BitVec.ofNat 32 h.val) = if q.val ≤ h.val then 1#1 else 0#1 := by
      decide +kernel
    refine (congrArg (fun a => Scalar.select a (W (ix3 h i j)) (0 : EReal)) (key ⟨j.val / 64, by omega⟩ ⟨i.val / 64, by omega⟩)).trans ?_
    by_cases e : j.val / 64 ≤ i.val / 64
    · exact (congrArg (fun a => Scalar.select a _ _) (if_pos e)).trans (if_pos e).symm
    · exact (congrArg (fun a => Scalar.select a _ _) (if_neg e)).trans (if_neg e).symm

/-- The gated half from the projection `P`, the normalised rows `N`, the masked weights `W` and the shifts `S`. -/
theorem gated_at (P : FVec Ideal S16x2048x2560 .f32) (N : FVec Ideal S16x2048x512 .f32) (W : FVec Ideal S8x128x128 .f32)
    (S : FVec Ideal S8x128 .f32) (b : Fin 16) (t : Fin 2048) (c : Fin 512) :
    (mulf (extractStridedSlice S16x2048x512 ![0, 0, 0] P slices_S16x2048x2560_S16x2048x512_0_0_0) (shapeCast _ (addf (transpose S16x16x128x8x64 [1, 2, 4, 0, 3] (Host.dotGeneral dot_S16x16x128x8x64_S8x128x128_S8x16x16x64x128_2_2_014_1_3_0 none (shapeCast _ N shapeCasts_S16x2048x512_S16x16x128x8x64) W) transposes_S8x16x16x64x128_S16x16x128x8x64_1_2_4_0_3) (broadcastInDim S16x16x128x8x64 ![0, 1, 2, 3, 4] bcast_S1x1x128x8x1_S16x16x128x8x64_0_1_2_3_4 (broadcastInDim S1x1x128x8x1 ![2, 3] bcast_S128x8_S1x1x128x8x1_2_3 (transpose S128x8 [1, 0] S transposes_S8x128_S128x8_1_0)))) shapeCasts_S16x16x128x8x64_S16x2048x512)) (ix3 b t c)
      = P (ix3 b t ⟨c.val, by omega⟩) * ((∑ j : Fin 128, N (ix3 b ⟨128 * (t.val / 128) + j.val, by omega⟩ c) * W (ix3 ⟨c.val / 64, by omega⟩ ⟨t.val % 128, by omega⟩ j))
        + S (ix2 ⟨c.val / 64, by omega⟩ ⟨t.val % 128, by omega⟩)) := by
  pointwise
  simp only [Nat.mul_comm 128]

end Cert.ReferenceIdeal.Mix

end
-- ==== Proof.ReferenceBand.lean ====
/- The band of keys and values a chunk of the reference's attention reads, and the relative-position columns. -/
module

public import proofs.«01_k».proof.Proof.ReferenceRead

@[expose] public section

set_option maxRecDepth 16384

noncomputable section

namespace Cert.ReferenceIdeal.Mix

open Idealize.ShloMosaic Idealize.ShloMosaic.TcCoe Idealize.SL.Sem
open Cert.ReferenceIdeal Cert.ReferenceIdeal.Gen Cert.ReferenceIdeal.Value Cert.Mixer

variable (V0 : Valuation τ sig (Elt Ideal))

/-- Rows of the padded sequence, each picked by an index kept in range. -/
theorem band_at (x : FVec Ideal S16x2560x8x64 .f32) (ix : IVec S32x576x1 32) (b : Fin 16) (n : Fin 32) (j : Fin 576)
    (h : Fin 8) (e : Fin 64) (k : Nat) (hk : k < 2560) (hx : (ix (ix3 n j 0)).toInt.toNat = k) :
    Host.gather gather_S16x2560x8x64_S32x576x1_S16x32x576x8x64_034_1_n_n_1_2_161864 x ix (ix5 b n j h e) = x (ix4 b ⟨k, hk⟩ h e) := by
  unfold Host.gather
  refine congrArg x (funext fun a => Fin.ext ?_)
  show GatherDims.start _ _ _ a + GatherDims.batchCoord _ _ a + GatherDims.offCoord _ _ a = _
  have h03 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h03 with rfl | rfl | rfl | rfl
  · unfold GatherDims.start GatherDims.batchCoord GatherDims.offCoord
    rw [dif_neg (by decide), dif_neg (by decide), dif_pos (by decide)]
    exact (Nat.zero_add _).trans rfl
  · unfold GatherDims.start GatherDims.batchCoord GatherDims.offCoord
    rw [dif_pos (by decide), dif_neg (by decide), dif_neg (by decide)]
    show min (ix _).toInt.toNat 2559 = k
    have : GatherDims.siIdx gather_S16x2560x8x64_S32x576x1_S16x32x576x8x64_034_1_n_n_1_2_161864 (ix5 b n j h e) ⟨0, by decide⟩ = ix3 n j 0 := by
      funext b; refine Fin.ext ?_
      match b with
      | ⟨0, _⟩ => rfl
      | ⟨1, _⟩ => rfl
      | ⟨2, _⟩ => rfl
    refine (congrArg (fun i => min (ix i).toInt.toNat 2559) this).trans ?_
    show min (ix (ix3 n j 0)).toInt.toNat 2559 = k
    omega
  · unfold GatherDims.start GatherDims.batchCoord GatherDims.offCoord
    rw [dif_neg (by decide), dif_neg (by decide), dif_pos (by decide)]
    exact (Nat.zero_add _).trans rfl
  · unfold GatherDims.start GatherDims.batchCoord GatherDims.offCoord
    rw [dif_neg (by decide), dif_neg (by decide), dif_pos (by decide)]
    exact (Nat.zero_add _).trans rfl

/-- The rows of the relative-position table, each column picked by an index kept in range. -/
theorem pick_at (x : FVec Ideal S8x513 .f32) (ix : IVec S64x576x1 32) (h : Fin 8) (i : Fin 64) (j : Fin 576)
    (k : Nat) (hk : k < 513) (hx : (ix (ix3 i j 0)).toInt.toNat = k) :
    Host.gather gather_S8x513_S64x576x1_S8x64x576_0_1_n_n_1_2_81 x ix (ix3 h i j) = x (ix2 h ⟨k, hk⟩) := by
  unfold Host.gather
  refine congrArg x (funext fun a => Fin.ext ?_)
  show GatherDims.start _ _ _ a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · unfold GatherDims.start GatherDims.batchCoord GatherDims.offCoord
    rw [dif_neg (by decide), dif_neg (by decide), dif_pos (by decide)]
    exact (Nat.zero_add _).trans rfl
  · unfold GatherDims.start GatherDims.batchCoord GatherDims.offCoord
    rw [dif_pos (by decide), dif_neg (by decide), dif_neg (by decide)]
    show min (ix _).toInt.toNat 512 = k
    have : GatherDims.siIdx gather_S8x513_S64x576x1_S8x64x576_0_1_n_n_1_2_81 (ix3 h i j) ⟨0, by decide⟩ = ix3 i j 0 := by
      funext b; refine Fin.ext ?_
      match b with
      | ⟨0, _⟩ => rfl
      | ⟨1, _⟩ => rfl
      | ⟨2, _⟩ => rfl
    refine (congrArg (fun i => min (ix i).toInt.toNat 512) this).trans ?_
    show min (ix (ix3 i j 0)).toInt.toNat 512 = k
    omega

/-- A key's place in the padded sequence. -/
theorem place_at (n : Fin 32) (j : Fin 576) :
    (show IVec S32x576 32 from res_main_v86 V0) (ix2 n j) = BitVec.ofNat 32 (64 * n.val + j.val) := by
  pointwise [res_main_v86]
  refine BitVec.eq_of_toNat_eq ?_
  show (BitVec.ofNat 32 n.val * 64#32 + BitVec.ofNat 32 j.val).toNat = _
  simp only [BitVec.toNat_add, BitVec.toNat_mul, BitVec.toNat_ofNat]
  omega

theorem place_row (n : Fin 32) (j : Fin 576) :
    ((show IVec S32x576x1 32 from (broadcastInDim S32x576x1 ![0, 1] bcast_S32x576_S32x576x1_0_1 (select (cmpi .slt (res_main_v86 V0) (broadcastInDim S32x576 ![] bcast_S_S32x576 (constantI S_ 32 0#32))) (addi (res_main_v86 V0) (broadcastInDim S32x576 ![] bcast_S_S32x576 (constantI S_ 32 2560#32))) (res_main_v86 V0)))) (ix3 n j 0)).toInt.toNat = 64 * n.val + j.val := by
  have h := place_at V0 n j
  generalize res_main_v86 V0 = X at h ⊢
  pointwise
  rw [show X (ix2 n j) = _ from h]
  have key : ∀ k : Fin 2560, (Scalar.select (IntOp.cmpi CmpIPredicate.slt (BitVec.ofNat 32 k.val) 0#32) (IntOp.addi (BitVec.ofNat 32 k.val) 2560#32) (BitVec.ofNat 32 k.val)).toInt.toNat = k.val := by
    decide +kernel
  exact key ⟨64 * n.val + j.val, by omega⟩

/-- The column of the relative-position table a pair reads. -/
theorem column_at (i : Fin 64) (j : Fin 576) :
    (show IVec S64x576 32 from res_main_v70 V0) (ix2 i j) = BitVec.ofNat 32 (min (i.val + 768 - j.val) 512) := by
  pointwise [res_main_v70]
  have gap : IntOp.subi (IntOp.addi (BitVec.ofNat 32 i.val) 512#32) (BitVec.ofNat 32 j.val)
      = IntOp.subi (BitVec.ofNat 32 (i.val + 575 - j.val)) 63#32 := by
    refine BitVec.eq_of_toNat_eq ?_
    show (BitVec.ofNat 32 i.val + 512#32 - BitVec.ofNat 32 j.val).toNat = (BitVec.ofNat 32 (i.val + 575 - j.val) - 63#32).toNat
    simp only [BitVec.toNat_add, BitVec.toNat_sub, BitVec.toNat_ofNat]
    omega
  have key : ∀ k : Fin 639, IntOp.addi (IntOp.minsi 256#32 (IntOp.maxsi 4294967040#32 (IntOp.subi (BitVec.ofNat 32 k.val) 63#32))) 256#32
      = BitVec.ofNat 32 (min (k.val + 193) 512) := by
    decide +kernel
  refine (congrArg (fun a => IntOp.addi (IntOp.minsi 256#32 (IntOp.maxsi 4294967040#32 a)) 256#32) gap).trans ?_
  refine (key ⟨i.val + 575 - j.val, by omega⟩).trans (congrArg (BitVec.ofNat 32) ?_)
  show min (i.val + 575 - j.val + 193) 512 = _
  omega

theorem column_row (i : Fin 64) (j : Fin 576) :
    ((show IVec S64x576x1 32 from (broadcastInDim S64x576x1 ![0, 1] bcast_S64x576_S64x576x1_0_1 (select (cmpi .slt (res_main_v70 V0) (broadcastInDim S64x576 ![] bcast_S_S64x576 (constantI S_ 32 0#32))) (addi (res_main_v70 V0) (broadcastInDim S64x576 ![] bcast_S_S64x576 (constantI S_ 32 513#32))) (res_main_v70 V0)))) (ix3 i j 0)).toInt.toNat = min (i.val + 768 - j.val) 512 := by
  have h := column_at V0 i j
  generalize res_main_v70 V0 = X at h ⊢
  pointwise
  rw [show X (ix2 i j) = _ from h]
  have key : ∀ k : Fin 513, (Scalar.select (IntOp.cmpi CmpIPredicate.slt (BitVec.ofNat 32 k.val) 0#32) (IntOp.addi (BitVec.ofNat 32 k.val) 513#32) (BitVec.ofNat 32 k.val)).toInt.toNat = k.val := by
    decide +kernel
  exact key ⟨min (i.val + 768 - j.val) 512, by omega⟩

theorem nothing : (FloatOps.sitofp (F := Ideal) FTy.f32 (0#32 : BitVec 32) : EReal) = 0 := by
  show (((0#32 : BitVec 32).toInt : ℝ) : EReal) = 0
  simp

/-- The keys and the values, 512 rows of zeros before them. -/
theorem keys_at (P : FVec Ideal S16x2048x2560 .f32) (b : Fin 16) (p : Fin 2560) (h : Fin 8) (e : Fin 64) :
    (pad S16x2560x8x64 ![0, 512, 0, 0] ![0, 0, 0, 0] ![0, 0, 0, 0] (shapeCast _ (extractStridedSlice S16x2048x512 ![0, 0, 1536] P slices_S16x2048x2560_S16x2048x512_0_0_1536) shapeCasts_S16x2048x512_S16x2048x8x64) (sitofp .f32 (constantI S_ 32 0#32)) pads_S16x2048x8x64_S16x2560x8x64_000_51200_000_000 h_S_) (ix4 b p h e)
      = if hp : 512 ≤ p.val then P (ix3 b ⟨p.val - 512, by omega⟩ ⟨1536 + 64 * h.val + e.val, by omega⟩) else 0 := by
  pointwise
  by_cases hp : 512 ≤ p.val
  · rw [dif_pos ⟨hp, by omega⟩, dif_pos hp]
    refine congrArg P (congrArg (ix3 b _) (Fin.ext ?_))
    show 1536 + (h.val * 64 + e.val) = 1536 + 64 * h.val + e.val
    omega
  · rw [dif_neg fun q => hp q.1, dif_neg hp]
    exact nothing

theorem values_at (P : FVec Ideal S16x2048x2560 .f32) (b : Fin 16) (p : Fin 2560) (h : Fin 8) (e : Fin 64) :
    (pad S16x2560x8x64 ![0, 512, 0, 0] ![0, 0, 0, 0] ![0, 0, 0, 0] (shapeCast _ (extractStridedSlice S16x2048x512 ![0, 0, 2048] P slices_S16x2048x2560_S16x2048x512_0_0_2048) shapeCasts_S16x2048x512_S16x2048x8x64) (sitofp .f32 (constantI S_ 32 0#32)) pads_S16x2048x8x64_S16x2560x8x64_000_51200_000_000 h_S_) (ix4 b p h e)
      = if hp : 512 ≤ p.val then P (ix3 b ⟨p.val - 512, by omega⟩ ⟨2048 + 64 * h.val + e.val, by omega⟩) else 0 := by
  pointwise
  by_cases hp : 512 ≤ p.val
  · rw [dif_pos ⟨hp, by omega⟩, dif_pos hp]
    refine congrArg P (congrArg (ix3 b _) (Fin.ext ?_))
    show 2048 + (h.val * 64 + e.val) = 2048 + 64 * h.val + e.val
    omega
  · rw [dif_neg fun q => hp q.1, dif_neg hp]
    exact nothing

end Cert.ReferenceIdeal.Mix

end
-- ==== Proof.ReferenceAttn.lean ====
/- The reference's attention half: the masked scores and the softmax, each operation's array at one place. -/
module

public import proofs.«01_k».proof.Proof.ReferenceBand

@[expose] public section

set_option maxRecDepth 16384

noncomputable section

namespace Cert.ReferenceIdeal.Mix

open Idealize.ShloMosaic Idealize.ShloMosaic.TcCoe Idealize.SL.Sem
open Cert.ReferenceIdeal Cert.ReferenceIdeal.Gen Cert.ReferenceIdeal.Value Cert.Mixer

variable (V0 : Valuation τ sig (Elt Ideal))

/-- The masked score of a pair. -/
theorem masked_at (P : FVec Ideal S16x2048x2560 .f32) (K : FVec Ideal S16x32x576x8x64 .f32) (R : FVec Ideal S8x64x576 .f32)
    (B : IVec S32x576 32) (b : Fin 16) (n : Fin 32) (h : Fin 8) (i : Fin 64) (j : Fin 576)
    (hB : B (ix2 n j) = BitVec.ofNat 32 (64 * n.val + j.val)) :
    (select (broadcastInDim S16x32x8x64x576 ![0, 1, 2, 3, 4] bcast_S1x32x1x1x576_S16x32x8x64x576_0_1_2_3_4 (broadcastInDim S1x32x1x1x576 ![1, 4] bcast_S32x576_S1x32x1x1x576_1_4 (cmpi .sge B (broadcastInDim S32x576 ![] bcast_S_S32x576 (constantI S_ 32 512#32))))) (addf (Host.dotGeneral dot_S16x32x64x8x64_S16x32x576x8x64_S16x32x8x64x576_4_4_2_2_013_013 none (shapeCast _ (mulf (extractStridedSlice S16x2048x512 ![0, 0, 1024] P slices_S16x2048x2560_S16x2048x512_0_0_1024) (broadcastInDim S16x2048x512 ![] bcast_S_S16x2048x512 (constant S_ .f32 0x3E000000#32))) shapeCasts_S16x2048x512_S16x32x64x8x64) K) (broadcastInDim S16x32x8x64x576 ![0, 1, 2, 3, 4] bcast_S1x1x8x64x576_S16x32x8x64x576_0_1_2_3_4 (broadcastInDim S1x1x8x64x576 ![2, 3, 4] bcast_S8x64x576_S1x1x8x64x576_2_3_4 R))) (broadcastInDim S16x32x8x64x576 ![] bcast_S_S16x32x8x64x576 (id (constant S_ .f32 0xFF800000#32))) : FVec Ideal S16x32x8x64x576 .f32) (ix5 b n h i j)
      = if 512 ≤ 64 * n.val + j.val then (∑ e : Fin 64, P (ix3 b ⟨64 * n.val + i.val, by omega⟩ ⟨1024 + 64 * h.val + e.val, by omega⟩)
          * Ideal.ofBits .f32 0x3E000000#32 * K (ix5 b n j h e)) + R (ix3 h i j) else ⊥ := by
  pointwise
  rw [hB]
  simp only [Nat.mul_comm n.val 64, Nat.mul_comm h.val 64, ← Nat.add_assoc]
  have key : ∀ k : Fin 2560, IntOp.cmpi CmpIPredicate.sge (BitVec.ofNat 32 k.val) 512#32 = if 512 ≤ k.val then 1#1 else 0#1 := by
    decide +kernel
  refine (congrArg (fun a => Scalar.select a _ _) ((key ⟨64 * n.val + j.val, by omega⟩).trans (rfl : _ = if 512 ≤ 64 * n.val + j.val then 1#1 else 0#1))).trans ?_
  by_cases hn : 512 ≤ 64 * n.val + j.val
  · rw [if_pos hn]
    exact (if_pos rfl).trans (if_pos hn).symm
  · rw [if_neg hn]
    exact (if_neg (by decide)).trans (if_neg hn).symm

/-- The largest score of a row. -/
theorem rowmax_at (s : FVec Ideal S16x32x8x64x576 .f32) (z : FVec Ideal S_ .f32) (b : Fin 16) (n : Fin 32) (h : Fin 8) (i : Fin 64) :
    (Host.reduce FloatOps.maximumf s z reducesTo_S16x32x8x64x576_S16x32x8x64_d4 h_S_ : FVec Ideal S16x32x8x64 .f32) (ix4 b n h i)
      = Finset.univ.fold max (z ix0) fun k => s (ix5 b n h i k) := by
  rw [Host.reduce_eq_fold, Shape.ReducesTo.fold_fiber_r5_a4]
  have e : z (Shape.Idx.first h_S_) = z ix0 := congrArg z (funext fun a => a.elim0)
  rw [e]
  simp only [Ideal.maximumf_eq_max]
  exact congrArg (fun f => Finset.univ.fold max (z ix0) f) (funext fun k => rfl)

/-- The exponential of a score less its row's maximum, the maximum given. -/
theorem expo_at (s : FVec Ideal S16x32x8x64x576 .f32) (M : FVec Ideal S16x32x8x64 .f32) (b : Fin 16) (n : Fin 32) (h : Fin 8) (i : Fin 64) (j : Fin 576) :
    (Host.exp (subf s (broadcastInDim S16x32x8x64x576 ![0, 1, 2, 3, 4] bcast_S16x32x8x64x1_S16x32x8x64x576_0_1_2_3_4 (broadcastInDim S16x32x8x64x1 ![0, 1, 2, 3] bcast_S16x32x8x64_S16x32x8x64x1_0_1_2_3 (maximumf (broadcastInDim S16x32x8x64 ![] bcast_S_S16x32x8x64 (constant S_ .f32 0xFF800000#32)) M)))) : FVec Ideal S16x32x8x64x576 .f32) (ix5 b n h i j)
      = Ideal.exp (s (ix5 b n h i j) - max (Ideal.ofBits .f32 4286578688#32) (M (ix4 b n h i))) := by
  pointwise

/-- The exponential of a score less its row's maximum. -/
theorem exp_at (s : FVec Ideal S16x32x8x64x576 .f32) (b : Fin 16) (n : Fin 32) (h : Fin 8) (i : Fin 64) (j : Fin 576) :
    (Host.exp (subf s (broadcastInDim S16x32x8x64x576 ![0, 1, 2, 3, 4] bcast_S16x32x8x64x1_S16x32x8x64x576_0_1_2_3_4 (broadcastInDim S16x32x8x64x1 ![0, 1, 2, 3] bcast_S16x32x8x64_S16x32x8x64x1_0_1_2_3 (maximumf (broadcastInDim S16x32x8x64 ![] bcast_S_S16x32x8x64 (constant S_ .f32 0xFF800000#32)) (Host.reduce FloatOps.maximumf s (constant S_ .f32 0xFF800000#32) reducesTo_S16x32x8x64x576_S16x32x8x64_d4 h_S_))))) : FVec Ideal S16x32x8x64x576 .f32) (ix5 b n h i j)
      = Ideal.exp (s (ix5 b n h i j) - Finset.univ.fold max ⊥ fun k => s (ix5 b n h i k)) := by
  refine (expo_at s _ b n h i j).trans ?_
  rw [rowmax_at]
  have hb : (constant S_ .f32 0xFF800000#32 : FVec Ideal S_ .f32) ix0 = ⊥ := rfl
  have hb' : Ideal.ofBits .f32 4286578688#32 = ⊥ := rfl
  rw [hb, hb', max_eq_right bot_le]

/-- The values' mean under the weights, laid out position by position. -/
theorem attended_at (U : FVec Ideal S16x32x576x8x64 .f32) (E : FVec Ideal S16x32x8x64x576 .f32) (b : Fin 16) (t : Fin 2048) (c : Fin 512) :
    ((shapeCast _ (transpose S16x32x64x8x64 [0, 1, 4, 2, 3] (Host.dotGeneral dot_S16x32x576x8x64_S16x32x8x64x576_S16x32x8x64x64_2_4_4_3_013_012 none U (Host.divf E (broadcastInDim S16x32x8x64x576 ![0, 1, 2, 3, 4] bcast_S16x32x8x64x1_S16x32x8x64x576_0_1_2_3_4 (broadcastInDim S16x32x8x64x1 ![0, 1, 2, 3] bcast_S16x32x8x64_S16x32x8x64x1_0_1_2_3 (Host.reduceAdd E (constant S_ .f32 0x00000000#32) reducesTo_S16x32x8x64x576_S16x32x8x64_d4 h_S_))))) transposes_S16x32x8x64x64_S16x32x64x8x64_0_1_4_2_3) shapeCasts_S16x32x64x8x64_S16x2048x512) : FVec Ideal S16x2048x512 .f32) (ix3 b t c)
      = ∑ j, U (ix5 b ⟨t.val / 64, by omega⟩ j ⟨c.val / 64, by omega⟩ ⟨c.val % 64, by omega⟩)
          * Ideal.div (E (ix5 b ⟨t.val / 64, by omega⟩ ⟨c.val / 64, by omega⟩ ⟨t.val % 64, by omega⟩ j))
            (∑ k, E (ix5 b ⟨t.val / 64, by omega⟩ ⟨c.val / 64, by omega⟩ ⟨t.val % 64, by omega⟩ k)) := by
  pointwise

end Cert.ReferenceIdeal.Mix

end
-- ==== Proof.ReferenceOut.lean ====
/- What the reference computes: its two halves, their product with the output weights, and the layer norm. -/
module

public import proofs.«01_k».proof.Proof.ReferenceGate
public import proofs.«01_k».proof.Proof.ReferenceAttn

@[expose] public section

set_option maxRecDepth 16384

noncomputable section

namespace Cert.ReferenceIdeal.Mix

open Idealize.ShloMosaic Idealize.ShloMosaic.TcCoe Idealize.SL.Sem
open Cert.ReferenceIdeal Cert.ReferenceIdeal.Gen Cert.ReferenceIdeal.Value Cert.Mixer

variable (V0 : Valuation τ sig (Elt Ideal))

/-- The literal 0.125. -/
theorem eighth : Ideal.ofBits .f32 0x3E000000#32 = ((1 / 8 : ℝ) : EReal) := by
  simp [Ideal.ofBits, Ideal.ieee, -EReal.coe_mul]; norm_num

/-- Two arrays side by side along the last axis. -/
theorem side_at (L D : FVec Ideal S16x2048x512 .f32) (b : Fin 16) (t : Fin 2048) (c : Fin 1024) :
    (show FVec Ideal S16x2048x1024 .f32 from fn_main_v123 (F := Ideal) L D) (ix3 b t c)
      = if h : c.val < 512 then L (ix3 b t ⟨c.val, h⟩) else D (ix3 b t ⟨c.val - 512, by omega⟩) := by
  pointwise [fn_main_v123]

/-- The gated half. -/
theorem gated_half (b : Fin 16) (t : Fin 2048) (c : Fin 512) :
    ((mulf (extractStridedSlice S16x2048x512 ![0, 0, 0] (res_main_v3 V0) slices_S16x2048x2560_S16x2048x512_0_0_0) (shapeCast _ (addf (transpose S16x16x128x8x64 [1, 2, 4, 0, 3] (Host.dotGeneral dot_S16x16x128x8x64_S8x128x128_S8x16x16x64x128_2_2_014_1_3_0 none (shapeCast _ (addf (mulf (mulf (subf (res_main_v5 V0) (broadcastInDim S16x2048x512 ![0, 1, 2] bcast_S16x2048x1_S16x2048x512_0_1_2 (res_main_v12 V0))) (broadcastInDim S16x2048x512 ![0, 1, 2] bcast_S16x2048x1_S16x2048x512_0_1_2 (Host.rsqrt (addf (Host.divf (broadcastInDim S16x2048x1 ![0, 1] bcast_S16x2048_S16x2048x1_0_1 (Host.reduceAdd (mulf (res_main_v14 V0) (res_main_v14 V0)) (constant S_ .f32 0x00000000#32) reducesTo_S16x2048x512_S16x2048_d2 h_S_)) (broadcastInDim S16x2048x1 ![] bcast_S_S16x2048x1 (constant S_ .f32 0x44000000#32))) (broadcastInDim S16x2048x1 ![] bcast_S_S16x2048x1 (constant S_ .f32 0x3727C5AC#32)))))) (broadcastInDim S16x2048x512 ![0, 1, 2] bcast_S1x1x512_S16x2048x512_0_1_2 (broadcastInDim S1x1x512 ![2] bcast_S512_S1x1x512_2 (V0 (Proc.devRef .tc main_arg3))))) (broadcastInDim S16x2048x512 ![0, 1, 2] bcast_S1x1x512_S16x2048x512_0_1_2 (broadcastInDim S1x1x512 ![2] bcast_S512_S1x1x512_2 (V0 (Proc.devRef .tc main_arg4))))) shapeCasts_S16x2048x512_S16x16x128x8x64) (select (broadcastInDim S8x128x128 ![0, 1, 2] bcast_S1x128x128_S8x128x128_0_1_2 (broadcastInDim S1x128x128 ![1, 2] bcast_S128x128_S1x128x128_1_2 (cmpi .sle (broadcastInDim S128x128 ![0, 1] bcast_S1x128_S128x128_0_1 (select (andi (cmpi .ne (signi (res_main_v35 V0)) (broadcastInDim S1x128 ![] bcast_S_S1x128 (signi (res_main_call0_v0 V0)))) (cmpi .ne (Host.remsi (res_main_v35 V0) (broadcastInDim S1x128 ![] bcast_S_S1x128 (res_main_call0_v0 V0))) (broadcastInDim S1x128 ![] bcast_S_S1x128 (constantI S_ 32 0#32)))) (subi (res_main_call0_v2 V0) (broadcastInDim S1x128 ![] bcast_S_S1x128 (constantI S_ 32 1#32))) (res_main_call0_v2 V0))) (broadcastInDim S128x128 ![0, 1] bcast_S128x1_S128x128_0_1 (select (andi (cmpi .ne (signi (res_main_v37 V0)) (broadcastInDim S128x1 ![] bcast_S_S128x1 (signi (res_main_call1_v0 V0)))) (cmpi .ne (Host.remsi (res_main_v37 V0) (broadcastInDim S128x1 ![] bcast_S_S128x1 (res_main_call1_v0 V0))) (broadcastInDim S128x1 ![] bcast_S_S128x1 (constantI S_ 32 0#32)))) (subi (res_main_call1_v2 V0) (broadcastInDim S128x1 ![] bcast_S_S128x1 (constantI S_ 32 1#32))) (res_main_call1_v2 V0)))))) (V0 (Proc.devRef .tc main_arg5)) (broadcastInDim S8x128x128 ![] bcast_S_S8x128x128 (constant S_ .f32 0x00000000#32)))) transposes_S8x16x16x64x128_S16x16x128x8x64_1_2_4_0_3) (broadcastInDim S16x16x128x8x64 ![0, 1, 2, 3, 4] bcast_S1x1x128x8x1_S16x16x128x8x64_0_1_2_3_4 (broadcastInDim S1x1x128x8x1 ![2, 3] bcast_S128x8_S1x1x128x8x1_2_3 (transpose S128x8 [1, 0] (V0 (Proc.devRef .tc main_arg6)) transposes_S8x128_S128x8_1_0)))) shapeCasts_S16x16x128x8x64_S16x2048x512)) : FVec Ideal S16x2048x512 .f32) (ix3 b t c) = (given V0).cOut b t c := by
  refine (gated_at (res_main_v3 V0) _ _ _ b t c).trans ?_
  unfold Inputs.cOut Inputs.gate
  refine congrArg₂ (fun a b : EReal => a * b) (proj_at V0 b t ⟨c.val, by omega⟩) (congrArg₂ (fun a b : EReal => a + b) (Finset.sum_congr rfl fun j _ => ?_) rfl)
  refine (mul_comm _ _).trans (congrArg₂ (fun a b : EReal => a * b) ?_ ?_)
  · exact (weights_at V0 _ ⟨c.val / 64, by omega⟩ ⟨t.val % 128, by omega⟩ j).trans rfl
  · exact vn_at _ _ _ _ _ b _ c (fun k => (given V0).proj b _ ⟨512 + k.val, by omega⟩) _ _ (fun k => quarter_at V0 b _ k)
      (mean_at V0 b _) (fun k => center_at V0 b _ k) rfl rfl

variable (hA : (given V0).Finite)

/-- The keys a chunk reads. -/
theorem key_real (hA : (given V0).Finite) (b : Fin 16) (n : Fin 32) (j : Fin 576) (h : Fin 8) (e : Fin 64) :
    (Host.gather gather_S16x2560x8x64_S32x576x1_S16x32x576x8x64_034_1_n_n_1_2_161864 (pad S16x2560x8x64 ![0, 512, 0, 0] ![0, 0, 0, 0] ![0, 0, 0, 0] (shapeCast _ (extractStridedSlice S16x2048x512 ![0, 0, 1536] (res_main_v3 V0) slices_S16x2048x2560_S16x2048x512_0_0_1536) shapeCasts_S16x2048x512_S16x2048x8x64) (sitofp .f32 (constantI S_ 32 0#32)) pads_S16x2048x8x64_S16x2560x8x64_000_51200_000_000 h_S_) (broadcastInDim S32x576x1 ![0, 1] bcast_S32x576_S32x576x1_0_1 (select (cmpi .slt (res_main_v86 V0) (broadcastInDim S32x576 ![] bcast_S_S32x576 (constantI S_ 32 0#32))) (addi (res_main_v86 V0) (broadcastInDim S32x576 ![] bcast_S_S32x576 (constantI S_ 32 2560#32))) (res_main_v86 V0))) : FVec Ideal S16x32x576x8x64 .f32) (ix5 b n j h e)
      = ((given V0).padded b ⟨64 * n.val + j.val, by omega⟩ ⟨1536 + 64 * h.val + e.val, by omega⟩ : EReal) := by
  refine (band_at _ _ b n j h e (64 * n.val + j.val) (by omega) (place_row V0 n j)).trans ?_
  refine (keys_at (res_main_v3 V0) b _ h e).trans ?_
  unfold Inputs.padded
  by_cases hp : 512 ≤ 64 * n.val + j.val
  · rw [dif_pos hp, dif_pos hp]
    exact (proj_at V0 b _ _).trans ((given V0).proj_real hA b _ _)
  · rw [dif_neg hp, dif_neg hp]
    rfl

/-- The values a chunk reads. -/
theorem value_real (hA : (given V0).Finite) (b : Fin 16) (n : Fin 32) (j : Fin 576) (h : Fin 8) (e : Fin 64) :
    (Host.gather gather_S16x2560x8x64_S32x576x1_S16x32x576x8x64_034_1_n_n_1_2_161864 (pad S16x2560x8x64 ![0, 512, 0, 0] ![0, 0, 0, 0] ![0, 0, 0, 0] (shapeCast _ (extractStridedSlice S16x2048x512 ![0, 0, 2048] (res_main_v3 V0) slices_S16x2048x2560_S16x2048x512_0_0_2048) shapeCasts_S16x2048x512_S16x2048x8x64) (sitofp .f32 (constantI S_ 32 0#32)) pads_S16x2048x8x64_S16x2560x8x64_000_51200_000_000 h_S_) (broadcastInDim S32x576x1 ![0, 1] bcast_S32x576_S32x576x1_0_1 (select (cmpi .slt (res_main_v86 V0) (broadcastInDim S32x576 ![] bcast_S_S32x576 (constantI S_ 32 0#32))) (addi (res_main_v86 V0) (broadcastInDim S32x576 ![] bcast_S_S32x576 (constantI S_ 32 2560#32))) (res_main_v86 V0))) : FVec Ideal S16x32x576x8x64 .f32) (ix5 b n j h e)
      = ((given V0).padded b ⟨64 * n.val + j.val, by omega⟩ ⟨2048 + 64 * h.val + e.val, by omega⟩ : EReal) := by
  refine (band_at _ _ b n j h e (64 * n.val + j.val) (by omega) (place_row V0 n j)).trans ?_
  refine (values_at (res_main_v3 V0) b _ h e).trans ?_
  unfold Inputs.padded
  by_cases hp : 512 ≤ 64 * n.val + j.val
  · rw [dif_pos hp, dif_pos hp]
    exact (proj_at V0 b _ _).trans ((given V0).proj_real hA b _ _)
  · rw [dif_neg hp, dif_neg hp]
    rfl

/-- The masked scores. -/
theorem score_at (hA : (given V0).Finite) (b : Fin 16) (t : Fin 2048) (h : Fin 8) (j : Fin 576) :
    (show FVec Ideal S16x32x8x64x576 .f32 from res_main_v108 V0) (ix5 b ⟨t.val / 64, by omega⟩ h ⟨t.val % 64, by omega⟩ j)
      = masked (Inputs.visible t) ((given V0).score b t h) j := by
  unfold res_main_v108
  refine (masked_at (res_main_v3 V0) _ _ _ b _ h _ j (place_at V0 _ j)).trans ?_
  unfold masked Inputs.visible
  refine if_congr Iff.rfl ?_ rfl
  unfold Inputs.score
  rw [EReal.coe_add, coe_sum]
  refine congrArg₂ (fun a b : EReal => a + b) (Finset.sum_congr rfl fun e _ => ?_) ?_
  · rw [EReal.coe_mul, EReal.coe_mul]
    refine congrArg₂ (fun a b : EReal => a * b) (congrArg₂ (fun a b : EReal => a * b) ?_ eighth) (key_real V0 hA b _ j h e)
    refine (proj_at V0 b _ _).trans (((given V0).proj_real hA b _ _).trans ?_)
    refine congrArg (fun s => ((given V0).rproj b s _ : EReal)) (Fin.ext ?_)
    show 64 * (t.val / 64) + t.val % 64 = t.val
    omega
  · refine (pick_at _ _ h _ j (min (t.val % 64 + 768 - j.val) 512) (by omega) (column_row V0 _ j)).trans ?_
    exact hA.rel h _

/-- The attention half. -/
theorem attention_half (hA : (given V0).Finite) (b : Fin 16) (t : Fin 2048) (c : Fin 512) :
    ((shapeCast _ (transpose S16x32x64x8x64 [0, 1, 4, 2, 3] (Host.dotGeneral dot_S16x32x576x8x64_S16x32x8x64x576_S16x32x8x64x64_2_4_4_3_013_012 none (Host.gather gather_S16x2560x8x64_S32x576x1_S16x32x576x8x64_034_1_n_n_1_2_161864 (pad S16x2560x8x64 ![0, 512, 0, 0] ![0, 0, 0, 0] ![0, 0, 0, 0] (shapeCast _ (extractStridedSlice S16x2048x512 ![0, 0, 2048] (res_main_v3 V0) slices_S16x2048x2560_S16x2048x512_0_0_2048) shapeCasts_S16x2048x512_S16x2048x8x64) (sitofp .f32 (constantI S_ 32 0#32)) pads_S16x2048x8x64_S16x2560x8x64_000_51200_000_000 h_S_) (broadcastInDim S32x576x1 ![0, 1] bcast_S32x576_S32x576x1_0_1 (select (cmpi .slt (res_main_v86 V0) (broadcastInDim S32x576 ![] bcast_S_S32x576 (constantI S_ 32 0#32))) (addi (res_main_v86 V0) (broadcastInDim S32x576 ![] bcast_S_S32x576 (constantI S_ 32 2560#32))) (res_main_v86 V0)))) (Host.divf (res_main_v115 V0) (broadcastInDim S16x32x8x64x576 ![0, 1, 2, 3, 4] bcast_S16x32x8x64x1_S16x32x8x64x576_0_1_2_3_4 (broadcastInDim S16x32x8x64x1 ![0, 1, 2, 3] bcast_S16x32x8x64_S16x32x8x64x1_0_1_2_3 (Host.reduceAdd (res_main_v115 V0) (constant S_ .f32 0x00000000#32) reducesTo_S16x32x8x64x576_S16x32x8x64_d4 h_S_))))) transposes_S16x32x8x64x64_S16x32x64x8x64_0_1_4_2_3) shapeCasts_S16x32x64x8x64_S16x2048x512) : FVec Ideal S16x2048x512 .f32) (ix3 b t c)
      = ((given V0).att b t ⟨c.val / 64, by omega⟩ ⟨c.val % 64, by omega⟩ : EReal) := by
  refine (attended_at _ (res_main_v115 V0) b t c).trans ?_
  unfold Inputs.att
  refine Eq.trans ?_ (softmax_base_e (Inputs.visible t) ((given V0).score b t ⟨c.val / 64, by omega⟩) _ ?_ _
    (score_at V0 hA b t ⟨c.val / 64, by omega⟩) _ (fun j => value_real V0 hA b ⟨t.val / 64, by omega⟩ j ⟨c.val / 64, by omega⟩ ⟨c.val % 64, by omega⟩))
  · have he := fun k => exp_at (res_main_v108 V0) b ⟨t.val / 64, by omega⟩ ⟨c.val / 64, by omega⟩ ⟨t.val % 64, by omega⟩ k
    refine Finset.sum_congr rfl fun j _ => (mul_comm _ _).trans (congrArg₂ (fun a b : EReal => a * b) ?_ rfl)
    exact congrArg₂ Ideal.div (he j) (Finset.sum_congr rfl fun k _ => he k)
  · exact ⟨⟨575, by omega⟩, by unfold Inputs.visible; show 512 ≤ 64 * (t.val / 64) + 575; omega⟩

/-- The two halves side by side. -/
theorem mix_at (hA : (given V0).Finite) (b : Fin 16) (t : Fin 2048) (c : Fin 1024) :
    (show FVec Ideal S16x2048x1024 .f32 from res_main_v123 V0) (ix3 b t c) = (given V0).mix b t c := by
  refine (side_at _ _ b t c).trans ?_
  unfold Inputs.mix
  by_cases h : c.val < 512
  · rw [dif_pos h, dif_pos h]
    exact gated_half V0 b t ⟨c.val, h⟩
  · rw [dif_neg h, dif_neg h]
    exact attention_half V0 hA b t ⟨c.val - 512, by omega⟩

/-- The residual and the mixed rows. -/
theorem residual_at (hA : (given V0).Finite) (b : Fin 16) (t : Fin 2048) (k : Fin 1024) :
    (show FVec Ideal S16x2048x1024 .f32 from res_main_v127 V0) (ix3 b t k)
      = Ideal.ofBits .f32 1068827891#32 * (given V0).x b t k + ∑ c', (given V0).mix b t c' * (given V0).wo c' k := by
  simp only [← mix_at V0 hA]
  generalize hX : res_main_v123 V0 = X
  unfold res_main_v127 given
  rw [hX]
  pointwise

/-- Their mean along a row. -/
theorem outMean_at (V : Fin 1024 → EReal) (b : Fin 16) (t : Fin 2048)
    (hV : ∀ k, (show FVec Ideal S16x2048x1024 .f32 from res_main_v127 V0) (ix3 b t k) = V k) :
    (show FVec Ideal S16x2048x1 .f32 from res_main_v131 V0) (ix3 b t 0) = Ideal.div (∑ c, V c) (Ideal.ofBits .f32 1149239296#32) := by
  simp only [← hV]
  generalize hX : res_main_v127 V0 = X
  unfold res_main_v131
  rw [hX]
  pointwise

/-- The row with its mean taken off. -/
theorem outCenter_at (V : Fin 1024 → EReal) (b : Fin 16) (t : Fin 2048) (k : Fin 1024)
    (hV : ∀ k, (show FVec Ideal S16x2048x1024 .f32 from res_main_v127 V0) (ix3 b t k) = V k) :
    (show FVec Ideal S16x2048x1024 .f32 from res_main_v133 V0) (ix3 b t k) = center (Ideal.ofBits .f32 1149239296#32) V k := by
  unfold center
  rw [← outMean_at V0 V b t hV, ← hV k]
  generalize hX : res_main_v127 V0 = X
  generalize hY : res_main_v131 V0 = Y
  unfold res_main_v133
  rw [hX, hY]
  pointwise

/-- The layer norm's last step, from a row, its mean and the row less its mean. -/
theorem norm_at (Z D : FVec Ideal S16x2048x1024 .f32) (M : FVec Ideal S16x2048x1 .f32) (g bb : FVec Ideal S1024 .f32)
    (b : Fin 16) (t : Fin 2048) (l : Fin 1024) (V G B : Fin 1024 → EReal)
    (hZ : ∀ k, Z (ix3 b t k) = V k) (hM : M (ix3 b t 0) = Ideal.div (∑ c, V c) (Ideal.ofBits .f32 1149239296#32))
    (hD : ∀ k, D (ix3 b t k) = center (Ideal.ofBits .f32 1149239296#32) V k)
    (hg : g (ix1 l) = G l) (hb : bb (ix1 l) = B l) :
    (addf (mulf (mulf (subf Z (broadcastInDim S16x2048x1024 ![0, 1, 2] bcast_S16x2048x1_S16x2048x1024_0_1_2 M)) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf D D) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x3727C5AC#32)))))) (broadcastInDim S16x2048x1024 ![0, 1, 2] bcast_S1x1x1024_S16x2048x1024_0_1_2 (broadcastInDim S1x1x1024 ![2] bcast_S1024_S1x1x1024_2 g))) (broadcastInDim S16x2048x1024 ![0, 1, 2] bcast_S1x1x1024_S16x2048x1024_0_1_2 (broadcastInDim S1x1x1024 ![2] bcast_S1024_S1x1x1024_2 bb)) : FVec Ideal S16x2048x1024 .f32) (ix3 b t l)
      = lnorm (Ideal.ofBits .f32 1149239296#32) V G B l := by
  pointwise
  simp only [hZ, hM, hD, hg, hb]
  rfl

/-- The reference's result, entry by entry. -/
theorem result_at (hA : (given V0).Finite) (b : Fin 16) (t : Fin 2048) (l : Fin 1024) :
    (addf (mulf (mulf (subf (res_main_v127 V0) (broadcastInDim S16x2048x1024 ![0, 1, 2] bcast_S16x2048x1_S16x2048x1024_0_1_2 (res_main_v131 V0))) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (res_main_v133 V0) (res_main_v133 V0)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x3727C5AC#32)))))) (broadcastInDim S16x2048x1024 ![0, 1, 2] bcast_S1x1x1024_S16x2048x1024_0_1_2 (broadcastInDim S1x1x1024 ![2] bcast_S1024_S1x1x1024_2 (V0 (Proc.devRef .tc main_arg9))))) (broadcastInDim S16x2048x1024 ![0, 1, 2] bcast_S1x1x1024_S16x2048x1024_0_1_2 (broadcastInDim S1x1x1024 ![2] bcast_S1024_S1x1x1024_2 (V0 (Proc.devRef .tc main_arg10)))) : FVec Ideal S16x2048x1024 .f32) (ix3 b t l) = (given V0).out b t l :=
  norm_at _ _ _ _ _ b t l _ _ _ (fun k => residual_at V0 hA b t k) (outMean_at V0 _ b t fun k => residual_at V0 hA b t k)
    (fun k => outCenter_at V0 _ b t k fun k => residual_at V0 hA b t k) rfl rfl

end Cert.ReferenceIdeal.Mix

end
-- ==== Proof.Finite.lean ====
/- What the precondition says of the arrays: every entry the attention half reads is a real number. -/
module

public import proofs.«01_k».proof.Proof.Gen.Pre_attention_inputs_finite
public import Idealize.ShloMosaic.Lib.ReduceAll
public import Idealize.ShloMosaic.Lib.Pipeline.ValueKit
public import Idealize.ShloMosaic.Lib.Pointwise
public import Idealize.ShloMosaic.Lib.Claim

@[expose] public section

set_option maxRecDepth 16384

noncomputable section

namespace Cert.Pre_attention_inputs_finite

open Idealize.ShloMosaic Idealize.SL.Sem
open Cert.Pre_attention_inputs_finite.Gen

/-- A value whose absolute value is below +∞ is a real number. -/
theorem real_of_lt (x : Ideal .f32)
    (h : FloatOps.cmpf .olt (FloatOps.hostAbsf x) (FloatOps.ofBits (F := Ideal) .f32 0x7F800000#32) = 1#1) :
    (x : EReal) = (((x : EReal).toReal : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  refine (EReal.coe_toReal hlt.1.ne fun e => ?_).symm
  rw [e] at hlt
  exact absurd hlt.2 (by simp)

theorem one_index : Subsingleton S_.Idx := ⟨fun _ _ => funext fun a => a.elim0⟩

/-- The four arrays' entries, from the predicate. -/
theorem real_entries (a0 : FVec Ideal S16x2048x1024 .f32) (a1 : FVec Ideal S1024x2560 .f32) (a2 : FVec Ideal S2560 .f32)
    (a3 a4 : FVec Ideal S512 .f32) (a5 : FVec Ideal S8x128x128 .f32) (a6 : FVec Ideal S8x128 .f32) (a7 : FVec Ideal S8x513 .f32)
    (a8 : FVec Ideal S1024x1024 .f32) (a9 a10 : FVec Ideal S1024 .f32)
    (h : fn (F := Ideal) a0 a1 a2 a3 a4 a5 a6 a7 a8 a9 a10 = fun _ => 1#1) :
    (∀ i, (a0 i : EReal) = ((a0 i : EReal).toReal : EReal)) ∧ (∀ i, (a1 i : EReal) = ((a1 i : EReal).toReal : EReal))
      ∧ (∀ i, (a2 i : EReal) = ((a2 i : EReal).toReal : EReal)) ∧ (∀ i, (a7 i : EReal) = ((a7 i : EReal).toReal : EReal)) := by
  have h0 := congrFun h ix0
  obtain ⟨h012, h7⟩ := IntOp.andi_eq_one.1 h0
  obtain ⟨h01, h2⟩ := IntOp.andi_eq_one.1 h012
  obtain ⟨h0, h1⟩ := IntOp.andi_eq_one.1 h01
  have := one_index
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h7 i)⟩

end Cert.Pre_attention_inputs_finite

end
-- ==== Proof.Equation.lean ====
/- The equation: from equal arguments that satisfy the precondition, the reference's result is the kernel's array. -/
module

public import proofs.«01_k».proof.Defs
public import proofs.«01_k».proof.Proof.KernelFinal
public import proofs.«01_k».proof.Proof.ReferenceOut
public import proofs.«01_k».proof.Proof.Finite

@[expose] public section

set_option maxRecDepth 16384

noncomputable section

namespace Cert.Mixer

open Idealize.ShloMosaic Idealize.ShloMosaic.TcCoe Idealize.SL.Sem

/-- Two sets of arrays with equal entries are equal. -/
theorem Inputs.ext_of {A B : Inputs} (h0 : ∀ b t d, A.x b t d = B.x b t d) (h1 : ∀ d k, A.w d k = B.w d k)
    (h2 : ∀ k, A.bi k = B.bi k) (h3 : ∀ k, A.cg k = B.cg k) (h4 : ∀ k, A.cb k = B.cb k)
    (h5 : ∀ h i j, A.ws h i j = B.ws h i j) (h6 : ∀ h i, A.wsb h i = B.wsb h i) (h7 : ∀ h r, A.rel h r = B.rel h r)
    (h8 : ∀ d k, A.wo d k = B.wo d k) (h9 : ∀ k, A.g k = B.g k) (h10 : ∀ k, A.b k = B.b k) : A = B := by
  obtain ⟨x, w, bi, cg, cb, ws, wsb, rel, wo, g, b⟩ := A
  obtain ⟨x', w', bi', cg', cb', ws', wsb', rel', wo', g', b'⟩ := B
  obtain rfl : x = x' := funext fun b => funext fun t => funext fun d => h0 b t d
  obtain rfl : w = w' := funext fun d => funext fun k => h1 d k
  obtain rfl : bi = bi' := funext h2
  obtain rfl : cg = cg' := funext h3
  obtain rfl : cb = cb' := funext h4
  obtain rfl : ws = ws' := funext fun h => funext fun i => funext fun j => h5 h i j
  obtain rfl : wsb = wsb' := funext fun h => funext fun i => h6 h i
  obtain rfl : rel = rel' := funext fun h => funext fun r => h7 h r
  obtain rfl : wo = wo' := funext fun d => funext fun k => h8 d k
  obtain rfl : g = g' := funext h9
  obtain rfl : b = b' := funext h10
  rfl

/-- The precondition, read on the kernel's arrays. -/
theorem given_real (m : (ℓ : Loc Cert.KernelIdeal.nD Cert.KernelIdeal.τ Cert.KernelIdeal.sig) → Buf (Elt Ideal) ℓ)
    (hpre : Cert.Pre_KernelIdeal_attention_inputs_finite (hPre_attention_inputs_finite := Cert.Pre_attention_inputs_finite.Gen.facts) m)
    (c : Dev Cert.KernelIdeal.nD) : (Cert.KernelIdeal.Mix.given m c).Finite := by
  obtain ⟨h0, h1, h2, h7⟩ := Cert.Pre_attention_inputs_finite.real_entries _ _ _ _ _ _ _ _ _ _ _ (hpre c)
  exact ⟨fun b t d => h0 (ix3 b t d), fun d k => h1 (ix2 d k), fun k => h2 (ix1 k), fun h r => h7 (ix2 h r)⟩

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Both programs are given the same arrays. -/
theorem same_inputs (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Mix.given (StableHlo.launchContents m' c) = Cert.KernelIdeal.Mix.given m c := by
  unfold Cert.ReferenceIdeal.Mix.given Cert.KernelIdeal.Mix.given
  refine Inputs.ext_of ?_ ?_ ?_ ?_ ?_ ?_ ?_ ?_ ?_ ?_ ?_
  · exact fun b t d => congrFun e0 (ix3 b t d)
  · exact fun d k => congrFun e1 (ix2 d k)
  · exact fun k => congrFun e2 (ix1 k)
  · exact fun k => congrFun e3 (ix1 k)
  · exact fun k => congrFun e4 (ix1 k)
  · exact fun h i j => congrFun e5 (ix3 h i j)
  · exact fun h i => congrFun e6 (ix2 h i)
  · exact fun h r => congrFun e7 (ix2 h r)
  · exact fun d k => congrFun e8 (ix2 d k)
  · exact fun k => congrFun e9 (ix1 k)
  · exact fun k => congrFun e10 (ix1 k)

/-- An array that holds the mixer's output entry by entry is the kernel's output array. -/
theorem equation (c : Dev Cert.KernelIdeal.nD) (hA : (Cert.KernelIdeal.Mix.given m c).Finite) (A : Inputs)
    (hsame : A = Cert.KernelIdeal.Mix.given m c) (X : FVec Ideal Cert.KernelIdeal.S16x2048x1024 .f32)
    (hX : A.Finite → ∀ b t l, X (ix3 b t l) = A.out b t l) : X = Cert.KernelIdeal.Value.G11 m c := by
  subst hsame
  funext i
  have hi : i = ix3 (i 0) (i 1) (i 2) := funext fun a => by
    match a with
    | ⟨0, _⟩ => rfl
    | ⟨1, _⟩ => rfl
    | ⟨2, _⟩ => rfl
  rw [hi]
  exact (hX hA _ _ _).trans (Cert.KernelIdeal.Value.G11_at m c hA _ _ _).symm

end Cert.Mixer

end
-- ==== Proof.ConvSpec.lean ====
/- What the gated convolution mixer computes, as plain functions of its eleven arrays: the projection, the gated row that
   a convolution of 31 taps reads, the product that a convolution of 3 taps reads, and the residual with its layer norm. -/
module

public import proofs.«01_k».proof.Proof.Spec

@[expose] public section

noncomputable section

namespace Cert.Conv

open Idealize.ShloMosaic Cert.Mixer

/-- The eleven arrays the mixer is given. -/
structure Inputs where
  x : Fin 16 → Fin 2048 → Fin 1024 → EReal
  w : Fin 1024 → Fin 2560 → EReal
  bi : Fin 2560 → EReal
  da : Fin 31 → Fin 512 → EReal
  dab : Fin 512 → EReal
  ag : Fin 512 → EReal
  ab : Fin 512 → EReal
  db : Fin 3 → Fin 512 → EReal
  wo : Fin 1024 → Fin 1024 → EReal
  g : Fin 1024 → EReal
  b : Fin 1024 → EReal

/-- The sequence with 32 zeros before it, at position `p`. -/
def hist (f : Fin 2048 → EReal) (p : ℕ) : EReal := if h : 32 ≤ p ∧ p < 2080 then f ⟨p - 32, by omega⟩ else 0

theorem hist_own (f : Fin 2048 → EReal) (p : ℕ) (s : Fin 2048) (h : p = s.val + 32) : hist f p = f s := by
  unfold hist
  rw [dif_pos (by omega)]
  exact congrArg f (Fin.ext (show p - 32 = s.val by omega))

theorem hist_before (f : Fin 2048 → EReal) (p : ℕ) (h : p < 32) : hist f p = 0 := by
  unfold hist
  rw [dif_neg (by omega)]

/-- A value times its logistic. -/
def silu (z : EReal) : EReal := z * Ideal.logistic z

namespace Inputs

variable (A : Inputs)

/-- The projected activations. -/
def proj (b : Fin 16) (t : Fin 2048) (c : Fin 2560) : EReal := (∑ d, A.x b t d * A.w d c) + A.bi c

/-- The first 512 columns, gated by the logistic of the next 512. -/
def glu (b : Fin 16) (c : Fin 512) (t : Fin 2048) : EReal :=
  A.proj b t ⟨c.val, by omega⟩ * Ideal.logistic (A.proj b t ⟨512 + c.val, by omega⟩)

/-- The product of the last two quarters. -/
def pair (b : Fin 16) (c : Fin 512) (t : Fin 2048) : EReal :=
  A.proj b t ⟨1536 + c.val, by omega⟩ * A.proj b t ⟨2048 + c.val, by omega⟩

/-- The convolution of 31 taps, with its shift. -/
def convA (b : Fin 16) (t : Fin 2048) (c : Fin 512) : EReal :=
  A.dab c + ∑ j : Fin 31, A.da j c * hist (A.glu b c) (t.val + 2 + j.val)

/-- The first half: the normalised convolution, times its logistic. -/
def left (b : Fin 16) (t : Fin 2048) (c : Fin 512) : EReal :=
  silu (lnorm (Ideal.ofBits .f32 1140850688#32) (A.convA b t) A.ag A.ab c)

/-- The second half: the gated convolution of 3 taps. -/
def right (b : Fin 16) (t : Fin 2048) (c : Fin 512) : EReal :=
  A.proj b t ⟨1024 + c.val, by omega⟩ * ∑ j : Fin 3, A.db j c * hist (A.pair b c) (t.val + 30 + j.val)

/-- The two halves side by side. -/
def mix (b : Fin 16) (t : Fin 2048) (c : Fin 1024) : EReal :=
  if h : c.val < 512 then A.left b t ⟨c.val, h⟩ else A.right b t ⟨c.val - 512, by omega⟩

/-- The mixer's output. -/
def out (b : Fin 16) (t : Fin 2048) (c : Fin 1024) : EReal :=
  lnorm (Ideal.ofBits .f32 1149239296#32)
    (fun k => Ideal.ofBits .f32 1068827891#32 * A.x b t k + ∑ c', A.mix b t c' * A.wo c' k) A.g A.b c

end Inputs

/-- Terms added one by one. -/
def chain (b : EReal) (f : ℕ → EReal) : ℕ → EReal
  | 0 => b
  | n + 1 => chain b f n + f n

theorem chain_eq (b : EReal) (f : ℕ → EReal) (n : ℕ) : chain b f n = b + ∑ j : Fin n, f j.val := by
  induction n with
  | zero => simp [chain]
  | succ n ih => rw [Fin.sum_univ_castSucc, ← add_assoc, ← add_comm (f _), add_comm (f _)]; exact congrArg (· + f n) ih

/-- The terms of 31 taps, added one by one to `b`. -/
theorem taps31 (b : EReal) (f : Fin 31 → EReal) :
    b + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 = b + ∑ j, f j := by
  have h := chain_eq b (fun j => f (Fin.ofNat 31 j)) 31
  refine Eq.trans ?_ (h.trans ?_)
  · rfl
  · exact congrArg (b + ·) (Finset.sum_congr rfl fun j _ => congrArg f (Fin.ext (Nat.mod_eq_of_lt j.isLt)))

end Cert.Conv

end
-- ==== Proof.ConvArgs.lean ====
/- What the convolution kernel's blocks hold: the arrays it is given. -/
module

public import proofs.«01_k».proof.Proof.Gen.Kernel2Ideal.Frame
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.ConvSpec
public import proofs.«01_k».proof.Proof.Tile

@[expose] public section

set_option maxRecDepth 16384

noncomputable section

namespace Cert.Kernel2Ideal.Mix

open Idealize.ShloMosaic Idealize.ShloMosaic.TcCoe Idealize.SL.Sem
open Cert.Kernel2Ideal Cert.Kernel2Ideal.Gen Cert.Mixer Cert.Conv

variable (m : (ℓ : Loc nD τ sig) → Buf (Elt Ideal) ℓ)

/-- The eleven arrays a device holds before the run. -/
def given (c : Dev nD) : Conv.Inputs where
  x b t d := (m ((c : Thread nD τ).loc main_arg0)) (ix3 b t d)
  w d k := (m ((c : Thread nD τ).loc main_arg1)) (ix2 d k)
  bi k := (m ((c : Thread nD τ).loc main_arg2)) (ix1 k)
  da j k := (m ((c : Thread nD τ).loc main_arg3)) (ix2 j k)
  dab k := (m ((c : Thread nD τ).loc main_arg4)) (ix1 k)
  ag k := (m ((c : Thread nD τ).loc main_arg5)) (ix1 k)
  ab k := (m ((c : Thread nD τ).loc main_arg6)) (ix1 k)
  db j k := (m ((c : Thread nD τ).loc main_arg7)) (ix2 j k)
  wo d k := (m ((c : Thread nD τ).loc main_arg8)) (ix2 d k)
  g k := (m ((c : Thread nD τ).loc main_arg9)) (ix1 k)
  b k := (m ((c : Thread nD τ).loc main_arg10)) (ix1 k)

/-- Where each window's block stands. -/
theorem idx : ∀ t : Fin cfg0.N, win0_0.index t = ![t.val / 4, t.val % 4, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] :=
  (by decide +kernel : ∀ t : Fin grid0.N, _)

/-- The sequence a point works on. -/
def batchOf (t : Fin cfg0.N) : Fin 16 := ⟨t.val / 4, by have h := t.isLt; have e : cfg0.N = 64 := N_0; omega⟩
/-- The tile of 512 positions a point works on. -/
def tileOf (t : Fin cfg0.N) : Fin 4 := ⟨t.val % 4, by omega⟩

/-! What the host code leaves in the arrays the kernel reads -/

theorem w_table (c : Dev nD) (d : Fin 1024) (k : Fin 2560) :
    (show FVec Ideal S1024x2560 .bf16 from V m c main_v0) (ix2 d k) = (given m c).w d k := by
  unfold given
  unfold V
  after_reads_simp
  pointwise

theorem bi_table (c : Dev nD) (k : Fin 2560) :
    (show FVec Ideal S1x2560 .f32 from V m c main_v1) (ix2 0 k) = (given m c).bi k := by
  unfold given
  unfold V
  after_reads_simp
  pointwise

theorem dab_table (c : Dev nD) (k : Fin 512) :
    (show FVec Ideal S1x512 .f32 from V m c main_v2) (ix2 0 k) = (given m c).dab k := by
  unfold given
  unfold V
  after_reads_simp
  pointwise

theorem ag_table (c : Dev nD) (k : Fin 512) :
    (show FVec Ideal S1x512 .f32 from V m c main_v3) (ix2 0 k) = (given m c).ag k := by
  unfold given
  unfold V
  after_reads_simp
  pointwise

theorem ab_table (c : Dev nD) (k : Fin 512) :
    (show FVec Ideal S1x512 .f32 from V m c main_v4) (ix2 0 k) = (given m c).ab k := by
  unfold given
  unfold V
  after_reads_simp
  pointwise

theorem wo_table (c : Dev nD) (d : Fin 1024) (k : Fin 1024) :
    (show FVec Ideal S1024x1024 .bf16 from V m c main_v5) (ix2 d k) = (given m c).wo d k := by
  unfold given
  unfold V
  after_reads_simp
  pointwise

theorem g_table (c : Dev nD) (k : Fin 1024) :
    (show FVec Ideal S1x1024 .f32 from V m c main_v6) (ix2 0 k) = (given m c).g k := by
  unfold given
  unfold V
  after_reads_simp
  pointwise

theorem b_table (c : Dev nD) (k : Fin 1024) :
    (show FVec Ideal S1x1024 .f32 from V m c main_v7) (ix2 0 k) = (given m c).b k := by
  unfold given
  unfold V
  after_reads_simp
  pointwise

/-! The blocks at a point -/

theorem x_block (c : Dev nD) (t : Fin cfg0.N) (r : Fin 512) (d : Fin 1024) :
    (show FVec Ideal S1x512x1024 .f32 from iblk m c 0 t) (ix3 0 r d)
      = (given m c).x (batchOf t) ⟨512 * (tileOf t).val + r.val, by have := (tileOf t).isLt; omega⟩ d := by
  refine Eq.trans (b := (show FVec Ideal S16x2048x1024 .f32 from V m c main_arg0) (ix3 (batchOf t) ⟨512 * (tileOf t).val + r.val, by have := (tileOf t).isLt; omega⟩ d)) ?_ ?_
  · unfold batchOf tileOf
    blk_simp [iblk, idx t]
    generalize V m c main_arg0 = X
    blk_ext [idx t]
  · exact congrFun (V_main_arg0 m c) _

theorem da_block (c : Dev nD) (t : Fin cfg0.N) (d : Fin 31) (k : Fin 512) :
    (show FVec Ideal S31x512 .f32 from iblk m c 3 t) (ix2 d k) = (given m c).da d k := by
  refine Eq.trans (b := (show FVec Ideal S31x512 .f32 from V m c main_arg3) (ix2 d k)) ?_ ?_
  · blk_simp [iblk, idx t]
    generalize V m c main_arg3 = X
    blk_ext [idx t]
  · exact congrFun (V_main_arg3 m c) _

theorem db_block (c : Dev nD) (t : Fin cfg0.N) (d : Fin 3) (k : Fin 512) :
    (show FVec Ideal S3x512 .f32 from iblk m c 7 t) (ix2 d k) = (given m c).db d k := by
  refine Eq.trans (b := (show FVec Ideal S3x512 .f32 from V m c main_arg7) (ix2 d k)) ?_ ?_
  · blk_simp [iblk, idx t]
    generalize V m c main_arg7 = X
    blk_ext [idx t]
  · exact congrFun (V_main_arg7 m c) _

theorem w_block (c : Dev nD) (t : Fin cfg0.N) (d : Fin 1024) (k : Fin 2560) :
    (show FVec Ideal S1024x2560 .bf16 from iblk m c 1 t) (ix2 d k) = (given m c).w d k := by
  refine Eq.trans ?_ (w_table m c d k)
  blk_simp [iblk, idx t]
  generalize V m c main_v0 = X
  blk_ext [idx t]

theorem bi_block (c : Dev nD) (t : Fin cfg0.N) (k : Fin 2560) :
    (show FVec Ideal S1x2560 .f32 from iblk m c 2 t) (ix2 0 k) = (given m c).bi k := by
  refine Eq.trans ?_ (bi_table m c k)
  blk_simp [iblk, idx t]
  generalize V m c main_v1 = X
  blk_ext [idx t]

theorem dab_block (c : Dev nD) (t : Fin cfg0.N) (k : Fin 512) :
    (show FVec Ideal S1x512 .f32 from iblk m c 4 t) (ix2 0 k) = (given m c).dab k := by
  refine Eq.trans ?_ (dab_table m c k)
  blk_simp [iblk, idx t]
  generalize V m c main_v2 = X
  blk_ext [idx t]

theorem ag_block (c : Dev nD) (t : Fin cfg0.N) (k : Fin 512) :
    (show FVec Ideal S1x512 .f32 from iblk m c 5 t) (ix2 0 k) = (given m c).ag k := by
  refine Eq.trans ?_ (ag_table m c k)
  blk_simp [iblk, idx t]
  generalize V m c main_v3 = X
  blk_ext [idx t]

theorem ab_block (c : Dev nD) (t : Fin cfg0.N) (k : Fin 512) :
    (show FVec Ideal S1x512 .f32 from iblk m c 6 t) (ix2 0 k) = (given m c).ab k := by
  refine Eq.trans ?_ (ab_table m c k)
  blk_simp [iblk, idx t]
  generalize V m c main_v4 = X
  blk_ext [idx t]

theorem wo_block (c : Dev nD) (t : Fin cfg0.N) (d : Fin 1024) (k : Fin 1024) :
    (show FVec Ideal S1024x1024 .bf16 from iblk m c 8 t) (ix2 d k) = (given m c).wo d k := by
  refine Eq.trans ?_ (wo_table m c d k)
  blk_simp [iblk, idx t]
  generalize V m c main_v5 = X
  blk_ext [idx t]

theorem g_block (c : Dev nD) (t : Fin cfg0.N) (k : Fin 1024) :
    (show FVec Ideal S1x1024 .f32 from iblk m c 9 t) (ix2 0 k) = (given m c).g k := by
  refine Eq.trans ?_ (g_table m c k)
  blk_simp [iblk, idx t]
  generalize V m c main_v6 = X
  blk_ext [idx t]

theorem b_block (c : Dev nD) (t : Fin cfg0.N) (k : Fin 1024) :
    (show FVec Ideal S1x1024 .f32 from iblk m c 10 t) (ix2 0 k) = (given m c).b k := by
  refine Eq.trans ?_ (b_table m c k)
  blk_simp [iblk, idx t]
  generalize V m c main_v7 = X
  blk_ext [idx t]

/-- A column of the weights' window, read through a slice. -/
theorem w_slice (c : Dev nD) (t : Fin cfg0.N) (o n : ℕ) (inb) (d : Fin 1024) (k : Fin n) (h : o + k.val < 2560) :
    (View.ld (iblk m c 1 t) (Rect.unit (s := S1024x2560) ![0, o] ![1024, n] inb) : Vec Ideal ⟨2, ![1024, n]⟩ .bf16) (ix2 d k)
      = (given m c).w d ⟨o + k.val, h⟩ := by
  refine (congrArg (show FVec Ideal S1024x2560 .bf16 from iblk m c 1 t) (rect_idx inb d k (by omega) h)).trans ?_
  refine (w_block m c t _ _).trans ?_
  exact congrArg (fun a => (given m c).w a _) (Fin.ext (Nat.zero_add _))

/-- An entry of the shifts' window, read through a slice. -/
theorem b_slice (c : Dev nD) (t : Fin cfg0.N) (o n : ℕ) (inb) (k : Fin n) (h : o + k.val < 2560) :
    (View.ld (iblk m c 2 t) (Rect.unit (s := S1x2560) ![0, o] ![1, n] inb) : Vec Ideal ⟨2, ![1, n]⟩ .f32) (ix2 0 k)
      = (given m c).bi ⟨o + k.val, h⟩ := by
  refine (congrArg (show FVec Ideal S1x2560 .f32 from iblk m c 2 t) (rect_idx inb 0 k (by decide) h)).trans ?_
  exact bi_block m c t _

/-- One row of the 31 taps' window. -/
theorem da_row (c : Dev nD) (t : Fin cfg0.N) (j : Fin 31) (inb) (k : Fin 512) :
    (View.ld (iblk m c 3 t) (Rect.unit (s := S31x512) ![j.val, 0] ![1, 512] inb) : Vec Ideal ⟨2, ![1, 512]⟩ .f32) (ix2 0 k)
      = (given m c).da j k := by
  refine (congrArg (show FVec Ideal S31x512 .f32 from iblk m c 3 t) (rect_idx inb 0 k (by omega) (by omega))).trans ?_
  refine (da_block m c t _ _).trans ?_
  exact congrArg₂ (given m c).da (Fin.ext (Nat.add_zero _)) (Fin.ext (Nat.zero_add _))

/-- One row of the 3 taps' window. -/
theorem db_row (c : Dev nD) (t : Fin cfg0.N) (j : Fin 3) (inb) (k : Fin 512) :
    (View.ld (iblk m c 7 t) (Rect.unit (s := S3x512) ![j.val, 0] ![1, 512] inb) : Vec Ideal ⟨2, ![1, 512]⟩ .f32) (ix2 0 k)
      = (given m c).db j k := by
  refine (congrArg (show FVec Ideal S3x512 .f32 from iblk m c 7 t) (rect_idx inb 0 k (by omega) (by omega))).trans ?_
  refine (db_block m c t _ _).trans ?_
  exact congrArg₂ (given m c).db (Fin.ext (Nat.add_zero _)) (Fin.ext (Nat.zero_add _))

end Cert.Kernel2Ideal.Mix

end
-- ==== Proof.ConvTile.lean ====
/- Reading one place of a three-axis buffer that holds shifted copies of the rows of another. -/
module

public import proofs.«01_k».proof.Proof.Gen.Kernel2Ideal.Skeleton
public import Idealize.ShloMosaic.Lib.Pipeline.ValueKit
public import Idealize.ShloMosaic.Lib.Pointwise
public import proofs.«01_k».proof.Proof.Tile

@[expose] public section

set_option maxRecDepth 16384

noncomputable section

namespace Cert.Kernel2Ideal.Mix

open Idealize.ShloMosaic Idealize.ShloMosaic.TcCoe Idealize.SL.Sem
open Cert.Kernel2Ideal Cert.Kernel2Ideal.Gen Cert.Mixer

/-- A place of the buffer is read from the last copy that holds it, or else from the earlier ones. -/
theorem copy_peel {A B C s n : ℕ}
    (inb : ∀ a, (![s, 0, 0] : Fin 3 → ℕ) a + (![1, n, C] : Fin 3 → ℕ) a ≤ (⟨3, ![A, B, C]⟩ : Shape).size a)
    (w : (⟨3, ![1, n, C]⟩ : Shape).Idx → Elt Ideal .f32) (L : List (View.Piece (Elt Ideal) ⟨3, ![A, B, C]⟩ .f32))
    (q : Fin A) (r : Fin B) (c : Fin C) (v : EReal) (hr : r.val < n)
    (h1 : q.val = s → w (ix3 0 ⟨r.val, hr⟩ c) = v)
    (h2 : q.val ≠ s → View.canon L (ix3 q r c) = v) :
    View.canon ((⟨Rect.unit ![s, 0, 0] ![1, n, C] inb, w⟩ : View.Piece (Elt Ideal) ⟨3, ![A, B, C]⟩ .f32) :: L) (ix3 q r c) = v := by
  by_cases h : q.val = s
  · have hi : (ix3 q r c : (⟨3, ![A, B, C]⟩ : Shape).Idx) = (Rect.unit (s := ⟨3, ![A, B, C]⟩) ![s, 0, 0] ![1, n, C] inb).emb
        (ix3 (0 : Fin 1) (⟨r.val, hr⟩ : Fin n) c) := by
      funext a
      match a with
      | ⟨0, _⟩ => exact Fin.ext (show q.val = s + 1 * 0 by omega)
      | ⟨1, _⟩ => exact Fin.ext (show r.val = 0 + 1 * r.val by omega)
      | ⟨2, _⟩ => exact Fin.ext (show c.val = 0 + 1 * c.val by omega)
    rw [hi, View.canon_cons_emb]
    exact h1 h
  · rw [View.canon_cons_of_not_mem]
    · exact h2 h
    · intro hm
      obtain ⟨x, hx⟩ := (Rect.unit (s := ⟨3, ![A, B, C]⟩) ![s, 0, 0] ![1, n, C] inb).exists_idx_of_mem hm
      have e0 : s + 1 * (x 0).val = q.val := congrArg (fun y : (⟨3, ![A, B, C]⟩ : Shape).Idx => (y 0).val) hx
      have b0 : (x 0).val < 1 := (x 0).isLt
      omega

/-- A block of one copy. -/
theorem copy_idx {A B C s o n : ℕ}
    (inb : ∀ a, (![s, o, 0] : Fin 3 → ℕ) a + (![1, n, C] : Fin 3 → ℕ) a ≤ (⟨3, ![A, B, C]⟩ : Shape).size a)
    (i : Fin n) (j : Fin C) (h0 : s < A) (h1 : o + i.val < B) :
    (Rect.unit (s := ⟨3, ![A, B, C]⟩) ![s, o, 0] ![1, n, C] inb).idx (ix3 0 i j) = ix3 ⟨s, h0⟩ ⟨o + i.val, h1⟩ j := by
  funext a
  match a with
  | ⟨0, _⟩ => exact Fin.ext (show s + 1 * 0 = s by omega)
  | ⟨1, _⟩ => exact Fin.ext (show o + 1 * i.val = o + i.val by omega)
  | ⟨2, _⟩ => exact Fin.ext (show 0 + 1 * j.val = j.val by omega)

/-- A block of 536 rows as a copy. -/
theorem cast_at (X : Vec Ideal S536x512 .f32) (h) (p : Fin 536) (k : Fin 512) :
    shapeCast S1x536x512 X h (ix3 0 p k) = X (ix2 p k) := by
  pointwise

/-- A block of 536 rows of the buffer, set as one copy. -/
theorem shift_cast (K : S544x512.Idx → Elt Ideal .f32) (o : ℕ) (inb h) (p : Fin 536) (k : Fin 512) (ho : o + p.val < 544) :
    shapeCast S1x536x512 (fun j => K ((Rect.unit (s := S544x512) ![o, 0] ![536, 512] inb).idx j)) h (ix3 0 p k)
      = K (ix2 ⟨o + p.val, ho⟩ k) := by
  refine (cast_at (fun j => K ((Rect.unit (s := S544x512) ![o, 0] ![536, 512] inb).idx j)) h p k).trans ?_
  refine (congrArg K (rect_idx inb p k ho (by omega))).trans ?_
  exact congrArg (fun c => K (ix2 _ c)) (Fin.ext (Nat.zero_add _))

/-- The seven shifted copies the convolution of 31 taps reads. -/
theorem copies_at (K : S544x512.Idx → Elt Ideal .f32) (b7 b6 b5 b4 b3 b2 b1) (i7 i6 i5 i4 i3 i2 i1) (e7 e6 e5 e4 e3 e2 e1)
    (q : Fin 8) (r : Fin 544) (k : Fin 512) (hq : 1 ≤ q.val) (hr : r.val < 536) (hs : 0 + q.val + r.val < 544) :
    View.canon (Val := Elt Ideal) (e := .f32) [
      (⟨Rect.unit (s := S8x544x512) ![7, 0, 0] ![1, 536, 512] b7,
        shapeCast S1x536x512 (fun j => K ((Rect.unit (s := S544x512) ![7, 0] ![536, 512] i7).idx j)) e7⟩ : View.Piece (Elt Ideal) S8x544x512 .f32),
      (⟨Rect.unit (s := S8x544x512) ![6, 0, 0] ![1, 536, 512] b6,
        shapeCast S1x536x512 (fun j => K ((Rect.unit (s := S544x512) ![6, 0] ![536, 512] i6).idx j)) e6⟩ : View.Piece (Elt Ideal) S8x544x512 .f32),
      (⟨Rect.unit (s := S8x544x512) ![5, 0, 0] ![1, 536, 512] b5,
        shapeCast S1x536x512 (fun j => K ((Rect.unit (s := S544x512) ![5, 0] ![536, 512] i5).idx j)) e5⟩ : View.Piece (Elt Ideal) S8x544x512 .f32),
      (⟨Rect.unit (s := S8x544x512) ![4, 0, 0] ![1, 536, 512] b4,
        shapeCast S1x536x512 (fun j => K ((Rect.unit (s := S544x512) ![4, 0] ![536, 512] i4).idx j)) e4⟩ : View.Piece (Elt Ideal) S8x544x512 .f32),
      (⟨Rect.unit (s := S8x544x512) ![3, 0, 0] ![1, 536, 512] b3,
        shapeCast S1x536x512 (fun j => K ((Rect.unit (s := S544x512) ![3, 0] ![536, 512] i3).idx j)) e3⟩ : View.Piece (Elt Ideal) S8x544x512 .f32),
      (⟨Rect.unit (s := S8x544x512) ![2, 0, 0] ![1, 536, 512] b2,
        shapeCast S1x536x512 (fun j => K ((Rect.unit (s := S544x512) ![2, 0] ![536, 512] i2).idx j)) e2⟩ : View.Piece (Elt Ideal) S8x544x512 .f32),
      (⟨Rect.unit (s := S8x544x512) ![1, 0, 0] ![1, 536, 512] b1,
        shapeCast S1x536x512 (fun j => K ((Rect.unit (s := S544x512) ![1, 0] ![536, 512] i1).idx j)) e1⟩ : View.Piece (Elt Ideal) S8x544x512 .f32)] (ix3 q r k)
      = K (ix2 ⟨0 + q.val + r.val, hs⟩ k) := by
  refine copy_peel _ _ _ _ _ _ _ hr (fun e => (shift_cast K 7 i7 e7 ⟨r.val, hr⟩ k (by show 7 + r.val < 544; omega)).trans
    (congrArg (fun p => K (ix2 p k)) (Fin.ext (show 7 + r.val = 0 + q.val + r.val by omega)))) fun n7 => ?_
  refine copy_peel _ _ _ _ _ _ _ hr (fun e => (shift_cast K 6 i6 e6 ⟨r.val, hr⟩ k (by show 6 + r.val < 544; omega)).trans
    (congrArg (fun p => K (ix2 p k)) (Fin.ext (show 6 + r.val = 0 + q.val + r.val by omega)))) fun n6 => ?_
  refine copy_peel _ _ _ _ _ _ _ hr (fun e => (shift_cast K 5 i5 e5 ⟨r.val, hr⟩ k (by show 5 + r.val < 544; omega)).trans
    (congrArg (fun p => K (ix2 p k)) (Fin.ext (show 5 + r.val = 0 + q.val + r.val by omega)))) fun n5 => ?_
  refine copy_peel _ _ _ _ _ _ _ hr (fun e => (shift_cast K 4 i4 e4 ⟨r.val, hr⟩ k (by show 4 + r.val < 544; omega)).trans
    (congrArg (fun p => K (ix2 p k)) (Fin.ext (show 4 + r.val = 0 + q.val + r.val by omega)))) fun n4 => ?_
  refine copy_peel _ _ _ _ _ _ _ hr (fun e => (shift_cast K 3 i3 e3 ⟨r.val, hr⟩ k (by show 3 + r.val < 544; omega)).trans
    (congrArg (fun p => K (ix2 p k)) (Fin.ext (show 3 + r.val = 0 + q.val + r.val by omega)))) fun n3 => ?_
  refine copy_peel _ _ _ _ _ _ _ hr (fun e => (shift_cast K 2 i2 e2 ⟨r.val, hr⟩ k (by show 2 + r.val < 544; omega)).trans
    (congrArg (fun p => K (ix2 p k)) (Fin.ext (show 2 + r.val = 0 + q.val + r.val by omega)))) fun n2 => ?_
  refine copy_peel _ _ _ _ _ _ _ hr (fun e => (shift_cast K 1 i1 e1 ⟨r.val, hr⟩ k (by show 1 + r.val < 544; omega)).trans
    (congrArg (fun p => K (ix2 p k)) (Fin.ext (show 1 + r.val = 0 + q.val + r.val by omega)))) fun n1 => ?_
  omega

/-- The two shifted copies the convolution of 3 taps reads. -/
theorem copies2_at (K : S544x512.Idx → Elt Ideal .f32) (b7 b6) (i7 i6) (e7 e6)
    (q : Fin 2) (r : Fin 544) (k : Fin 512) (hq : 0 ≤ q.val) (hr : r.val < 536) (hs : 6 + q.val + r.val < 544) :
    View.canon (Val := Elt Ideal) (e := .f32) [
      (⟨Rect.unit (s := S2x544x512) ![1, 0, 0] ![1, 536, 512] b7,
        shapeCast S1x536x512 (fun j => K ((Rect.unit (s := S544x512) ![7, 0] ![536, 512] i7).idx j)) e7⟩ : View.Piece (Elt Ideal) S2x544x512 .f32),
      (⟨Rect.unit (s := S2x544x512) ![0, 0, 0] ![1, 536, 512] b6,
        shapeCast S1x536x512 (fun j => K ((Rect.unit (s := S544x512) ![6, 0] ![536, 512] i6).idx j)) e6⟩ : View.Piece (Elt Ideal) S2x544x512 .f32)] (ix3 q r k)
      = K (ix2 ⟨6 + q.val + r.val, hs⟩ k) := by
  refine copy_peel _ _ _ _ _ _ _ hr (fun e => (shift_cast K 7 i7 e7 ⟨r.val, hr⟩ k (by show 7 + r.val < 544; omega)).trans
    (congrArg (fun p => K (ix2 p k)) (Fin.ext (show 7 + r.val = 6 + q.val + r.val by omega)))) fun n7 => ?_
  refine copy_peel _ _ _ _ _ _ _ hr (fun e => (shift_cast K 6 i6 e6 ⟨r.val, hr⟩ k (by show 6 + r.val < 544; omega)).trans
    (congrArg (fun p => K (ix2 p k)) (Fin.ext (show 6 + r.val = 6 + q.val + r.val by omega)))) fun n6 => ?_
  omega

end Cert.Kernel2Ideal.Mix

end
-- ==== Proof.ConvBlock.lean ====
/- What one grid point of the convolution kernel computes, block by block: the gated row, the two convolutions of one
   block of 256 positions, and the closing layer norm, each at one place of its block. -/
module

public import proofs.«01_k».proof.Proof.Gen.Kernel2Ideal.Skeleton
public import Idealize.ShloMosaic.Lib.Pipeline.ValueKit
public import Idealize.ShloMosaic.Lib.Pointwise
public import proofs.«01_k».proof.Proof.ConvSpec
public import proofs.«01_k».proof.Proof.ConvTile

@[expose] public section

set_option maxRecDepth 16384

noncomputable section

namespace Cert.Kernel2Ideal.Mix

open Idealize.ShloMosaic Idealize.ShloMosaic.TcCoe Idealize.SL.Sem
open Cert.Kernel2Ideal Cert.Kernel2Ideal.Gen Cert.Mixer Cert.Conv

/-- The closing layer norm, with the mixed halves `M` given place by place. -/
theorem final_at (x : Vec Ideal S1x512x1024 .f32) (m : Vec Ideal S512x1024 .bf16) (w : Vec Ideal S1024x1024 .bf16)
    (g b : Vec Ideal S1x1024 .f32) (r : Fin 512) (c : Fin 1024) (X M G B : Fin 1024 → EReal) (W : Fin 1024 → Fin 1024 → EReal)
    (hx : ∀ c, x (ix3 0 r c) = X c) (hm : ∀ c, m (ix2 r c) = M c) (hw : ∀ d c, w (ix2 d c) = W d c)
    (hg : ∀ c, g (ix2 0 c) = G c) (hb : ∀ c, b (ix2 0 c) = B c) :
    k0_pay1 (k0_pay45 g) (k0_pay46 b) (k0_pay47 (k0_pay4 x) m w) (k0_pay48 (k0_pay4 x) m w) (ix3 0 r c)
      = lnorm (Ideal.ofBits .f32 1149239296#32)
          (fun k => Ideal.ofBits .f32 1068827891#32 * X k + ∑ c', M c' * W c' k) G B c := by
  pointwise [k0_pay1, k0_pay45, k0_pay46, k0_pay47, k0_pay48, k0_pay4]
  simp only [hx, hm, hw, hg, hb]
  rfl

/-- The gated row. -/
theorem glu_at (x : Vec Ideal S1x512x1024 .f32) (w : Vec Ideal S1024x1024 .bf16) (b : Vec Ideal S1x1024 .f32)
    (r : Fin 512) (c : Fin 512) :
    k0_pay6 x w b (ix2 r c) = ((∑ d, x (ix3 0 r d) * w (ix2 d ⟨c.val, by omega⟩)) + b (ix2 0 ⟨c.val, by omega⟩))
      * Ideal.logistic ((∑ d, x (ix3 0 r d) * w (ix2 d ⟨512 + c.val, by omega⟩)) + b (ix2 0 ⟨512 + c.val, by omega⟩)) := by
  pointwise [k0_pay6, k0_pay5, k0_pay4]

/-- The gate of the second half. -/
theorem gate_at (x : Vec Ideal S1x512x1024 .f32) (w : Vec Ideal S1024x1536 .bf16) (b : Vec Ideal S1x1536 .f32)
    (r : Fin 512) (c : Fin 512) :
    k0_pay37 (k0_pay5 x) w b (ix2 r c) = (∑ d, x (ix3 0 r d) * w (ix2 d ⟨c.val, by omega⟩)) + b (ix2 0 ⟨c.val, by omega⟩) := by
  pointwise [k0_pay37, k0_pay36, k0_pay5, k0_pay4]

/-- The product the second convolution reads. -/
theorem pair_at (x : Vec Ideal S1x512x1024 .f32) (w : Vec Ideal S1024x1536 .bf16) (b : Vec Ideal S1x1536 .f32)
    (r : Fin 512) (c : Fin 512) :
    k0_pay38 (k0_pay5 x) w b (ix2 r c)
      = ((∑ d, x (ix3 0 r d) * w (ix2 d ⟨512 + c.val, by omega⟩)) + b (ix2 0 ⟨512 + c.val, by omega⟩))
        * ((∑ d, x (ix3 0 r d) * w (ix2 d ⟨1024 + c.val, by omega⟩)) + b (ix2 0 ⟨1024 + c.val, by omega⟩)) := by
  pointwise [k0_pay38, k0_pay36, k0_pay5, k0_pay4]

/-- The zeros that stand before a sequence. -/
theorem zeros_at (i : Fin 32) (k : Fin 512) : k0_pay2 (F := Ideal) (ix2 i k) = 0 := by
  pointwise [k0_pay2]
theorem zeros2_at (i : Fin 32) (k : Fin 512) : k0_pay3 (F := Ideal) (ix2 i k) = 0 := by
  pointwise [k0_pay3]

/-- The rows kept for the next tile. -/
theorem keep_at (v : Vec Ideal S32x512 .f32) (i : Fin 32) (k : Fin 512) : k0_pay43 v (ix2 i k) = v (ix2 i k) := by
  pointwise [k0_pay43]
theorem keep2_at (v : Vec Ideal S32x512 .f32) (i : Fin 32) (k : Fin 512) : k0_pay44 v (ix2 i k) = v (ix2 i k) := by
  pointwise [k0_pay44]

/-- The last taps, the layer norm and the logistic, at the first block. -/
theorem tail0_at (u : Vec Ideal S256x512 .f32) (d28 d29 d30 g b : Vec Ideal S1x512 .f32) (x28 x29 : Vec Ideal S1x256x512 .f32)
    (x30 : Vec Ideal S256x512 .f32) (i : Fin 256) (c : Fin 512) (U : Fin 512 → EReal)
    (hU : ∀ k, u (ix2 i k) + d28 (ix2 0 k) * x28 (ix3 0 i k) + d29 (ix2 0 k) * x29 (ix3 0 i k) + d30 (ix2 0 k) * x30 (ix2 i k) = U k) :
    k0_pay24 (k0_pay23 u d28 x28 d29 x29 d30 x30 g b) (ix2 i c)
      = silu (lnorm (Ideal.ofBits .f32 1140850688#32) U (fun k => g (ix2 0 k)) (fun k => b (ix2 0 k)) c) := by
  pointwise [k0_pay24, k0_pay23]
  simp only [hU]
  rfl

/-- The layer norm and the logistic, at the second block. -/
theorem tail1_at (u : Vec Ideal S256x512 .f32) (d26 d27 d28 d29 d30 g b : Vec Ideal S1x512 .f32)
    (x26 x27 x28 x29 : Vec Ideal S1x256x512 .f32)
    (x30 : Vec Ideal S256x512 .f32) (i : Fin 256) (c : Fin 512) (U : Fin 512 → EReal)
    (hU : ∀ k, u (ix2 i k) + d26 (ix2 0 k) * x26 (ix3 0 i k) + d27 (ix2 0 k) * x27 (ix3 0 i k)
      + d28 (ix2 0 k) * x28 (ix3 0 i k) + d29 (ix2 0 k) * x29 (ix3 0 i k) + d30 (ix2 0 k) * x30 (ix2 i k) = U k) :
    k0_pay35 (k0_pay31 u d26 x26 d27 x27 d28 x28 d29 x29 d30 x30) (k0_pay32 g) (k0_pay33 b)
        (k0_pay34 u d26 x26 d27 x27 d28 x28 d29 x29 d30 x30) (ix2 i c)
      = silu (lnorm (Ideal.ofBits .f32 1140850688#32) U (fun k => g (ix2 0 k)) (fun k => b (ix2 0 k)) c) := by
  pointwise [k0_pay35, k0_pay31, k0_pay32, k0_pay33, k0_pay34]
  simp only [hU]
  rfl

/-- The taps before the last, at the first block. -/
theorem a0_taps (D : Fin 31 → Vec Ideal S1x512 .f32) (X3 : Fin 31 → Vec Ideal S1x256x512 .f32) (X2 : Fin 31 → Vec Ideal S256x512 .f32)
    (bias : Vec Ideal S1x512 .f32) (i : Fin 256) (k : Fin 512) :
    (k0_pay22 (k0_pay21 (k0_pay20 (k0_pay17 (k0_pay16 (k0_pay14 bias) (D 0) (k0_pay15 (X3 0)) (D 1) (X3 1) (D 2) (X3 2) (D 3) (X3 3) (D 4) (X3 4) (D 5) (X3 5)) (D 6) (X2 6) (D 7) (X3 7) (D 8) (X3 8) (D 9) (X3 9) (D 10) (X3 10)) (k0_pay18 (X3 11)) (k0_pay19 (D 11)) (D 12) (X3 12) (D 13) (X3 13) (D 14) (X2 14) (D 15) (X3 15) (D 16) (X3 16)) (D 17) (X3 17) (D 18) (X3 18) (D 19) (X3 19) (D 20) (X3 20) (D 21) (X3 21) (D 22) (X2 22)) (D 23) (X3 23) (D 24) (X3 24) (D 25) (X3 25) (D 26) (X3 26) (D 27) (X3 27)) (ix2 i k)
      = bias (ix2 0 k) + D 0 (ix2 0 k) * X3 0 (ix3 0 i k) + D 1 (ix2 0 k) * X3 1 (ix3 0 i k) + D 2 (ix2 0 k) * X3 2 (ix3 0 i k) + D 3 (ix2 0 k) * X3 3 (ix3 0 i k) + D 4 (ix2 0 k) * X3 4 (ix3 0 i k) + D 5 (ix2 0 k) * X3 5 (ix3 0 i k) + D 6 (ix2 0 k) * X2 6 (ix2 i k) + D 7 (ix2 0 k) * X3 7 (ix3 0 i k) + D 8 (ix2 0 k) * X3 8 (ix3 0 i k) + D 9 (ix2 0 k) * X3 9 (ix3 0 i k) + D 10 (ix2 0 k) * X3 10 (ix3 0 i k) + D 11 (ix2 0 k) * X3 11 (ix3 0 i k) + D 12 (ix2 0 k) * X3 12 (ix3 0 i k) + D 13 (ix2 0 k) * X3 13 (ix3 0 i k) + D 14 (ix2 0 k) * X2 14 (ix2 i k) + D 15 (ix2 0 k) * X3 15 (ix3 0 i k) + D 16 (ix2 0 k) * X3 16 (ix3 0 i k) + D 17 (ix2 0 k) * X3 17 (ix3 0 i k) + D 18 (ix2 0 k) * X3 18 (ix3 0 i k) + D 19 (ix2 0 k) * X3 19 (ix3 0 i k) + D 20 (ix2 0 k) * X3 20 (ix3 0 i k) + D 21 (ix2 0 k) * X3 21 (ix3 0 i k) + D 22 (ix2 0 k) * X2 22 (ix2 i k) + D 23 (ix2 0 k) * X3 23 (ix3 0 i k) + D 24 (ix2 0 k) * X3 24 (ix3 0 i k) + D 25 (ix2 0 k) * X3 25 (ix3 0 i k) + D 26 (ix2 0 k) * X3 26 (ix3 0 i k) + D 27 (ix2 0 k) * X3 27 (ix3 0 i k) := by
  pointwise [k0_pay22, k0_pay21, k0_pay20, k0_pay19, k0_pay18, k0_pay17, k0_pay16, k0_pay15, k0_pay14]

/-- The first half, at the first block. -/
theorem a0_gen (D : Fin 31 → Vec Ideal S1x512 .f32) (X3 : Fin 31 → Vec Ideal S1x256x512 .f32) (X2 : Fin 31 → Vec Ideal S256x512 .f32)
    (bias g b : Vec Ideal S1x512 .f32) (i : Fin 256) (c : Fin 512) (H : Fin 31 → Fin 512 → EReal)
    (h3 : ∀ j : Fin 31, j.val % 8 ≠ 6 → ∀ k, X3 j (ix3 0 i k) = H j k)
    (h2 : ∀ j : Fin 31, j.val % 8 = 6 → ∀ k, X2 j (ix2 i k) = H j k) :
    k0_pay24 (k0_pay23 (k0_pay22 (k0_pay21 (k0_pay20 (k0_pay17 (k0_pay16 (k0_pay14 bias) (D 0) (k0_pay15 (X3 0)) (D 1) (X3 1) (D 2) (X3 2) (D 3) (X3 3) (D 4) (X3 4) (D 5) (X3 5)) (D 6) (X2 6) (D 7) (X3 7) (D 8) (X3 8) (D 9) (X3 9) (D 10) (X3 10)) (k0_pay18 (X3 11)) (k0_pay19 (D 11)) (D 12) (X3 12) (D 13) (X3 13) (D 14) (X2 14) (D 15) (X3 15) (D 16) (X3 16)) (D 17) (X3 17) (D 18) (X3 18) (D 19) (X3 19) (D 20) (X3 20) (D 21) (X3 21) (D 22) (X2 22)) (D 23) (X3 23) (D 24) (X3 24) (D 25) (X3 25) (D 26) (X3 26) (D 27) (X3 27)) (D 28) (X3 28) (D 29) (X3 29) (D 30) (X2 30) g b) (ix2 i c)
      = silu (lnorm (Ideal.ofBits .f32 1140850688#32) (fun k => bias (ix2 0 k) + ∑ j : Fin 31, D j (ix2 0 k) * H j k)
          (fun k => g (ix2 0 k)) (fun k => b (ix2 0 k)) c) := by
  refine tail0_at _ _ _ _ _ _ _ _ _ i c _ fun k => ?_
  rw [a0_taps D X3 X2 bias i k]
  simp only [h3 0 (by decide), h3 1 (by decide), h3 2 (by decide), h3 3 (by decide), h3 4 (by decide), h3 5 (by decide), h2 6 (by decide), h3 7 (by decide), h3 8 (by decide), h3 9 (by decide), h3 10 (by decide), h3 11 (by decide), h3 12 (by decide), h3 13 (by decide), h2 14 (by decide), h3 15 (by decide), h3 16 (by decide), h3 17 (by decide), h3 18 (by decide), h3 19 (by decide), h3 20 (by decide), h3 21 (by decide), h2 22 (by decide), h3 23 (by decide), h3 24 (by decide), h3 25 (by decide), h3 26 (by decide), h3 27 (by decide), h3 28 (by decide), h3 29 (by decide), h2 30 (by decide)]
  exact taps31 (bias (ix2 0 k)) fun j => D j (ix2 0 k) * H j k

/-- The first half, at the first block, from the buffer's rows. -/
theorem a0_at (dw : Vec Ideal S31x512 .f32) (K K8 K16 K24 K32 : S544x512.Idx → Elt Ideal .f32) (S : S8x544x512.Idx → Elt Ideal .f32)
    (h8 : ∀ (p : Fin 544) (k : Fin 512) (_ : 8 ≤ p.val), K8 (ix2 p k) = K (ix2 p k))
    (h16 : ∀ (p : Fin 544) (k : Fin 512) (_ : 16 ≤ p.val), K16 (ix2 p k) = K (ix2 p k))
    (h24 : ∀ (p : Fin 544) (k : Fin 512) (_ : 24 ≤ p.val), K24 (ix2 p k) = K (ix2 p k))
    (h32 : ∀ (p : Fin 544) (k : Fin 512) (_ : 32 ≤ p.val), K32 (ix2 p k) = K (ix2 p k))
    (bias g b : Vec Ideal S1x512 .f32) (i : Fin 256) (c : Fin 512)
    (hS : ∀ (q : Fin 8) (r : Fin 544) (k : Fin 512) (_ : 1 ≤ q.val) (_ : r.val < 536) (hs : 0 + q.val + r.val < 544),
      S (ix3 q r k) = K (ix2 ⟨0 + q.val + r.val, hs⟩ k)) :
    k0_pay24 (k0_pay23 (k0_pay22 (k0_pay21 (k0_pay20 (k0_pay17 (k0_pay16 (k0_pay14 bias) (fun y => dw ((Rect.unit (s := S31x512) ![0, 0] ![1, 512] inb_S31x512_S1x512_0_0).idx y)) (k0_pay15 (fun y => S ((Rect.unit (s := S8x544x512) ![2, 0, 0] ![1, 256, 512] inb_S8x544x512_S1x256x512_2_0_0).idx y))) (fun y => dw ((Rect.unit (s := S31x512) ![1, 0] ![1, 512] inb_S31x512_S1x512_1_0).idx y)) (fun y => S ((Rect.unit (s := S8x544x512) ![3, 0, 0] ![1, 256, 512] inb_S8x544x512_S1x256x512_3_0_0).idx y)) (fun y => dw ((Rect.unit (s := S31x512) ![2, 0] ![1, 512] inb_S31x512_S1x512_2_0).idx y)) (fun y => S ((Rect.unit (s := S8x544x512) ![4, 0, 0] ![1, 256, 512] inb_S8x544x512_S1x256x512_4_0_0).idx y)) (fun y => dw ((Rect.unit (s := S31x512) ![3, 0] ![1, 512] inb_S31x512_S1x512_3_0).idx y)) (fun y => S ((Rect.unit (s := S8x544x512) ![5, 0, 0] ![1, 256, 512] inb_S8x544x512_S1x256x512_5_0_0).idx y)) (fun y => dw ((Rect.unit (s := S31x512) ![4, 0] ![1, 512] inb_S31x512_S1x512_4_0).idx y)) (fun y => S ((Rect.unit (s := S8x544x512) ![6, 0, 0] ![1, 256, 512] inb_S8x544x512_S1x256x512_6_0_0).idx y)) (fun y => dw ((Rect.unit (s := S31x512) ![5, 0] ![1, 512] inb_S31x512_S1x512_5_0).idx y)) (fun y => S ((Rect.unit (s := S8x544x512) ![7, 0, 0] ![1, 256, 512] inb_S8x544x512_S1x256x512_7_0_0).idx y))) (fun y => dw ((Rect.unit (s := S31x512) ![6, 0] ![1, 512] inb_S31x512_S1x512_6_0).idx y)) (fun y => K8 ((Rect.unit (s := S544x512) ![8, 0] ![256, 512] inb_S544x512_S256x512_8_0).idx y)) (fun y => dw ((Rect.unit (s := S31x512) ![7, 0] ![1, 512] inb_S31x512_S1x512_7_0).idx y)) (fun y => S ((Rect.unit (s := S8x544x512) ![1, 8, 0] ![1, 256, 512] inb_S8x544x512_S1x256x512_1_8_0).idx y)) (fun y => dw ((Rect.unit (s := S31x512) ![8, 0] ![1, 512] inb_S31x512_S1x512_8_0).idx y)) (fun y => S ((Rect.unit (s := S8x544x512) ![2, 8, 0] ![1, 256, 512] inb_S8x544x512_S1x256x512_2_8_0).idx y)) (fun y => dw ((Rect.unit (s := S31x512) ![9, 0] ![1, 512] inb_S31x512_S1x512_9_0).idx y)) (fun y => S ((Rect.unit (s := S8x544x512) ![3, 8, 0] ![1, 256, 512] inb_S8x544x512_S1x256x512_3_8_0).idx y)) (fun y => dw ((Rect.unit (s := S31x512) ![10, 0] ![1, 512] inb_S31x512_S1x512_10_0).idx y)) (fun y => S ((Rect.unit (s := S8x544x512) ![4, 8, 0] ![1, 256, 512] inb_S8x544x512_S1x256x512_4_8_0).idx y))) (k0_pay18 (fun y => S ((Rect.unit (s := S8x544x512) ![5, 8, 0] ![1, 256, 512] inb_S8x544x512_S1x256x512_5_8_0).idx y))) (k0_pay19 (fun y => dw ((Rect.unit (s := S31x512) ![11, 0] ![1, 512] inb_S31x512_S1x512_11_0).idx y))) (fun y => dw ((Rect.unit (s := S31x512) ![12, 0] ![1, 512] inb_S31x512_S1x512_12_0).idx y)) (fun y => S ((Rect.unit (s := S8x544x512) ![6, 8, 0] ![1, 256, 512] inb_S8x544x512_S1x256x512_6_8_0).idx y)) (fun y => dw ((Rect.unit (s := S31x512) ![13, 0] ![1, 512] inb_S31x512_S1x512_13_0).idx y)) (fun y => S ((Rect.unit (s := S8x544x512) ![7, 8, 0] ![1, 256, 512] inb_S8x544x512_S1x256x512_7_8_0).idx y)) (fun y => dw ((Rect.unit (s := S31x512) ![14, 0] ![1, 512] inb_S31x512_S1x512_14_0).idx y)) (fun y => K16 ((Rect.unit (s := S544x512) ![16, 0] ![256, 512] inb_S544x512_S256x512_16_0).idx y)) (fun y => dw ((Rect.unit (s := S31x512) ![15, 0] ![1, 512] inb_S31x512_S1x512_15_0).idx y)) (fun y => S ((Rect.unit (s := S8x544x512) ![1, 16, 0] ![1, 256, 512] inb_S8x544x512_S1x256x512_1_16_0).idx y)) (fun y => dw ((Rect.unit (s := S31x512) ![16, 0] ![1, 512] inb_S31x512_S1x512_16_0).idx y)) (fun y => S ((Rect.unit (s := S8x544x512) ![2, 16, 0] ![1, 256, 512] inb_S8x544x512_S1x256x512_2_16_0).idx y))) (fun y => dw ((Rect.unit (s := S31x512) ![17, 0] ![1, 512] inb_S31x512_S1x512_17_0).idx y)) (fun y => S ((Rect.unit (s := S8x544x512) ![3, 16, 0] ![1, 256, 512] inb_S8x544x512_S1x256x512_3_16_0).idx y)) (fun y => dw ((Rect.unit (s := S31x512) ![18, 0] ![1, 512] inb_S31x512_S1x512_18_0).idx y)) (fun y => S ((Rect.unit (s := S8x544x512) ![4, 16, 0] ![1, 256, 512] inb_S8x544x512_S1x256x512_4_16_0).idx y)) (fun y => dw ((Rect.unit (s := S31x512) ![19, 0] ![1, 512] inb_S31x512_S1x512_19_0).idx y)) (fun y => S ((Rect.unit (s := S8x544x512) ![5, 16, 0] ![1, 256, 512] inb_S8x544x512_S1x256x512_5_16_0).idx y)) (fun y => dw ((Rect.unit (s := S31x512) ![20, 0] ![1, 512] inb_S31x512_S1x512_20_0).idx y)) (fun y => S ((Rect.unit (s := S8x544x512) ![6, 16, 0] ![1, 256, 512] inb_S8x544x512_S1x256x512_6_16_0).idx y)) (fun y => dw ((Rect.unit (s := S31x512) ![21, 0] ![1, 512] inb_S31x512_S1x512_21_0).idx y)) (fun y => S ((Rect.unit (s := S8x544x512) ![7, 16, 0] ![1, 256, 512] inb_S8x544x512_S1x256x512_7_16_0).idx y)) (fun y => dw ((Rect.unit (s := S31x512) ![22, 0] ![1, 512] inb_S31x512_S1x512_22_0).idx y)) (fun y => K24 ((Rect.unit (s := S544x512) ![24, 0] ![256, 512] inb_S544x512_S256x512_24_0).idx y))) (fun y => dw ((Rect.unit (s := S31x512) ![23, 0] ![1, 512] inb_S31x512_S1x512_23_0).idx y)) (fun y => S ((Rect.unit (s := S8x544x512) ![1, 24, 0] ![1, 256, 512] inb_S8x544x512_S1x256x512_1_24_0).idx y)) (fun y => dw ((Rect.unit (s := S31x512) ![24, 0] ![1, 512] inb_S31x512_S1x512_24_0).idx y)) (fun y => S ((Rect.unit (s := S8x544x512) ![2, 24, 0] ![1, 256, 512] inb_S8x544x512_S1x256x512_2_24_0).idx y)) (fun y => dw ((Rect.unit (s := S31x512) ![25, 0] ![1, 512] inb_S31x512_S1x512_25_0).idx y)) (fun y => S ((Rect.unit (s := S8x544x512) ![3, 24, 0] ![1, 256, 512] inb_S8x544x512_S1x256x512_3_24_0).idx y)) (fun y => dw ((Rect.unit (s := S31x512) ![26, 0] ![1, 512] inb_S31x512_S1x512_26_0).idx y)) (fun y => S ((Rect.unit (s := S8x544x512) ![4, 24, 0] ![1, 256, 512] inb_S8x544x512_S1x256x512_4_24_0).idx y)) (fun y => dw ((Rect.unit (s := S31x512) ![27, 0] ![1, 512] inb_S31x512_S1x512_27_0).idx y)) (fun y => S ((Rect.unit (s := S8x544x512) ![5, 24, 0] ![1, 256, 512] inb_S8x544x512_S1x256x512_5_24_0).idx y))) (fun y => dw ((Rect.unit (s := S31x512) ![28, 0] ![1, 512] inb_S31x512_S1x512_28_0).idx y)) (fun y => S ((Rect.unit (s := S8x544x512) ![6, 24, 0] ![1, 256, 512] inb_S8x544x512_S1x256x512_6_24_0).idx y)) (fun y => dw ((Rect.unit (s := S31x512) ![29, 0] ![1, 512] inb_S31x512_S1x512_29_0).idx y)) (fun y => S ((Rect.unit (s := S8x544x512) ![7, 24, 0] ![1, 256, 512] inb_S8x544x512_S1x256x512_7_24_0).idx y)) (fun y => dw ((Rect.unit (s := S31x512) ![30, 0] ![1, 512] inb_S31x512_S1x512_30_0).idx y)) (fun y => K32 ((Rect.unit (s := S544x512) ![32, 0] ![256, 512] inb_S544x512_S256x512_32_0).idx y)) g b) (ix2 i c)
      = silu (lnorm (Ideal.ofBits .f32 1140850688#32)
          (fun k => bias (ix2 0 k) + ∑ j : Fin 31, dw (ix2 j k) * K (ix2 ⟨0 + i.val + 2 + j.val, by omega⟩ k))
          (fun k => g (ix2 0 k)) (fun k => b (ix2 0 k)) c) := by
  have inbD : ∀ j : Fin 31, ∀ a, (![j.val, 0] : Fin 2 → ℕ) a + (![1, 512] : Fin 2 → ℕ) a ≤ S31x512.size a := by decide
  have inbK : ∀ j : Fin 31, ∀ a, (![0 + (j.val + 2), 0] : Fin 2 → ℕ) a + (![256, 512] : Fin 2 → ℕ) a ≤ S544x512.size a := by decide
  have inbS : ∀ j : Fin 31, ∀ a, (![(j.val + 2) % 8, 0 + (j.val + 2) / 8 * 8, 0] : Fin 3 → ℕ) a + (![1, 256, 512] : Fin 3 → ℕ) a
      ≤ S8x544x512.size a := by decide
  refine (a0_gen (fun j y => dw ((Rect.unit (s := S31x512) ![j.val, 0] ![1, 512] (inbD j)).idx y))
    (fun j y => S ((Rect.unit (s := S8x544x512) ![(j.val + 2) % 8, 0 + (j.val + 2) / 8 * 8, 0] ![1, 256, 512] (inbS j)).idx y))
    (fun j y => (if j.val = 6 then K8 else if j.val = 14 then K16 else if j.val = 22 then K24 else K32)
      ((Rect.unit (s := S544x512) ![0 + (j.val + 2), 0] ![256, 512] (inbK j)).idx y))
    bias g b i c (fun j k => K (ix2 ⟨0 + i.val + 2 + j.val, by omega⟩ k)) (fun j hj k => ?_) (fun j hj k => ?_)).trans ?_
  · refine (congrArg S (copy_idx (inbS j) i k (by omega) (by omega))).trans ?_
    refine (hS _ _ _ (by show 1 ≤ (j.val + 2) % 8; omega) (by show 0 + (j.val + 2) / 8 * 8 + i.val < 536; omega)
      (by show 0 + (j.val + 2) % 8 + (0 + (j.val + 2) / 8 * 8 + i.val) < 544; omega)).trans ?_
    exact congrArg (fun p => K (ix2 p k)) (Fin.ext (show 0 + (j.val + 2) % 8 + (0 + (j.val + 2) / 8 * 8 + i.val) = 0 + i.val + 2 + j.val by omega))
  · have hK : ∀ (p : Fin 544) (k : Fin 512), 0 + (j.val + 2) ≤ p.val →
        (if j.val = 6 then K8 else if j.val = 14 then K16 else if j.val = 22 then K24 else K32) (ix2 p k) = K (ix2 p k) := by
      intro p k hp
      split_ifs
      · exact h8 p k (by omega)
      · exact h16 p k (by omega)
      · exact h24 p k (by omega)
      · exact h32 p k (by omega)
    refine (congrArg _ (rect_idx (inbK j) i k (by omega) (by omega))).trans ?_
    refine (hK _ _ (Nat.le_add_right _ _)).trans ?_
    exact congrArg₂ (fun p c => K (ix2 p c)) (Fin.ext (show 0 + (j.val + 2) + i.val = 0 + i.val + 2 + j.val by omega)) (Fin.ext (Nat.zero_add _))
  · refine congrArg (fun U => silu (lnorm _ U _ _ c)) (funext fun k => congrArg (bias (ix2 0 k) + ·) (Finset.sum_congr rfl fun j _ =>
      congrArg (· * _) ((congrArg dw (rect_idx (inbD j) 0 k (by omega) (by omega))).trans ?_)))
    exact congrArg₂ (fun p c => dw (ix2 p c)) (Fin.ext (Nat.add_zero _)) (Fin.ext (Nat.zero_add _))

/-- The taps before the last, at the second block. -/
theorem a1_taps (D : Fin 31 → Vec Ideal S1x512 .f32) (X3 : Fin 31 → Vec Ideal S1x256x512 .f32) (X2 : Fin 31 → Vec Ideal S256x512 .f32)
    (bias : Vec Ideal S1x512 .f32) (i : Fin 256) (k : Fin 512) :
    (k0_pay30 (k0_pay29 (k0_pay28 (k0_pay26 (k0_pay25 bias (D 0) (X3 0) (D 1) (X3 1) (D 2) (X3 2) (D 3) (X3 3)) (D 4) (X3 4) (D 5) (X3 5) (D 6) (X2 6) (D 7) (X3 7) (D 8) (X3 8)) (k0_pay27 (D 9) (X3 9)) (D 10) (X3 10) (D 11) (X3 11) (D 12) (X3 12) (D 13) (X3 13) (D 14) (X2 14)) (D 15) (X3 15) (D 16) (X3 16) (D 17) (X3 17) (D 18) (X3 18) (D 19) (X3 19) (D 20) (X3 20)) (D 21) (X3 21) (D 22) (X2 22) (D 23) (X3 23) (D 24) (X3 24) (D 25) (X3 25)) (ix2 i k)
      = bias (ix2 0 k) + D 0 (ix2 0 k) * X3 0 (ix3 0 i k) + D 1 (ix2 0 k) * X3 1 (ix3 0 i k) + D 2 (ix2 0 k) * X3 2 (ix3 0 i k) + D 3 (ix2 0 k) * X3 3 (ix3 0 i k) + D 4 (ix2 0 k) * X3 4 (ix3 0 i k) + D 5 (ix2 0 k) * X3 5 (ix3 0 i k) + D 6 (ix2 0 k) * X2 6 (ix2 i k) + D 7 (ix2 0 k) * X3 7 (ix3 0 i k) + D 8 (ix2 0 k) * X3 8 (ix3 0 i k) + D 9 (ix2 0 k) * X3 9 (ix3 0 i k) + D 10 (ix2 0 k) * X3 10 (ix3 0 i k) + D 11 (ix2 0 k) * X3 11 (ix3 0 i k) + D 12 (ix2 0 k) * X3 12 (ix3 0 i k) + D 13 (ix2 0 k) * X3 13 (ix3 0 i k) + D 14 (ix2 0 k) * X2 14 (ix2 i k) + D 15 (ix2 0 k) * X3 15 (ix3 0 i k) + D 16 (ix2 0 k) * X3 16 (ix3 0 i k) + D 17 (ix2 0 k) * X3 17 (ix3 0 i k) + D 18 (ix2 0 k) * X3 18 (ix3 0 i k) + D 19 (ix2 0 k) * X3 19 (ix3 0 i k) + D 20 (ix2 0 k) * X3 20 (ix3 0 i k) + D 21 (ix2 0 k) * X3 21 (ix3 0 i k) + D 22 (ix2 0 k) * X2 22 (ix2 i k) + D 23 (ix2 0 k) * X3 23 (ix3 0 i k) + D 24 (ix2 0 k) * X3 24 (ix3 0 i k) + D 25 (ix2 0 k) * X3 25 (ix3 0 i k) := by
  pointwise [k0_pay30, k0_pay29, k0_pay28, k0_pay27, k0_pay26, k0_pay25]

/-- The first half, at the second block. -/
theorem a1_gen (D : Fin 31 → Vec Ideal S1x512 .f32) (X3 : Fin 31 → Vec Ideal S1x256x512 .f32) (X2 : Fin 31 → Vec Ideal S256x512 .f32)
    (bias g b : Vec Ideal S1x512 .f32) (i : Fin 256) (c : Fin 512) (H : Fin 31 → Fin 512 → EReal)
    (h3 : ∀ j : Fin 31, j.val % 8 ≠ 6 → ∀ k, X3 j (ix3 0 i k) = H j k)
    (h2 : ∀ j : Fin 31, j.val % 8 = 6 → ∀ k, X2 j (ix2 i k) = H j k) :
    k0_pay35 (k0_pay31 (k0_pay30 (k0_pay29 (k0_pay28 (k0_pay26 (k0_pay25 bias (D 0) (X3 0) (D 1) (X3 1) (D 2) (X3 2) (D 3) (X3 3)) (D 4) (X3 4) (D 5) (X3 5) (D 6) (X2 6) (D 7) (X3 7) (D 8) (X3 8)) (k0_pay27 (D 9) (X3 9)) (D 10) (X3 10) (D 11) (X3 11) (D 12) (X3 12) (D 13) (X3 13) (D 14) (X2 14)) (D 15) (X3 15) (D 16) (X3 16) (D 17) (X3 17) (D 18) (X3 18) (D 19) (X3 19) (D 20) (X3 20)) (D 21) (X3 21) (D 22) (X2 22) (D 23) (X3 23) (D 24) (X3 24) (D 25) (X3 25)) (D 26) (X3 26) (D 27) (X3 27) (D 28) (X3 28) (D 29) (X3 29) (D 30) (X2 30)) (k0_pay32 g) (k0_pay33 b) (k0_pay34 (k0_pay30 (k0_pay29 (k0_pay28 (k0_pay26 (k0_pay25 bias (D 0) (X3 0) (D 1) (X3 1) (D 2) (X3 2) (D 3) (X3 3)) (D 4) (X3 4) (D 5) (X3 5) (D 6) (X2 6) (D 7) (X3 7) (D 8) (X3 8)) (k0_pay27 (D 9) (X3 9)) (D 10) (X3 10) (D 11) (X3 11) (D 12) (X3 12) (D 13) (X3 13) (D 14) (X2 14)) (D 15) (X3 15) (D 16) (X3 16) (D 17) (X3 17) (D 18) (X3 18) (D 19) (X3 19) (D 20) (X3 20)) (D 21) (X3 21) (D 22) (X2 22) (D 23) (X3 23) (D 24) (X3 24) (D 25) (X3 25)) (D 26) (X3 26) (D 27) (X3 27) (D 28) (X3 28) (D 29) (X3 29) (D 30) (X2 30)) (ix2 i c)
      = silu (lnorm (Ideal.ofBits .f32 1140850688#32) (fun k => bias (ix2 0 k) + ∑ j : Fin 31, D j (ix2 0 k) * H j k)
          (fun k => g (ix2 0 k)) (fun k => b (ix2 0 k)) c) := by
  refine tail1_at _ _ _ _ _ _ _ _ _ _ _ _ _ i c _ fun k => ?_
  rw [a1_taps D X3 X2 bias i k]
  simp only [h3 0 (by decide), h3 1 (by decide), h3 2 (by decide), h3 3 (by decide), h3 4 (by decide), h3 5 (by decide), h2 6 (by decide), h3 7 (by decide), h3 8 (by decide), h3 9 (by decide), h3 10 (by decide), h3 11 (by decide), h3 12 (by decide), h3 13 (by decide), h2 14 (by decide), h3 15 (by decide), h3 16 (by decide), h3 17 (by decide), h3 18 (by decide), h3 19 (by decide), h3 20 (by decide), h3 21 (by decide), h2 22 (by decide), h3 23 (by decide), h3 24 (by decide), h3 25 (by decide), h3 26 (by decide), h3 27 (by decide), h3 28 (by decide), h3 29 (by decide), h2 30 (by decide)]
  exact taps31 (bias (ix2 0 k)) fun j => D j (ix2 0 k) * H j k

/-- The first half, at the second block, from the buffer's rows. -/
theorem a1_at (dw : Vec Ideal S31x512 .f32) (K K8 K16 K24 K32 : S544x512.Idx → Elt Ideal .f32) (S : S8x544x512.Idx → Elt Ideal .f32)
    (h8 : ∀ (p : Fin 544) (k : Fin 512) (_ : 264 ≤ p.val), K8 (ix2 p k) = K (ix2 p k))
    (h16 : ∀ (p : Fin 544) (k : Fin 512) (_ : 272 ≤ p.val), K16 (ix2 p k) = K (ix2 p k))
    (h24 : ∀ (p : Fin 544) (k : Fin 512) (_ : 280 ≤ p.val), K24 (ix2 p k) = K (ix2 p k))
    (h32 : ∀ (p : Fin 544) (k : Fin 512) (_ : 288 ≤ p.val), K32 (ix2 p k) = K (ix2 p k))
    (bias g b : Vec Ideal S1x512 .f32) (i : Fin 256) (c : Fin 512)
    (hS : ∀ (q : Fin 8) (r : Fin 544) (k : Fin 512) (_ : 1 ≤ q.val) (_ : r.val < 536) (hs : 0 + q.val + r.val < 544),
      S (ix3 q r k) = K (ix2 ⟨0 + q.val + r.val, hs⟩ k)) :
    k0_pay35 (k0_pay31 (k0_pay30 (k0_pay29 (k0_pay28 (k0_pay26 (k0_pay25 bias (fun y => dw ((Rect.unit (s := S31x512) ![0, 0] ![1, 512] inb_S31x512_S1x512_0_0).idx y)) (fun y => S ((Rect.unit (s := S8x544x512) ![2, 256, 0] ![1, 256, 512] inb_S8x544x512_S1x256x512_2_256_0).idx y)) (fun y => dw ((Rect.unit (s := S31x512) ![1, 0] ![1, 512] inb_S31x512_S1x512_1_0).idx y)) (fun y => S ((Rect.unit (s := S8x544x512) ![3, 256, 0] ![1, 256, 512] inb_S8x544x512_S1x256x512_3_256_0).idx y)) (fun y => dw ((Rect.unit (s := S31x512) ![2, 0] ![1, 512] inb_S31x512_S1x512_2_0).idx y)) (fun y => S ((Rect.unit (s := S8x544x512) ![4, 256, 0] ![1, 256, 512] inb_S8x544x512_S1x256x512_4_256_0).idx y)) (fun y => dw ((Rect.unit (s := S31x512) ![3, 0] ![1, 512] inb_S31x512_S1x512_3_0).idx y)) (fun y => S ((Rect.unit (s := S8x544x512) ![5, 256, 0] ![1, 256, 512] inb_S8x544x512_S1x256x512_5_256_0).idx y))) (fun y => dw ((Rect.unit (s := S31x512) ![4, 0] ![1, 512] inb_S31x512_S1x512_4_0).idx y)) (fun y => S ((Rect.unit (s := S8x544x512) ![6, 256, 0] ![1, 256, 512] inb_S8x544x512_S1x256x512_6_256_0).idx y)) (fun y => dw ((Rect.unit (s := S31x512) ![5, 0] ![1, 512] inb_S31x512_S1x512_5_0).idx y)) (fun y => S ((Rect.unit (s := S8x544x512) ![7, 256, 0] ![1, 256, 512] inb_S8x544x512_S1x256x512_7_256_0).idx y)) (fun y => dw ((Rect.unit (s := S31x512) ![6, 0] ![1, 512] inb_S31x512_S1x512_6_0).idx y)) (fun y => K8 ((Rect.unit (s := S544x512) ![264, 0] ![256, 512] inb_S544x512_S256x512_264_0).idx y)) (fun y => dw ((Rect.unit (s := S31x512) ![7, 0] ![1, 512] inb_S31x512_S1x512_7_0).idx y)) (fun y => S ((Rect.unit (s := S8x544x512) ![1, 264, 0] ![1, 256, 512] inb_S8x544x512_S1x256x512_1_264_0).idx y)) (fun y => dw ((Rect.unit (s := S31x512) ![8, 0] ![1, 512] inb_S31x512_S1x512_8_0).idx y)) (fun y => S ((Rect.unit (s := S8x544x512) ![2, 264, 0] ![1, 256, 512] inb_S8x544x512_S1x256x512_2_264_0).idx y))) (k0_pay27 (fun y => dw ((Rect.unit (s := S31x512) ![9, 0] ![1, 512] inb_S31x512_S1x512_9_0).idx y)) (fun y => S ((Rect.unit (s := S8x544x512) ![3, 264, 0] ![1, 256, 512] inb_S8x544x512_S1x256x512_3_264_0).idx y))) (fun y => dw ((Rect.unit (s := S31x512) ![10, 0] ![1, 512] inb_S31x512_S1x512_10_0).idx y)) (fun y => S ((Rect.unit (s := S8x544x512) ![4, 264, 0] ![1, 256, 512] inb_S8x544x512_S1x256x512_4_264_0).idx y)) (fun y => dw ((Rect.unit (s := S31x512) ![11, 0] ![1, 512] inb_S31x512_S1x512_11_0).idx y)) (fun y => S ((Rect.unit (s := S8x544x512) ![5, 264, 0] ![1, 256, 512] inb_S8x544x512_S1x256x512_5_264_0).idx y)) (fun y => dw ((Rect.unit (s := S31x512) ![12, 0] ![1, 512] inb_S31x512_S1x512_12_0).idx y)) (fun y => S ((Rect.unit (s := S8x544x512) ![6, 264, 0] ![1, 256, 512] inb_S8x544x512_S1x256x512_6_264_0).idx y)) (fun y => dw ((Rect.unit (s := S31x512) ![13, 0] ![1, 512] inb_S31x512_S1x512_13_0).idx y)) (fun y => S ((Rect.unit (s := S8x544x512) ![7, 264, 0] ![1, 256, 512] inb_S8x544x512_S1x256x512_7_264_0).idx y)) (fun y => dw ((Rect.unit (s := S31x512) ![14, 0] ![1, 512] inb_S31x512_S1x512_14_0).idx y)) (fun y => K16 ((Rect.unit (s := S544x512) ![272, 0] ![256, 512] inb_S544x512_S256x512_272_0).idx y))) (fun y => dw ((Rect.unit (s := S31x512) ![15, 0] ![1, 512] inb_S31x512_S1x512_15_0).idx y)) (fun y => S ((Rect.unit (s := S8x544x512) ![1, 272, 0] ![1, 256, 512] inb_S8x544x512_S1x256x512_1_272_0).idx y)) (fun y => dw ((Rect.unit (s := S31x512) ![16, 0] ![1, 512] inb_S31x512_S1x512_16_0).idx y)) (fun y => S ((Rect.unit (s := S8x544x512) ![2, 272, 0] ![1, 256, 512] inb_S8x544x512_S1x256x512_2_272_0).idx y)) (fun y => dw ((Rect.unit (s := S31x512) ![17, 0] ![1, 512] inb_S31x512_S1x512_17_0).idx y)) (fun y => S ((Rect.unit (s := S8x544x512) ![3, 272, 0] ![1, 256, 512] inb_S8x544x512_S1x256x512_3_272_0).idx y)) (fun y => dw ((Rect.unit (s := S31x512) ![18, 0] ![1, 512] inb_S31x512_S1x512_18_0).idx y)) (fun y => S ((Rect.unit (s := S8x544x512) ![4, 272, 0] ![1, 256, 512] inb_S8x544x512_S1x256x512_4_272_0).idx y)) (fun y => dw ((Rect.unit (s := S31x512) ![19, 0] ![1, 512] inb_S31x512_S1x512_19_0).idx y)) (fun y => S ((Rect.unit (s := S8x544x512) ![5, 272, 0] ![1, 256, 512] inb_S8x544x512_S1x256x512_5_272_0).idx y)) (fun y => dw ((Rect.unit (s := S31x512) ![20, 0] ![1, 512] inb_S31x512_S1x512_20_0).idx y)) (fun y => S ((Rect.unit (s := S8x544x512) ![6, 272, 0] ![1, 256, 512] inb_S8x544x512_S1x256x512_6_272_0).idx y))) (fun y => dw ((Rect.unit (s := S31x512) ![21, 0] ![1, 512] inb_S31x512_S1x512_21_0).idx y)) (fun y => S ((Rect.unit (s := S8x544x512) ![7, 272, 0] ![1, 256, 512] inb_S8x544x512_S1x256x512_7_272_0).idx y)) (fun y => dw ((Rect.unit (s := S31x512) ![22, 0] ![1, 512] inb_S31x512_S1x512_22_0).idx y)) (fun y => K24 ((Rect.unit (s := S544x512) ![280, 0] ![256, 512] inb_S544x512_S256x512_280_0).idx y)) (fun y => dw ((Rect.unit (s := S31x512) ![23, 0] ![1, 512] inb_S31x512_S1x512_23_0).idx y)) (fun y => S ((Rect.unit (s := S8x544x512) ![1, 280, 0] ![1, 256, 512] inb_S8x544x512_S1x256x512_1_280_0).idx y)) (fun y => dw ((Rect.unit (s := S31x512) ![24, 0] ![1, 512] inb_S31x512_S1x512_24_0).idx y)) (fun y => S ((Rect.unit (s := S8x544x512) ![2, 280, 0] ![1, 256, 512] inb_S8x544x512_S1x256x512_2_280_0).idx y)) (fun y => dw ((Rect.unit (s := S31x512) ![25, 0] ![1, 512] inb_S31x512_S1x512_25_0).idx y)) (fun y => S ((Rect.unit (s := S8x544x512) ![3, 280, 0] ![1, 256, 512] inb_S8x544x512_S1x256x512_3_280_0).idx y))) (fun y => dw ((Rect.unit (s := S31x512) ![26, 0] ![1, 512] inb_S31x512_S1x512_26_0).idx y)) (fun y => S ((Rect.unit (s := S8x544x512) ![4, 280, 0] ![1, 256, 512] inb_S8x544x512_S1x256x512_4_280_0).idx y)) (fun y => dw ((Rect.unit (s := S31x512) ![27, 0] ![1, 512] inb_S31x512_S1x512_27_0).idx y)) (fun y => S ((Rect.unit (s := S8x544x512) ![5, 280, 0] ![1, 256, 512] inb_S8x544x512_S1x256x512_5_280_0).idx y)) (fun y => dw ((Rect.unit (s := S31x512) ![28, 0] ![1, 512] inb_S31x512_S1x512_28_0).idx y)) (fun y => S ((Rect.unit (s := S8x544x512) ![6, 280, 0] ![1, 256, 512] inb_S8x544x512_S1x256x512_6_280_0).idx y)) (fun y => dw ((Rect.unit (s := S31x512) ![29, 0] ![1, 512] inb_S31x512_S1x512_29_0).idx y)) (fun y => S ((Rect.unit (s := S8x544x512) ![7, 280, 0] ![1, 256, 512] inb_S8x544x512_S1x256x512_7_280_0).idx y)) (fun y => dw ((Rect.unit (s := S31x512) ![30, 0] ![1, 512] inb_S31x512_S1x512_30_0).idx y)) (fun y => K32 ((Rect.unit (s := S544x512) ![288, 0] ![256, 512] inb_S544x512_S256x512_288_0).idx y))) (k0_pay32 g) (k0_pay33 b) (k0_pay34 (k0_pay30 (k0_pay29 (k0_pay28 (k0_pay26 (k0_pay25 bias (fun y => dw ((Rect.unit (s := S31x512) ![0, 0] ![1, 512] inb_S31x512_S1x512_0_0).idx y)) (fun y => S ((Rect.unit (s := S8x544x512) ![2, 256, 0] ![1, 256, 512] inb_S8x544x512_S1x256x512_2_256_0).idx y)) (fun y => dw ((Rect.unit (s := S31x512) ![1, 0] ![1, 512] inb_S31x512_S1x512_1_0).idx y)) (fun y => S ((Rect.unit (s := S8x544x512) ![3, 256, 0] ![1, 256, 512] inb_S8x544x512_S1x256x512_3_256_0).idx y)) (fun y => dw ((Rect.unit (s := S31x512) ![2, 0] ![1, 512] inb_S31x512_S1x512_2_0).idx y)) (fun y => S ((Rect.unit (s := S8x544x512) ![4, 256, 0] ![1, 256, 512] inb_S8x544x512_S1x256x512_4_256_0).idx y)) (fun y => dw ((Rect.unit (s := S31x512) ![3, 0] ![1, 512] inb_S31x512_S1x512_3_0).idx y)) (fun y => S ((Rect.unit (s := S8x544x512) ![5, 256, 0] ![1, 256, 512] inb_S8x544x512_S1x256x512_5_256_0).idx y))) (fun y => dw ((Rect.unit (s := S31x512) ![4, 0] ![1, 512] inb_S31x512_S1x512_4_0).idx y)) (fun y => S ((Rect.unit (s := S8x544x512) ![6, 256, 0] ![1, 256, 512] inb_S8x544x512_S1x256x512_6_256_0).idx y)) (fun y => dw ((Rect.unit (s := S31x512) ![5, 0] ![1, 512] inb_S31x512_S1x512_5_0).idx y)) (fun y => S ((Rect.unit (s := S8x544x512) ![7, 256, 0] ![1, 256, 512] inb_S8x544x512_S1x256x512_7_256_0).idx y)) (fun y => dw ((Rect.unit (s := S31x512) ![6, 0] ![1, 512] inb_S31x512_S1x512_6_0).idx y)) (fun y => K8 ((Rect.unit (s := S544x512) ![264, 0] ![256, 512] inb_S544x512_S256x512_264_0).idx y)) (fun y => dw ((Rect.unit (s := S31x512) ![7, 0] ![1, 512] inb_S31x512_S1x512_7_0).idx y)) (fun y => S ((Rect.unit (s := S8x544x512) ![1, 264, 0] ![1, 256, 512] inb_S8x544x512_S1x256x512_1_264_0).idx y)) (fun y => dw ((Rect.unit (s := S31x512) ![8, 0] ![1, 512] inb_S31x512_S1x512_8_0).idx y)) (fun y => S ((Rect.unit (s := S8x544x512) ![2, 264, 0] ![1, 256, 512] inb_S8x544x512_S1x256x512_2_264_0).idx y))) (k0_pay27 (fun y => dw ((Rect.unit (s := S31x512) ![9, 0] ![1, 512] inb_S31x512_S1x512_9_0).idx y)) (fun y => S ((Rect.unit (s := S8x544x512) ![3, 264, 0] ![1, 256, 512] inb_S8x544x512_S1x256x512_3_264_0).idx y))) (fun y => dw ((Rect.unit (s := S31x512) ![10, 0] ![1, 512] inb_S31x512_S1x512_10_0).idx y)) (fun y => S ((Rect.unit (s := S8x544x512) ![4, 264, 0] ![1, 256, 512] inb_S8x544x512_S1x256x512_4_264_0).idx y)) (fun y => dw ((Rect.unit (s := S31x512) ![11, 0] ![1, 512] inb_S31x512_S1x512_11_0).idx y)) (fun y => S ((Rect.unit (s := S8x544x512) ![5, 264, 0] ![1, 256, 512] inb_S8x544x512_S1x256x512_5_264_0).idx y)) (fun y => dw ((Rect.unit (s := S31x512) ![12, 0] ![1, 512] inb_S31x512_S1x512_12_0).idx y)) (fun y => S ((Rect.unit (s := S8x544x512) ![6, 264, 0] ![1, 256, 512] inb_S8x544x512_S1x256x512_6_264_0).idx y)) (fun y => dw ((Rect.unit (s := S31x512) ![13, 0] ![1, 512] inb_S31x512_S1x512_13_0).idx y)) (fun y => S ((Rect.unit (s := S8x544x512) ![7, 264, 0] ![1, 256, 512] inb_S8x544x512_S1x256x512_7_264_0).idx y)) (fun y => dw ((Rect.unit (s := S31x512) ![14, 0] ![1, 512] inb_S31x512_S1x512_14_0).idx y)) (fun y => K16 ((Rect.unit (s := S544x512) ![272, 0] ![256, 512] inb_S544x512_S256x512_272_0).idx y))) (fun y => dw ((Rect.unit (s := S31x512) ![15, 0] ![1, 512] inb_S31x512_S1x512_15_0).idx y)) (fun y => S ((Rect.unit (s := S8x544x512) ![1, 272, 0] ![1, 256, 512] inb_S8x544x512_S1x256x512_1_272_0).idx y)) (fun y => dw ((Rect.unit (s := S31x512) ![16, 0] ![1, 512] inb_S31x512_S1x512_16_0).idx y)) (fun y => S ((Rect.unit (s := S8x544x512) ![2, 272, 0] ![1, 256, 512] inb_S8x544x512_S1x256x512_2_272_0).idx y)) (fun y => dw ((Rect.unit (s := S31x512) ![17, 0] ![1, 512] inb_S31x512_S1x512_17_0).idx y)) (fun y => S ((Rect.unit (s := S8x544x512) ![3, 272, 0] ![1, 256, 512] inb_S8x544x512_S1x256x512_3_272_0).idx y)) (fun y => dw ((Rect.unit (s := S31x512) ![18, 0] ![1, 512] inb_S31x512_S1x512_18_0).idx y)) (fun y => S ((Rect.unit (s := S8x544x512) ![4, 272, 0] ![1, 256, 512] inb_S8x544x512_S1x256x512_4_272_0).idx y)) (fun y => dw ((Rect.unit (s := S31x512) ![19, 0] ![1, 512] inb_S31x512_S1x512_19_0).idx y)) (fun y => S ((Rect.unit (s := S8x544x512) ![5, 272, 0] ![1, 256, 512] inb_S8x544x512_S1x256x512_5_272_0).idx y)) (fun y => dw ((Rect.unit (s := S31x512) ![20, 0] ![1, 512] inb_S31x512_S1x512_20_0).idx y)) (fun y => S ((Rect.unit (s := S8x544x512) ![6, 272, 0] ![1, 256, 512] inb_S8x544x512_S1x256x512_6_272_0).idx y))) (fun y => dw ((Rect.unit (s := S31x512) ![21, 0] ![1, 512] inb_S31x512_S1x512_21_0).idx y)) (fun y => S ((Rect.unit (s := S8x544x512) ![7, 272, 0] ![1, 256, 512] inb_S8x544x512_S1x256x512_7_272_0).idx y)) (fun y => dw ((Rect.unit (s := S31x512) ![22, 0] ![1, 512] inb_S31x512_S1x512_22_0).idx y)) (fun y => K24 ((Rect.unit (s := S544x512) ![280, 0] ![256, 512] inb_S544x512_S256x512_280_0).idx y)) (fun y => dw ((Rect.unit (s := S31x512) ![23, 0] ![1, 512] inb_S31x512_S1x512_23_0).idx y)) (fun y => S ((Rect.unit (s := S8x544x512) ![1, 280, 0] ![1, 256, 512] inb_S8x544x512_S1x256x512_1_280_0).idx y)) (fun y => dw ((Rect.unit (s := S31x512) ![24, 0] ![1, 512] inb_S31x512_S1x512_24_0).idx y)) (fun y => S ((Rect.unit (s := S8x544x512) ![2, 280, 0] ![1, 256, 512] inb_S8x544x512_S1x256x512_2_280_0).idx y)) (fun y => dw ((Rect.unit (s := S31x512) ![25, 0] ![1, 512] inb_S31x512_S1x512_25_0).idx y)) (fun y => S ((Rect.unit (s := S8x544x512) ![3, 280, 0] ![1, 256, 512] inb_S8x544x512_S1x256x512_3_280_0).idx y))) (fun y => dw ((Rect.unit (s := S31x512) ![26, 0] ![1, 512] inb_S31x512_S1x512_26_0).idx y)) (fun y => S ((Rect.unit (s := S8x544x512) ![4, 280, 0] ![1, 256, 512] inb_S8x544x512_S1x256x512_4_280_0).idx y)) (fun y => dw ((Rect.unit (s := S31x512) ![27, 0] ![1, 512] inb_S31x512_S1x512_27_0).idx y)) (fun y => S ((Rect.unit (s := S8x544x512) ![5, 280, 0] ![1, 256, 512] inb_S8x544x512_S1x256x512_5_280_0).idx y)) (fun y => dw ((Rect.unit (s := S31x512) ![28, 0] ![1, 512] inb_S31x512_S1x512_28_0).idx y)) (fun y => S ((Rect.unit (s := S8x544x512) ![6, 280, 0] ![1, 256, 512] inb_S8x544x512_S1x256x512_6_280_0).idx y)) (fun y => dw ((Rect.unit (s := S31x512) ![29, 0] ![1, 512] inb_S31x512_S1x512_29_0).idx y)) (fun y => S ((Rect.unit (s := S8x544x512) ![7, 280, 0] ![1, 256, 512] inb_S8x544x512_S1x256x512_7_280_0).idx y)) (fun y => dw ((Rect.unit (s := S31x512) ![30, 0] ![1, 512] inb_S31x512_S1x512_30_0).idx y)) (fun y => K32 ((Rect.unit (s := S544x512) ![288, 0] ![256, 512] inb_S544x512_S256x512_288_0).idx y))) (ix2 i c)
      = silu (lnorm (Ideal.ofBits .f32 1140850688#32)
          (fun k => bias (ix2 0 k) + ∑ j : Fin 31, dw (ix2 j k) * K (ix2 ⟨256 + i.val + 2 + j.val, by omega⟩ k))
          (fun k => g (ix2 0 k)) (fun k => b (ix2 0 k)) c) := by
  have inbD : ∀ j : Fin 31, ∀ a, (![j.val, 0] : Fin 2 → ℕ) a + (![1, 512] : Fin 2 → ℕ) a ≤ S31x512.size a := by decide
  have inbK : ∀ j : Fin 31, ∀ a, (![256 + (j.val + 2), 0] : Fin 2 → ℕ) a + (![256, 512] : Fin 2 → ℕ) a ≤ S544x512.size a := by decide
  have inbS : ∀ j : Fin 31, ∀ a, (![(j.val + 2) % 8, 256 + (j.val + 2) / 8 * 8, 0] : Fin 3 → ℕ) a + (![1, 256, 512] : Fin 3 → ℕ) a
      ≤ S8x544x512.size a := by decide
  refine (a1_gen (fun j y => dw ((Rect.unit (s := S31x512) ![j.val, 0] ![1, 512] (inbD j)).idx y))
    (fun j y => S ((Rect.unit (s := S8x544x512) ![(j.val + 2) % 8, 256 + (j.val + 2) / 8 * 8, 0] ![1, 256, 512] (inbS j)).idx y))
    (fun j y => (if j.val = 6 then K8 else if j.val = 14 then K16 else if j.val = 22 then K24 else K32)
      ((Rect.unit (s := S544x512) ![256 + (j.val + 2), 0] ![256, 512] (inbK j)).idx y))
    bias g b i c (fun j k => K (ix2 ⟨256 + i.val + 2 + j.val, by omega⟩ k)) (fun j hj k => ?_) (fun j hj k => ?_)).trans ?_
  · refine (congrArg S (copy_idx (inbS j) i k (by omega) (by omega))).trans ?_
    refine (hS _ _ _ (by show 1 ≤ (j.val + 2) % 8; omega) (by show 256 + (j.val + 2) / 8 * 8 + i.val < 536; omega)
      (by show 0 + (j.val + 2) % 8 + (256 + (j.val + 2) / 8 * 8 + i.val) < 544; omega)).trans ?_
    exact congrArg (fun p => K (ix2 p k)) (Fin.ext (show 0 + (j.val + 2) % 8 + (256 + (j.val + 2) / 8 * 8 + i.val) = 256 + i.val + 2 + j.val by omega))
  · have hK : ∀ (p : Fin 544) (k : Fin 512), 256 + (j.val + 2) ≤ p.val →
        (if j.val = 6 then K8 else if j.val = 14 then K16 else if j.val = 22 then K24 else K32) (ix2 p k) = K (ix2 p k) := by
      intro p k hp
      split_ifs
      · exact h8 p k (by omega)
      · exact h16 p k (by omega)
      · exact h24 p k (by omega)
      · exact h32 p k (by omega)
    refine (congrArg _ (rect_idx (inbK j) i k (by omega) (by omega))).trans ?_
    refine (hK _ _ (Nat.le_add_right _ _)).trans ?_
    exact congrArg₂ (fun p c => K (ix2 p c)) (Fin.ext (show 256 + (j.val + 2) + i.val = 256 + i.val + 2 + j.val by omega)) (Fin.ext (Nat.zero_add _))
  · refine congrArg (fun U => silu (lnorm _ U _ _ c)) (funext fun k => congrArg (bias (ix2 0 k) + ·) (Finset.sum_congr rfl fun j _ =>
      congrArg (· * _) ((congrArg dw (rect_idx (inbD j) 0 k (by omega) (by omega))).trans ?_)))
    exact congrArg₂ (fun p c => dw (ix2 p c)) (Fin.ext (Nat.add_zero _)) (Fin.ext (Nat.zero_add _))

/-- The second half, at the first block. -/
theorem b0_gen (d0 d1 d2 : Vec Ideal S1x512 .f32) (x0 x1 : Vec Ideal S1x256x512 .f32) (x2 gate : Vec Ideal S256x512 .f32)
    (i : Fin 256) (k : Fin 512) :
    k0_pay41 d0 x0 d1 x1 d2 x2 gate (ix2 i k)
      = gate (ix2 i k) * (d0 (ix2 0 k) * x0 (ix3 0 i k) + d1 (ix2 0 k) * x1 (ix3 0 i k) + d2 (ix2 0 k) * x2 (ix2 i k)) := by
  pointwise [k0_pay41]

/-- The second half, at the first block, from the buffer's rows. -/
theorem b0_at (dw : Vec Ideal S3x512 .f32) (K K32 : S544x512.Idx → Elt Ideal .f32) (S : S2x544x512.Idx → Elt Ideal .f32)
    (h32 : ∀ (p : Fin 544) (k : Fin 512) (_ : 32 ≤ p.val), K32 (ix2 p k) = K (ix2 p k))
    (G : S512x512.Idx → Elt Ideal .f32) (i : Fin 256) (k : Fin 512) (i0 i1 i2 s0 s1 kk gg)
    (hS : ∀ (q : Fin 2) (r : Fin 544) (k : Fin 512) (_ : 0 ≤ q.val) (_ : r.val < 536) (hs : 6 + q.val + r.val < 544),
      S (ix3 q r k) = K (ix2 ⟨6 + q.val + r.val, hs⟩ k)) :
    k0_pay41 (fun y => dw ((Rect.unit (s := S3x512) ![0, 0] ![1, 512] i0).idx y))
        (fun y => S ((Rect.unit (s := S2x544x512) ![0, 24, 0] ![1, 256, 512] s0).idx y))
        (fun y => dw ((Rect.unit (s := S3x512) ![1, 0] ![1, 512] i1).idx y))
        (fun y => S ((Rect.unit (s := S2x544x512) ![1, 24, 0] ![1, 256, 512] s1).idx y))
        (fun y => dw ((Rect.unit (s := S3x512) ![2, 0] ![1, 512] i2).idx y))
        (fun y => K32 ((Rect.unit (s := S544x512) ![32, 0] ![256, 512] kk).idx y))
        (fun y => G ((Rect.unit (s := S512x512) ![0, 0] ![256, 512] gg).idx y)) (ix2 i k)
      = G (ix2 ⟨0 + i.val, by omega⟩ k) * ∑ j : Fin 3, dw (ix2 j k) * K (ix2 ⟨0 + i.val + 30 + j.val, by omega⟩ k) := by
  refine (b0_gen _ _ _ _ _ _ _ i k).trans ?_
  rw [Fin.sum_univ_three]
  refine congrArg₂ (· * ·) ?_ (congrArg₂ (· + ·) (congrArg₂ (· + ·) (congrArg₂ (· * ·) ?_ ?_) (congrArg₂ (· * ·) ?_ ?_)) (congrArg₂ (· * ·) ?_ ?_))
  · refine (congrArg G (rect_idx gg i k (by omega) (by omega))).trans ?_
    exact congrArg (fun c => G (ix2 _ c)) (Fin.ext (Nat.zero_add _))
  · refine (congrArg dw (rect_idx i0 0 k (by decide) (by omega))).trans ?_
    exact congrArg (fun c => dw (ix2 0 c)) (Fin.ext (Nat.zero_add _))
  · refine (congrArg S (copy_idx s0 i k (by decide) (by omega))).trans ?_
    refine (hS _ _ _ (by show 0 ≤ 0; omega) (by show 24 + i.val < 536; omega) (by show 6 + 0 + (24 + i.val) < 544; omega)).trans ?_
    exact congrArg (fun p => K (ix2 p k)) (Fin.ext (show 6 + 0 + (24 + i.val) = 0 + i.val + 30 + 0 by omega))
  · refine (congrArg dw (rect_idx i1 0 k (by decide) (by omega))).trans ?_
    exact congrArg (fun c => dw (ix2 1 c)) (Fin.ext (Nat.zero_add _))
  · refine (congrArg S (copy_idx s1 i k (by decide) (by omega))).trans ?_
    refine (hS _ _ _ (by show 0 ≤ 1; omega) (by show 24 + i.val < 536; omega) (by show 6 + 1 + (24 + i.val) < 544; omega)).trans ?_
    exact congrArg (fun p => K (ix2 p k)) (Fin.ext (show 6 + 1 + (24 + i.val) = 0 + i.val + 30 + 1 by omega))
  · refine (congrArg dw (rect_idx i2 0 k (by decide) (by omega))).trans ?_
    exact congrArg (fun c => dw (ix2 2 c)) (Fin.ext (Nat.zero_add _))
  · refine (congrArg K32 (rect_idx kk i k (by omega) (by omega))).trans ((h32 _ _ (Nat.le_add_right _ _)).trans ?_)
    exact congrArg₂ (fun p c => K (ix2 p c)) (Fin.ext (show 32 + i.val = 0 + i.val + 30 + 2 by omega)) (Fin.ext (Nat.zero_add _))

/-- The second half, at the second block. -/
theorem b1_gen (d0 d1 d2 : Vec Ideal S1x512 .f32) (x0 x1 : Vec Ideal S1x256x512 .f32) (x2 gate : Vec Ideal S256x512 .f32)
    (i : Fin 256) (k : Fin 512) :
    k0_pay42 d0 x0 d1 x1 d2 x2 gate (ix2 i k)
      = gate (ix2 i k) * (d0 (ix2 0 k) * x0 (ix3 0 i k) + d1 (ix2 0 k) * x1 (ix3 0 i k) + d2 (ix2 0 k) * x2 (ix2 i k)) := by
  pointwise [k0_pay42]

/-- The second half, at the second block, from the buffer's rows. -/
theorem b1_at (dw : Vec Ideal S3x512 .f32) (K K32 : S544x512.Idx → Elt Ideal .f32) (S : S2x544x512.Idx → Elt Ideal .f32)
    (h32 : ∀ (p : Fin 544) (k : Fin 512) (_ : 288 ≤ p.val), K32 (ix2 p k) = K (ix2 p k))
    (G : S512x512.Idx → Elt Ideal .f32) (i : Fin 256) (k : Fin 512) (i0 i1 i2 s0 s1 kk gg)
    (hS : ∀ (q : Fin 2) (r : Fin 544) (k : Fin 512) (_ : 0 ≤ q.val) (_ : r.val < 536) (hs : 6 + q.val + r.val < 544),
      S (ix3 q r k) = K (ix2 ⟨6 + q.val + r.val, hs⟩ k)) :
    k0_pay42 (fun y => dw ((Rect.unit (s := S3x512) ![0, 0] ![1, 512] i0).idx y))
        (fun y => S ((Rect.unit (s := S2x544x512) ![0, 280, 0] ![1, 256, 512] s0).idx y))
        (fun y => dw ((Rect.unit (s := S3x512) ![1, 0] ![1, 512] i1).idx y))
        (fun y => S ((Rect.unit (s := S2x544x512) ![1, 280, 0] ![1, 256, 512] s1).idx y))
        (fun y => dw ((Rect.unit (s := S3x512) ![2, 0] ![1, 512] i2).idx y))
        (fun y => K32 ((Rect.unit (s := S544x512) ![288, 0] ![256, 512] kk).idx y))
        (fun y => G ((Rect.unit (s := S512x512) ![256, 0] ![256, 512] gg).idx y)) (ix2 i k)
      = G (ix2 ⟨256 + i.val, by omega⟩ k) * ∑ j : Fin 3, dw (ix2 j k) * K (ix2 ⟨256 + i.val + 30 + j.val, by omega⟩ k) := by
  refine (b1_gen _ _ _ _ _ _ _ i k).trans ?_
  rw [Fin.sum_univ_three]
  refine congrArg₂ (· * ·) ?_ (congrArg₂ (· + ·) (congrArg₂ (· + ·) (congrArg₂ (· * ·) ?_ ?_) (congrArg₂ (· * ·) ?_ ?_)) (congrArg₂ (· * ·) ?_ ?_))
  · refine (congrArg G (rect_idx gg i k (by omega) (by omega))).trans ?_
    exact congrArg (fun c => G (ix2 _ c)) (Fin.ext (Nat.zero_add _))
  · refine (congrArg dw (rect_idx i0 0 k (by decide) (by omega))).trans ?_
    exact congrArg (fun c => dw (ix2 0 c)) (Fin.ext (Nat.zero_add _))
  · refine (congrArg S (copy_idx s0 i k (by decide) (by omega))).trans ?_
    refine (hS _ _ _ (by show 0 ≤ 0; omega) (by show 280 + i.val < 536; omega) (by show 6 + 0 + (280 + i.val) < 544; omega)).trans ?_
    exact congrArg (fun p => K (ix2 p k)) (Fin.ext (show 6 + 0 + (280 + i.val) = 256 + i.val + 30 + 0 by omega))
  · refine (congrArg dw (rect_idx i1 0 k (by decide) (by omega))).trans ?_
    exact congrArg (fun c => dw (ix2 1 c)) (Fin.ext (Nat.zero_add _))
  · refine (congrArg S (copy_idx s1 i k (by decide) (by omega))).trans ?_
    refine (hS _ _ _ (by show 0 ≤ 1; omega) (by show 280 + i.val < 536; omega) (by show 6 + 1 + (280 + i.val) < 544; omega)).trans ?_
    exact congrArg (fun p => K (ix2 p k)) (Fin.ext (show 6 + 1 + (280 + i.val) = 256 + i.val + 30 + 1 by omega))
  · refine (congrArg dw (rect_idx i2 0 k (by decide) (by omega))).trans ?_
    exact congrArg (fun c => dw (ix2 2 c)) (Fin.ext (Nat.zero_add _))
  · refine (congrArg K32 (rect_idx kk i k (by omega) (by omega))).trans ((h32 _ _ (Nat.le_add_right _ _)).trans ?_)
    exact congrArg₂ (fun p c => K (ix2 p c)) (Fin.ext (show 288 + i.val = 256 + i.val + 30 + 2 by omega)) (Fin.ext (Nat.zero_add _))

end Cert.Kernel2Ideal.Mix

end
-- ==== Proof.ConvPoint.lean ====
/- What one grid point of the convolution kernel leaves: its tile of the mixer's output, and the last 32 rows of the two
   sequences its convolutions read, for the tile after it. -/
module

public import Idealize.ShloMosaic.Lib.WritesUnit
public import proofs.«01_k».proof.Proof.ConvArgs
public import proofs.«01_k».proof.Proof.ConvBlock

@[expose] public section

set_option maxRecDepth 16384
set_option maxHeartbeats 1000000

noncomputable section

namespace Cert.Kernel2Ideal.Mix

open Idealize.ShloMosaic Idealize.ShloMosaic.TcCoe Idealize.SL.Sem
open Cert.Kernel2Ideal Cert.Kernel2Ideal.Gen Cert.Mixer Cert.Conv

/-- The rows of the first tile: 32 zeros, then the tile's own. -/
theorem rows_first (f : Fin 512 → Fin 2048 → EReal) (tile : Fin 4) (ht : tile.val = 0)
    (own : Vec Ideal S512x512 .f32) (z : Vec Ideal S32x512 .f32)
    (hown : ∀ r k : Fin 512, own (ix2 r k) = f k ⟨512 * tile.val + r.val, by omega⟩)
    (hz : ∀ (i : Fin 32) (k : Fin 512), z (ix2 i k) = 0) (i1 i2) (p : Fin 544) (k : Fin 512) :
    View.canon (Val := Elt Ideal) (e := .f32) [
      (⟨Rect.unit (s := S544x512) ![32, 0] ![512, 512] i1, own⟩ : View.Piece (Elt Ideal) S544x512 .f32),
      (⟨Rect.unit (s := S544x512) ![0, 0] ![32, 512] i2, z⟩ : View.Piece (Elt Ideal) S544x512 .f32)] (ix2 p k)
      = hist (f k) (512 * tile.val + p.val) := by
  refine canon_peel _ _ _ _ _ _ (fun i j hi hj => ?_) fun n1 => ?_
  · obtain rfl : k = j := Fin.ext (by omega)
    exact (hown i k).trans (hist_own _ _ _ (by show 512 * tile.val + p.val = 512 * tile.val + i.val + 32; omega)).symm
  refine canon_peel _ _ _ _ _ _ (fun i j hi hj => ?_) fun n2 => ?_
  · exact (hz i j).trans (hist_before _ _ (by omega)).symm
  · omega

/-- The rows of a tile's own. -/
theorem rows_own (f : Fin 512 → Fin 2048 → EReal) (tile : Fin 4) (own : Vec Ideal S512x512 .f32)
    (hown : ∀ r k : Fin 512, own (ix2 r k) = f k ⟨512 * tile.val + r.val, by omega⟩) (i1)
    (p : Fin 544) (k : Fin 512) (hp : 32 ≤ p.val) :
    View.canon (Val := Elt Ideal) (e := .f32) [
      (⟨Rect.unit (s := S544x512) ![32, 0] ![512, 512] i1, own⟩ : View.Piece (Elt Ideal) S544x512 .f32)] (ix2 p k)
      = hist (f k) (512 * tile.val + p.val) := by
  refine canon_peel _ _ _ _ _ _ (fun i j hi hj => ?_) fun n1 => ?_
  · obtain rfl : k = j := Fin.ext (by omega)
    exact (hown i k).trans (hist_own _ _ _ (by show 512 * tile.val + p.val = 512 * tile.val + i.val + 32; omega)).symm
  · omega

/-- The rows of a later tile: the last 32 the tile before left, then the tile's own. -/
theorem rows_later {κ : Kind} {sp : Space} {sig : RefSig} (v : View sig κ sp S544x512 .f32) (g : v.ty.Contents (Elt Ideal))
    (f : Fin 512 → Fin 2048 → EReal) (tile tile' : Fin 4) (ht : tile'.val = tile.val + 1)
    (own : Vec Ideal S512x512 .f32)
    (hown : ∀ r k : Fin 512, own (ix2 r k) = f k ⟨512 * tile'.val + r.val, by omega⟩)
    (hold : ∀ (i : Fin 32) (k : Fin 512), View.read (Elt Ideal) v g (ix2 ⟨i.val, by omega⟩ k)
      = f k ⟨512 * tile.val + (480 + i.val), by omega⟩) (inb) (p : Fin 544) (k : Fin 512) :
    View.read (Elt Ideal) v (v.writes (Elt Ideal) g
      [(⟨Rect.unit (s := S544x512) ![32, 0] ![512, 512] inb, own⟩ : View.Piece (Elt Ideal) S544x512 .f32)]) (ix2 p k)
      = hist (f k) (512 * tile'.val + p.val) := by
  by_cases hp : p.val < 32
  · refine (View.read_writes_cons_unit_of_not_mem v g inb own [] _ rfl ⟨0, by decide⟩ (Or.inl hp)).trans ?_
    exact (hold ⟨p.val, hp⟩ k).trans
      (hist_own _ _ _ (by show 512 * tile'.val + p.val = 512 * tile.val + (480 + p.val) + 32; omega)).symm
  · refine (View.read_writes_cons_unit_of_mem v g inb own [] (ix2 p k) (ix2 ⟨p.val - 32, by omega⟩ k) rfl fun a => ?_).trans ?_
    · match a with
      | ⟨0, _⟩ => exact (show p.val = 32 + (p.val - 32) by omega)
      | ⟨1, _⟩ => exact (Nat.zero_add _).symm
    · exact (hown _ k).trans
        (hist_own _ _ _ (by show 512 * tile'.val + p.val = 512 * tile'.val + (p.val - 32) + 32; omega)).symm

/-- The last 32 rows of a tile's own, copied to the head of the buffer. -/
theorem rows_kept (own : Vec Ideal S512x512 .f32) (kept : Vec Ideal S32x512 .f32 → Vec Ideal S32x512 .f32)
    (hk : ∀ v i k, kept v (ix2 i k) = v (ix2 i k)) (i1 i2 i3) (L T : List (View.Piece (Elt Ideal) S544x512 .f32))
    (i : Fin 32) (k : Fin 512) :
    View.canon (Val := Elt Ideal) (e := .f32) (
      (⟨Rect.unit (s := S544x512) ![0, 0] ![32, 512] i1, kept (fun y => View.canon (Val := Elt Ideal) (e := .f32)
        ((⟨Rect.unit (s := S544x512) ![32, 0] ![512, 512] i2, own⟩ : View.Piece (Elt Ideal) S544x512 .f32) :: L)
        ((Rect.unit (s := S544x512) ![512, 0] ![32, 512] i3).idx y))⟩ : View.Piece (Elt Ideal) S544x512 .f32) :: T) (ix2 ⟨i.val, by omega⟩ k)
      = own (ix2 ⟨480 + i.val, by omega⟩ k) := by
  refine canon_peel _ _ _ _ _ _ (fun i' j hi hj => ?_) fun n1 => absurd ⟨Nat.zero_le _, ?_, Nat.zero_le _, ?_⟩ n1
  · obtain rfl : i = i' := Fin.ext (by have h : i.val = 0 + i'.val := hi; omega)
    obtain rfl : k = j := Fin.ext (by omega)
    refine (hk _ i k).trans ?_
    refine (congrArg (View.canon _) (rect_idx _ i k (by omega) (by omega))).trans ?_
    refine canon_peel _ _ _ _ _ _ (fun i' j' hi' hj' => ?_) fun n1 => absurd ⟨?_, ?_, Nat.zero_le _, ?_⟩ n1
    · have h1 : i' = ⟨480 + i.val, by omega⟩ := Fin.ext (by have h : 512 + i.val = 32 + i'.val := hi'; show i'.val = 480 + i.val; omega)
      have h2 : j' = k := Fin.ext (by have h : 0 + k.val = 0 + j'.val := hj'; omega)
      rw [h1, h2]
    · show 32 ≤ 512 + i.val; omega
    · show 512 + i.val < 32 + 512; omega
    · show 0 + k.val < 0 + 512; omega
  · show i.val < 0 + 32; omega
  · show k.val < 0 + 512; omega

end Cert.Kernel2Ideal.Mix

namespace Cert.Kernel2Ideal.Value

open Idealize.ShloMosaic Idealize.ShloMosaic.TcCoe Idealize.SL.Sem
open Cert.Kernel2Ideal Cert.Kernel2Ideal.Gen Cert.Kernel2Ideal.Mix Cert.Mixer Cert.Conv

variable (m : (ℓ : Loc nD τ sig) → Buf (Elt Ideal) ℓ)

/-- The tile's own gated rows. -/
theorem glu_tile (c : Dev nD) (t : Fin cfg0.N) (r k : Fin 512) :
    (k0_pay6 (iblk m c 0 t) (View.ld (iblk m c 1 t) (Rect.unit (s := S1024x2560) ![0, 0] ![1024, 1024] inb_S1024x2560_S1024x1024_0_0)) (View.ld (iblk m c 2 t) (Rect.unit (s := S1x2560) ![0, 0] ![1, 1024] inb_S1x2560_S1x1024_0_0))) (ix2 r k)
      = (given m c).glu (batchOf t) k ⟨512 * (tileOf t).val + r.val, by omega⟩ := by
  refine (glu_at _ _ _ r k).trans ?_
  unfold Conv.Inputs.glu Conv.Inputs.proj
  refine congrArg₂ (fun a b : EReal => a * Ideal.logistic b) (congrArg₂ (· + ·) (Finset.sum_congr rfl fun d _ => ?_) ?_)
    (congrArg₂ (· + ·) (Finset.sum_congr rfl fun d _ => ?_) ?_)
  · exact congrArg₂ (· * ·) (x_block m c t r d) ((w_slice m c t 0 1024 _ d ⟨k.val, by omega⟩ (by show 0 + k.val < 2560; omega)).trans
      (congrArg ((given m c).w d) (Fin.ext (Nat.zero_add _))))
  · exact (b_slice m c t 0 1024 _ ⟨k.val, by omega⟩ (by show 0 + k.val < 2560; omega)).trans
      (congrArg (given m c).bi (Fin.ext (Nat.zero_add _)))
  · exact congrArg₂ (· * ·) (x_block m c t r d) ((w_slice m c t 0 1024 _ d ⟨512 + k.val, by omega⟩ (by show 0 + (512 + k.val) < 2560; omega)).trans
      (congrArg ((given m c).w d) (Fin.ext (Nat.zero_add _))))
  · exact (b_slice m c t 0 1024 _ ⟨512 + k.val, by omega⟩ (by show 0 + (512 + k.val) < 2560; omega)).trans
      (congrArg (given m c).bi (Fin.ext (Nat.zero_add _)))

/-- One of the later columns of the projection. -/
theorem proj_tile (c : Dev nD) (t : Fin cfg0.N) (r : Fin 512) (o : Fin 1536) (q : Fin 2560) (h : q.val = 1024 + o.val) :
    (∑ d, (show FVec Ideal S1x512x1024 .f32 from iblk m c 0 t) (ix3 0 r d) * ((View.ld (iblk m c 1 t) (Rect.unit (s := S1024x2560) ![0, 1024] ![1024, 1536] inb_S1024x2560_S1024x1536_0_1024)) : Vec Ideal S1024x1536 .bf16) (ix2 d o))
        + ((View.ld (iblk m c 2 t) (Rect.unit (s := S1x2560) ![0, 1024] ![1, 1536] inb_S1x2560_S1x1536_0_1024)) : Vec Ideal S1x1536 .f32) (ix2 0 o)
      = (given m c).proj (batchOf t) ⟨512 * (tileOf t).val + r.val, by omega⟩ q := by
  have hq : q = ⟨1024 + o.val, by omega⟩ := Fin.ext h
  rw [hq]
  unfold Conv.Inputs.proj
  exact congrArg₂ (· + ·) (Finset.sum_congr rfl fun d _ => congrArg₂ (· * ·) (x_block m c t r d)
    (w_slice m c t 1024 1536 _ d o (by omega))) (b_slice m c t 1024 1536 _ o (by omega))

/-- The tile's own gate. -/
theorem gate_tile (c : Dev nD) (t : Fin cfg0.N) (r k : Fin 512) :
    (k0_pay37 (k0_pay5 (iblk m c 0 t)) (View.ld (iblk m c 1 t) (Rect.unit (s := S1024x2560) ![0, 1024] ![1024, 1536] inb_S1024x2560_S1024x1536_0_1024)) (View.ld (iblk m c 2 t) (Rect.unit (s := S1x2560) ![0, 1024] ![1, 1536] inb_S1x2560_S1x1536_0_1024))) (ix2 r k)
      = (given m c).proj (batchOf t) ⟨512 * (tileOf t).val + r.val, by omega⟩ ⟨1024 + k.val, by omega⟩ :=
  (gate_at _ _ _ r k).trans (proj_tile m c t r _ _ rfl)

/-- The tile's own rows for the second convolution. -/
theorem pair_tile (c : Dev nD) (t : Fin cfg0.N) (r k : Fin 512) :
    (k0_pay38 (k0_pay5 (iblk m c 0 t)) (View.ld (iblk m c 1 t) (Rect.unit (s := S1024x2560) ![0, 1024] ![1024, 1536] inb_S1024x2560_S1024x1536_0_1024)) (View.ld (iblk m c 2 t) (Rect.unit (s := S1x2560) ![0, 1024] ![1, 1536] inb_S1x2560_S1x1536_0_1024))) (ix2 r k)
      = (given m c).pair (batchOf t) k ⟨512 * (tileOf t).val + r.val, by omega⟩ :=
  (pair_at _ _ _ r k).trans (congrArg₂ (· * ·) (proj_tile m c t r ⟨512 + k.val, by omega⟩ _ (show 1536 + k.val = 1024 + (512 + k.val) by omega))
    (proj_tile m c t r ⟨1024 + k.val, by omega⟩ _ (show 2048 + k.val = 1024 + (1024 + k.val) by omega)))

/-- The gated rows a point leaves for the next. -/
theorem glu_kept (c : Dev nD) (t : Fin cfg0.N) (i : Fin 32) (k : Fin 512) :
    (outsAt0 m c t.val t.isLt).2.1 (ix2 ⟨i.val, by omega⟩ k)
      = (given m c).glu (batchOf t) k ⟨512 * (tileOf t).val + (480 + i.val), by omega⟩ := by
  by_cases h : t.val % 4 = 0
  · rw [outsAt0_A m c t h]
    frame_out
    simp only [View.readCov_eq_canon']
    exact (rows_kept (k0_pay6 (iblk m c 0 t) (View.ld (iblk m c 1 t) (Rect.unit (s := S1024x2560) ![0, 0] ![1024, 1024] inb_S1024x2560_S1024x1024_0_0)) (View.ld (iblk m c 2 t) (Rect.unit (s := S1x2560) ![0, 0] ![1, 1024] inb_S1x2560_S1x1024_0_0))) k0_pay43 keep_at _ _ _ _ _ i k).trans (glu_tile m c t _ k)
  · rw [outsAt0_B m c t h]
    frame_out
    simp only [View.readCov_eq_canon']
    exact (rows_kept (k0_pay6 (iblk m c 0 t) (View.ld (iblk m c 1 t) (Rect.unit (s := S1024x2560) ![0, 0] ![1024, 1024] inb_S1024x2560_S1024x1024_0_0)) (View.ld (iblk m c 2 t) (Rect.unit (s := S1x2560) ![0, 0] ![1, 1024] inb_S1x2560_S1x1024_0_0))) k0_pay43 keep_at _ _ _ _ _ i k).trans (glu_tile m c t _ k)

/-- The products a point leaves for the next. -/
theorem pair_kept (c : Dev nD) (t : Fin cfg0.N) (i : Fin 32) (k : Fin 512) :
    (outsAt0 m c t.val t.isLt).2.2 (ix2 ⟨i.val, by omega⟩ k)
      = (given m c).pair (batchOf t) k ⟨512 * (tileOf t).val + (480 + i.val), by omega⟩ := by
  by_cases h : t.val % 4 = 0
  · rw [outsAt0_A m c t h]
    frame_out
    simp only [View.readCov_eq_canon']
    exact (rows_kept (k0_pay38 (k0_pay5 (iblk m c 0 t)) (View.ld (iblk m c 1 t) (Rect.unit (s := S1024x2560) ![0, 1024] ![1024, 1536] inb_S1024x2560_S1024x1536_0_1024)) (View.ld (iblk m c 2 t) (Rect.unit (s := S1x2560) ![0, 1024] ![1, 1536] inb_S1x2560_S1x1536_0_1024))) k0_pay44 keep2_at _ _ _ _ _ i k).trans (pair_tile m c t _ k)
  · rw [outsAt0_B m c t h]
    frame_out
    simp only [View.readCov_eq_canon']
    exact (rows_kept (k0_pay38 (k0_pay5 (iblk m c 0 t)) (View.ld (iblk m c 1 t) (Rect.unit (s := S1024x2560) ![0, 1024] ![1024, 1536] inb_S1024x2560_S1024x1536_0_1024)) (View.ld (iblk m c 2 t) (Rect.unit (s := S1x2560) ![0, 1024] ![1, 1536] inb_S1x2560_S1x1536_0_1024))) k0_pay44 keep2_at _ _ _ _ _ i k).trans (pair_tile m c t _ k)

/-- A row of the first half, from the buffer's rows. -/
theorem left_of (c : Dev nD) (t : Fin cfg0.N) (K : S544x512.Idx → Elt Ideal .f32)
    (hK : ∀ p k, K (ix2 p k) = hist ((given m c).glu (batchOf t) k) (512 * (tileOf t).val + p.val))
    (o : ℕ) (i : Fin 256) (j : Fin 512) (r : Fin 512) (k : Fin 1024) (ho : o + 256 ≤ 512) (hr : 0 + r.val = o + i.val) (hk : 0 + k.val = 0 + j.val) :
    silu (lnorm (Ideal.ofBits .f32 1140850688#32)
        (fun l => (show FVec Ideal S1x512 .f32 from iblk m c 4 t) (ix2 0 l) + ∑ s : Fin 31, (show FVec Ideal S31x512 .f32 from iblk m c 3 t) (ix2 s l)
          * K (ix2 ⟨o + i.val + 2 + s.val, by omega⟩ l))
        (fun l => (show FVec Ideal S1x512 .f32 from iblk m c 5 t) (ix2 0 l)) (fun l => (show FVec Ideal S1x512 .f32 from iblk m c 6 t) (ix2 0 l)) j)
      = (given m c).mix (batchOf t) ⟨512 * (tileOf t).val + r.val, by omega⟩ k := by
  have hj : (⟨k.val, by omega⟩ : Fin 512) = j := Fin.ext (by show k.val = j.val; omega)
  unfold Conv.Inputs.mix
  rw [dif_pos (by omega), hj]
  unfold Conv.Inputs.left
  simp only [hK, da_block m c t, dab_block m c t, ag_block m c t, ab_block m c t]
  refine congrArg (fun U => silu (lnorm _ U _ _ j)) (funext fun l => ?_)
  unfold Conv.Inputs.convA
  refine congrArg ((given m c).dab l + ·) (Finset.sum_congr rfl fun s _ => congrArg (fun p => (given m c).da s l * hist ((given m c).glu (batchOf t) l) p) ?_)
  show 512 * (tileOf t).val + (o + i.val + 2 + s.val) = 512 * (tileOf t).val + r.val + 2 + s.val
  omega

/-- A row of the second half, from the buffer's rows. -/
theorem right_of (c : Dev nD) (t : Fin cfg0.N) (K : S544x512.Idx → Elt Ideal .f32) (G : S512x512.Idx → Elt Ideal .f32)
    (hK : ∀ p k, K (ix2 p k) = hist ((given m c).pair (batchOf t) k) (512 * (tileOf t).val + p.val))
    (hG : ∀ r k : Fin 512, G (ix2 r k) = (given m c).proj (batchOf t) ⟨512 * (tileOf t).val + r.val, by omega⟩ ⟨1024 + k.val, by omega⟩)
    (o : ℕ) (i : Fin 256) (j : Fin 512) (r : Fin 512) (k : Fin 1024) (ho : o + 256 ≤ 512) (hr : 0 + r.val = o + i.val) (hk : 0 + k.val = 512 + j.val) :
    G (ix2 ⟨o + i.val, by omega⟩ j) * ∑ s : Fin 3, (show FVec Ideal S3x512 .f32 from iblk m c 7 t) (ix2 s j) * K (ix2 ⟨o + i.val + 30 + s.val, by omega⟩ j)
      = (given m c).mix (batchOf t) ⟨512 * (tileOf t).val + r.val, by omega⟩ k := by
  have hj : (⟨k.val - 512, by omega⟩ : Fin 512) = j := Fin.ext (by show k.val - 512 = j.val; omega)
  unfold Conv.Inputs.mix
  rw [dif_neg (by omega), hj]
  unfold Conv.Inputs.right
  simp only [hK, hG, db_block m c t]
  refine congrArg₂ (· * ·) (congrArg (fun s => (given m c).proj (batchOf t) s _) (Fin.ext ?_))
    (Finset.sum_congr rfl fun s _ => congrArg (fun p => (given m c).db s j * hist ((given m c).pair (batchOf t) j) p) ?_)
  · show 512 * (tileOf t).val + (o + i.val) = 512 * (tileOf t).val + r.val
    omega
  · show 512 * (tileOf t).val + (o + i.val + 30 + s.val) = 512 * (tileOf t).val + r.val + 30 + s.val
    omega

/-- The output of a point that is the first of its sequence. -/
theorem out_A (c : Dev nD) (t : Fin cfg0.N) (h : t.val % 4 = 0) (r : Fin 512) (l : Fin 1024) :
    (outsAt0 m c t.val t.isLt).1 (ix3 0 r l)
      = (given m c).out (batchOf t) ⟨512 * (tileOf t).val + r.val, by omega⟩ l := by
  have hA := rows_first (fun k => (given m c).glu (batchOf t) k) (tileOf t) h (k0_pay6 (iblk m c 0 t) (View.ld (iblk m c 1 t) (Rect.unit (s := S1024x2560) ![0, 0] ![1024, 1024] inb_S1024x2560_S1024x1024_0_0)) (View.ld (iblk m c 2 t) (Rect.unit (s := S1x2560) ![0, 0] ![1, 1024] inb_S1x2560_S1x1024_0_0))) (k0_pay2 (F := Ideal))
    (fun r k => glu_tile m c t r k) zeros_at inb_S544x512_S512x512_32_0 inb_S544x512_S32x512_0_0
  have hC := rows_first (fun k => (given m c).pair (batchOf t) k) (tileOf t) h (k0_pay38 (k0_pay5 (iblk m c 0 t)) (View.ld (iblk m c 1 t) (Rect.unit (s := S1024x2560) ![0, 1024] ![1024, 1536] inb_S1024x2560_S1024x1536_0_1024)) (View.ld (iblk m c 2 t) (Rect.unit (s := S1x2560) ![0, 1024] ![1, 1536] inb_S1x2560_S1x1536_0_1024))) (k0_pay3 (F := Ideal))
    (fun r k => pair_tile m c t r k) zeros2_at inb_S544x512_S512x512_32_0 inb_S544x512_S32x512_0_0
  have hG : ∀ r k : Fin 512, View.canon (Val := Elt Ideal) (e := .f32)
      [(⟨Rect.unit (s := S512x512) ![0, 0] ![512, 512] inb_S512x512_S512x512_0_0, (k0_pay37 (k0_pay5 (iblk m c 0 t)) (View.ld (iblk m c 1 t) (Rect.unit (s := S1024x2560) ![0, 1024] ![1024, 1536] inb_S1024x2560_S1024x1536_0_1024)) (View.ld (iblk m c 2 t) (Rect.unit (s := S1x2560) ![0, 1024] ![1, 1536] inb_S1x2560_S1x1536_0_1024)))⟩ : View.Piece (Elt Ideal) S512x512 .f32)] (ix2 r k)
      = (given m c).proj (batchOf t) ⟨512 * (tileOf t).val + r.val, by omega⟩ ⟨1024 + k.val, by omega⟩ := by
    intro r k
    refine canon_peel _ _ _ _ _ _ (fun i j hi hj => ?_) fun n1 => absurd ⟨Nat.zero_le _, ?_, Nat.zero_le _, ?_⟩ n1
    · obtain rfl : i = r := Fin.ext (by omega)
      obtain rfl : j = k := Fin.ext (by omega)
      exact gate_tile m c t i j
    · omega
    · omega
  rw [outsAt0_A m c t h]
  frame_out
  refine (final_at _ _ _ _ _ r l (fun k => (given m c).x (batchOf t) ⟨512 * (tileOf t).val + r.val, by omega⟩ k)
    (fun k => (given m c).mix (batchOf t) ⟨512 * (tileOf t).val + r.val, by omega⟩ k) (given m c).g (given m c).b
    (given m c).wo (fun d => x_block m c t r d) ?_ (fun d k => wo_block m c t d k) (fun k => g_block m c t k)
    (fun k => b_block m c t k)).trans rfl
  intro k
  rw [View.readCov_eq_canon']
  refine (congrArg (View.canon _) (rect_idx _ r k (by omega) (by omega))).trans ?_
  refine canon_peel _ _ _ _ _ _ (fun i j hi hj => ?_) fun _ => ?_
  · simp only [View.readCov_eq_canon']
    refine (b1_at (iblk m c 7 t) _ _ _ (fun _ _ _ => rfl) _ i j _ _ _ _ _ _ _ (copies2_at _ _ _ _ _ _ _)).trans ?_
    exact right_of m c t _ _ hC hG 256 i j r k (by omega) hi hj
  refine canon_peel _ _ _ _ _ _ (fun i j hi hj => ?_) fun _ => ?_
  · simp only [View.readCov_eq_canon']
    refine (b0_at (iblk m c 7 t) _ _ _ (fun _ _ _ => rfl) _ i j _ _ _ _ _ _ _ (copies2_at _ _ _ _ _ _ _)).trans ?_
    exact right_of m c t _ _ hC hG 0 i j r k (by omega) hi hj
  refine canon_peel _ _ _ _ _ _ (fun i j hi hj => ?_) fun _ => ?_
  · simp only [View.readCov_eq_canon']
    refine (a1_at (iblk m c 3 t) _ _ _ _ _ _ (fun _ _ _ => rfl) (fun _ _ _ => rfl) (fun _ _ _ => rfl) (fun _ _ _ => rfl) (iblk m c 4 t) (iblk m c 5 t) (iblk m c 6 t) i j (copies_at _ _ _ _ _ _ _ _ _ _ _ _ _ _ _ _ _ _ _ _ _ _)).trans ?_
    exact left_of m c t _ hA 256 i j r k (by omega) hi hj
  refine canon_peel _ _ _ _ _ _ (fun i j hi hj => ?_) fun _ => ?_
  · simp only [View.readCov_eq_canon']
    refine (a0_at (iblk m c 3 t) _ _ _ _ _ _ (fun _ _ _ => rfl) (fun _ _ _ => rfl) (fun _ _ _ => rfl) (fun _ _ _ => rfl) (iblk m c 4 t) (iblk m c 5 t) (iblk m c 6 t) i j (copies_at _ _ _ _ _ _ _ _ _ _ _ _ _ _ _ _ _ _ _ _ _ _)).trans ?_
    exact left_of m c t _ hA 0 i j r k (by omega) hi hj
  omega

/-- The output of a point with a tile before it. -/
theorem out_B (c : Dev nD) (t : Fin cfg0.N) (h : ¬t.val % 4 = 0) (r : Fin 512) (l : Fin 1024) :
    (outsAt0 m c t.val t.isLt).1 (ix3 0 r l)
      = (given m c).out (batchOf t) ⟨512 * (tileOf t).val + r.val, by omega⟩ l := by
  have hp : 0 < t.val := by omega
  have hb : batchOf ⟨t.val - 1, lt_of_le_of_lt (Nat.sub_le _ _) t.isLt⟩ = batchOf t :=
    Fin.ext (show (t.val - 1) / 4 = t.val / 4 by omega)
  have ht : (tileOf t).val = (tileOf ⟨t.val - 1, lt_of_le_of_lt (Nat.sub_le _ _) t.isLt⟩).val + 1 := by
    show t.val % 4 = (t.val - 1) % 4 + 1
    omega
  have hA := rows_later (View.whole cc0_scratch0) ((Memref.isWhole_whole cc0_scratch0).unread
      (outsAt0 m c (t.val - 1) (lt_of_le_of_lt (Nat.sub_le _ _) t.isLt)).2.1) (fun k => (given m c).glu (batchOf t) k)
    (tileOf ⟨t.val - 1, lt_of_le_of_lt (Nat.sub_le _ _) t.isLt⟩) (tileOf t) ht (k0_pay6 (iblk m c 0 t) (View.ld (iblk m c 1 t) (Rect.unit (s := S1024x2560) ![0, 0] ![1024, 1024] inb_S1024x2560_S1024x1024_0_0)) (View.ld (iblk m c 2 t) (Rect.unit (s := S1x2560) ![0, 0] ![1, 1024] inb_S1x2560_S1x1024_0_0))) (fun r k => glu_tile m c t r k)
    (fun i k => (congrFun ((Memref.isWhole_whole cc0_scratch0).read_unread _) _).trans
      ((glu_kept m c ⟨t.val - 1, lt_of_le_of_lt (Nat.sub_le _ _) t.isLt⟩ i k).trans
        (congrArg (fun b => (given m c).glu b k _) hb))) inb_S544x512_S512x512_32_0
  have hC := rows_later (View.whole cc0_scratch1) ((Memref.isWhole_whole cc0_scratch1).unread
      (outsAt0 m c (t.val - 1) (lt_of_le_of_lt (Nat.sub_le _ _) t.isLt)).2.2) (fun k => (given m c).pair (batchOf t) k)
    (tileOf ⟨t.val - 1, lt_of_le_of_lt (Nat.sub_le _ _) t.isLt⟩) (tileOf t) ht (k0_pay38 (k0_pay5 (iblk m c 0 t)) (View.ld (iblk m c 1 t) (Rect.unit (s := S1024x2560) ![0, 1024] ![1024, 1536] inb_S1024x2560_S1024x1536_0_1024)) (View.ld (iblk m c 2 t) (Rect.unit (s := S1x2560) ![0, 1024] ![1, 1536] inb_S1x2560_S1x1536_0_1024))) (fun r k => pair_tile m c t r k)
    (fun i k => (congrFun ((Memref.isWhole_whole cc0_scratch1).read_unread _) _).trans
      ((pair_kept m c ⟨t.val - 1, lt_of_le_of_lt (Nat.sub_le _ _) t.isLt⟩ i k).trans
        (congrArg (fun b => (given m c).pair b k _) hb))) inb_S544x512_S512x512_32_0
  have hA2 := rows_own (fun k => (given m c).glu (batchOf t) k) (tileOf t) (k0_pay6 (iblk m c 0 t) (View.ld (iblk m c 1 t) (Rect.unit (s := S1024x2560) ![0, 0] ![1024, 1024] inb_S1024x2560_S1024x1024_0_0)) (View.ld (iblk m c 2 t) (Rect.unit (s := S1x2560) ![0, 0] ![1, 1024] inb_S1x2560_S1x1024_0_0)))
    (fun r k => glu_tile m c t r k) inb_S544x512_S512x512_32_0
  have hC2 := rows_own (fun k => (given m c).pair (batchOf t) k) (tileOf t) (k0_pay38 (k0_pay5 (iblk m c 0 t)) (View.ld (iblk m c 1 t) (Rect.unit (s := S1024x2560) ![0, 1024] ![1024, 1536] inb_S1024x2560_S1024x1536_0_1024)) (View.ld (iblk m c 2 t) (Rect.unit (s := S1x2560) ![0, 1024] ![1, 1536] inb_S1x2560_S1x1536_0_1024)))
    (fun r k => pair_tile m c t r k) inb_S544x512_S512x512_32_0
  have hG : ∀ r k : Fin 512, View.canon (Val := Elt Ideal) (e := .f32)
      [(⟨Rect.unit (s := S512x512) ![0, 0] ![512, 512] inb_S512x512_S512x512_0_0, (k0_pay37 (k0_pay5 (iblk m c 0 t)) (View.ld (iblk m c 1 t) (Rect.unit (s := S1024x2560) ![0, 1024] ![1024, 1536] inb_S1024x2560_S1024x1536_0_1024)) (View.ld (iblk m c 2 t) (Rect.unit (s := S1x2560) ![0, 1024] ![1, 1536] inb_S1x2560_S1x1536_0_1024)))⟩ : View.Piece (Elt Ideal) S512x512 .f32)] (ix2 r k)
      = (given m c).proj (batchOf t) ⟨512 * (tileOf t).val + r.val, by omega⟩ ⟨1024 + k.val, by omega⟩ := by
    intro r k
    refine canon_peel _ _ _ _ _ _ (fun i j hi hj => ?_) fun n1 => absurd ⟨Nat.zero_le _, ?_, Nat.zero_le _, ?_⟩ n1
    · obtain rfl : i = r := Fin.ext (by omega)
      obtain rfl : j = k := Fin.ext (by omega)
      exact gate_tile m c t i j
    · omega
    · omega
  rw [outsAt0_B m c t h]
  frame_out
  refine (final_at _ _ _ _ _ r l (fun k => (given m c).x (batchOf t) ⟨512 * (tileOf t).val + r.val, by omega⟩ k)
    (fun k => (given m c).mix (batchOf t) ⟨512 * (tileOf t).val + r.val, by omega⟩ k) (given m c).g (given m c).b
    (given m c).wo (fun d => x_block m c t r d) ?_ (fun d k => wo_block m c t d k) (fun k => g_block m c t k)
    (fun k => b_block m c t k)).trans rfl
  intro k
  rw [View.readCov_eq_canon']
  refine (congrArg (View.canon _) (rect_idx _ r k (by omega) (by omega))).trans ?_
  refine canon_peel _ _ _ _ _ _ (fun i j hi hj => ?_) fun _ => ?_
  · simp only [View.readCov_eq_canon']
    refine (b1_at (iblk m c 7 t) (View.read (Elt Ideal) (View.whole cc0_scratch1) ((View.whole cc0_scratch1).writes (Elt Ideal) ((Memref.isWhole_whole cc0_scratch1).unread (outsAt0 m c (t.val - 1) (lt_of_le_of_lt (Nat.sub_le _ _) t.isLt)).2.2) [(⟨Rect.unit (s := S544x512) ![32, 0] ![512, 512] inb_S544x512_S512x512_32_0, (k0_pay38 (k0_pay5 (iblk m c 0 t)) (View.ld (iblk m c 1 t) (Rect.unit (s := S1024x2560) ![0, 1024] ![1024, 1536] inb_S1024x2560_S1024x1536_0_1024)) (View.ld (iblk m c 2 t) (Rect.unit (s := S1x2560) ![0, 1024] ![1, 1536] inb_S1x2560_S1x1536_0_1024)))⟩ : View.Piece (Elt Ideal) S544x512 .f32)])) _ _ (fun p k hp => (hC2 p k (by omega)).trans (hC p k).symm) _ i j _ _ _ _ _ _ _ (copies2_at _ _ _ _ _ _ _)).trans ?_
    exact right_of m c t _ _ hC hG 256 i j r k (by omega) hi hj
  refine canon_peel _ _ _ _ _ _ (fun i j hi hj => ?_) fun _ => ?_
  · simp only [View.readCov_eq_canon']
    refine (b0_at (iblk m c 7 t) (View.read (Elt Ideal) (View.whole cc0_scratch1) ((View.whole cc0_scratch1).writes (Elt Ideal) ((Memref.isWhole_whole cc0_scratch1).unread (outsAt0 m c (t.val - 1) (lt_of_le_of_lt (Nat.sub_le _ _) t.isLt)).2.2) [(⟨Rect.unit (s := S544x512) ![32, 0] ![512, 512] inb_S544x512_S512x512_32_0, (k0_pay38 (k0_pay5 (iblk m c 0 t)) (View.ld (iblk m c 1 t) (Rect.unit (s := S1024x2560) ![0, 1024] ![1024, 1536] inb_S1024x2560_S1024x1536_0_1024)) (View.ld (iblk m c 2 t) (Rect.unit (s := S1x2560) ![0, 1024] ![1, 1536] inb_S1x2560_S1x1536_0_1024)))⟩ : View.Piece (Elt Ideal) S544x512 .f32)])) _ _ (fun p k hp => (hC2 p k (by omega)).trans (hC p k).symm) _ i j _ _ _ _ _ _ _ (copies2_at _ _ _ _ _ _ _)).trans ?_
    exact right_of m c t _ _ hC hG 0 i j r k (by omega) hi hj
  refine canon_peel _ _ _ _ _ _ (fun i j hi hj => ?_) fun _ => ?_
  · simp only [View.readCov_eq_canon']
    refine (a1_at (iblk m c 3 t) (View.read (Elt Ideal) (View.whole cc0_scratch0) ((View.whole cc0_scratch0).writes (Elt Ideal) ((Memref.isWhole_whole cc0_scratch0).unread (outsAt0 m c (t.val - 1) (lt_of_le_of_lt (Nat.sub_le _ _) t.isLt)).2.1) [(⟨Rect.unit (s := S544x512) ![32, 0] ![512, 512] inb_S544x512_S512x512_32_0, (k0_pay6 (iblk m c 0 t) (View.ld (iblk m c 1 t) (Rect.unit (s := S1024x2560) ![0, 0] ![1024, 1024] inb_S1024x2560_S1024x1024_0_0)) (View.ld (iblk m c 2 t) (Rect.unit (s := S1x2560) ![0, 0] ![1, 1024] inb_S1x2560_S1x1024_0_0)))⟩ : View.Piece (Elt Ideal) S544x512 .f32)])) _ _ _ _ _ (fun p k hp => (hA2 p k (by omega)).trans (hA p k).symm) (fun p k hp => (hA2 p k (by omega)).trans (hA p k).symm) (fun p k hp => (hA2 p k (by omega)).trans (hA p k).symm) (fun p k hp => (hA2 p k (by omega)).trans (hA p k).symm) (iblk m c 4 t) (iblk m c 5 t) (iblk m c 6 t) i j (copies_at _ _ _ _ _ _ _ _ _ _ _ _ _ _ _ _ _ _ _ _ _ _)).trans ?_
    exact left_of m c t _ hA 256 i j r k (by omega) hi hj
  refine canon_peel _ _ _ _ _ _ (fun i j hi hj => ?_) fun _ => ?_
  · simp only [View.readCov_eq_canon']
    refine (a0_at (iblk m c 3 t) (View.read (Elt Ideal) (View.whole cc0_scratch0) ((View.whole cc0_scratch0).writes (Elt Ideal) ((Memref.isWhole_whole cc0_scratch0).unread (outsAt0 m c (t.val - 1) (lt_of_le_of_lt (Nat.sub_le _ _) t.isLt)).2.1) [(⟨Rect.unit (s := S544x512) ![32, 0] ![512, 512] inb_S544x512_S512x512_32_0, (k0_pay6 (iblk m c 0 t) (View.ld (iblk m c 1 t) (Rect.unit (s := S1024x2560) ![0, 0] ![1024, 1024] inb_S1024x2560_S1024x1024_0_0)) (View.ld (iblk m c 2 t) (Rect.unit (s := S1x2560) ![0, 0] ![1, 1024] inb_S1x2560_S1x1024_0_0)))⟩ : View.Piece (Elt Ideal) S544x512 .f32)])) _ _ _ _ _ (fun _ _ _ => rfl) (fun _ _ _ => rfl) (fun _ _ _ => rfl) (fun p k hp => (hA2 p k (by omega)).trans (hA p k).symm) (iblk m c 4 t) (iblk m c 5 t) (iblk m c 6 t) i j (copies_at _ _ _ _ _ _ _ _ _ _ _ _ _ _ _ _ _ _ _ _ _ _)).trans ?_
    exact left_of m c t _ hA 0 i j r k (by omega) hi hj
  omega

/-- What a point leaves in its tile of the output. -/
theorem point_out (c : Dev nD) (t : Fin cfg0.N) (r : Fin 512) (l : Fin 1024) :
    (outsAt0 m c t.val t.isLt).1 (ix3 0 r l)
      = (given m c).out (batchOf t) ⟨512 * (tileOf t).val + r.val, by omega⟩ l := by
  by_cases h : t.val % 4 = 0
  · exact out_A m c t h r l
  · exact out_B m c t h r l

end Cert.Kernel2Ideal.Value

end
-- ==== Proof.ConvFinal.lean ====
/- What the convolution kernel's output array holds at the end. -/
module

public import proofs.«01_k».proof.Proof.ConvPoint
public import proofs.«01_k».proof.Proof.Gen.Kernel2Ideal.Value

@[expose] public section

set_option maxRecDepth 16384

noncomputable section

namespace Cert.Kernel2Ideal.Value

open Idealize.ShloMosaic Idealize.ShloMosaic.TcCoe Idealize.SL.Sem
open Cert.Kernel2Ideal Cert.Kernel2Ideal.Gen Cert.Kernel2Ideal.Mix Cert.Mixer Cert.Conv

variable (m : (ℓ : Loc nD τ sig) → Buf (Elt Ideal) ℓ)

/-- The output array, entry by entry. -/
theorem G11_at (c : Dev nD) (b : Fin 16) (s : Fin 2048) (l : Fin 1024) :
    G11 m c (ix3 b s l) = (given m c).out b s l := by
  have hN : cfg0.N = 64 := N_0
  have hp : pt11Of (ix3 b s l) = 4 * b.val + s.val / 512 := by
    have hl : ((ix3 b s l : S16x2048x1024.Idx) 2).val = l.val := rfl
    unfold pt11Of
    show 4 * (b.val / 1 - 0) + 1 * (s.val / 512 - 0) + _ = _
    omega
  have hlt : pt11Of (ix3 b s l) < cfg0.N := by omega
  have hl : loc11Of (ix3 b s l) = ix3 0 ⟨s.val % 512, by omega⟩ l := by
    funext a
    match a with
    | ⟨0, _⟩ => exact Fin.ext (show b.val % 1 = 0 by omega)
    | ⟨1, _⟩ => rfl
    | ⟨2, _⟩ => exact Fin.ext (show l.val % 1024 = l.val by omega)
  unfold G11
  rw [dif_pos hlt, ← outsAt0_sweep m c _ hlt, hl]
  refine (point_out m c ⟨_, hlt⟩ ⟨s.val % 512, by omega⟩ l).trans ?_
  refine congrArg₂ (fun b s => (given m c).out b s l) (Fin.ext ?_) (Fin.ext ?_)
  · show pt11Of (ix3 b s l) / 4 = b.val
    omega
  · show 512 * (pt11Of (ix3 b s l) % 4) + s.val % 512 = s.val
    omega

end Cert.Kernel2Ideal.Value

end
-- ==== Proof.ConvReference.lean ====
/- What the reference of the convolution mixer computes: the projection, its two convolutions, their product with the
   output weights, and the layer norm. -/
module

public import proofs.«01_k».proof.Proof.Gen.Reference2Ideal.Run
public import Idealize.ShloMosaic.Lib.Pipeline.ValueKit
public import Idealize.ShloMosaic.Lib.Pointwise
public import Idealize.ShloMosaic.Lib.Claim
public import proofs.«01_k».proof.Proof.ConvSpec

@[expose] public section

set_option maxRecDepth 16384

noncomputable section

namespace Cert.Reference2Ideal.Mix

open Idealize.ShloMosaic Idealize.ShloMosaic.TcCoe Idealize.SL.Sem
open Cert.Reference2Ideal Cert.Reference2Ideal.Gen Cert.Reference2Ideal.Value Cert.Mixer Cert.Conv

variable (V0 : Valuation τ sig (Elt Ideal))

/-- The eleven arrays the reference is given. -/
def given : Conv.Inputs where
  x b t d := (show FVec Ideal S16x2048x1024 .f32 from V0 (Proc.devRef .tc main_arg0)) (ix3 b t d)
  w d k := (show FVec Ideal S1024x2560 .f32 from V0 (Proc.devRef .tc main_arg1)) (ix2 d k)
  bi k := (show FVec Ideal S2560 .f32 from V0 (Proc.devRef .tc main_arg2)) (ix1 k)
  da j k := (show FVec Ideal S31x512 .f32 from V0 (Proc.devRef .tc main_arg3)) (ix2 j k)
  dab k := (show FVec Ideal S512 .f32 from V0 (Proc.devRef .tc main_arg4)) (ix1 k)
  ag k := (show FVec Ideal S512 .f32 from V0 (Proc.devRef .tc main_arg5)) (ix1 k)
  ab k := (show FVec Ideal S512 .f32 from V0 (Proc.devRef .tc main_arg6)) (ix1 k)
  db j k := (show FVec Ideal S3x512 .f32 from V0 (Proc.devRef .tc main_arg7)) (ix2 j k)
  wo d k := (show FVec Ideal S1024x1024 .f32 from V0 (Proc.devRef .tc main_arg8)) (ix2 d k)
  g k := (show FVec Ideal S1024 .f32 from V0 (Proc.devRef .tc main_arg9)) (ix1 k)
  b k := (show FVec Ideal S1024 .f32 from V0 (Proc.devRef .tc main_arg10)) (ix1 k)

/-- The projection. -/
theorem proj_at (b : Fin 16) (t : Fin 2048) (c : Fin 2560) :
    (show FVec Ideal S16x2048x2560 .f32 from res_main_v3 V0) (ix3 b t c) = (given V0).proj b t c := by
  unfold given Conv.Inputs.proj
  pointwise [res_main_v3]

/-- What the padded rows hold before the sequence. -/
theorem nothing : (FloatOps.sitofp (F := Ideal) FTy.f32 (0#32 : BitVec 32) : EReal) = 0 := by
  show (((0#32 : BitVec 32).toInt : ℝ) : EReal) = 0
  simp

/-- The gated rows, 30 rows of zeros before them. -/
theorem padA_at (P : FVec Ideal S16x2048x2560 .f32) (b : Fin 16) (p : Fin 2078) (c : Fin 512) :
    (pad S16x2078x512 ![0, 30, 0] ![0, 0, 0] ![0, 0, 0] (mulf (extractStridedSlice S16x2048x512 ![0, 0, 0] P slices_S16x2048x2560_S16x2048x512_0_0_0) (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf (extractStridedSlice S16x2048x512 ![0, 0, 512] P slices_S16x2048x2560_S16x2048x512_0_0_512)))))) (sitofp .f32 (constantI S_ 32 0#32)) pads_S16x2048x512_S16x2078x512_000_3000_000 h_S_) (ix3 b p c)
      = if hp : 30 ≤ p.val then P (ix3 b ⟨p.val - 30, by omega⟩ ⟨c.val, by omega⟩)
          * Ideal.logistic (P (ix3 b ⟨p.val - 30, by omega⟩ ⟨512 + c.val, by omega⟩)) else 0 := by
  pointwise
  by_cases hp : 30 ≤ p.val
  · rw [dif_pos ⟨hp, by omega⟩, dif_pos hp]
    unfold Ideal.logistic
    simp
  · rw [dif_neg fun q => hp q.1, dif_neg hp]
    exact nothing

/-- The products, 2 rows of zeros before them. -/
theorem padB_at (P : FVec Ideal S16x2048x2560 .f32) (b : Fin 16) (p : Fin 2050) (c : Fin 512) :
    (pad S16x2050x512 ![0, 2, 0] ![0, 0, 0] ![0, 0, 0] (mulf (extractStridedSlice S16x2048x512 ![0, 0, 1536] P slices_S16x2048x2560_S16x2048x512_0_0_1536) (extractStridedSlice S16x2048x512 ![0, 0, 2048] P slices_S16x2048x2560_S16x2048x512_0_0_2048)) (sitofp .f32 (constantI S_ 32 0#32)) pads_S16x2048x512_S16x2050x512_000_200_000 h_S_) (ix3 b p c)
      = if hp : 2 ≤ p.val then P (ix3 b ⟨p.val - 2, by omega⟩ ⟨1536 + c.val, by omega⟩)
          * P (ix3 b ⟨p.val - 2, by omega⟩ ⟨2048 + c.val, by omega⟩) else 0 := by
  pointwise
  by_cases hp : 2 ≤ p.val
  · rw [dif_pos ⟨hp, by omega⟩, dif_pos hp]
  · rw [dif_neg fun q => hp q.1, dif_neg hp]
    exact nothing

theorem rowA_at (b : Fin 16) (p : Fin 2078) (c : Fin 512) :
    (show FVec Ideal S16x2078x512 .f32 from res_main_v16 V0) (ix3 b p c) = hist ((given V0).glu b c) (p.val + 2) := by
  refine (padA_at (res_main_v3 V0) b p c).trans ?_
  by_cases hp : 30 ≤ p.val
  · rw [dif_pos hp, hist_own _ _ ⟨p.val - 30, by omega⟩ (by show p.val + 2 = p.val - 30 + 32; omega)]
    exact congrArg₂ (fun a b : EReal => a * Ideal.logistic b) (proj_at V0 b _ _) (proj_at V0 b _ _)
  · rw [dif_neg hp, hist_before _ _ (by omega)]

theorem rowB_at (b : Fin 16) (p : Fin 2050) (c : Fin 512) :
    (show FVec Ideal S16x2050x512 .f32 from res_main_v264 V0) (ix3 b p c) = hist ((given V0).pair b c) (p.val + 30) := by
  refine (padB_at (res_main_v3 V0) b p c).trans ?_
  by_cases hp : 2 ≤ p.val
  · rw [dif_pos hp, hist_own _ _ ⟨p.val - 2, by omega⟩ (by show p.val + 30 = p.val - 2 + 32; omega)]
    exact congrArg₂ (fun a b : EReal => a * b) (proj_at V0 b _ _) (proj_at V0 b _ _)
  · rw [dif_neg hp, hist_before _ _ (by omega)]

/-- Taps 0 to 10. -/
theorem taps0_at (b : Fin 16) (t : Fin 2048) (c : Fin 512) (X : FVec Ideal S16x2078x512 .f32) (W : FVec Ideal S31x512 .f32)
    (hX : res_main_v16 V0 = X) (hW : V0 (Proc.devRef .tc main_arg3) = W) :
    (show FVec Ideal S16x2048x512 .f32 from res_main_v94 V0) (ix3 b t c)
      = X (ix3 b ⟨0 + t.val, by omega⟩ c) * W (ix2 0 c) + X (ix3 b ⟨1 + t.val, by omega⟩ c) * W (ix2 1 c) + X (ix3 b ⟨2 + t.val, by omega⟩ c) * W (ix2 2 c) + X (ix3 b ⟨3 + t.val, by omega⟩ c) * W (ix2 3 c) + X (ix3 b ⟨4 + t.val, by omega⟩ c) * W (ix2 4 c) + X (ix3 b ⟨5 + t.val, by omega⟩ c) * W (ix2 5 c) + X (ix3 b ⟨6 + t.val, by omega⟩ c) * W (ix2 6 c) + X (ix3 b ⟨7 + t.val, by omega⟩ c) * W (ix2 7 c) + X (ix3 b ⟨8 + t.val, by omega⟩ c) * W (ix2 8 c) + X (ix3 b ⟨9 + t.val, by omega⟩ c) * W (ix2 9 c) + X (ix3 b ⟨10 + t.val, by omega⟩ c) * W (ix2 10 c) := by
  unfold res_main_v94
  rw [hX, hW]
  pointwise

/-- Taps 11 to 21. -/
theorem taps1_at (b : Fin 16) (t : Fin 2048) (c : Fin 512) (X : FVec Ideal S16x2078x512 .f32) (W : FVec Ideal S31x512 .f32)
    (hX : res_main_v16 V0 = X) (hW : V0 (Proc.devRef .tc main_arg3) = W) (z : EReal)
    (hz : (show FVec Ideal S16x2048x512 .f32 from res_main_v94 V0) (ix3 b t c) = z) :
    (show FVec Ideal S16x2048x512 .f32 from res_main_v171 V0) (ix3 b t c)
      = z + X (ix3 b ⟨11 + t.val, by omega⟩ c) * W (ix2 11 c) + X (ix3 b ⟨12 + t.val, by omega⟩ c) * W (ix2 12 c) + X (ix3 b ⟨13 + t.val, by omega⟩ c) * W (ix2 13 c) + X (ix3 b ⟨14 + t.val, by omega⟩ c) * W (ix2 14 c) + X (ix3 b ⟨15 + t.val, by omega⟩ c) * W (ix2 15 c) + X (ix3 b ⟨16 + t.val, by omega⟩ c) * W (ix2 16 c) + X (ix3 b ⟨17 + t.val, by omega⟩ c) * W (ix2 17 c) + X (ix3 b ⟨18 + t.val, by omega⟩ c) * W (ix2 18 c) + X (ix3 b ⟨19 + t.val, by omega⟩ c) * W (ix2 19 c) + X (ix3 b ⟨20 + t.val, by omega⟩ c) * W (ix2 20 c) + X (ix3 b ⟨21 + t.val, by omega⟩ c) * W (ix2 21 c) := by
  rw [← hz]
  generalize hZ : res_main_v94 V0 = Z
  unfold res_main_v171
  rw [hX, hW, hZ]
  pointwise

/-- Taps 22 to 30, and the shift. -/
theorem taps2_at (b : Fin 16) (t : Fin 2048) (c : Fin 512) (X : FVec Ideal S16x2078x512 .f32) (W : FVec Ideal S31x512 .f32)
    (B : FVec Ideal S512 .f32) (hX : res_main_v16 V0 = X) (hW : V0 (Proc.devRef .tc main_arg3) = W)
    (hB : V0 (Proc.devRef .tc main_arg4) = B) (z : EReal)
    (hz : (show FVec Ideal S16x2048x512 .f32 from res_main_v171 V0) (ix3 b t c) = z) :
    (show FVec Ideal S16x2048x512 .f32 from res_main_v237 V0) (ix3 b t c)
      = z + X (ix3 b ⟨22 + t.val, by omega⟩ c) * W (ix2 22 c) + X (ix3 b ⟨23 + t.val, by omega⟩ c) * W (ix2 23 c) + X (ix3 b ⟨24 + t.val, by omega⟩ c) * W (ix2 24 c) + X (ix3 b ⟨25 + t.val, by omega⟩ c) * W (ix2 25 c) + X (ix3 b ⟨26 + t.val, by omega⟩ c) * W (ix2 26 c) + X (ix3 b ⟨27 + t.val, by omega⟩ c) * W (ix2 27 c) + X (ix3 b ⟨28 + t.val, by omega⟩ c) * W (ix2 28 c) + X (ix3 b ⟨29 + t.val, by omega⟩ c) * W (ix2 29 c) + X (ix3 b ⟨30 + t.val, by omega⟩ c) * W (ix2 30 c) + B (ix1 c) := by
  rw [← hz]
  generalize hZ : res_main_v171 V0 = Z
  unfold res_main_v237
  rw [hX, hW, hZ, hB]
  pointwise

/-- The 31 taps as one sum. -/
theorem taps_at (b : Fin 16) (t : Fin 2048) (c : Fin 512) (X : FVec Ideal S16x2078x512 .f32) (W : FVec Ideal S31x512 .f32)
    (B : FVec Ideal S512 .f32) (hX : res_main_v16 V0 = X) (hW : V0 (Proc.devRef .tc main_arg3) = W)
    (hB : V0 (Proc.devRef .tc main_arg4) = B) :
    (show FVec Ideal S16x2048x512 .f32 from res_main_v237 V0) (ix3 b t c)
      = (∑ j : Fin 31, X (ix3 b ⟨j.val + t.val, by omega⟩ c) * W (ix2 j c)) + B (ix1 c) := by
  have hs := taps31 0 fun j : Fin 31 => X (ix3 b ⟨j.val + t.val, by omega⟩ c) * W (ix2 j c)
  rw [zero_add, zero_add] at hs
  rw [← hs]
  exact taps2_at V0 b t c X W B hX hW hB _ (taps1_at V0 b t c X W hX hW _ (taps0_at V0 b t c X W hX hW))

/-- The convolution of 31 taps with its shift. -/
theorem convA_at (b : Fin 16) (t : Fin 2048) (c : Fin 512) :
    (show FVec Ideal S16x2048x512 .f32 from res_main_v237 V0) (ix3 b t c) = (given V0).convA b t c := by
  have hx : ∀ j : Fin 31, (show FVec Ideal S16x2078x512 .f32 from res_main_v16 V0) (ix3 b ⟨j.val + t.val, by omega⟩ c)
      = hist ((given V0).glu b c) (t.val + 2 + j.val) := fun j =>
    (rowA_at V0 b _ c).trans (congrArg (hist ((given V0).glu b c)) (show j.val + t.val + 2 = t.val + 2 + j.val by omega))
  have hw : ∀ j : Fin 31, (show FVec Ideal S31x512 .f32 from V0 (Proc.devRef .tc main_arg3)) (ix2 j c) = (given V0).da j c := fun _ => rfl
  have hb : (show FVec Ideal S512 .f32 from V0 (Proc.devRef .tc main_arg4)) (ix1 c) = (given V0).dab c := rfl
  generalize hX : res_main_v16 V0 = X at hx
  generalize hW : V0 (Proc.devRef .tc main_arg3) = W at hw
  generalize hB : V0 (Proc.devRef .tc main_arg4) = B at hb
  refine (taps_at V0 b t c X W B hX hW hB).trans ?_
  unfold Conv.Inputs.convA
  refine (add_comm _ _).trans (congrArg₂ (· + ·) hb (Finset.sum_congr rfl fun j _ => ?_))
  exact (congrArg₂ (· * ·) (hx j) (hw j)).trans (mul_comm _ _)

/-- Its mean along a row. -/
theorem mean_at (b : Fin 16) (t : Fin 2048) :
    (show FVec Ideal S16x2048x1 .f32 from res_main_v241 V0) (ix3 b t 0)
      = Ideal.div (∑ c : Fin 512, (given V0).convA b t c) (Ideal.ofBits .f32 1140850688#32) := by
  simp only [← convA_at V0]
  generalize hX : res_main_v237 V0 = X
  unfold res_main_v241
  rw [hX]
  pointwise

/-- The row with its mean taken off. -/
theorem center_at (b : Fin 16) (t : Fin 2048) (c : Fin 512) :
    (show FVec Ideal S16x2048x512 .f32 from res_main_v243 V0) (ix3 b t c)
      = center (Ideal.ofBits .f32 1140850688#32) ((given V0).convA b t) c := by
  show _ = (given V0).convA b t c - Ideal.div (∑ k : Fin 512, (given V0).convA b t k) _
  rw [← mean_at V0, ← convA_at V0]
  generalize hX : res_main_v237 V0 = X
  generalize hY : res_main_v241 V0 = Y
  unfold res_main_v243
  rw [hX, hY]
  pointwise

/-- The layer norm's last step over 512 columns. -/
theorem small_norm (Z D : FVec Ideal S16x2048x512 .f32) (M : FVec Ideal S16x2048x1 .f32) (g bb : FVec Ideal S512 .f32)
    (b : Fin 16) (t : Fin 2048) (l : Fin 512) (V G B : Fin 512 → EReal)
    (hZ : ∀ k, Z (ix3 b t k) = V k) (hM : M (ix3 b t 0) = Ideal.div (∑ c, V c) (Ideal.ofBits .f32 1140850688#32))
    (hD : ∀ k, D (ix3 b t k) = center (Ideal.ofBits .f32 1140850688#32) V k)
    (hg : g (ix1 l) = G l) (hb : bb (ix1 l) = B l) :
    (addf (mulf (mulf (subf Z (broadcastInDim S16x2048x512 ![0, 1, 2] bcast_S16x2048x1_S16x2048x512_0_1_2 M)) (broadcastInDim S16x2048x512 ![0, 1, 2] bcast_S16x2048x1_S16x2048x512_0_1_2 (Host.rsqrt (addf (Host.divf (broadcastInDim S16x2048x1 ![0, 1] bcast_S16x2048_S16x2048x1_0_1 (Host.reduceAdd (mulf D D) (constant S_ .f32 0x00000000#32) reducesTo_S16x2048x512_S16x2048_d2 h_S_)) (broadcastInDim S16x2048x1 ![] bcast_S_S16x2048x1 (constant S_ .f32 0x44000000#32))) (broadcastInDim S16x2048x1 ![] bcast_S_S16x2048x1 (constant S_ .f32 0x3727C5AC#32)))))) (broadcastInDim S16x2048x512 ![0, 1, 2] bcast_S1x1x512_S16x2048x512_0_1_2 (broadcastInDim S1x1x512 ![2] bcast_S512_S1x1x512_2 g))) (broadcastInDim S16x2048x512 ![0, 1, 2] bcast_S1x1x512_S16x2048x512_0_1_2 (broadcastInDim S1x1x512 ![2] bcast_S512_S1x1x512_2 bb))) (ix3 b t l)
      = lnorm (Ideal.ofBits .f32 1140850688#32) V G B l := by
  pointwise
  simp only [hZ, hM, hD, hg, hb]
  rfl

/-- The normalised convolution. -/
theorem normed_at (b : Fin 16) (t : Fin 2048) (c : Fin 512) :
    (show FVec Ideal S16x2048x512 .f32 from res_main_v261 V0) (ix3 b t c)
      = lnorm (Ideal.ofBits .f32 1140850688#32) ((given V0).convA b t) (given V0).ag (given V0).ab c :=
  small_norm _ _ _ _ _ b t c _ _ _ (fun k => convA_at V0 b t k) (mean_at V0 b t) (fun k => center_at V0 b t k) rfl rfl

/-- A value times its logistic, as the reference writes it. -/
theorem silu_at (N : FVec Ideal S16x2048x512 .f32) (b : Fin 16) (t : Fin 2048) (c : Fin 512) :
    (mulf N (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf N))))) (ix3 b t c) = silu (N (ix3 b t c)) := by
  pointwise
  unfold silu Ideal.logistic
  simp

/-- The gated convolution of 3 taps, as the reference writes it. -/
theorem gatedB_at (P : FVec Ideal S16x2048x2560 .f32) (X : FVec Ideal S16x2050x512 .f32) (W : FVec Ideal S3x512 .f32)
    (b : Fin 16) (t : Fin 2048) (c : Fin 512) :
    (mulf (extractStridedSlice S16x2048x512 ![0, 0, 1024] P slices_S16x2048x2560_S16x2048x512_0_0_1024) (addf (addf (addf (broadcastInDim S16x2048x512 ![] bcast_S_S16x2048x512 (constant S_ .f32 0x00000000#32)) (mulf (extractStridedSlice S16x2048x512 ![0, 0, 0] X slices_S16x2050x512_S16x2048x512_0_0_0) (broadcastInDim S16x2048x512 ![0, 1, 2] bcast_S1x1x512_S16x2048x512_0_1_2 (broadcastInDim S1x1x512 ![2] bcast_S512_S1x1x512_2 (shapeCast _ (extractStridedSlice S1x512 ![0, 0] W slices_S3x512_S1x512_0_0) shapeCasts_S1x512_S512))))) (mulf (extractStridedSlice S16x2048x512 ![0, 1, 0] X slices_S16x2050x512_S16x2048x512_0_1_0) (broadcastInDim S16x2048x512 ![0, 1, 2] bcast_S1x1x512_S16x2048x512_0_1_2 (broadcastInDim S1x1x512 ![2] bcast_S512_S1x1x512_2 (shapeCast _ (extractStridedSlice S1x512 ![1, 0] W slices_S3x512_S1x512_1_0) shapeCasts_S1x512_S512))))) (mulf (extractStridedSlice S16x2048x512 ![0, 2, 0] X slices_S16x2050x512_S16x2048x512_0_2_0) (broadcastInDim S16x2048x512 ![0, 1, 2] bcast_S1x1x512_S16x2048x512_0_1_2 (broadcastInDim S1x1x512 ![2] bcast_S512_S1x1x512_2 (shapeCast _ (extractStridedSlice S1x512 ![2, 0] W slices_S3x512_S1x512_2_0) shapeCasts_S1x512_S512)))))) (ix3 b t c)
      = P (ix3 b t ⟨1024 + c.val, by omega⟩) * (X (ix3 b ⟨0 + t.val, by omega⟩ c) * W (ix2 0 c) + X (ix3 b ⟨1 + t.val, by omega⟩ c) * W (ix2 1 c) + X (ix3 b ⟨2 + t.val, by omega⟩ c) * W (ix2 2 c)) := by
  pointwise

theorem right_at (b : Fin 16) (t : Fin 2048) (c : Fin 512) :
    (mulf (extractStridedSlice S16x2048x512 ![0, 0, 1024] (res_main_v3 V0) slices_S16x2048x2560_S16x2048x512_0_0_1024) (addf (addf (addf (broadcastInDim S16x2048x512 ![] bcast_S_S16x2048x512 (constant S_ .f32 0x00000000#32)) (mulf (extractStridedSlice S16x2048x512 ![0, 0, 0] (res_main_v264 V0) slices_S16x2050x512_S16x2048x512_0_0_0) (broadcastInDim S16x2048x512 ![0, 1, 2] bcast_S1x1x512_S16x2048x512_0_1_2 (broadcastInDim S1x1x512 ![2] bcast_S512_S1x1x512_2 (shapeCast _ (extractStridedSlice S1x512 ![0, 0] (V0 (Proc.devRef .tc main_arg7)) slices_S3x512_S1x512_0_0) shapeCasts_S1x512_S512))))) (mulf (extractStridedSlice S16x2048x512 ![0, 1, 0] (res_main_v264 V0) slices_S16x2050x512_S16x2048x512_0_1_0) (broadcastInDim S16x2048x512 ![0, 1, 2] bcast_S1x1x512_S16x2048x512_0_1_2 (broadcastInDim S1x1x512 ![2] bcast_S512_S1x1x512_2 (shapeCast _ (extractStridedSlice S1x512 ![1, 0] (V0 (Proc.devRef .tc main_arg7)) slices_S3x512_S1x512_1_0) shapeCasts_S1x512_S512))))) (mulf (extractStridedSlice S16x2048x512 ![0, 2, 0] (res_main_v264 V0) slices_S16x2050x512_S16x2048x512_0_2_0) (broadcastInDim S16x2048x512 ![0, 1, 2] bcast_S1x1x512_S16x2048x512_0_1_2 (broadcastInDim S1x1x512 ![2] bcast_S512_S1x1x512_2 (shapeCast _ (extractStridedSlice S1x512 ![2, 0] (V0 (Proc.devRef .tc main_arg7)) slices_S3x512_S1x512_2_0) shapeCasts_S1x512_S512)))))) (ix3 b t c) = (given V0).right b t c := by
  refine (gatedB_at (res_main_v3 V0) (res_main_v264 V0) (V0 (Proc.devRef .tc main_arg7)) b t c).trans ?_
  unfold Conv.Inputs.right
  refine congrArg₂ (· * ·) (proj_at V0 b t _) ?_
  rw [Fin.sum_univ_three]
  have hj : ∀ (j : Fin 3) (p : Fin 2050), p.val = j.val + t.val → (show FVec Ideal S16x2050x512 .f32 from res_main_v264 V0) (ix3 b p c)
      * (show FVec Ideal S3x512 .f32 from V0 (Proc.devRef .tc main_arg7)) (ix2 j c)
      = (given V0).db j c * hist ((given V0).pair b c) (t.val + 30 + j.val) := fun j p hp =>
    (mul_comm _ _).trans (congrArg₂ (· * ·) rfl ((rowB_at V0 b p c).trans (congrArg (hist _) (by omega))))
  exact congrArg₂ (· + ·) (congrArg₂ (· + ·) (hj 0 _ rfl) (hj 1 _ rfl)) (hj 2 _ rfl)

/-- Two arrays side by side along the last axis. -/
theorem side_at (L D : FVec Ideal S16x2048x512 .f32) (b : Fin 16) (t : Fin 2048) (c : Fin 1024) :
    (concatenate S16x2048x1024 2 [⟨S16x2048x512, L⟩, ⟨S16x2048x512, D⟩] concatenates_S16x2048x512_S16x2048x512_S16x2048x1024_d2
      : FVec Ideal S16x2048x1024 .f32) (ix3 b t c)
      = if h : c.val < 512 then L (ix3 b t ⟨c.val, h⟩) else D (ix3 b t ⟨c.val - 512, by omega⟩) := by
  pointwise

/-- The two halves side by side. -/
theorem mix_at (b : Fin 16) (t : Fin 2048) (c : Fin 1024) :
    (concatenate S16x2048x1024 2 [⟨S16x2048x512, (mulf (res_main_v261 V0) (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf (res_main_v261 V0))))))⟩, ⟨S16x2048x512, (mulf (extractStridedSlice S16x2048x512 ![0, 0, 1024] (res_main_v3 V0) slices_S16x2048x2560_S16x2048x512_0_0_1024) (addf (addf (addf (broadcastInDim S16x2048x512 ![] bcast_S_S16x2048x512 (constant S_ .f32 0x00000000#32)) (mulf (extractStridedSlice S16x2048x512 ![0, 0, 0] (res_main_v264 V0) slices_S16x2050x512_S16x2048x512_0_0_0) (broadcastInDim S16x2048x512 ![0, 1, 2] bcast_S1x1x512_S16x2048x512_0_1_2 (broadcastInDim S1x1x512 ![2] bcast_S512_S1x1x512_2 (shapeCast _ (extractStridedSlice S1x512 ![0, 0] (V0 (Proc.devRef .tc main_arg7)) slices_S3x512_S1x512_0_0) shapeCasts_S1x512_S512))))) (mulf (extractStridedSlice S16x2048x512 ![0, 1, 0] (res_main_v264 V0) slices_S16x2050x512_S16x2048x512_0_1_0) (broadcastInDim S16x2048x512 ![0, 1, 2] bcast_S1x1x512_S16x2048x512_0_1_2 (broadcastInDim S1x1x512 ![2] bcast_S512_S1x1x512_2 (shapeCast _ (extractStridedSlice S1x512 ![1, 0] (V0 (Proc.devRef .tc main_arg7)) slices_S3x512_S1x512_1_0) shapeCasts_S1x512_S512))))) (mulf (extractStridedSlice S16x2048x512 ![0, 2, 0] (res_main_v264 V0) slices_S16x2050x512_S16x2048x512_0_2_0) (broadcastInDim S16x2048x512 ![0, 1, 2] bcast_S1x1x512_S16x2048x512_0_1_2 (broadcastInDim S1x1x512 ![2] bcast_S512_S1x1x512_2 (shapeCast _ (extractStridedSlice S1x512 ![2, 0] (V0 (Proc.devRef .tc main_arg7)) slices_S3x512_S1x512_2_0) shapeCasts_S1x512_S512))))))⟩] concatenates_S16x2048x512_S16x2048x512_S16x2048x1024_d2
      : FVec Ideal S16x2048x1024 .f32) (ix3 b t c) = (given V0).mix b t c := by
  refine (side_at _ _ b t c).trans ?_
  unfold Conv.Inputs.mix
  by_cases h : c.val < 512
  · rw [dif_pos h, dif_pos h]
    exact (silu_at _ b t ⟨c.val, h⟩).trans (congrArg silu (normed_at V0 b t _))
  · rw [dif_neg h, dif_neg h]
    exact right_at V0 b t ⟨c.val - 512, by omega⟩

/-- The residual and a product with the output weights. -/
theorem project_at (X M : FVec Ideal S16x2048x1024 .f32) (W : FVec Ideal S1024x1024 .f32) (b : Fin 16) (t : Fin 2048) (k : Fin 1024) :
    addf (mulf (broadcastInDim S16x2048x1024 ![] bcast_S_S16x2048x1024 (constant S_ .f32 0x3FB504F3#32)) X) (Host.dotGeneral dot_S16x2048x1024_S1024x1024_S16x2048x1024_2_0_01_1_n_n none M W) (ix3 b t k)
      = Ideal.ofBits .f32 1068827891#32 * X (ix3 b t k) + ∑ c', M (ix3 b t c') * W (ix2 c' k) := by
  pointwise

/-- The residual and the mixed rows. -/
theorem residual_at (b : Fin 16) (t : Fin 2048) (k : Fin 1024) :
    (show FVec Ideal S16x2048x1024 .f32 from res_main_v292 V0) (ix3 b t k)
      = Ideal.ofBits .f32 1068827891#32 * (given V0).x b t k + ∑ c', (given V0).mix b t c' * (given V0).wo c' k := by
  refine (project_at _ _ _ b t k).trans (congrArg₂ (· + ·) rfl (Finset.sum_congr rfl fun c' _ => congrArg₂ (· * ·) ?_ rfl))
  exact mix_at V0 b t c'

/-- Their mean along a row. -/
theorem outMean_at (V : Fin 1024 → EReal) (b : Fin 16) (t : Fin 2048)
    (hV : ∀ k, (show FVec Ideal S16x2048x1024 .f32 from res_main_v292 V0) (ix3 b t k) = V k) :
    (show FVec Ideal S16x2048x1 .f32 from res_main_v296 V0) (ix3 b t 0) = Ideal.div (∑ c, V c) (Ideal.ofBits .f32 1149239296#32) := by
  simp only [← hV]
  generalize hX : res_main_v292 V0 = X
  unfold res_main_v296
  rw [hX]
  pointwise

/-- The row with its mean taken off. -/
theorem outCenter_at (V : Fin 1024 → EReal) (b : Fin 16) (t : Fin 2048) (k : Fin 1024)
    (hV : ∀ k, (show FVec Ideal S16x2048x1024 .f32 from res_main_v292 V0) (ix3 b t k) = V k) :
    (show FVec Ideal S16x2048x1024 .f32 from res_main_v298 V0) (ix3 b t k) = center (Ideal.ofBits .f32 1149239296#32) V k := by
  unfold center
  rw [← outMean_at V0 V b t hV, ← hV k]
  generalize hX : res_main_v292 V0 = X
  generalize hY : res_main_v296 V0 = Y
  unfold res_main_v298
  rw [hX, hY]
  pointwise

/-- The layer norm's last step, from a row, its mean and the row less its mean. -/
theorem norm_at (Z D : FVec Ideal S16x2048x1024 .f32) (M : FVec Ideal S16x2048x1 .f32) (g bb : FVec Ideal S1024 .f32)
    (b : Fin 16) (t : Fin 2048) (l : Fin 1024) (V G B : Fin 1024 → EReal)
    (hZ : ∀ k, Z (ix3 b t k) = V k) (hM : M (ix3 b t 0) = Ideal.div (∑ c, V c) (Ideal.ofBits .f32 1149239296#32))
    (hD : ∀ k, D (ix3 b t k) = center (Ideal.ofBits .f32 1149239296#32) V k)
    (hg : g (ix1 l) = G l) (hb : bb (ix1 l) = B l) :
    (addf (mulf (mulf (subf Z (broadcastInDim S16x2048x1024 ![0, 1, 2] bcast_S16x2048x1_S16x2048x1024_0_1_2 M)) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf D D) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x3727C5AC#32)))))) (broadcastInDim S16x2048x1024 ![0, 1, 2] bcast_S1x1x1024_S16x2048x1024_0_1_2 (broadcastInDim S1x1x1024 ![2] bcast_S1024_S1x1x1024_2 g))) (broadcastInDim S16x2048x1024 ![0, 1, 2] bcast_S1x1x1024_S16x2048x1024_0_1_2 (broadcastInDim S1x1x1024 ![2] bcast_S1024_S1x1x1024_2 bb))) (ix3 b t l)
      = lnorm (Ideal.ofBits .f32 1149239296#32) V G B l := by
  pointwise
  simp only [hZ, hM, hD, hg, hb]
  rfl

/-- The reference's result, entry by entry. -/
theorem result_at (b : Fin 16) (t : Fin 2048) (l : Fin 1024) :
    (addf (mulf (mulf (subf (res_main_v292 V0) (broadcastInDim S16x2048x1024 ![0, 1, 2] bcast_S16x2048x1_S16x2048x1024_0_1_2 (res_main_v296 V0))) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (res_main_v298 V0) (res_main_v298 V0)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x3727C5AC#32)))))) (broadcastInDim S16x2048x1024 ![0, 1, 2] bcast_S1x1x1024_S16x2048x1024_0_1_2 (broadcastInDim S1x1x1024 ![2] bcast_S1024_S1x1x1024_2 (V0 (Proc.devRef .tc main_arg9))))) (broadcastInDim S16x2048x1024 ![0, 1, 2] bcast_S1x1x1024_S16x2048x1024_0_1_2 (broadcastInDim S1x1x1024 ![2] bcast_S1024_S1x1x1024_2 (V0 (Proc.devRef .tc main_arg10))))) (ix3 b t l) = (given V0).out b t l :=
  norm_at _ _ _ _ _ b t l _ _ _ (fun k => residual_at V0 b t k) (outMean_at V0 _ b t fun k => residual_at V0 b t k)
    (fun k => outCenter_at V0 _ b t k fun k => residual_at V0 b t k) rfl rfl

end Cert.Reference2Ideal.Mix

end
-- ==== Proof.ConvEquation.lean ====
/- The equation for the convolution mixer: from equal arguments, the reference's result is the kernel's array. -/
module

public import proofs.«01_k».proof.Defs
public import proofs.«01_k».proof.Proof.ConvFinal
public import proofs.«01_k».proof.Proof.ConvReference

@[expose] public section

set_option maxRecDepth 16384

noncomputable section

namespace Cert.Conv

open Idealize.ShloMosaic Idealize.ShloMosaic.TcCoe Idealize.SL.Sem

/-- Two sets of arrays with equal entries are equal. -/
theorem Inputs.ext_of {A B : Inputs} (h0 : ∀ b t d, A.x b t d = B.x b t d) (h1 : ∀ d k, A.w d k = B.w d k)
    (h2 : ∀ k, A.bi k = B.bi k) (h3 : ∀ j k, A.da j k = B.da j k) (h4 : ∀ k, A.dab k = B.dab k)
    (h5 : ∀ k, A.ag k = B.ag k) (h6 : ∀ k, A.ab k = B.ab k) (h7 : ∀ j k, A.db j k = B.db j k)
    (h8 : ∀ d k, A.wo d k = B.wo d k) (h9 : ∀ k, A.g k = B.g k) (h10 : ∀ k, A.b k = B.b k) : A = B := by
  obtain ⟨x, w, bi, da, dab, ag, ab, db, wo, g, b⟩ := A
  obtain ⟨x', w', bi', da', dab', ag', ab', db', wo', g', b'⟩ := B
  obtain rfl : x = x' := funext fun b => funext fun t => funext fun d => h0 b t d
  obtain rfl : w = w' := funext fun d => funext fun k => h1 d k
  obtain rfl : bi = bi' := funext h2
  obtain rfl : da = da' := funext fun j => funext fun k => h3 j k
  obtain rfl : dab = dab' := funext h4
  obtain rfl : ag = ag' := funext h5
  obtain rfl : ab = ab' := funext h6
  obtain rfl : db = db' := funext fun j => funext fun k => h7 j k
  obtain rfl : wo = wo' := funext fun d => funext fun k => h8 d k
  obtain rfl : g = g' := funext h9
  obtain rfl : b = b' := funext h10
  rfl

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)

/-- Both programs are given the same arrays. -/
theorem same_inputs (c : Dev Cert.Kernel2Ideal.nD)
    (e0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (e1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (e2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (e3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (e4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (e5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (e6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (e7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (e8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8))
    (e9 : m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9))
    (e10 : m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) :
    Cert.Reference2Ideal.Mix.given (StableHlo.launchContents m' c) = Cert.Kernel2Ideal.Mix.given m c := by
  unfold Cert.Reference2Ideal.Mix.given Cert.Kernel2Ideal.Mix.given
  refine Inputs.ext_of ?_ ?_ ?_ ?_ ?_ ?_ ?_ ?_ ?_ ?_ ?_
  · exact fun b t d => congrFun e0 (ix3 b t d)
  · exact fun d k => congrFun e1 (ix2 d k)
  · exact fun k => congrFun e2 (ix1 k)
  · exact fun j k => congrFun e3 (ix2 j k)
  · exact fun k => congrFun e4 (ix1 k)
  · exact fun k => congrFun e5 (ix1 k)
  · exact fun k => congrFun e6 (ix1 k)
  · exact fun j k => congrFun e7 (ix2 j k)
  · exact fun d k => congrFun e8 (ix2 d k)
  · exact fun k => congrFun e9 (ix1 k)
  · exact fun k => congrFun e10 (ix1 k)

/-- An array that holds the mixer's output entry by entry is the kernel's output array. -/
theorem equation (c : Dev Cert.Kernel2Ideal.nD) (A : Inputs)
    (hsame : A = Cert.Kernel2Ideal.Mix.given m c) (X : FVec Ideal Cert.Kernel2Ideal.S16x2048x1024 .f32)
    (hX : ∀ b t l, X (ix3 b t l) = A.out b t l) : X = Cert.Kernel2Ideal.Value.G11 m c := by
  subst hsame
  funext i
  have hi : i = ix3 (i 0) (i 1) (i 2) := funext fun a => by
    match a with
    | ⟨0, _⟩ => rfl
    | ⟨1, _⟩ => rfl
    | ⟨2, _⟩ => rfl
  rw [hi]
  exact (hX _ _ _).trans (Cert.Kernel2Ideal.Value.G11_at m c _ _ _).symm

end Cert.Conv

end
-- ==== Proof.RouteSpec.lean ====
/- The mathematics of the router, apart from any program: a token's experts are the two with the greatest logits in the
   group with the greatest logit, the first of equals first, and their weights are the softmax's. -/
module

public import Idealize.ShloMosaic.Lib.SortFacts
public import Idealize.ShloMosaic.Lib.Pointwise
public import proofs.«01_k».proof.Proof.Softmax

@[expose] public section

noncomputable section

namespace Cert.Route

open Idealize.ShloMosaic Cert.Mixer

/-- Entry `a` stands before entry `b` when the greater come first, equals in their own order. -/
def Above {n : ℕ} {α : Type*} [LinearOrder α] (f : Fin n → α) (a b : Fin n) : Prop := f b < f a ∨ (f b = f a ∧ a < b)

/-- The place of the entry that comes `k`-th. -/
def ord {n : ℕ} {α : Type*} [LinearOrder α] (f : Fin n → α) (k : Fin n) : Fin n :=
  sortedFrom (fun a b => decide (f b < f a)) k

theorem above_insert {n : ℕ} {α : Type*} [LinearOrder α] (f : Fin n → α) (a : Fin n) (l : List (Fin n))
    (hl : l.Pairwise (Above f)) (ha : ∀ b ∈ l, a < b) :
    (insertBefore (fun a b => decide (f b < f a)) a l).Pairwise (Above f) := by
  induction l with
  | nil => exact List.pairwise_singleton _ _
  | cons b l ih =>
    rw [List.pairwise_cons] at hl
    unfold insertBefore
    split
    · rename_i h
      have h' : f a < f b := of_decide_eq_true h
      refine List.pairwise_cons.mpr ⟨fun c hc => ?_, ih hl.2 fun b' hb' => ha b' (List.mem_cons_of_mem _ hb')⟩
      rcases List.mem_cons.mp ((perm_insertBefore _ a l).mem_iff.mp hc) with rfl | hc'
      · exact .inl h'
      · exact hl.1 c hc'
    · rename_i h
      have h' : f b ≤ f a := not_lt.mp fun hh => h (decide_eq_true hh)
      refine List.pairwise_cons.mpr ⟨fun c hc => ?_, List.pairwise_cons.mpr hl⟩
      have hac := ha c hc
      have hle : f c ≤ f a := by
        rcases List.mem_cons.mp hc with rfl | hc'
        · exact h'
        · rcases hl.1 c hc' with h1 | h1
          · exact h1.le.trans h'
          · exact h1.1.le.trans h'
      rcases hle.lt_or_eq with h1 | h1
      · exact .inl h1
      · exact .inr ⟨h1, hac⟩

theorem above_sort {n : ℕ} {α : Type*} [LinearOrder α] (f : Fin n → α) (l : List (Fin n)) (hl : l.Pairwise (· < ·)) :
    (stableSort (fun a b => decide (f b < f a)) l).Pairwise (Above f) := by
  induction l with
  | nil => exact List.Pairwise.nil
  | cons a l ih =>
    rw [List.pairwise_cons] at hl
    unfold stableSort
    exact above_insert f a _ (ih hl.2) fun b hb => hl.1 b ((perm_stableSort _ l).mem_iff.mp hb)

theorem above_ord {n : ℕ} {α : Type*} [LinearOrder α] (f : Fin n → α) (i j : Fin n) (h : i < j) :
    Above f (ord f i) (ord f j) := by
  have hp : ∀ a b : Fin (sortPositions n fun a b => decide (f b < f a)).length, a < b →
      Above f ((sortPositions n fun a b => decide (f b < f a)).get a) ((sortPositions n fun a b => decide (f b < f a)).get b) :=
    List.pairwise_iff_get.mp (above_sort f (List.finRange n) (List.pairwise_lt_finRange n))
  unfold ord sortedFrom
  exact hp _ _ (by simp only [Fin.lt_def, Fin.val_cast]; exact h)

/-- The first entry stands above every other. -/
theorem ord_first {n : ℕ} {α : Type*} [LinearOrder α] (f : Fin n → α) (h : 0 < n) (j : Fin n) (hj : j ≠ ord f ⟨0, h⟩) :
    Above f (ord f ⟨0, h⟩) j := by
  obtain ⟨k, rfl⟩ := sortedFrom_surjective (fun a b => decide (f b < f a)) j
  refine above_ord f _ k (Fin.lt_def.mpr (Nat.pos_of_ne_zero fun h0 => hj ?_))
  exact congrArg (ord f) (Fin.ext h0)

/-- The second stands above every other than the first. -/
theorem ord_second {n : ℕ} {α : Type*} [LinearOrder α] (f : Fin n → α) (h : 1 < n) (j : Fin n)
    (hj : j ≠ ord f ⟨0, by omega⟩) (hj' : j ≠ ord f ⟨1, h⟩) : Above f (ord f ⟨1, h⟩) j := by
  obtain ⟨k, rfl⟩ := sortedFrom_surjective (fun a b => decide (f b < f a)) j
  refine above_ord f _ k (Fin.lt_def.mpr ?_)
  have h0 : k.val ≠ 0 := fun h0 => hj (congrArg (ord f) (Fin.ext h0))
  have h1 : k.val ≠ 1 := fun h1 => hj' (congrArg (ord f) (Fin.ext h1))
  show 1 < k.val
  omega

theorem ord_ne {n : ℕ} {α : Type*} [LinearOrder α] (f : Fin n → α) (h : 1 < n) : ord f ⟨1, h⟩ ≠ ord f ⟨0, by omega⟩ := by
  intro e
  have := sortedFrom_injective (fun a b => decide (f b < f a)) e
  exact absurd (congrArg Fin.val this) (by simp)

/-- Two rows in the same order are sorted alike. -/
theorem ord_congr {n : ℕ} {α β : Type*} [LinearOrder α] [LinearOrder β] (f : Fin n → α) (f' : Fin n → β)
    (h : ∀ a b, f a < f b ↔ f' a < f' b) : ord f = ord f' := by
  unfold ord
  have e : (fun a b => decide (f b < f a)) = fun a b => decide (f' b < f' a) :=
    funext fun a => funext fun b => decide_eq_decide.mpr (h b a)
  rw [e]

/-! The kernel's way: the maximum of the rows, and the least row that holds it -/

theorem max_of_above {n : ℕ} (v : Fin n → EReal) (i : Fin n) (h : ∀ j, j ≠ i → Above v i j) :
    (Finset.univ.fold max ⊥ fun j => v j) = v i := by
  refine le_antisymm ?_ ?_
  · rw [Finset.fold_max_le]
    refine ⟨bot_le, fun j _ => ?_⟩
    by_cases hj : j = i
    · rw [hj]
    · rcases h j hj with h1 | h1
      · exact h1.le
      · exact h1.1.le
  · rw [Finset.le_fold_max]
    exact .inr ⟨i, Finset.mem_univ _, le_rfl⟩

theorem least_of_above {n : ℕ} (v : Fin n → EReal) (i : Fin n) (h : ∀ j, j ≠ i → Above v i j) (c : ℝ) (hc : (n : ℝ) ≤ c) :
    (Finset.univ.fold min ⊤ fun j : Fin n => if v j = v i then ((j.val : ℝ) : EReal) else ((c : ℝ) : EReal)) = ((i.val : ℝ) : EReal) := by
  refine le_antisymm ?_ ?_
  · rw [Finset.fold_min_le]
    exact .inr ⟨i, Finset.mem_univ _, by rw [if_pos rfl]⟩
  · rw [Finset.le_fold_min]
    refine ⟨le_top, fun j _ => ?_⟩
    split
    · rename_i e
      by_cases hj : j = i
      · rw [hj]
      · rcases h j hj with h1 | h1
        · exact absurd e h1.ne
        · exact EReal.coe_le_coe_iff.mpr (Nat.cast_le.mpr (Fin.lt_def.mp h1.2).le)
    · refine EReal.coe_le_coe_iff.mpr (le_trans ?_ hc)
      exact Nat.cast_le.mpr i.isLt.le

/-! A token's choice -/

/-- The weight the softmax gives an entry. -/
def soft {n : ℕ} (l : Fin n → ℝ) (i : Fin n) : ℝ := Real.exp (l i) / ∑ j, Real.exp (l j)

theorem soft_sum_pos {n : ℕ} (l : Fin n → ℝ) (i : Fin n) : 0 < ∑ j, Real.exp (l j) :=
  Finset.sum_pos (fun _ _ => Real.exp_pos _) ⟨i, Finset.mem_univ _⟩

theorem soft_lt {n : ℕ} (l : Fin n → ℝ) (a b : Fin n) : soft l a < soft l b ↔ l a < l b := by
  unfold soft
  rw [div_lt_div_iff_of_pos_right (soft_sum_pos l a), Real.exp_lt_exp]

/-- The group's and the two experts' places, and the four numbers the router writes: the experts' numbers and weights. -/
def group (lg : Fin 4 → ℝ) : Fin 4 := ord lg 0
def expert (lg : Fin 4 → ℝ) (le : Fin 4 → Fin 8 → ℝ) (k : Fin 8) : Fin 8 := ord (le (group lg)) k
def topWeight (lg : Fin 4 → ℝ) : ℝ := 1 / ∑ i, Real.exp (lg i - lg (group lg))
def ratio (lg : Fin 4 → ℝ) (le : Fin 4 → Fin 8 → ℝ) : ℝ :=
  Real.exp (le (group lg) (expert lg le 1) - le (group lg) (expert lg le 0))
def choice (lg : Fin 4 → ℝ) (le : Fin 4 → Fin 8 → ℝ) : Fin 4 → ℝ :=
  ![((8 * (group lg).val + (expert lg le 0).val : ℕ) : ℝ), ((8 * (group lg).val + (expert lg le 1).val : ℕ) : ℝ),
    topWeight lg / (1 + ratio lg le), topWeight lg * ratio lg le / (1 + ratio lg le)]

theorem topWeight_eq (lg : Fin 4 → ℝ) : topWeight lg = soft lg (group lg) := by
  unfold topWeight soft
  have hp := soft_sum_pos lg (group lg)
  have he := Real.exp_pos (lg (group lg))
  rw [show (∑ i, Real.exp (lg i - lg (group lg))) = (∑ i, Real.exp (lg i)) / Real.exp (lg (group lg)) by
    rw [Finset.sum_div]; exact Finset.sum_congr rfl fun i _ => Real.exp_sub _ _]
  rw [one_div_div]

theorem first_weight (lg : Fin 4 → ℝ) (le : Fin 4 → Fin 8 → ℝ) :
    soft lg (group lg) * (soft (le (group lg)) (expert lg le 0)
      / (soft (le (group lg)) (expert lg le 0) + soft (le (group lg)) (expert lg le 1))) = topWeight lg / (1 + ratio lg le) := by
  rw [← topWeight_eq]
  unfold ratio soft
  rw [Real.exp_sub]
  have hp := soft_sum_pos (le (group lg)) (expert lg le 0)
  have h0 := Real.exp_pos (le (group lg) (expert lg le 0))
  have h1 := Real.exp_pos (le (group lg) (expert lg le 1))
  field_simp

theorem second_weight (lg : Fin 4 → ℝ) (le : Fin 4 → Fin 8 → ℝ) :
    soft lg (group lg) * (soft (le (group lg)) (expert lg le 1)
      / (soft (le (group lg)) (expert lg le 0) + soft (le (group lg)) (expert lg le 1)))
      = topWeight lg * ratio lg le / (1 + ratio lg le) := by
  rw [← topWeight_eq]
  unfold ratio soft
  rw [Real.exp_sub]
  have hp := soft_sum_pos (le (group lg)) (expert lg le 0)
  have h0 := Real.exp_pos (le (group lg) (expert lg le 0))
  have h1 := Real.exp_pos (le (group lg) (expert lg le 1))
  field_simp

/-- The reference's softmax of a row of real numbers, with the row's maximum taken off. -/
theorem softmax_row {n : ℕ} (L : Fin n → EReal) (l : Fin n → ℝ) (h : ∀ i, L i = (l i : EReal)) (i : Fin n) :
    Ideal.div (Ideal.exp (L i - Finset.univ.fold max ⊥ fun j => L j))
      (∑ k, Ideal.exp (L k - Finset.univ.fold max ⊥ fun j => L j)) = (soft l i : EReal) := by
  obtain rfl : L = fun i => (l i : EReal) := funext h
  obtain ⟨M, hM⟩ := rowMax_real (fun _ => True) l ⟨i, trivial⟩
  have hM' : (Finset.univ.fold max ⊥ fun j => ((l j : ℝ) : EReal)) = (M : EReal) := by
    rw [← hM]; simp only [masked, if_true]
  have he : ∀ k, Ideal.exp ((l k : EReal) - (M : EReal)) = ((Real.exp (l k) * Real.exp (-M) : ℝ) : EReal) := by
    intro k
    rw [← EReal.coe_sub, Ideal.exp_coe, sub_eq_add_neg, Real.exp_add]
  have hp := soft_sum_pos l i
  have hs : (∑ k, Real.exp (l k) * Real.exp (-M)) ≠ 0 := by rw [← Finset.sum_mul]; positivity
  simp only [hM', he]
  rw [← coe_sum, div_real _ hs]
  congr 1
  unfold soft
  rw [← Finset.sum_mul]
  have := Real.exp_pos (-M)
  field_simp

/-! The forty rows of logits a tile holds for each token: four groups, thirty-two experts, four rows of padding -/

def rows (lg : Fin 4 → ℝ) (le : Fin 4 → Fin 8 → ℝ) (j : Fin 40) : ℝ :=
  if h : j.val < 4 then lg ⟨j.val, h⟩
  else if h : j.val < 36 then le ⟨(j.val - 4) / 8, by omega⟩ ⟨(j.val - 4) % 8, by omega⟩ else 0

theorem rows_group (lg : Fin 4 → ℝ) (le : Fin 4 → Fin 8 → ℝ) (g : Fin 4) (h) : rows lg le ⟨g.val, h⟩ = lg g := by
  unfold rows; rw [dif_pos g.isLt]

theorem rows_expert (lg : Fin 4 → ℝ) (le : Fin 4 → Fin 8 → ℝ) (g : Fin 4) (e : Fin 8) (j : Fin 40)
    (hj : j.val = 4 + 8 * g.val + e.val) : rows lg le j = le g e := by
  unfold rows
  rw [dif_neg (by omega), dif_pos (by omega)]
  exact congrArg₂ le (Fin.ext (by show (j.val - 4) / 8 = g.val; omega)) (Fin.ext (by show (j.val - 4) % 8 = e.val; omega))

def groupRows (lg : Fin 4 → ℝ) (le : Fin 4 → Fin 8 → ℝ) (j : Fin 40) : EReal :=
  if j.val < 4 then (rows lg le j : EReal) else ⊥
def expertRows (lg : Fin 4 → ℝ) (le : Fin 4 → Fin 8 → ℝ) (j : Fin 40) : EReal :=
  if 4 + 8 * (group lg).val ≤ j.val ∧ j.val < 12 + 8 * (group lg).val then (rows lg le j : EReal) else ⊥
def groupRow (lg : Fin 4 → ℝ) : Fin 40 := ⟨(group lg).val, by omega⟩
def expertRow (lg : Fin 4 → ℝ) (le : Fin 4 → Fin 8 → ℝ) (k : Fin 8) : Fin 40 :=
  ⟨4 + 8 * (group lg).val + (expert lg le k).val, by omega⟩
def restRows (lg : Fin 4 → ℝ) (le : Fin 4 → Fin 8 → ℝ) (j : Fin 40) : EReal :=
  if j = expertRow lg le 0 then ⊥ else expertRows lg le j

theorem groupRows_at (lg : Fin 4 → ℝ) (le : Fin 4 → Fin 8 → ℝ) :
    groupRows lg le (groupRow lg) = (lg (group lg) : EReal) := by
  unfold groupRows groupRow
  rw [if_pos (group lg).isLt, rows_group]

theorem groupRows_above (lg : Fin 4 → ℝ) (le : Fin 4 → Fin 8 → ℝ) (j : Fin 40) (hj : j ≠ groupRow lg) :
    Above (groupRows lg le) (groupRow lg) j := by
  unfold Above
  rw [groupRows_at]
  by_cases h : j.val < 4
  · have e : groupRows lg le j = (lg ⟨j.val, h⟩ : EReal) := by
      unfold groupRows; rw [if_pos h]; exact congrArg _ (rows_group lg le ⟨j.val, h⟩ j.isLt)
    rw [e]
    rcases ord_first lg (by omega) ⟨j.val, h⟩ (fun hh => hj (Fin.ext (by
        show j.val = (group lg).val
        exact congrArg Fin.val hh))) with h1 | h1
    · exact .inl (EReal.coe_lt_coe_iff.mpr h1)
    · exact .inr ⟨congrArg _ h1.1, h1.2⟩
  · refine .inl ?_
    unfold groupRows
    rw [if_neg h]
    exact EReal.bot_lt_coe _

theorem expertRows_at (lg : Fin 4 → ℝ) (le : Fin 4 → Fin 8 → ℝ) (k : Fin 8) :
    expertRows lg le (expertRow lg le k) = (le (group lg) (expert lg le k) : EReal) := by
  unfold expertRows
  have hk := (expert lg le k).isLt
  have hv : (expertRow lg le k).val = 4 + 8 * (group lg).val + (expert lg le k).val := rfl
  rw [if_pos (by omega), rows_expert lg le _ _ _ hv]

theorem expertRows_of (lg : Fin 4 → ℝ) (le : Fin 4 → Fin 8 → ℝ) (j : Fin 40)
    (h : 4 + 8 * (group lg).val ≤ j.val ∧ j.val < 12 + 8 * (group lg).val) :
    ∃ e : Fin 8, j.val = 4 + 8 * (group lg).val + e.val ∧ expertRows lg le j = (le (group lg) e : EReal) := by
  refine ⟨⟨j.val - (4 + 8 * (group lg).val), by omega⟩, by show _ = _ + (j.val - _); omega, ?_⟩
  unfold expertRows
  rw [if_pos h, rows_expert lg le (group lg) ⟨j.val - (4 + 8 * (group lg).val), by omega⟩ j (by show _ = _ + (j.val - _); omega)]

theorem expertRows_above (lg : Fin 4 → ℝ) (le : Fin 4 → Fin 8 → ℝ) (j : Fin 40) (hj : j ≠ expertRow lg le 0) :
    Above (expertRows lg le) (expertRow lg le 0) j := by
  unfold Above
  rw [expertRows_at]
  by_cases h : 4 + 8 * (group lg).val ≤ j.val ∧ j.val < 12 + 8 * (group lg).val
  · obtain ⟨e, hje, hv⟩ := expertRows_of lg le j h
    rw [hv]
    rcases ord_first (le (group lg)) (by omega) e (fun hh => hj (Fin.ext (by
        show j.val = 4 + 8 * (group lg).val + (expert lg le 0).val
        rw [hje, hh]; rfl))) with h1 | h1
    · exact .inl (EReal.coe_lt_coe_iff.mpr h1)
    · refine .inr ⟨congrArg _ h1.1, Fin.lt_def.mpr ?_⟩
      have h2 : (expert lg le 0).val < e.val := h1.2
      show 4 + 8 * (group lg).val + (expert lg le 0).val < j.val
      omega
  · refine .inl ?_
    unfold expertRows
    rw [if_neg h]
    exact EReal.bot_lt_coe _

theorem expertRow_ne (lg : Fin 4 → ℝ) (le : Fin 4 → Fin 8 → ℝ) : expertRow lg le 1 ≠ expertRow lg le 0 := by
  intro h
  have h' : 4 + 8 * (group lg).val + (expert lg le 1).val = 4 + 8 * (group lg).val + (expert lg le 0).val := congrArg Fin.val h
  exact ord_ne (le (group lg)) (by omega) (Fin.ext (by
    have : (expert lg le 1).val = (expert lg le 0).val := by omega
    exact this))

theorem restRows_at (lg : Fin 4 → ℝ) (le : Fin 4 → Fin 8 → ℝ) :
    restRows lg le (expertRow lg le 1) = (le (group lg) (expert lg le 1) : EReal) := by
  unfold restRows
  rw [if_neg (expertRow_ne lg le), expertRows_at]

theorem restRows_above (lg : Fin 4 → ℝ) (le : Fin 4 → Fin 8 → ℝ) (j : Fin 40) (hj : j ≠ expertRow lg le 1) :
    Above (restRows lg le) (expertRow lg le 1) j := by
  unfold Above
  rw [restRows_at]
  by_cases h0 : j = expertRow lg le 0
  · refine .inl ?_
    unfold restRows
    rw [if_pos h0]
    exact EReal.bot_lt_coe _
  have hr : restRows lg le j = expertRows lg le j := by unfold restRows; rw [if_neg h0]
  rw [hr]
  by_cases h : 4 + 8 * (group lg).val ≤ j.val ∧ j.val < 12 + 8 * (group lg).val
  · obtain ⟨e, hje, hv⟩ := expertRows_of lg le j h
    rw [hv]
    rcases ord_second (le (group lg)) (by omega) e (fun hh => h0 (Fin.ext (by
        show j.val = 4 + 8 * (group lg).val + (expert lg le 0).val
        rw [hje, hh]; rfl))) (fun hh => hj (Fin.ext (by
        show j.val = 4 + 8 * (group lg).val + (expert lg le 1).val
        rw [hje, hh]; rfl))) with h1 | h1
    · exact .inl (EReal.coe_lt_coe_iff.mpr h1)
    · refine .inr ⟨congrArg _ h1.1, Fin.lt_def.mpr ?_⟩
      have h2 : (expert lg le 1).val < e.val := h1.2
      show 4 + 8 * (group lg).val + (expert lg le 1).val < j.val
      omega
  · refine .inl ?_
    unfold expertRows
    rw [if_neg h]
    exact EReal.bot_lt_coe _

/-! The arrays the router is given -/

structure Inputs where
  x : Fin 32768 → Fin 1024 → EReal
  gw : Fin 1024 → Fin 4 → EReal
  gb : Fin 4 → EReal
  ew : Fin 4 → Fin 1024 → Fin 8 → EReal
  eb : Fin 4 → Fin 8 → EReal

/-- Every entry is a real number. -/
structure Inputs.Real (A : Inputs) : Prop where
  x : ∀ n d, A.x n d = ((A.x n d).toReal : EReal)
  gw : ∀ d g, A.gw d g = ((A.gw d g).toReal : EReal)
  gb : ∀ g, A.gb g = ((A.gb g).toReal : EReal)
  ew : ∀ g d e, A.ew g d e = ((A.ew g d e).toReal : EReal)
  eb : ∀ g e, A.eb g e = ((A.eb g e).toReal : EReal)

variable (A : Inputs)

/-- A token's logits. -/
def Inputs.lg (n : Fin 32768) (g : Fin 4) : ℝ := (∑ d, (A.x n d).toReal * (A.gw d g).toReal) + (A.gb g).toReal
def Inputs.le (n : Fin 32768) (g : Fin 4) (e : Fin 8) : ℝ := (∑ d, (A.x n d).toReal * (A.ew g d e).toReal) + (A.eb g e).toReal

theorem Inputs.lg_eq (hA : A.Real) (n : Fin 32768) (g : Fin 4) :
    (∑ d, A.x n d * A.gw d g) + A.gb g = (A.lg n g : EReal) := by
  unfold Inputs.lg
  rw [EReal.coe_add, coe_sum, ← hA.gb]
  exact congrArg (fun s => s + A.gb g) (Finset.sum_congr rfl fun d _ => by rw [EReal.coe_mul, ← hA.x, ← hA.gw])

theorem Inputs.le_eq (hA : A.Real) (n : Fin 32768) (g : Fin 4) (e : Fin 8) :
    (∑ d, A.x n d * A.ew g d e) + A.eb g e = (A.le n g e : EReal) := by
  unfold Inputs.le
  rw [EReal.coe_add, coe_sum, ← hA.eb]
  exact congrArg (fun s => s + A.eb g e) (Finset.sum_congr rfl fun d _ => by rw [EReal.coe_mul, ← hA.x, ← hA.ew])

/-- The four numbers the router writes for a token. -/
def Inputs.field (q : Fin 4) (n : Fin 32768) : EReal := (choice (A.lg n) (A.le n) q : EReal)

end Cert.Route

end
-- ==== Proof.RouteTile.lean ====
/- What a tile of the router computes for each of its tokens, from the forty rows of logits. -/
module

public import proofs.«01_k».proof.Proof.RouteSpec
public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.Kernel3Ideal.Mix

open Idealize.ShloMosaic Idealize.ShloMosaic.TcCoe Idealize.SL.Sem
open Cert.Kernel3Ideal Cert.Kernel3Ideal.Gen Cert.Mixer Cert.Route

/-! The constants -/

theorem four : Ideal.ofBits .f32 1082130432#32 = ((4 : ℝ) : EReal) := by
  simp [Ideal.ofBits, Ideal.ieee]
  rw [← EReal.coe_mul]
  norm_num
theorem eight : Ideal.ofBits .f32 1090519040#32 = ((8 : ℝ) : EReal) := by
  simp [Ideal.ofBits, Ideal.ieee]
  rw [← EReal.coe_mul]
  norm_num
theorem forty : Ideal.ofBits .f32 1109393408#32 = ((40 : ℝ) : EReal) := by
  simp [Ideal.ofBits, Ideal.ieee]
  rw [← EReal.coe_mul]
  norm_num
theorem least : Ideal.ofBits .f32 4286578688#32 = ⊥ := by simp [Ideal.ofBits, Ideal.ieee]
theorem greatest : Ideal.ofBits .f32 2139095040#32 = ⊤ := by simp [Ideal.ofBits, Ideal.ieee]
theorem mask_bot : (Named.named (F := Ideal) (φ := .f32) κ "mask" 4048155338#32 : EReal) = ⊥ := rfl

theorem select_ofBool {α : Type} (p : Prop) [Decidable p] (a b : α) :
    Scalar.select (BitVec.ofBool (decide p)) a b = if p then a else b := by
  by_cases h : p <;> simp [h, Scalar.select]

theorem andi_ofBool (p q : Prop) [Decidable p] [Decidable q] :
    IntOp.andi (BitVec.ofBool (decide p)) (BitVec.ofBool (decide q)) = BitVec.ofBool (decide (p ∧ q)) := by
  by_cases h : p <;> by_cases h' : q <;> simp [h, h'] <;> rfl

/-! The rows' numbers -/

theorem pay4_at (j : Fin 40) (r : Fin 512) : k0_pay4 (F := Ideal) (ix2 j r) = ((j.val : ℝ) : EReal) := by
  have key : ∀ j : Fin 40, (BitVec.ofNat 32 j.val).toInt = (j.val : ℤ) := by decide
  have e : k0_pay4 (F := Ideal) (ix2 j r) = FloatOps.sitofp (F := Ideal) FTy.f32 (BitVec.ofNat 32 j.val) := by
    pointwise [k0_pay4]
  refine e.trans ?_
  show (((BitVec.ofNat 32 j.val).toInt : ℝ) : EReal) = _
  rw [key j, Int.cast_natCast]

theorem pay5_at (j : Fin 40) (r : Fin 512) : k0_pay5 (F := Ideal) (ix2 j r) = BitVec.ofBool (decide (j.val < 4)) := by
  have e : k0_pay5 (F := Ideal) (ix2 j r) = BitVec.ofBool (decide ((k0_pay4 (F := Ideal) (ix2 j r) : EReal) < Ideal.ofBits FTy.f32 1082130432#32)) := by
    pointwise [k0_pay5]
  rw [e, pay4_at, four]
  refine congrArg BitVec.ofBool (decide_eq_decide.mpr ?_)
  rw [EReal.coe_lt_coe_iff]
  exact_mod_cast Iff.rfl

/-! The group -/

section
variable (v3 : Vec Ideal S512x1024 .f32) (v8 v11 : Vec Ideal S1024x128 .bf16) (v19 : Vec Ideal S40x512 .f32)
  (lg : Fin 4 → ℝ) (le : Fin 4 → Fin 8 → ℝ) (r : Fin 512)

theorem pay6_at (h3 : ∀ j, k0_pay3 v3 v8 v11 v19 (ix2 j r) = (rows lg le j : EReal)) (j : Fin 40) :
    k0_pay6 v3 v8 v11 v19 (ix2 j r) = groupRows lg le j := by
  have e : k0_pay6 v3 v8 v11 v19 (ix2 j r)
      = Scalar.select (k0_pay5 (F := Ideal) (ix2 j r)) (k0_pay3 v3 v8 v11 v19 (ix2 j r)) (Named.named (F := Ideal) (φ := .f32) κ "mask" 4048155338#32) := by
    pointwise [k0_pay6]
  rw [e, pay5_at, h3, select_ofBool]
  rfl

theorem pay7_at (h3 : ∀ j, k0_pay3 v3 v8 v11 v19 (ix2 j r) = (rows lg le j : EReal)) :
    k0_pay7 v3 v8 v11 v19 (ix2 0 r) = (lg (group lg) : EReal) := by
  have e : k0_pay7 v3 v8 v11 v19 (ix2 0 r)
      = Finset.fold max (Ideal.ofBits FTy.f32 4286578688#32) (fun x => (k0_pay6 v3 v8 v11 v19 (ix2 x r) : EReal)) Finset.univ := by
    pointwise [k0_pay7]
  rw [e, least, show (fun x => (k0_pay6 v3 v8 v11 v19 (ix2 x r) : EReal)) = fun x => groupRows lg le x from funext (pay6_at v3 v8 v11 v19 lg le r h3),
    max_of_above _ (groupRow lg) (groupRows_above lg le), groupRows_at]

theorem pay8_at (h3 : ∀ j, k0_pay3 v3 v8 v11 v19 (ix2 j r) = (rows lg le j : EReal)) :
    k0_pay8 v3 v8 v11 v19 (ix2 0 r) = (((group lg).val : ℝ) : EReal) := by
  have e : k0_pay8 v3 v8 v11 v19 (ix2 0 r)
      = Finset.fold min (Ideal.ofBits FTy.f32 2139095040#32) (fun x => if (k0_pay6 v3 v8 v11 v19 (ix2 x r) : EReal) = k0_pay7 v3 v8 v11 v19 (ix2 0 r)
          then (k0_pay4 (F := Ideal) (ix2 x r) : EReal) else Ideal.ofBits FTy.f32 1109393408#32) Finset.univ := by
    pointwise [k0_pay8]
  rw [e, greatest, forty, pay7_at v3 v8 v11 v19 lg le r h3, ← groupRows_at lg le]
  simp only [pay6_at v3 v8 v11 v19 lg le r h3, pay4_at]
  exact least_of_above _ (groupRow lg) (groupRows_above lg le) 40 (by norm_num)

theorem pay9_at (h3 : ∀ j, k0_pay3 v3 v8 v11 v19 (ix2 j r) = (rows lg le j : EReal)) (j : Fin 40) :
    k0_pay9 v3 v8 v11 v19 (ix2 j r) = ((Real.exp (rows lg le j - lg (group lg)) : ℝ) : EReal) := by
  have e : k0_pay9 v3 v8 v11 v19 (ix2 j r)
      = Ideal.exp ((k0_pay3 v3 v8 v11 v19 (ix2 j r) : EReal) - k0_pay7 v3 v8 v11 v19 (ix2 0 r)) := by
    pointwise [k0_pay9]
  rw [e, h3, pay7_at v3 v8 v11 v19 lg le r h3, ← EReal.coe_sub, Ideal.exp_coe]

end

theorem sum_group (a : Fin 40 → ℝ) : (∑ x : Fin 40, if x.val < 4 then a x else 0) = ∑ i : Fin 4, a ⟨i.val, by omega⟩ := by
  refine (Fin.sum_univ_add (a := 4) (b := 36) (fun x : Fin 40 => if x.val < 4 then a x else 0)).trans ?_
  rw [Finset.sum_eq_zero (s := (Finset.univ : Finset (Fin 36))) fun i _ => if_neg (by show ¬4 + i.val < 4; omega), add_zero]
  exact Finset.sum_congr rfl fun i _ => if_pos i.isLt

theorem pay10_at (lg : Fin 4 → ℝ) (le : Fin 4 → Fin 8 → ℝ) (r : Fin 512) (v25 : IVec S40x512 1) (v38 : FVec Ideal S40x512 .f32)
    (cst : Ideal .f32) (h25 : ∀ j, v25 (ix2 j r) = BitVec.ofBool (decide (j.val < 4)))
    (h38 : ∀ j, v38 (ix2 j r) = ((Real.exp (rows lg le j - lg (group lg)) : ℝ) : EReal)) (hc : (cst : EReal) = 0) :
    k0_pay10 v25 v38 cst (ix2 0 r) = (topWeight lg : EReal) := by
  have e : k0_pay10 v25 v38 cst (ix2 0 r) = Ideal.div 1 (∑ x, (Scalar.select (v25 (ix2 x r)) (v38 (ix2 x r)) cst : EReal)) := by
    pointwise [k0_pay10]
  have hs : (∑ x, (Scalar.select (v25 (ix2 x r)) (v38 (ix2 x r)) cst : EReal)) = ((∑ i, Real.exp (lg i - lg (group lg)) : ℝ) : EReal) := by
    have h : ∀ x, (Scalar.select (v25 (ix2 x r)) (v38 (ix2 x r)) cst : EReal)
        = ((if x.val < 4 then Real.exp (rows lg le x - lg (group lg)) else 0 : ℝ) : EReal) := by
      intro x
      rw [h25, select_ofBool, h38, hc]
      split
      · rfl
      · rfl
    rw [Finset.sum_congr rfl fun x _ => h x, ← coe_sum, sum_group]
    exact congrArg _ (Finset.sum_congr rfl fun i _ => by rw [rows_group])
  rw [e, hs]
  have hp : (∑ i, Real.exp (lg i - lg (group lg))) ≠ 0 :=
    (Finset.sum_pos (fun _ _ => Real.exp_pos _) ⟨group lg, Finset.mem_univ _⟩).ne'
  exact div_real 1 hp

/-! The two experts -/

section
variable (v21 v23 : FVec Ideal S40x512 .f32) (v35 : FVec Ideal S1x512 .f32) (lg : Fin 4 → ℝ) (le : Fin 4 → Fin 8 → ℝ) (r : Fin 512)
  (h21 : ∀ j, v21 (ix2 j r) = (rows lg le j : EReal)) (h23 : ∀ j, v23 (ix2 j r) = ((j.val : ℝ) : EReal))
  (h35 : v35 (ix2 0 r) = (((group lg).val : ℝ) : EReal))

include h21 h23 h35

theorem pay11_at (j : Fin 40) : k0_pay11 v21 v23 v35 (ix2 j r) = expertRows lg le j := by
  have e : k0_pay11 v21 v23 v35 (ix2 j r) = Scalar.select
      (IntOp.andi
        (BitVec.ofBool (decide (Ideal.ofBits FTy.f32 1082130432#32 + Ideal.ofBits FTy.f32 1090519040#32 * (v35 (ix2 0 r) : EReal) ≤ v23 (ix2 j r))))
        (BitVec.ofBool (decide ((v23 (ix2 j r) : EReal) <
              Ideal.ofBits FTy.f32 1082130432#32 + Ideal.ofBits FTy.f32 1090519040#32 * (v35 (ix2 0 r) : EReal) +
                Ideal.ofBits FTy.f32 1090519040#32))))
      (v21 (ix2 j r)) (Named.named (F := Ideal) (φ := .f32) κ "mask" 4048155338#32) := by
    pointwise [k0_pay11]
  rw [e, andi_ofBool, select_ofBool, h21, h23, h35, four, eight]
  unfold expertRows
  refine if_congr ?_ rfl rfl
  rw [← EReal.coe_mul, ← EReal.coe_add, ← EReal.coe_add, EReal.coe_le_coe_iff, EReal.coe_lt_coe_iff]
  refine and_congr ?_ ?_
  · exact_mod_cast Iff.rfl
  · rw [show ((4 : ℝ) + 8 * ((group lg).val : ℝ) + 8) = ((12 + 8 * (group lg).val : ℕ) : ℝ) by push_cast; ring]
    exact Nat.cast_lt

theorem pay12_at : k0_pay12 v21 v23 v35 (ix2 0 r) = (le (group lg) (expert lg le 0) : EReal) := by
  have e : k0_pay12 v21 v23 v35 (ix2 0 r)
      = Finset.fold max (Ideal.ofBits FTy.f32 4286578688#32) (fun x => (k0_pay11 v21 v23 v35 (ix2 x r) : EReal)) Finset.univ := by
    pointwise [k0_pay12]
  rw [e, least, show (fun x => (k0_pay11 v21 v23 v35 (ix2 x r) : EReal)) = fun x => expertRows lg le x from
      funext (pay11_at v21 v23 v35 lg le r h21 h23 h35),
    max_of_above _ (expertRow lg le 0) (expertRows_above lg le), expertRows_at]

theorem pay13_at : k0_pay13 v21 v23 v35 (ix2 0 r) = (((expertRow lg le 0).val : ℝ) : EReal) := by
  have e : k0_pay13 v21 v23 v35 (ix2 0 r)
      = Finset.fold min (Ideal.ofBits FTy.f32 2139095040#32) (fun x => if (k0_pay11 v21 v23 v35 (ix2 x r) : EReal) = k0_pay12 v21 v23 v35 (ix2 0 r)
          then (v23 (ix2 x r) : EReal) else Ideal.ofBits FTy.f32 1109393408#32) Finset.univ := by
    pointwise [k0_pay13]
  rw [e, greatest, forty, pay12_at v21 v23 v35 lg le r h21 h23 h35, ← expertRows_at lg le]
  simp only [pay11_at v21 v23 v35 lg le r h21 h23 h35, h23]
  exact least_of_above _ (expertRow lg le 0) (expertRows_above lg le) 40 (by norm_num)

theorem pay14_at (j : Fin 40) : k0_pay14 v21 v23 v35 (ix2 j r) = restRows lg le j := by
  have e : k0_pay14 v21 v23 v35 (ix2 j r)
      = (if (v23 (ix2 j r) : EReal) = k0_pay13 v21 v23 v35 (ix2 0 r) then (Named.named (F := Ideal) (φ := .f32) κ "mask" 4048155338#32 : EReal)
          else k0_pay11 v21 v23 v35 (ix2 j r)) := by
    pointwise [k0_pay14]
  rw [e, h23, pay13_at v21 v23 v35 lg le r h21 h23 h35, pay11_at v21 v23 v35 lg le r h21 h23 h35]
  unfold restRows
  refine if_congr ?_ rfl rfl
  rw [EReal.coe_eq_coe_iff, Nat.cast_inj, Fin.ext_iff]

theorem pay15_at : k0_pay15 v21 v23 v35 (ix2 0 r) = (le (group lg) (expert lg le 1) : EReal) := by
  have e : k0_pay15 v21 v23 v35 (ix2 0 r)
      = Finset.fold max (Ideal.ofBits FTy.f32 4286578688#32) (fun x => (k0_pay14 v21 v23 v35 (ix2 x r) : EReal)) Finset.univ := by
    pointwise [k0_pay15]
  rw [e, least, show (fun x => (k0_pay14 v21 v23 v35 (ix2 x r) : EReal)) = fun x => restRows lg le x from
      funext (pay14_at v21 v23 v35 lg le r h21 h23 h35),
    max_of_above _ (expertRow lg le 1) (restRows_above lg le), restRows_at]

theorem pay16_at : k0_pay16 v21 v23 v35 (ix2 0 r) = (((expertRow lg le 1).val : ℝ) : EReal) := by
  have e : k0_pay16 v21 v23 v35 (ix2 0 r)
      = Finset.fold min (Ideal.ofBits FTy.f32 2139095040#32) (fun x => if (k0_pay14 v21 v23 v35 (ix2 x r) : EReal) = k0_pay15 v21 v23 v35 (ix2 0 r)
          then (v23 (ix2 x r) : EReal) else Ideal.ofBits FTy.f32 1109393408#32) Finset.univ := by
    pointwise [k0_pay16]
  rw [e, greatest, forty, pay15_at v21 v23 v35 lg le r h21 h23 h35, ← restRows_at lg le]
  simp only [pay14_at v21 v23 v35 lg le r h21 h23 h35, h23]
  exact least_of_above _ (expertRow lg le 1) (restRows_above lg le) 40 (by norm_num)

theorem pay17_at : k0_pay17 v21 v23 v35 (ix2 0 r) = (ratio lg le : EReal) := by
  have e : k0_pay17 v21 v23 v35 (ix2 0 r)
      = Ideal.exp ((k0_pay15 v21 v23 v35 (ix2 0 r) : EReal) - k0_pay12 v21 v23 v35 (ix2 0 r)) := by
    pointwise [k0_pay17]
  rw [e, pay15_at v21 v23 v35 lg le r h21 h23 h35, pay12_at v21 v23 v35 lg le r h21 h23 h35, ← EReal.coe_sub, Ideal.exp_coe]
  rfl

variable (v25 : IVec S40x512 1) (v38 : FVec Ideal S40x512 .f32) (cst : Ideal .f32)
  (h10 : k0_pay10 v25 v38 cst (ix2 0 r) = (topWeight lg : EReal))
include h10

theorem pay18_at : k0_pay18 v21 v23 v25 v35 v38 cst (ix2 0 r) = ((topWeight lg / (1 + ratio lg le) : ℝ) : EReal) := by
  have e : k0_pay18 v21 v23 v25 v35 v38 cst (ix2 0 r)
      = Ideal.div (k0_pay10 v25 v38 cst (ix2 0 r) : EReal) (1 + (k0_pay17 v21 v23 v35 (ix2 0 r) : EReal)) := by
    pointwise [k0_pay18]
  have hp : (1 + ratio lg le) ≠ 0 := (add_pos one_pos (Real.exp_pos _)).ne'
  rw [e, h10, pay17_at v21 v23 v35 lg le r h21 h23 h35, ← EReal.coe_one, ← EReal.coe_add, div_real _ hp]

theorem pay19_at : k0_pay19 v21 v23 v25 v35 v38 cst (ix2 0 r) = ((topWeight lg * ratio lg le : ℝ) : EReal) := by
  have e : k0_pay19 v21 v23 v25 v35 v38 cst (ix2 0 r)
      = (k0_pay10 v25 v38 cst (ix2 0 r) : EReal) * (k0_pay17 v21 v23 v35 (ix2 0 r) : EReal) := by
    pointwise [k0_pay19]
  rw [e, h10, pay17_at v21 v23 v35 lg le r h21 h23 h35, ← EReal.coe_mul]

end

theorem pay20_at (lg : Fin 4 → ℝ) (le : Fin 4 → Fin 8 → ℝ) (r : Fin 512) (v79 v83 : FVec Ideal S1x512 .f32) (cst : Ideal .f32)
    (h79 : v79 (ix2 0 r) = (ratio lg le : EReal)) (h83 : v83 (ix2 0 r) = ((topWeight lg * ratio lg le : ℝ) : EReal))
    (hc : (cst : EReal) = 1) :
    k0_pay20 v79 v83 cst (ix2 0 r) = ((topWeight lg * ratio lg le / (1 + ratio lg le) : ℝ) : EReal) := by
  have e : k0_pay20 v79 v83 cst (ix2 0 r) = Ideal.div (v83 (ix2 0 r) : EReal) ((cst : EReal) + (v79 (ix2 0 r) : EReal)) := by
    pointwise [k0_pay20]
  have hp : (1 + ratio lg le) ≠ 0 := (add_pos one_pos (Real.exp_pos _)).ne'
  rw [e, h79, h83, hc, ← EReal.coe_one, ← EReal.coe_add, div_real _ hp]

/-! The four rows written -/

theorem pay30_at (lg : Fin 4 → ℝ) (le : Fin 4 → Fin 8 → ℝ) (r : Fin 512)
    (v23 : FVec Ideal S40x512 .f32) (v65 v77 v82 v86 : FVec Ideal S1x512 .f32) (v97 : FVec Ideal S40x512 .f32)
    (v109 : IVec S40x128 32) (v123 : IVec S40x128 1) (v125 : IVec S40x128 32) (v126 : IVec S40x128 32) (v136 : Vec Ideal S128x128 .bf16)
    (h65 : v65 (ix2 0 r) = (((expertRow lg le 0).val : ℝ) : EReal)) (h77 : v77 (ix2 0 r) = (((expertRow lg le 1).val : ℝ) : EReal))
    (h82 : v82 (ix2 0 r) = ((topWeight lg / (1 + ratio lg le) : ℝ) : EReal))
    (h86 : v86 (ix2 0 r) = ((topWeight lg * ratio lg le / (1 + ratio lg le) : ℝ) : EReal)) (q : Fin 4) :
    k0_pay30 v23 v65 v77 v82 v86 v97 v109 v123 v125 v126 v136 (ix2 ⟨q.val, by omega⟩ r) = (choice lg le q : EReal) := by
  have hk : ∀ k : Fin 8, (((expertRow lg le k).val : ℝ) : EReal) - ((4 : ℝ) : EReal)
      = (((8 * (group lg).val + (expert lg le k).val : ℕ) : ℝ) : EReal) := by
    intro k
    rw [← EReal.coe_sub]
    refine congrArg _ ?_
    show ((4 + 8 * (group lg).val + (expert lg le k).val : ℕ) : ℝ) - 4 = _
    push_cast
    ring
  match q with
  | ⟨0, _⟩ =>
    have e : k0_pay30 v23 v65 v77 v82 v86 v97 v109 v123 v125 v126 v136 (ix2 0 r)
        = (v65 (ix2 0 r) : EReal) - Ideal.ofBits FTy.f32 1082130432#32 := by
      pointwise [k0_pay30]
    refine e.trans ?_
    rw [h65, four]
    exact hk 0
  | ⟨1, _⟩ =>
    have e : k0_pay30 v23 v65 v77 v82 v86 v97 v109 v123 v125 v126 v136 (ix2 1 r)
        = (v77 (ix2 0 r) : EReal) - Ideal.ofBits FTy.f32 1082130432#32 := by
      pointwise [k0_pay30]
    refine e.trans ?_
    rw [h77, four]
    exact hk 1
  | ⟨2, _⟩ =>
    have e : k0_pay30 v23 v65 v77 v82 v86 v97 v109 v123 v125 v126 v136 (ix2 2 r) = v82 (ix2 0 r) := by
      pointwise [k0_pay30]
    exact e.trans h82
  | ⟨3, _⟩ =>
    have e : k0_pay30 v23 v65 v77 v82 v86 v97 v109 v123 v125 v126 v136 (ix2 3 r) = v86 (ix2 0 r) := by
      pointwise [k0_pay30]
    exact e.trans h86

end Cert.Kernel3Ideal.Mix

end
-- ==== Proof.RouteArgs.lean ====
/- What the router kernel's blocks hold: the arrays it is given. -/
module

public import proofs.«01_k».proof.Proof.Gen.Kernel3Ideal.Frame
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.RouteSpec
public import proofs.«01_k».proof.Proof.RouteTile
public import proofs.«01_k».proof.Proof.Tile

@[expose] public section

set_option maxRecDepth 16384

noncomputable section

namespace Cert.Kernel3Ideal.Mix

open Idealize.ShloMosaic Idealize.ShloMosaic.TcCoe Idealize.SL.Sem
open Cert.Kernel3Ideal Cert.Kernel3Ideal.Gen Cert.Mixer Cert.Route

variable (m : (ℓ : Loc nD τ sig) → Buf (Elt Ideal) ℓ)

/-- The five arrays a device holds before the run. -/
def given (c : Dev nD) : Route.Inputs where
  x n d := (m ((c : Thread nD τ).loc main_arg0)) (ix2 n d)
  gw d g := (m ((c : Thread nD τ).loc main_arg1)) (ix2 d g)
  gb g := (m ((c : Thread nD τ).loc main_arg2)) (ix1 g)
  ew g d e := (m ((c : Thread nD τ).loc main_arg3)) (ix3 g d e)
  eb g e := (m ((c : Thread nD τ).loc main_arg4)) (ix2 g e)

/-- Where each window's block stands. -/
theorem idx : ∀ t : Fin cfg0.N, win0_0.index t = ![t.val, 0] ∧ win0_1.index t = ![0, 0] ∧ win0_2.index t = ![0, 0] :=
  (by decide +kernel : ∀ t : Fin grid0.N, _)

/-! What the host code leaves in the arrays the kernel reads -/

/-- The thirty-six columns of weights. -/
def columns (U : FVec Ideal S1024x4 .f32) (W : FVec Ideal S4x1024x8 .f32) : FVec Ideal S1024x36 .f32 :=
  concatenate S1024x36 1 [⟨S1024x4, U⟩, ⟨S1024x32, shapeCast S1024x32 (transpose S1024x4x8 [1, 0, 2] W transposes_S4x1024x8_S1024x4x8_1_0_2) shapeCasts_S1024x4x8_S1024x32⟩] concatenates_S1024x4_S1024x32_S1024x36_d1

theorem columns_at (U : FVec Ideal S1024x4 .f32) (W : FVec Ideal S4x1024x8 .f32) (d : Fin 1024) (l : Fin 36) :
    columns U W (ix2 d l) = if h : l.val < 4 then U (ix2 d ⟨l.val, h⟩)
      else W (ix3 ⟨(l.val - 4) / 8, by omega⟩ d ⟨(l.val - 4) % 8, by omega⟩) := by
  pointwise [columns]

/-- The weights as the kernel reads them: their leading part and the rest of it, each on its own 64 lanes. -/
def lanes (W : FVec Ideal S1024x36 .f32) (z z' : FVec Ideal S_ .bf16) : FVec Ideal S1024x128 .bf16 :=
  concatenate S1024x128 1 [⟨S1024x64, (pad S1024x64 ![0, 0] ![0, 28] ![0, 0] (truncf .bf16 W bitsLt_bf16_f32) z pads_S1024x36_S1024x64_000_0280 h_S_)⟩, ⟨S1024x64, (pad S1024x64 ![0, 0] ![0, 28] ![0, 0] (truncf .bf16 (subf W (extf .f32 (truncf .bf16 W bitsLt_bf16_f32) bitsLt_bf16_f32)) bitsLt_bf16_f32) z' pads_S1024x36_S1024x64_000_0280 h_S_)⟩] concatenates_S1024x64_S1024x64_S1024x128_d1

theorem lanes_at (W : FVec Ideal S1024x36 .f32) (z z' : FVec Ideal S_ .bf16) (d : Fin 1024) (l : Fin 128) :
    lanes W z z' (ix2 d l) = if h : l.val < 64 then if h' : l.val < 36 then W (ix2 d ⟨l.val, h'⟩) else z (Shape.Idx.first h_S_)
      else if h' : l.val - 64 < 36 then (W (ix2 d ⟨l.val - 64, h'⟩) : EReal) - W (ix2 d ⟨l.val - 64, h'⟩) else z' (Shape.Idx.first h_S_) := by
  pointwise [lanes]

/-- The thirty-six biases. -/
def shifts (U : FVec Ideal S4 .f32) (W : FVec Ideal S4x8 .f32) : FVec Ideal S36 .f32 :=
  concatenate S36 0 [⟨S4, U⟩, ⟨S32, shapeCast S32 W shapeCasts_S4x8_S32⟩] concatenates_S4_S32_S36_d0

theorem shifts_at (U : FVec Ideal S4 .f32) (W : FVec Ideal S4x8 .f32) (l : Fin 36) :
    shifts U W (ix1 l) = if h : l.val < 4 then U (ix1 ⟨l.val, h⟩) else W (ix2 ⟨(l.val - 4) / 8, by omega⟩ ⟨(l.val - 4) % 8, by omega⟩) := by
  pointwise [shifts]

def spread (U : FVec Ideal S36 .f32) (z : FVec Ideal S_ .f32) : FVec Ideal S40x512 .f32 :=
  broadcastInDim S40x512 ![0, 1] bcast_S40x1_S40x512_0_1 (broadcastInDim S40x1 ![0] bcast_S40_S40x1_0 (pad S40 ![0] ![4] ![0] U z pads_S36_S40_040 h_S_))

theorem spread_at (U : FVec Ideal S36 .f32) (z : FVec Ideal S_ .f32) (j : Fin 40) (r : Fin 512) :
    spread U z (ix2 j r) = if h : j.val < 36 then U (ix1 ⟨j.val, h⟩) else z (Shape.Idx.first h_S_) := by
  pointwise [spread]

theorem nothing (φ : FTy) : (FloatOps.sitofp (F := Ideal) φ (0#32 : BitVec 32) : EReal) = 0 := by
  show (((0#32 : BitVec 32).toInt : ℝ) : EReal) = 0
  simp

theorem lane_table (c : Dev nD) : (show FVec Ideal S1024x128 .bf16 from V m c main_v11)
    = lanes (columns (m ((c : Thread nD τ).loc main_arg1)) (m ((c : Thread nD τ).loc main_arg3)))
        (sitofp .bf16 (constantI S_ 32 0#32)) (sitofp .bf16 (constantI S_ 32 0#32)) := by
  unfold V
  after_reads_simp
  rfl

theorem shift_table (c : Dev nD) : (show FVec Ideal S40x512 .f32 from V m c main_v14)
    = spread (shifts (m ((c : Thread nD τ).loc main_arg2)) (m ((c : Thread nD τ).loc main_arg4)))
        (sitofp .f32 (constantI S_ 32 0#32)) := by
  unfold V
  after_reads_simp
  rfl

/-! The blocks at a point -/

/-- A tile's token. -/
def token (t : Fin cfg0.N) (r : Fin 512) : Fin 32768 :=
  ⟨512 * t.val + r.val, by have h := t.isLt; have e : cfg0.N = 64 := N_0; omega⟩

theorem x_block (c : Dev nD) (t : Fin cfg0.N) (r : Fin 512) (d : Fin 1024) :
    (show FVec Ideal S512x1024 .f32 from iblk m c 0 t) (ix2 r d) = (given m c).x (token t r) d := by
  refine Eq.trans (b := (show FVec Ideal S32768x1024 .f32 from V m c main_arg0) (ix2 (token t r) d)) ?_ ?_
  · unfold token
    blk_simp [iblk, idx t]
    generalize V m c main_arg0 = X
    blk_ext [idx t]
  · exact congrFun (V_main_arg0 m c) _

theorem lane_block (c : Dev nD) (t : Fin cfg0.N) (d : Fin 1024) (l : Fin 128) :
    (show FVec Ideal S1024x128 .bf16 from iblk m c 1 t) (ix2 d l)
      = (show FVec Ideal S1024x128 .bf16 from V m c main_v11) (ix2 d l) := by
  blk_simp [iblk, idx t]
  generalize V m c main_v11 = X
  blk_ext [idx t]

theorem shift_block (c : Dev nD) (t : Fin cfg0.N) (j : Fin 40) (r : Fin 512) :
    (show FVec Ideal S40x512 .f32 from iblk m c 2 t) (ix2 j r)
      = (show FVec Ideal S40x512 .f32 from V m c main_v14) (ix2 j r) := by
  blk_simp [iblk, idx t]
  generalize V m c main_v14 = X
  blk_ext [idx t]

/-- A lane's weight: the leading part is the whole of it and the rest is zero, for the entries are real numbers. -/
def lane (A : Route.Inputs) (d : Fin 1024) (l : Fin 128) : ℝ :=
  if h : l.val < 4 then (A.gw d ⟨l.val, h⟩).toReal
  else if h : l.val < 36 then (A.ew ⟨(l.val - 4) / 8, by omega⟩ d ⟨(l.val - 4) % 8, by omega⟩).toReal else 0

theorem lane_at (c : Dev nD) (hA : (given m c).Real) (t : Fin cfg0.N) (d : Fin 1024) (l : Fin 128) :
    (show FVec Ideal S1024x128 .bf16 from iblk m c 1 t) (ix2 d l) = (lane (given m c) d l : EReal) := by
  refine (lane_block m c t d l).trans ?_
  rw [lane_table, lanes_at]
  have hcol : ∀ (k : Fin 36), (columns (m ((c : Thread nD τ).loc main_arg1)) (m ((c : Thread nD τ).loc main_arg3)) (ix2 d k) : EReal)
      = (lane (given m c) d ⟨k.val, by omega⟩ : EReal) := by
    intro k
    rw [columns_at]
    unfold lane
    by_cases h : k.val < 4
    · rw [dif_pos h, dif_pos h]
      exact hA.gw d ⟨k.val, h⟩
    · rw [dif_neg h, dif_neg h, dif_pos k.isLt]
      exact hA.ew _ d _
  by_cases h : l.val < 64
  · rw [dif_pos h]
    by_cases h' : l.val < 36
    · rw [dif_pos h']
      exact hcol ⟨l.val, h'⟩
    · rw [dif_neg h']
      refine (nothing .bf16).trans ?_
      unfold lane
      rw [dif_neg (by omega), dif_neg h', EReal.coe_zero]
  · rw [dif_neg h]
    have hz : (lane (given m c) d l : EReal) = 0 := by
      unfold lane
      rw [dif_neg (by omega), dif_neg (by omega), EReal.coe_zero]
    rw [hz]
    by_cases h' : l.val - 64 < 36
    · rw [dif_pos h', hcol, ← EReal.coe_sub, sub_self, EReal.coe_zero]
    · rw [dif_neg h']
      exact nothing .bf16

def shift (A : Route.Inputs) (j : Fin 40) : ℝ :=
  if h : j.val < 4 then (A.gb ⟨j.val, h⟩).toReal
  else if h : j.val < 36 then (A.eb ⟨(j.val - 4) / 8, by omega⟩ ⟨(j.val - 4) % 8, by omega⟩).toReal else 0

theorem shift_at (c : Dev nD) (hA : (given m c).Real) (t : Fin cfg0.N) (j : Fin 40) (r : Fin 512) :
    (show FVec Ideal S40x512 .f32 from iblk m c 2 t) (ix2 j r) = (shift (given m c) j : EReal) := by
  refine (shift_block m c t j r).trans ?_
  rw [shift_table, spread_at]
  unfold shift
  by_cases h' : j.val < 36
  · rw [dif_pos h', shifts_at]
    by_cases h : j.val < 4
    · rw [dif_pos h, dif_pos h]
      exact hA.gb ⟨j.val, h⟩
    · rw [dif_neg h, dif_neg h, dif_pos h']
      exact hA.eb _ _
  · rw [dif_neg h', dif_neg (by omega), dif_neg h', EReal.coe_zero]
    exact nothing .f32

/-- A token's forty rows. -/
theorem rows_lane (A : Route.Inputs) (n : Fin 32768) (j : Fin 40) :
    (∑ d, (A.x n d).toReal * lane A d ⟨j.val, by omega⟩) + shift A j = rows (A.lg n) (A.le n) j := by
  unfold lane shift rows Route.Inputs.lg Route.Inputs.le
  by_cases h : j.val < 4
  · simp only [dif_pos h]
  · by_cases h' : j.val < 36
    · simp only [dif_neg h, dif_pos h']
    · simp only [dif_neg h, dif_neg h', mul_zero, Finset.sum_const_zero, add_zero]

theorem lane_far (A : Route.Inputs) (d : Fin 1024) (l : Fin 128) (h : 36 ≤ l.val) : lane A d l = 0 := by
  unfold lane
  rw [dif_neg (by omega), dif_neg (by omega)]

/-- The logits of a tile. -/
theorem pay3_at (c : Dev nD) (hA : (given m c).Real) (t : Fin cfg0.N) (r : Fin 512) (j : Fin 40) :
    k0_pay3 (iblk m c 0 t) (iblk m c 1 t) (iblk m c 1 t) (iblk m c 2 t) (ix2 j r)
      = (rows ((given m c).lg (token t r)) ((given m c).le (token t r)) j : EReal) := by
  have e : ∀ (v3 : Vec Ideal S512x1024 .f32) (v8 v11 : Vec Ideal S1024x128 .bf16) (v19 : Vec Ideal S40x512 .f32),
      k0_pay3 v3 v8 v11 v19 (ix2 j r)
        = (∑ x : Fin 1024, (v3 (ix2 r x) : EReal) * v8 (ix2 x ⟨j.val, by omega⟩))
          + (∑ x : Fin 1024, (v3 (ix2 r x) : EReal) * v8 (ix2 x ⟨(j.val + 128 - 64) % 128, Nat.mod_lt _ (by omega)⟩))
          + (∑ x : Fin 1024, ((v3 (ix2 r x) : EReal) - v3 (ix2 r x)) * v11 (ix2 x ⟨j.val, by omega⟩)) + v19 (ix2 j r) := by
    intro v3 v8 v11 v19
    pointwise [k0_pay3]
  refine (e _ _ _ _).trans ?_
  have h1 : ∀ x : Fin 1024, ((show FVec Ideal S512x1024 .f32 from iblk m c 0 t) (ix2 r x) : EReal)
      = (((given m c).x (token t r) x).toReal : EReal) := fun x => (x_block m c t r x).trans (hA.x _ _)
  have s1 : (∑ x : Fin 1024, ((show FVec Ideal S512x1024 .f32 from iblk m c 0 t) (ix2 r x) : EReal)
        * (show FVec Ideal S1024x128 .bf16 from iblk m c 1 t) (ix2 x ⟨j.val, by omega⟩))
      = ((∑ d, ((given m c).x (token t r) d).toReal * lane (given m c) d ⟨j.val, by omega⟩ : ℝ) : EReal) := by
    rw [coe_sum]
    exact Finset.sum_congr rfl fun x _ => by rw [h1, lane_at m c hA, ← EReal.coe_mul]
  have s2 : (∑ x : Fin 1024, ((show FVec Ideal S512x1024 .f32 from iblk m c 0 t) (ix2 r x) : EReal)
        * (show FVec Ideal S1024x128 .bf16 from iblk m c 1 t) (ix2 x ⟨(j.val + 128 - 64) % 128, Nat.mod_lt _ (by omega)⟩)) = 0 :=
    Finset.sum_eq_zero fun x _ => by
      rw [h1, lane_at m c hA, lane_far _ _ _ (by show 36 ≤ (j.val + 128 - 64) % 128; omega), EReal.coe_zero, mul_zero]
  have s3 : (∑ x : Fin 1024, (((show FVec Ideal S512x1024 .f32 from iblk m c 0 t) (ix2 r x) : EReal)
        - (show FVec Ideal S512x1024 .f32 from iblk m c 0 t) (ix2 r x))
        * (show FVec Ideal S1024x128 .bf16 from iblk m c 1 t) (ix2 x ⟨j.val, by omega⟩)) = 0 :=
    Finset.sum_eq_zero fun x _ => by
      rw [h1, ← EReal.coe_sub, sub_self, EReal.coe_zero, zero_mul]
  refine (congrArg₂ (· + ·) (congrArg₂ (· + ·) (congrArg₂ (· + ·) s1 s2) s3) (shift_at m c hA t j r)).trans ?_
  show ((_ : EReal) + 0 + 0 + _) = _
  rw [add_zero, add_zero, ← EReal.coe_add, rows_lane]

end Cert.Kernel3Ideal.Mix

end
-- ==== Proof.RoutePoint.lean ====
/- What one grid point of the router leaves in the rows of experts and weights. -/
module

public import proofs.«01_k».proof.Proof.RouteArgs

@[expose] public section

set_option maxRecDepth 16384
set_option maxHeartbeats 1000000

noncomputable section

namespace Cert.Kernel3Ideal.Value

open Idealize.ShloMosaic Idealize.ShloMosaic.TcCoe Idealize.SL.Sem
open Cert.Kernel3Ideal Cert.Kernel3Ideal.Gen Cert.Kernel3Ideal.Mix Cert.Mixer Cert.Route

variable (m : (ℓ : Loc nD τ sig) → Buf (Elt Ideal) ℓ)

theorem zero_bits : (FloatOps.ofBits (F := Ideal) FTy.f32 0#32 : EReal) = 0 := Ideal.ofBits_zero_f32
theorem one_bits : (FloatOps.ofBits (F := Ideal) FTy.f32 1065353216#32 : EReal) = 1 := Ideal.ofBits_one_f32

/-- The four rows, at whatever else the point wrote them beside. -/
theorem fields_at (c : Dev nD) (hA : (given m c).Real) (t : Fin cfg0.N) (r : Fin 512) (q : Fin 4)
    (v97 : FVec Ideal S40x512 .f32) (v109 : IVec S40x128 32) (v123 : IVec S40x128 1) (v125 : IVec S40x128 32)
    (v126 : IVec S40x128 32) (v136 : Vec Ideal S128x128 .bf16) :
    k0_pay30 k0_pay4
      (k0_pay13 (k0_pay3 (iblk m c 0 t) (iblk m c 1 t) (iblk m c 1 t) (iblk m c 2 t)) k0_pay4
        (k0_pay8 (iblk m c 0 t) (iblk m c 1 t) (iblk m c 1 t) (iblk m c 2 t)))
      (k0_pay16 (k0_pay3 (iblk m c 0 t) (iblk m c 1 t) (iblk m c 1 t) (iblk m c 2 t)) k0_pay4
        (k0_pay8 (iblk m c 0 t) (iblk m c 1 t) (iblk m c 1 t) (iblk m c 2 t)))
      (k0_pay18 (k0_pay3 (iblk m c 0 t) (iblk m c 1 t) (iblk m c 1 t) (iblk m c 2 t)) k0_pay4 (k0_pay5 (F := Ideal))
        (k0_pay8 (iblk m c 0 t) (iblk m c 1 t) (iblk m c 1 t) (iblk m c 2 t))
        (k0_pay9 (iblk m c 0 t) (iblk m c 1 t) (iblk m c 1 t) (iblk m c 2 t)) (FloatOps.ofBits FTy.f32 0#32))
      (k0_pay20
        (k0_pay17 (k0_pay3 (iblk m c 0 t) (iblk m c 1 t) (iblk m c 1 t) (iblk m c 2 t)) k0_pay4
          (k0_pay8 (iblk m c 0 t) (iblk m c 1 t) (iblk m c 1 t) (iblk m c 2 t)))
        (k0_pay19 (k0_pay3 (iblk m c 0 t) (iblk m c 1 t) (iblk m c 1 t) (iblk m c 2 t)) k0_pay4 (k0_pay5 (F := Ideal))
          (k0_pay8 (iblk m c 0 t) (iblk m c 1 t) (iblk m c 1 t) (iblk m c 2 t))
          (k0_pay9 (iblk m c 0 t) (iblk m c 1 t) (iblk m c 1 t) (iblk m c 2 t)) (FloatOps.ofBits FTy.f32 0#32))
        (FloatOps.ofBits FTy.f32 1065353216#32))
      v97 v109 v123 v125 v126 v136 (ix2 ⟨q.val, by omega⟩ r)
      = (given m c).field q (token t r) := by
  have h3 := fun j => pay3_at m c hA t r j
  have h4 := fun j => pay4_at j r
  have h8 := pay8_at _ _ _ _ _ _ r h3
  have h10 := pay10_at _ _ r (k0_pay5 (F := Ideal)) _ (FloatOps.ofBits FTy.f32 0#32) (fun j => pay5_at j r) (pay9_at _ _ _ _ _ _ r h3) zero_bits
  exact pay30_at _ _ r _ _ _ _ _ _ _ _ _ _ _ (pay13_at _ _ _ _ _ r h3 h4 h8) (pay16_at _ _ _ _ _ r h3 h4 h8)
    (pay18_at _ _ _ _ _ r h3 h4 h8 _ _ _ h10)
    (pay20_at _ _ r _ _ _ (pay17_at _ _ _ _ _ r h3 h4 h8) (pay19_at _ _ _ _ _ r h3 h4 h8 _ _ _ h10) one_bits) q

/-- What a point leaves in those rows. -/
theorem point_fields (c : Dev nD) (hA : (given m c).Real) (t : Fin cfg0.N) (r : Fin 512) (q : Fin 4) :
    (outsAt0 m c t.val t.isLt).1 (ix2 ⟨q.val, by omega⟩ r) = (given m c).field q (token t r) := by
  by_cases h : t.val % 64 = 0
  · rw [outsAt0_A m c t h]
    frame_out
    exact fields_at m c hA t r q _ _ _ _ _ _
  · rw [outsAt0_B m c t h]
    frame_out
    exact fields_at m c hA t r q _ _ _ _ _ _

end Cert.Kernel3Ideal.Value

end
-- ==== Proof.RouteFinal.lean ====
/- What the router's output array holds at the end, in the rows of experts and weights. -/
module

public import proofs.«01_k».proof.Proof.RoutePoint
public import proofs.«01_k».proof.Proof.Gen.Kernel3Ideal.Value

@[expose] public section

set_option maxRecDepth 16384

noncomputable section

namespace Cert.Kernel3Ideal.Value

open Idealize.ShloMosaic Idealize.ShloMosaic.TcCoe Idealize.SL.Sem
open Cert.Kernel3Ideal Cert.Kernel3Ideal.Gen Cert.Kernel3Ideal.Mix Cert.Mixer Cert.Route

variable (m : (ℓ : Loc nD τ sig) → Buf (Elt Ideal) ℓ)

/-- The output array's first four rows, entry by entry. -/
theorem G3_at (c : Dev nD) (hA : (given m c).Real) (q : Fin 4) (n : Fin 32768) :
    G3 m c (ix2 ⟨q.val, by omega⟩ n) = (given m c).field q n := by
  have hN : cfg0.N = 64 := N_0
  have hp : pt3Of (ix2 ⟨q.val, by omega⟩ n) = n.val / 512 := by
    unfold pt3Of
    show 64 * (q.val / 8 - 0) + 1 * (n.val / 512 - 0) = _
    omega
  have hlt : pt3Of (ix2 ⟨q.val, by omega⟩ n) < cfg0.N := by omega
  have hl : loc3Of (ix2 ⟨q.val, by omega⟩ n) = ix2 ⟨q.val, by omega⟩ ⟨n.val % 512, by omega⟩ := by
    funext a
    match a with
    | ⟨0, _⟩ => exact Fin.ext (show q.val % 8 = q.val by omega)
    | ⟨1, _⟩ => rfl
  unfold G3
  rw [dif_pos hlt, ← outsAt0_sweep m c _ hlt, hl]
  refine (point_fields m c hA ⟨_, hlt⟩ ⟨n.val % 512, by omega⟩ q).trans ?_
  refine congrArg ((given m c).field q) (Fin.ext ?_)
  show 512 * pt3Of (ix2 ⟨q.val, by omega⟩ n) + n.val % 512 = n.val
  omega

end Cert.Kernel3Ideal.Value

end
-- ==== Proof.RouteTopK.lean ====
/- What the host's selection of the greatest entries of a row holds: the entries in their order, and their places. -/
module

public import proofs.«01_k».proof.Proof.RouteSpec
public import Idealize.ShloMosaic.Lib.Pipeline.ValueKit

@[expose] public section

noncomputable section

namespace Cert.Route

open Idealize.ShloMosaic

theorem gt_eq (x y : EReal) : (Ideal.cmp .ogt x y == 1#1) = decide (y < x) := by
  unfold Ideal.cmp
  by_cases h : y < x <;> simp [h]

variable {N n k : ℕ} (x : FVec Ideal ⟨2, ![N, n]⟩ .f32)

/-- The row of places a fiber's sort is of. -/
theorem along_row (j : (⟨2, ![N, n]⟩ : Shape).Idx) (a : Fin n) :
    j.along (1 : Fin 2) a = ix2 (j 0) a := by
  funext b
  match b with
  | ⟨0, _⟩ => rfl
  | ⟨1, _⟩ => rfl

/-- Sorting a row's entries, the greater first, with anything carried along. -/
theorem sort_row (y : IVec ⟨2, ![N, n]⟩ 32) (r : Fin N) (q : Fin n) :
    (Host.sort2 ⟨2, ![N, n]⟩ 1 (fun l r : Ideal .f32 × BitVec 32 =>
        FloatOps.cmpfTotal (F := Ideal) (φ := .f32) .gt l.1 r.1) x y).1 (ix2 r q)
      = x (ix2 r (ord (fun a => (x (ix2 r a) : EReal)) q))
    ∧ (Host.sort2 ⟨2, ![N, n]⟩ 1 (fun l r : Ideal .f32 × BitVec 32 =>
        FloatOps.cmpfTotal (F := Ideal) (φ := .f32) .gt l.1 r.1) x y).2 (ix2 r q)
      = y (ix2 r (ord (fun a => (x (ix2 r a) : EReal)) q)) := by
  have e : (fun a b : Fin n => (FloatOps.cmpfTotal (F := Ideal) (φ := .f32) .gt
        (x ((ix2 r q : (⟨2, ![N, n]⟩ : Shape).Idx).along (1 : Fin 2) a))
        (x ((ix2 r q : (⟨2, ![N, n]⟩ : Shape).Idx).along (1 : Fin 2) b)) == 1#1))
      = fun a b => decide ((x (ix2 r b) : EReal) < x (ix2 r a)) := by
    funext a b
    rw [along_row, along_row]
    exact gt_eq _ _
  unfold Host.sort2
  rw [dif_pos (show 1 < 2 by omega)]
  constructor
  · refine (congrArg x (along_row _ _)).trans ?_
    unfold ord
    rw [← e]
    rfl
  · refine (congrArg y (along_row _ _)).trans ?_
    unfold ord
    rw [← e]
    rfl

theorem slice_row (h : (⟨2, ![N, n]⟩ : Shape).Slices (fun _ => 0) ⟨2, ![N, k]⟩) {α : Type} (v : (⟨2, ![N, n]⟩ : Shape).Idx → α)
    (r : Fin N) (q : Fin k) (hq : q.val < n) :
    extractStridedSlice ⟨2, ![N, k]⟩ (fun _ => 0) v h (ix2 r q) = v (ix2 r ⟨q.val, hq⟩) := by
  refine congrArg v (funext fun b => ?_)
  match b with
  | ⟨0, _⟩ => exact Fin.ext (Nat.zero_add _)
  | ⟨1, _⟩ => exact Fin.ext (Nat.zero_add _)

theorem topK_value (h : (⟨2, ![N, n]⟩ : Shape).Slices (fun _ => 0) ⟨2, ![N, k]⟩) (r : Fin N) (q : Fin k) (hq : q.val < n) :
    (Host.topK ⟨2, ![N, k]⟩ 1 (FloatOps.cmpfTotal (F := Ideal) (φ := .f32) .gt) x h).1 (ix2 r q)
      = x (ix2 r (ord (fun a => (x (ix2 r a) : EReal)) ⟨q.val, hq⟩)) := by
  unfold Host.topK
  dsimp only
  refine (slice_row h _ r q hq).trans ?_
  exact (sort_row x _ r ⟨q.val, hq⟩).1

theorem topK_place (h : (⟨2, ![N, n]⟩ : Shape).Slices (fun _ => 0) ⟨2, ![N, k]⟩) (r : Fin N) (q : Fin k) (hq : q.val < n) :
    (Host.topK ⟨2, ![N, k]⟩ 1 (FloatOps.cmpfTotal (F := Ideal) (φ := .f32) .gt) x h).2 (ix2 r q)
      = BitVec.ofNat 32 (ord (fun a => (x (ix2 r a) : EReal)) ⟨q.val, hq⟩).val := by
  unfold Host.topK
  dsimp only
  refine (slice_row h _ r q hq).trans ?_
  refine (sort_row x _ r ⟨q.val, hq⟩).2.trans ?_
  rw [dif_pos (show 1 < 2 by omega)]
  rfl

end Cert.Route

end
-- ==== Proof.RouteReference.lean ====
/- What the router's reference computes: the softmax of the groups' logits and its greatest entry, that group's logits,
   their softmax and its two greatest entries, and from these the experts' numbers and weights. -/
module

public import proofs.«01_k».proof.Proof.Gen.Reference3Ideal.Run
public import Idealize.ShloMosaic.Lib.Pipeline.ValueKit
public import Idealize.ShloMosaic.Lib.Pointwise
public import Idealize.ShloMosaic.Lib.Claim
public import proofs.«01_k».proof.Proof.RouteSpec
public import proofs.«01_k».proof.Proof.RouteTopK

@[expose] public section

set_option maxRecDepth 16384

noncomputable section

namespace Cert.Reference3Ideal.Mix

open Idealize.ShloMosaic Idealize.ShloMosaic.TcCoe Idealize.SL.Sem
open Cert.Reference3Ideal Cert.Reference3Ideal.Gen Cert.Reference3Ideal.Value Cert.Mixer Cert.Route

variable (V0 : Valuation τ sig (Elt Ideal))

/-- The five arrays the reference is given. -/
def given : Route.Inputs where
  x n d := (show FVec Ideal S32768x1024 .f32 from V0 (Proc.devRef .tc main_arg0)) (ix2 n d)
  gw d g := (show FVec Ideal S1024x4 .f32 from V0 (Proc.devRef .tc main_arg1)) (ix2 d g)
  gb g := (show FVec Ideal S4 .f32 from V0 (Proc.devRef .tc main_arg2)) (ix1 g)
  ew g d e := (show FVec Ideal S4x1024x8 .f32 from V0 (Proc.devRef .tc main_arg3)) (ix3 g d e)
  eb g e := (show FVec Ideal S4x8 .f32 from V0 (Proc.devRef .tc main_arg4)) (ix2 g e)

/-! The softmax of four and of eight entries -/

theorem max4_at (s : FVec Ideal S32768x4 .f32) (z : FVec Ideal S_ .f32) (n : Fin 32768) :
    Host.reduce FloatOps.maximumf s z reducesTo_S32768x4_S32768_d1 h_S_ (ix1 n)
      = Finset.univ.fold max (z ix0 : EReal) fun k : Fin 4 => s (ix2 n k) := by
  rw [Host.reduce_eq_fold, Shape.ReducesTo.fold_fiber_r2_a1]
  have e : z (Shape.Idx.first h_S_) = z ix0 := congrArg z (funext fun a => a.elim0)
  rw [e]
  simp only [Ideal.maximumf_eq_max]
  exact congrArg (fun f => Finset.univ.fold max (z ix0) f) (funext fun k => rfl)

theorem max8_at (s : FVec Ideal S32768x8 .f32) (z : FVec Ideal S_ .f32) (n : Fin 32768) :
    Host.reduce FloatOps.maximumf s z reducesTo_S32768x8_S32768_d1 h_S_ (ix1 n)
      = Finset.univ.fold max (z ix0 : EReal) fun k : Fin 8 => s (ix2 n k) := by
  rw [Host.reduce_eq_fold, Shape.ReducesTo.fold_fiber_r2_a1]
  have e : z (Shape.Idx.first h_S_) = z ix0 := congrArg z (funext fun a => a.elim0)
  rw [e]
  simp only [Ideal.maximumf_eq_max]
  exact congrArg (fun f => Finset.univ.fold max (z ix0) f) (funext fun k => rfl)

theorem expo4_at (s : FVec Ideal S32768x4 .f32) (M : FVec Ideal S32768 .f32) (n : Fin 32768) (g : Fin 4) :
    Host.exp (subf s (broadcastInDim S32768x4 ![0, 1] bcast_S32768x1_S32768x4_0_1 (broadcastInDim S32768x1 ![0] bcast_S32768_S32768x1_0 (maximumf (broadcastInDim S32768 ![] bcast_S_S32768 (constant S_ .f32 0xFF800000#32)) M)))) (ix2 n g)
      = Ideal.exp (s (ix2 n g) - max (Ideal.ofBits .f32 4286578688#32) (M (ix1 n))) := by
  pointwise

theorem expo8_at (s : FVec Ideal S32768x8 .f32) (M : FVec Ideal S32768 .f32) (n : Fin 32768) (g : Fin 8) :
    Host.exp (subf s (broadcastInDim S32768x8 ![0, 1] bcast_S32768x1_S32768x8_0_1 (broadcastInDim S32768x1 ![0] bcast_S32768_S32768x1_0 (maximumf (broadcastInDim S32768 ![] bcast_S_S32768 (constant S_ .f32 0xFF800000#32)) M)))) (ix2 n g)
      = Ideal.exp (s (ix2 n g) - max (Ideal.ofBits .f32 4286578688#32) (M (ix1 n))) := by
  pointwise

theorem bot_bits : Ideal.ofBits .f32 4286578688#32 = ⊥ := rfl

theorem exp4_at (s : FVec Ideal S32768x4 .f32) (n : Fin 32768) (g : Fin 4) :
    Host.exp (subf s (broadcastInDim S32768x4 ![0, 1] bcast_S32768x1_S32768x4_0_1 (broadcastInDim S32768x1 ![0] bcast_S32768_S32768x1_0 (maximumf (broadcastInDim S32768 ![] bcast_S_S32768 (constant S_ .f32 0xFF800000#32)) (Host.reduce FloatOps.maximumf s (constant S_ .f32 0xFF800000#32) reducesTo_S32768x4_S32768_d1 h_S_))))) (ix2 n g)
      = Ideal.exp (s (ix2 n g) - Finset.univ.fold max ⊥ fun k : Fin 4 => s (ix2 n k)) := by
  have hb : (constant S_ .f32 0xFF800000#32 : FVec Ideal S_ .f32) ix0 = ⊥ := rfl
  rw [expo4_at, max4_at, hb, bot_bits, max_eq_right bot_le]

theorem exp8_at (s : FVec Ideal S32768x8 .f32) (n : Fin 32768) (g : Fin 8) :
    Host.exp (subf s (broadcastInDim S32768x8 ![0, 1] bcast_S32768x1_S32768x8_0_1 (broadcastInDim S32768x1 ![0] bcast_S32768_S32768x1_0 (maximumf (broadcastInDim S32768 ![] bcast_S_S32768 (constant S_ .f32 0xFF800000#32)) (Host.reduce FloatOps.maximumf s (constant S_ .f32 0xFF800000#32) reducesTo_S32768x8_S32768_d1 h_S_))))) (ix2 n g)
      = Ideal.exp (s (ix2 n g) - Finset.univ.fold max ⊥ fun k : Fin 8 => s (ix2 n k)) := by
  have hb : (constant S_ .f32 0xFF800000#32 : FVec Ideal S_ .f32) ix0 = ⊥ := rfl
  rw [expo8_at, max8_at, hb, bot_bits, max_eq_right bot_le]

theorem part4_at (e : FVec Ideal S32768x4 .f32) (n : Fin 32768) (g : Fin 4) :
    Host.divf e (broadcastInDim S32768x4 ![0, 1] bcast_S32768x1_S32768x4_0_1 (broadcastInDim S32768x1 ![0] bcast_S32768_S32768x1_0 (Host.reduceAdd e (constant S_ .f32 0x00000000#32) reducesTo_S32768x4_S32768_d1 h_S_))) (ix2 n g)
      = Ideal.div (e (ix2 n g)) (∑ k : Fin 4, e (ix2 n k)) := by
  pointwise

theorem part8_at (e : FVec Ideal S32768x8 .f32) (n : Fin 32768) (g : Fin 8) :
    Host.divf e (broadcastInDim S32768x8 ![0, 1] bcast_S32768x1_S32768x8_0_1 (broadcastInDim S32768x1 ![0] bcast_S32768_S32768x1_0 (Host.reduceAdd e (constant S_ .f32 0x00000000#32) reducesTo_S32768x8_S32768_d1 h_S_))) (ix2 n g)
      = Ideal.div (e (ix2 n g)) (∑ k : Fin 8, e (ix2 n k)) := by
  pointwise

/-! The group -/

theorem logits_at (x : FVec Ideal S32768x1024 .f32) (w : FVec Ideal S1024x4 .f32) (b : FVec Ideal S4 .f32) (n : Fin 32768) (g : Fin 4) :
    addf (Host.dotGeneral dot_S32768x1024_S1024x4_S32768x4_1_0_0_1_n_n none x w) (broadcastInDim S32768x4 ![0, 1] bcast_S1x4_S32768x4_0_1 (broadcastInDim S1x4 ![1] bcast_S4_S1x4_1 b)) (ix2 n g)
      = ((∑ d : Fin 1024, x (ix2 n d) * w (ix2 d g)) + b (ix1 g) : EReal) := by
  pointwise

theorem v3_at (hA : (given V0).Real) (n : Fin 32768) (g : Fin 4) :
    (show FVec Ideal S32768x4 .f32 from res_main_v3 V0) (ix2 n g) = ((given V0).lg n g : EReal) := by
  refine Eq.trans ?_ ((given V0).lg_eq hA n g)
  exact logits_at _ _ _ n g

theorem v10_at (n : Fin 32768) (g : Fin 4) :
    (show FVec Ideal S32768x4 .f32 from res_main_v10 V0) (ix2 n g)
      = Ideal.exp ((show FVec Ideal S32768x4 .f32 from res_main_v3 V0) (ix2 n g)
          - Finset.univ.fold max ⊥ fun k : Fin 4 => (show FVec Ideal S32768x4 .f32 from res_main_v3 V0) (ix2 n k)) :=
  exp4_at _ n g

theorem v14_at (hA : (given V0).Real) (n : Fin 32768) (g : Fin 4) :
    (show FVec Ideal S32768x4 .f32 from res_main_v14 V0) (ix2 n g) = (soft ((given V0).lg n) g : EReal) := by
  refine (part4_at (show FVec Ideal S32768x4 .f32 from res_main_v10 V0) n g).trans ?_
  simp only [v10_at]
  exact softmax_row (fun g => (show FVec Ideal S32768x4 .f32 from res_main_v3 V0) (ix2 n g)) _ (v3_at V0 hA n) g

theorem ord_soft {k : ℕ} (L : Fin k → EReal) (l : Fin k → ℝ) (h : ∀ i, L i = (soft l i : EReal)) : ord L = ord l :=
  ord_congr L l fun a b => by rw [h, h, EReal.coe_lt_coe_iff, soft_lt]

theorem place_at (hA : (given V0).Real) (n : Fin 32768) :
    (show IVec S32768x1 32 from res_main_indices V0) (ix2 n 0) = BitVec.ofNat 32 (group ((given V0).lg n)).val := by
  refine (topK_place (show FVec Ideal S32768x4 .f32 from res_main_v14 V0) sliceFits_S32768x4_S32768x1 n 0 (by decide)).trans ?_
  rw [ord_soft _ _ (v14_at V0 hA n)]
  rfl

theorem top_at (hA : (given V0).Real) (n : Fin 32768) :
    (Host.topK S32768x1 1 (FloatOps.cmpfTotal (F := Ideal) (φ := .f32) .gt) (show FVec Ideal S32768x4 .f32 from res_main_v14 V0) sliceFits_S32768x4_S32768x1).1 (ix2 n 0)
      = (soft ((given V0).lg n) (group ((given V0).lg n)) : EReal) := by
  refine (topK_value (show FVec Ideal S32768x4 .f32 from res_main_v14 V0) sliceFits_S32768x4_S32768x1 n 0 (by decide)).trans ?_
  rw [ord_soft _ _ (v14_at V0 hA n)]
  exact v14_at V0 hA n _

/-! The group's logits -/

theorem column_at (I : IVec S32768x1 32) (n : Fin 32768) :
    broadcastInDim S32768x1x1 ![0, 1] bcast_S32768x1_S32768x1x1_0_1 I (ix3 n 0 0) = I (ix2 n 0) := by
  pointwise

theorem wrapped_at (X : IVec S32768x1x1 32) (n : Fin 32768) :
    select (cmpi .slt X (broadcastInDim S32768x1x1 ![] bcast_S_S32768x1x1 (constantI S_ 32 0#32))) (addi X (broadcastInDim S32768x1x1 ![] bcast_S_S32768x1x1 (constantI S_ 32 4#32))) X (ix3 n 0 0)
      = Scalar.select (IntOp.cmpi .slt (X (ix3 n 0 0)) 0#32) (IntOp.addi (X (ix3 n 0 0)) 4#32) (X (ix3 n 0 0)) := by
  pointwise

theorem wrapped : ∀ g : Fin 4, Scalar.select (IntOp.cmpi .slt (BitVec.ofNat 32 g.val) 0#32) (IntOp.addi (BitVec.ofNat 32 g.val) 4#32) (BitVec.ofNat 32 g.val) = BitVec.ofNat 32 g.val := by
  decide

theorem start_at (hA : (given V0).Real) (n : Fin 32768) :
    (show IVec S32768x1x1 32 from res_main_call0_v4 V0) (ix3 n 0 0) = BitVec.ofNat 32 (group ((given V0).lg n)).val := by
  have h19 : (show IVec S32768x1x1 32 from res_main_v19 V0) (ix3 n 0 0) = BitVec.ofNat 32 (group ((given V0).lg n)).val :=
    (column_at (show IVec S32768x1 32 from res_main_indices V0) n).trans (place_at V0 hA n)
  refine (wrapped_at (show IVec S32768x1x1 32 from res_main_v19 V0) n).trans ?_
  rw [h19]
  exact wrapped _

theorem scores_at (x : FVec Ideal S32768x1024 .f32) (w : FVec Ideal S4x1024x8 .f32) (b : FVec Ideal S4x8 .f32)
    (n : Fin 32768) (g : Fin 4) (e : Fin 8) :
    addf (Host.dotGeneral dot_S32768x1024_S4x1024x8_S32768x4x8_1_1_0_02_n_n none x w) (broadcastInDim S32768x4x8 ![0, 1, 2] bcast_S1x4x8_S32768x4x8_0_1_2 (broadcastInDim S1x4x8 ![1, 2] bcast_S4x8_S1x4x8_1_2 b)) (ix3 n g e)
      = ((∑ d : Fin 1024, x (ix2 n d) * w (ix3 g d e)) + b (ix2 g e) : EReal) := by
  pointwise

/-- The batched gather, at a start inside the array. -/
theorem gather_at (E : FVec Ideal S32768x4x8 .f32) (X : IVec S32768x1x1 32) (n : Fin 32768) (e : Fin 8) (g : Fin 4)
    (hX : X (ix3 n 0 0) = BitVec.ofNat 32 g.val) :
    Host.gather gather_S32768x4x8_S32768x1x1_S32768x1x8_2_1_0_0_1_2_118 E X (ix3 n 0 e) = E (ix3 n g e) := by
  unfold Host.gather
  congr 1
  funext a
  refine Fin.ext ?_
  show GatherDims.start gather_S32768x4x8_S32768x1x1_S32768x1x8_2_1_0_0_1_2_118 (ix3 n 0 e) X a
    + GatherDims.batchCoord gather_S32768x4x8_S32768x1x1_S32768x1x8_2_1_0_0_1_2_118 (ix3 n 0 e) a
    + GatherDims.offCoord gather_S32768x4x8_S32768x1x1_S32768x1x8_2_1_0_0_1_2_118 (ix3 n 0 e) a = _
  have h : a = 0 ∨ a = 1 ∨ a = 2 := by
    match a with
    | ⟨0, _⟩ => exact .inl rfl
    | ⟨1, _⟩ => exact .inr (.inl rfl)
    | ⟨2, _⟩ => exact .inr (.inr rfl)
  rcases h with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S32768x4x8_S32768x1x1_S32768x1x8_2_1_0_0_1_2_118.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S32768x4x8_S32768x1x1_S32768x1x8_2_1_0_0_1_2_118.startIndexMap from List.mem_singleton.mpr rfl)]
    have hsi : gather_S32768x4x8_S32768x1x1_S32768x1x8_2_1_0_0_1_2_118.siIdx (ix3 n 0 e)
        ⟨List.idxOf (1 : Fin 3) gather_S32768x4x8_S32768x1x1_S32768x1x8_2_1_0_0_1_2_118.startIndexMap,
          List.idxOf_lt_length_iff.2 (List.mem_singleton.mpr rfl)⟩ = ix3 n 0 0 := by
      funext b; refine Fin.ext ?_
      match b with
      | ⟨0, _⟩ => rfl
      | ⟨1, _⟩ => rfl
      | ⟨2, _⟩ => rfl
    rw [hsi, hX]
    have key : ∀ g : Fin 4, min (BitVec.ofNat 32 g.val).toInt.toNat 3 = g.val := by decide
    exact key g
  · rw [GatherDims.batchCoord_eq_zero _ _ _ (fun h => absurd (List.mem_singleton.mp h) (by decide))]
    unfold GatherDims.start
    rw [dif_neg (show (2 : Fin 3) ∉ gather_S32768x4x8_S32768x1x1_S32768x1x8_2_1_0_0_1_2_118.startIndexMap from fun h => absurd (List.mem_singleton.mp h) (by decide))]
    simp only [Nat.zero_add, Nat.add_zero]
    rfl

theorem inside_at (Y : IVec S32768x1x1 1) (z : IVec S_ 1) (n : Fin 32768) (hz : z ix0 = 1#1) (hY : Y (ix3 n 0 0) = 1#1) :
    Host.reduce IntOp.andi Y z reducesTo_S32768x1x1_S32768x1_d2 h_S_ (ix2 n 0) = 1#1 := by
  rw [Host.reduce_eq_fold, Shape.ReducesTo.fold_fiber_r3_a2]
  have e : z (Shape.Idx.first h_S_) = z ix0 := congrArg z (funext fun a => a.elim0)
  rw [e, hz, Finset.univ_unique, Finset.fold_singleton]
  have hY' : Y (ix3 n 0 default) = 1#1 := hY
  exact (congrArg (fun y => IntOp.andi y 1#1) hY').trans (by decide)

theorem bounds_at (X : IVec S32768x1x1 32) (n : Fin 32768) :
    andi (cmpi .sge X (broadcastInDim S32768x1x1 ![] bcast_S_S32768x1x1 (constantI S_ 32 0#32))) (cmpi .sle X (broadcastInDim S32768x1x1 ![0, 1, 2] bcast_S1x1x1_S32768x1x1_0_1_2 (broadcastInDim S1x1x1 ![2] bcast_S1_S1x1x1_2 (constantI S1 32 3#32)))) (ix3 n 0 0)
      = IntOp.andi (IntOp.cmpi .sge (X (ix3 n 0 0)) 0#32) (IntOp.cmpi .sle (X (ix3 n 0 0)) 3#32) := by
  pointwise

theorem chosen_at (R : IVec S32768x1 1) (G : FVec Ideal S32768x1x8 .f32) (n : Fin 32768) (e : Fin 8) :
    shapeCast S32768x8 (select (broadcastInDim S32768x1x8 ![0, 1] bcast_S32768x1_S32768x1x8_0_1 R) G (broadcastInDim S32768x1x8 ![] bcast_S_S32768x1x8 (constant S_ .f32 0x7FC00000#32))) shapeCasts_S32768x1x8_S32768x8 (ix2 n e)
      = Scalar.select (R (ix2 n 0)) (G (ix3 n 0 e)) (Ideal.ofBits .f32 2143289344#32 : Ideal .f32) := by
  pointwise

theorem select_one {α : Type} (a b : α) : Scalar.select 1#1 a b = a := rfl

theorem v21_at (hA : (given V0).Real) (n : Fin 32768) (e : Fin 8) :
    (show FVec Ideal S32768x8 .f32 from res_main_v21 V0) (ix2 n e)
      = ((given V0).le n (group ((given V0).lg n)) e : EReal) := by
  refine Eq.trans ?_ ((given V0).le_eq hA n _ e)
  refine (chosen_at _ _ n e).trans ?_
  rw [inside_at _ _ n rfl ((bounds_at (show IVec S32768x1x1 32 from res_main_call0_v4 V0) n).trans (by
    rw [start_at V0 hA n]
    have key : ∀ g : Fin 4, IntOp.andi (IntOp.cmpi .sge (BitVec.ofNat 32 g.val) 0#32) (IntOp.cmpi .sle (BitVec.ofNat 32 g.val) 3#32) = 1#1 := by decide
    exact key _))]
  refine (select_one _ _).trans (Eq.trans ?_ (scores_at _ _ _ n _ e))
  exact gather_at _ (show IVec S32768x1x1 32 from res_main_call0_v4 V0) n e _ (start_at V0 hA n)

/-! The two experts -/

theorem v28_at (n : Fin 32768) (g : Fin 8) :
    (show FVec Ideal S32768x8 .f32 from res_main_v28 V0) (ix2 n g)
      = Ideal.exp ((show FVec Ideal S32768x8 .f32 from res_main_v21 V0) (ix2 n g)
          - Finset.univ.fold max ⊥ fun k : Fin 8 => (show FVec Ideal S32768x8 .f32 from res_main_v21 V0) (ix2 n k)) :=
  exp8_at _ n g

theorem v32_at (hA : (given V0).Real) (n : Fin 32768) (e : Fin 8) :
    (show FVec Ideal S32768x8 .f32 from res_main_v32 V0) (ix2 n e)
      = (soft ((given V0).le n (group ((given V0).lg n))) e : EReal) := by
  refine (part8_at (show FVec Ideal S32768x8 .f32 from res_main_v28 V0) n e).trans ?_
  simp only [v28_at]
  exact softmax_row (fun g => (show FVec Ideal S32768x8 .f32 from res_main_v21 V0) (ix2 n g)) _ (v21_at V0 hA n) e

theorem weight_at (hA : (given V0).Real) (n : Fin 32768) (k : Fin 2) :
    (show FVec Ideal S32768x2 .f32 from res_main_values_5 V0) (ix2 n k)
      = (soft ((given V0).le n (group ((given V0).lg n))) (expert ((given V0).lg n) ((given V0).le n) ⟨k.val, by omega⟩) : EReal) := by
  refine (topK_value (show FVec Ideal S32768x8 .f32 from res_main_v32 V0) sliceFits_S32768x8_S32768x2 n k (by omega)).trans ?_
  rw [ord_soft _ _ (v32_at V0 hA n)]
  exact v32_at V0 hA n _

theorem second_place_at (hA : (given V0).Real) (n : Fin 32768) (k : Fin 2) :
    (Host.topK S32768x2 1 (FloatOps.cmpfTotal (F := Ideal) (φ := .f32) .gt) (show FVec Ideal S32768x8 .f32 from res_main_v32 V0) sliceFits_S32768x8_S32768x2).2 (ix2 n k)
      = BitVec.ofNat 32 (expert ((given V0).lg n) ((given V0).le n) ⟨k.val, by omega⟩).val := by
  refine (topK_place (show FVec Ideal S32768x8 .f32 from res_main_v32 V0) sliceFits_S32768x8_S32768x2 n k (by omega)).trans ?_
  rw [ord_soft _ _ (v32_at V0 hA n)]
  rfl

/-! The result -/

/-- The eight rows, from the arrays they are made of. -/
def result (I : IVec S32768x1 32) (P : IVec S32768x2 32) (T : FVec Ideal S32768x1 .f32) (U : FVec Ideal S32768x2 .f32) :
    FVec Ideal S8x32768 .f32 :=
  concatenate S8x32768 0 [⟨S2x32768, (sitofp .f32 (transpose S2x32768 [1, 0] (addi (broadcastInDim S32768x2 ![0, 1] bcast_S32768x1_S32768x2_0_1 (muli I (broadcastInDim S32768x1 ![] bcast_S_S32768x1 (constantI S_ 32 8#32)))) P) transposes_S32768x2_S2x32768_1_0) : FVec Ideal S2x32768 .f32)⟩, ⟨S2x32768, (transpose S2x32768 [1, 0] (mulf (broadcastInDim S32768x2 ![0, 1] bcast_S32768x1_S32768x2_0_1 T) (Host.divf U (broadcastInDim S32768x2 ![0, 1] bcast_S32768x1_S32768x2_0_1 (broadcastInDim S32768x1 ![0] bcast_S32768_S32768x1_0 (Host.reduceAdd U (constant S_ .f32 0x00000000#32) reducesTo_S32768x2_S32768_d1 h_S_))))) transposes_S32768x2_S2x32768_1_0 : FVec Ideal S2x32768 .f32)⟩, ⟨S4x32768, (broadcastInDim S4x32768 ![] bcast_S_S4x32768 (constant S_ .f32 0x00000000#32) : FVec Ideal S4x32768 .f32)⟩] concatenates_S2x32768_S2x32768_S4x32768_S8x32768_d0

theorem result_number (I : IVec S32768x1 32) (P : IVec S32768x2 32) (T : FVec Ideal S32768x1 .f32) (U : FVec Ideal S32768x2 .f32)
    (n : Fin 32768) (k : Fin 2) :
    result I P T U (ix2 ⟨k.val, by omega⟩ n)
      = FloatOps.sitofp (F := Ideal) .f32 (IntOp.addi (IntOp.muli (I (ix2 n 0)) 8#32) (P (ix2 n k))) := by
  match k with
  | ⟨0, _⟩ => pointwise [result]
  | ⟨1, _⟩ => pointwise [result]

theorem result_weight (I : IVec S32768x1 32) (P : IVec S32768x2 32) (T : FVec Ideal S32768x1 .f32) (U : FVec Ideal S32768x2 .f32)
    (n : Fin 32768) (k : Fin 2) :
    result I P T U (ix2 ⟨2 + k.val, by omega⟩ n)
      = (T (ix2 n 0) : EReal) * Ideal.div (U (ix2 n k)) (∑ j : Fin 2, U (ix2 n j)) := by
  match k with
  | ⟨0, _⟩ => pointwise [result]
  | ⟨1, _⟩ => pointwise [result]

theorem numbered (g : Fin 4) (e : Fin 8) :
    (FloatOps.sitofp (F := Ideal) .f32 (IntOp.addi (IntOp.muli (BitVec.ofNat 32 g.val) 8#32) (BitVec.ofNat 32 e.val)) : EReal)
      = (((8 * g.val + e.val : ℕ) : ℝ) : EReal) := by
  have key : ∀ (g : Fin 4) (e : Fin 8), (IntOp.addi (IntOp.muli (BitVec.ofNat 32 g.val) 8#32) (BitVec.ofNat 32 e.val)).toInt
      = ((8 * g.val + e.val : ℕ) : ℤ) := by decide
  show (((IntOp.addi (IntOp.muli (BitVec.ofNat 32 g.val) 8#32) (BitVec.ofNat 32 e.val)).toInt : ℝ) : EReal) = _
  rw [key]
  norm_num

/-- The rows of numbers and weights, entry by entry. -/
theorem result_at (I : IVec S32768x1 32) (P : IVec S32768x2 32) (T : FVec Ideal S32768x1 .f32) (U : FVec Ideal S32768x2 .f32)
    (lg : Fin 4 → ℝ) (le : Fin 4 → Fin 8 → ℝ) (n : Fin 32768)
    (hI : I (ix2 n 0) = BitVec.ofNat 32 (group lg).val)
    (hP : ∀ k : Fin 2, P (ix2 n k) = BitVec.ofNat 32 (expert lg le ⟨k.val, by omega⟩).val)
    (hT : (T (ix2 n 0) : EReal) = (soft lg (group lg) : EReal))
    (hU : ∀ k : Fin 2, (U (ix2 n k) : EReal) = (soft (le (group lg)) (expert lg le ⟨k.val, by omega⟩) : EReal)) (q : Fin 4) :
    result I P T U (ix2 ⟨q.val, by omega⟩ n) = (choice lg le q : EReal) := by
  have hs : (∑ j : Fin 2, (U (ix2 n j) : EReal))
      = ((soft (le (group lg)) (expert lg le 0) + soft (le (group lg)) (expert lg le 1) : ℝ) : EReal) := by
    rw [Fin.sum_univ_two, hU, hU, EReal.coe_add]
    rfl
  have hp : ∀ e : Fin 8, 0 < soft (le (group lg)) e := fun e => div_pos (Real.exp_pos _) (soft_sum_pos _ e)
  have hne : soft (le (group lg)) (expert lg le 0) + soft (le (group lg)) (expert lg le 1) ≠ 0 :=
    (add_pos (hp _) (hp _)).ne'
  match q with
  | ⟨0, _⟩ =>
    refine (result_number I P T U n 0).trans ?_
    rw [hI, hP]
    exact numbered _ _
  | ⟨1, _⟩ =>
    refine (result_number I P T U n 1).trans ?_
    rw [hI, hP]
    exact numbered _ _
  | ⟨2, _⟩ =>
    refine (result_weight I P T U n 0).trans ?_
    rw [hs, hT, hU, div_real _ hne, ← EReal.coe_mul]
    exact congrArg _ (first_weight lg le)
  | ⟨3, _⟩ =>
    refine (result_weight I P T U n 1).trans ?_
    rw [hs, hT, hU, div_real _ hne, ← EReal.coe_mul]
    exact congrArg _ (second_weight lg le)

/-- The reference's result in those rows. -/
theorem out_at (hA : (given V0).Real) (q : Fin 4) (n : Fin 32768) :
    result (show IVec S32768x1 32 from res_main_indices V0)
      (Host.topK S32768x2 1 (FloatOps.cmpfTotal (F := Ideal) (φ := .f32) .gt) (show FVec Ideal S32768x8 .f32 from res_main_v32 V0) sliceFits_S32768x8_S32768x2).2
      (Host.topK S32768x1 1 (FloatOps.cmpfTotal (F := Ideal) (φ := .f32) .gt) (show FVec Ideal S32768x4 .f32 from res_main_v14 V0) sliceFits_S32768x4_S32768x1).1
      (show FVec Ideal S32768x2 .f32 from res_main_values_5 V0) (ix2 ⟨q.val, by omega⟩ n) = (given V0).field q n :=
  result_at _ _ _ _ _ _ n (place_at V0 hA n) (second_place_at V0 hA n) (top_at V0 hA n) (weight_at V0 hA n) q

end Cert.Reference3Ideal.Mix

end
-- ==== Proof.RouteFinite.lean ====
/- What the router's precondition and mask say: every entry is a real number, and the rows of experts and weights are the
   first four. -/
module

public import proofs.«01_k».proof.Proof.Gen.Pre_routing_inputs_finite
public import proofs.«01_k».proof.Proof.Gen.On_experts_and_weights
public import proofs.«01_k».proof.Proof.Finite

@[expose] public section

set_option maxRecDepth 16384

noncomputable section

namespace Cert.Pre_routing_inputs_finite

open Idealize.ShloMosaic Idealize.SL.Sem
open Cert.Pre_routing_inputs_finite.Gen
open Cert.Pre_attention_inputs_finite (real_of_lt)

theorem one_index : Subsingleton S_.Idx := ⟨fun _ _ => funext fun a => a.elim0⟩

/-- The five arrays' entries, from the predicate. -/
theorem real_entries (a0 : FVec Ideal S32768x1024 .f32) (a1 : FVec Ideal S1024x4 .f32) (a2 : FVec Ideal S4 .f32)
    (a3 : FVec Ideal S4x1024x8 .f32) (a4 : FVec Ideal S4x8 .f32)
    (h : fn (F := Ideal) a0 a1 a2 a3 a4 = fun _ => 1#1) :
    (∀ i, (a0 i : EReal) = ((a0 i : EReal).toReal : EReal)) ∧ (∀ i, (a1 i : EReal) = ((a1 i : EReal).toReal : EReal))
      ∧ (∀ i, (a2 i : EReal) = ((a2 i : EReal).toReal : EReal)) ∧ (∀ i, (a3 i : EReal) = ((a3 i : EReal).toReal : EReal))
      ∧ (∀ i, (a4 i : EReal) = ((a4 i : EReal).toReal : EReal)) := by
  have h0 := congrFun h ix0
  obtain ⟨h0123, h4⟩ := IntOp.andi_eq_one.1 h0
  obtain ⟨h012, h3⟩ := IntOp.andi_eq_one.1 h0123
  obtain ⟨h01, h2⟩ := IntOp.andi_eq_one.1 h012
  obtain ⟨h0, h1⟩ := IntOp.andi_eq_one.1 h01
  have := one_index
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i),
    fun i => real_of_lt _ (Host.reduce_andi_all _ _ _ _ _ h4 i)⟩

end Cert.Pre_routing_inputs_finite

namespace Cert.On_experts_and_weights

open Idealize.ShloMosaic
open Cert.On_experts_and_weights.Gen

theorem row_of_mask (a0 : FVec Ideal S32768x1024 .f32) (a1 : FVec Ideal S1024x4 .f32) (a2 : FVec Ideal S4 .f32)
    (a3 : FVec Ideal S4x1024x8 .f32) (a4 : FVec Ideal S4x8 .f32) (i : S8x32768.Idx)
    (h : fn (F := Ideal) a0 a1 a2 a3 a4 i = 1#1) : (i 0).val < 4 := by
  have key : ∀ r < 8, IntOp.cmpi .slt (BitVec.ofNat 32 r) 4#32 = 1#1 ↔ r < 4 := by decide
  exact (key _ (i 0).isLt).1 h

end Cert.On_experts_and_weights

end
-- ==== Proof.RouteEquation.lean ====
/- The equation for the router: from equal arguments, the reference's rows of numbers and weights are the kernel's. -/
module

public import proofs.«01_k».proof.Defs
public import proofs.«01_k».proof.Proof.RouteFinal
public import proofs.«01_k».proof.Proof.RouteReference
public import proofs.«01_k».proof.Proof.RouteFinite

@[expose] public section

set_option maxRecDepth 16384

noncomputable section

namespace Cert.Route

open Idealize.ShloMosaic Idealize.ShloMosaic.TcCoe Idealize.SL.Sem

/-- Two sets of arrays with equal entries are equal. -/
theorem Inputs.ext_of {A B : Inputs} (h0 : ∀ n d, A.x n d = B.x n d) (h1 : ∀ d g, A.gw d g = B.gw d g)
    (h2 : ∀ g, A.gb g = B.gb g) (h3 : ∀ g d e, A.ew g d e = B.ew g d e) (h4 : ∀ g e, A.eb g e = B.eb g e) : A = B := by
  obtain ⟨x, gw, gb, ew, eb⟩ := A
  obtain ⟨x', gw', gb', ew', eb'⟩ := B
  obtain rfl : x = x' := funext fun n => funext fun d => h0 n d
  obtain rfl : gw = gw' := funext fun d => funext fun g => h1 d g
  obtain rfl : gb = gb' := funext h2
  obtain rfl : ew = ew' := funext fun g => funext fun d => funext fun e => h3 g d e
  obtain rfl : eb = eb' := funext fun g => funext fun e => h4 g e
  rfl

/-- The precondition, read on the kernel's arrays. -/
theorem given_real (m : (ℓ : Loc Cert.Kernel3Ideal.nD Cert.Kernel3Ideal.τ Cert.Kernel3Ideal.sig) → Buf (Elt Ideal) ℓ)
    (hpre : Cert.Pre_Kernel3Ideal_routing_inputs_finite (hPre_routing_inputs_finite := Cert.Pre_routing_inputs_finite.Gen.facts) m)
    (c : Dev Cert.Kernel3Ideal.nD) : (Cert.Kernel3Ideal.Mix.given m c).Real := by
  obtain ⟨h0, h1, h2, h3, h4⟩ := Cert.Pre_routing_inputs_finite.real_entries _ _ _ _ _ (hpre c)
  exact ⟨fun n d => h0 (ix2 n d), fun d g => h1 (ix2 d g), fun g => h2 (ix1 g), fun g d e => h3 (ix3 g d e), fun g e => h4 (ix2 g e)⟩

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ)

/-- Both programs are given the same arrays. -/
theorem same_inputs (c : Dev Cert.Kernel3Ideal.nD)
    (e0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (e1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (e2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (e3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (e4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) :
    Cert.Reference3Ideal.Mix.given (StableHlo.launchContents m' c) = Cert.Kernel3Ideal.Mix.given m c := by
  unfold Cert.Reference3Ideal.Mix.given Cert.Kernel3Ideal.Mix.given
  refine Inputs.ext_of ?_ ?_ ?_ ?_ ?_
  · exact fun n d => congrFun e0 (ix2 n d)
  · exact fun d g => congrFun e1 (ix2 d g)
  · exact fun g => congrFun e2 (ix1 g)
  · exact fun g d e => congrFun e3 (ix3 g d e)
  · exact fun g e => congrFun e4 (ix2 g e)

/-- An array that holds a token's four numbers in its first rows agrees there with the kernel's output array. -/
theorem equation (c : Dev Cert.Kernel3Ideal.nD) (A : Inputs) (hsame : A = Cert.Kernel3Ideal.Mix.given m c)
    (hA : (Cert.Kernel3Ideal.Mix.given m c).Real) (X : FVec Ideal Cert.Kernel3Ideal.S8x32768 .f32)
    (hX : ∀ (q : Fin 4) (n : Fin 32768), X (ix2 ⟨q.val, by omega⟩ n) = A.field q n)
    (i : Cert.Kernel3Ideal.S8x32768.Idx) (hi : (i 0).val < 4) : X i = Cert.Kernel3Ideal.Value.G3 m c i := by
  subst hsame
  have h : i = ix2 ⟨(⟨(i 0).val, hi⟩ : Fin 4).val, by omega⟩ (i 1) := funext fun a => by
    match a with
    | ⟨0, _⟩ => rfl
    | ⟨1, _⟩ => rfl
  rw [h]
  exact (hX _ _).trans (Cert.Kernel3Ideal.Value.G3_at m c hA _ _).symm

end Cert.Route

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_attention_inputs_finite
public import proofs.«01_k».proof.Proof.Gen.Pre_routing_inputs_finite
public import proofs.«01_k».proof.Proof.Gen.On_experts_and_weights
public import proofs.«01_k».proof.Proof.Equation
public import proofs.«01_k».proof.Proof.ConvEquation
public import proofs.«01_k».proof.Proof.RouteEquation
public import proofs.«01_k».proof.Proof.Gen.Kernel3Ideal.Value
public import proofs.«01_k».proof.Proof.Gen.Kernel3.Frame
public import proofs.«01_k».proof.Proof.Gen.Reference3Ideal.Run
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel's ideal run and the reference's end with equal results. -/
theorem algebraic : Cert.algebraic_KernelIdeal_ReferenceIdeal_pre_attention_inputs_finite
    (hKernelIdeal := Cert.KernelIdeal.Gen.facts) (hReferenceIdeal := Cert.ReferenceIdeal.Gen.facts)
    (hPre_attention_inputs_finite := Cert.Pre_attention_inputs_finite.Gen.facts) := by
  pair_intro
  · run_from Cert.KernelIdeal.Value.run m g
  · run_from Cert.ReferenceIdeal.Value.run m' g'
    obtain ⟨e0, e1, e2, e3, e4, e5, e6, e7, e8, e9, e10⟩ := hagree c
    rw [← e9, ← e10]
    exact Cert.Mixer.equation m c (Cert.Mixer.given_real m hpre c) _ (Cert.Mixer.same_inputs m m' c e0 e1 e2 e3 e4 e5 e6 e7 e8 e9 e10) _
      fun hA => Cert.ReferenceIdeal.Mix.result_at (StableHlo.launchContents m' c) hA

/-- The reference ends with its arguments unchanged; it declares no semaphore. -/
theorem frame_reference : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The convolution kernel's ideal run and its reference's end with equal results. -/
theorem algebraic2 : Cert.algebraic_Kernel2Ideal_Reference2Ideal
    (hKernel2Ideal := Cert.Kernel2Ideal.Gen.facts) (hReference2Ideal := Cert.Reference2Ideal.Gen.facts) := by
  pair_intro
  · run_from Cert.Kernel2Ideal.Value.run m g
  · run_from Cert.Reference2Ideal.Value.run m' g'
    obtain ⟨e0, e1, e2, e3, e4, e5, e6, e7, e8, e9, e10⟩ := hagree c
    rw [← e9, ← e10]
    exact Cert.Conv.equation m c _ (Cert.Conv.same_inputs m m' c e0 e1 e2 e3 e4 e5 e6 e7 e8 e9 e10) _
      (Cert.Reference2Ideal.Mix.result_at (StableHlo.launchContents m' c))

/-- The convolution mixer's reference ends with its arguments unchanged; it declares no semaphore. -/
theorem frame_reference2 : Cert.quiescent_Reference2Ideal (hReference2Ideal := Cert.Reference2Ideal.Gen.facts) := by
  intro m ρ _
  exact (θ_run Cert.Reference2Ideal.defs _ _).mono (fun r h => ⟨fun c => (h c).2, sem_eq_zero_of_no_sems (by decide) r.2⟩)
    (Cert.Reference2Ideal.Value.run (F := Ideal) m ρ)

/-- The router's ideal run and its reference's end with equal rows of experts' numbers and weights. -/
theorem algebraic3 : Cert.algebraic_Kernel3Ideal_Reference3Ideal_on_experts_and_weights_pre_routing_inputs_finite
    (hKernel3Ideal := Cert.Kernel3Ideal.Gen.facts) (hReference3Ideal := Cert.Reference3Ideal.Gen.facts)
    (hPre_routing_inputs_finite := Cert.Pre_routing_inputs_finite.Gen.facts)
    (hOn_experts_and_weights := Cert.On_experts_and_weights.Gen.facts) := by
  intro m g m' g' hpre hagree
  refine ⟨fun c => Cert.Kernel3Ideal.Value.G3 m c, ?_, ?_⟩
  · exact (θ_run Cert.Kernel3Ideal.defs _ _).mono (fun _ h c => ⟨fun i _ => congrFun (h c).1 i, (h c).2.2.2⟩)
      (Cert.Kernel3Ideal.Value.run (F := Ideal) m g)
  · refine (θ_run Cert.Reference3Ideal.defs _ _).mono (fun _ h c => ⟨fun i hi => (congrFun (h c).1 i).trans ?_, (h c).2⟩)
      (Cert.Reference3Ideal.Value.run (F := Ideal) m' g')
    obtain ⟨e0, e1, e2, e3, e4⟩ := hagree c
    have hA := Cert.Route.given_real m hpre c
    have hs := Cert.Route.same_inputs m m' c e0 e1 e2 e3 e4
    exact Cert.Route.equation m c _ hs hA _
      (Cert.Reference3Ideal.Mix.out_at (StableHlo.launchContents m' c) (hs ▸ hA)) i
      (Cert.On_experts_and_weights.row_of_mask _ _ _ _ _ i hi)

/-- The router's reference ends with its arguments unchanged; it declares no semaphore. -/
theorem frame_reference3 : Cert.quiescent_Reference3Ideal (hReference3Ideal := Cert.Reference3Ideal.Gen.facts) := by
  intro m ρ _
  exact (θ_run Cert.Reference3Ideal.defs _ _).mono (fun r h => ⟨fun c => (h c).2, sem_eq_zero_of_no_sems (by decide) r.2⟩)
    (Cert.Reference3Ideal.Value.run (F := Ideal) m ρ)

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_attention_inputs_finite.Gen.facts, Cert.Pre_routing_inputs_finite.Gen.facts, Cert.On_experts_and_weights.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, fun m ρ _ => Cert.Kernel3Ideal.Gen.frame m ρ,
  frame_reference3, fun m ρ _ => frame_reference3 m ρ trivial,
  ⟨IdealRules.named_const.statement _ "qscale" .f32 _ _ rfl, IdealRules.named_const.statement _ "mask" .f32 _ _ rfl, IdealRules.named_const.statement _ "log2e" .f32 _ _ rfl⟩,
  algebraic, trivial, algebraic2,
  IdealRules.named_const.statement _ "mask" .f32 _ _ rfl, algebraic3⟩

end Cert.Proof

end
